-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_DwA (m : (ℓ : Loc Cert.DwA.nD Cert.DwA.τ Cert.DwA.sig) → Buf (Elt Bits) ℓ) : Prop :=
  True

def Pre_DwAIdeal (m : (ℓ : Loc Cert.DwAIdeal.nD Cert.DwAIdeal.τ Cert.DwAIdeal.sig) → Buf (Elt Ideal) ℓ) : Prop :=
  True

def Pre_DwARefIdeal (m : (ℓ : Loc Cert.DwARefIdeal.nD Cert.DwARefIdeal.τ Cert.DwARefIdeal.sig) → Buf (Elt Ideal) ℓ) : Prop :=
  True

def Pre_DwC (m : (ℓ : Loc Cert.DwC.nD Cert.DwC.τ Cert.DwC.sig) → Buf (Elt Bits) ℓ) : Prop :=
  True

def Pre_DwCIdeal (m : (ℓ : Loc Cert.DwCIdeal.nD Cert.DwCIdeal.τ Cert.DwCIdeal.sig) → Buf (Elt Ideal) ℓ) : Prop :=
  True

def Pre_DwCRefIdeal (m : (ℓ : Loc Cert.DwCRefIdeal.nD Cert.DwCRefIdeal.τ Cert.DwCRefIdeal.sig) → Buf (Elt Ideal) ℓ) : Prop :=
  True

def Pre_DwG (m : (ℓ : Loc Cert.DwG.nD Cert.DwG.τ Cert.DwG.sig) → Buf (Elt Bits) ℓ) : Prop :=
  True

def Pre_DwGIdeal (m : (ℓ : Loc Cert.DwGIdeal.nD Cert.DwGIdeal.τ Cert.DwGIdeal.sig) → Buf (Elt Ideal) ℓ) : Prop :=
  True

def Pre_DwGRefIdeal (m : (ℓ : Loc Cert.DwGRefIdeal.nD Cert.DwGRefIdeal.τ Cert.DwGRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGRefIdeal (m : (ℓ : Loc Cert.ProjGRefIdeal.nD Cert.ProjGRefIdeal.τ Cert.ProjGRefIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwORefIdeal (m : (ℓ : Loc Cert.DwORefIdeal.nD Cert.DwORefIdeal.τ Cert.DwORefIdeal.sig) → Buf (Elt Ideal) ℓ) : Prop :=
  True

def Pre_DwOutA (m : (ℓ : Loc Cert.DwOutA.nD Cert.DwOutA.τ Cert.DwOutA.sig) → Buf (Elt Bits) ℓ) : Prop :=
  True

def Pre_DwOutAIdeal (m : (ℓ : Loc Cert.DwOutAIdeal.nD Cert.DwOutAIdeal.τ Cert.DwOutAIdeal.sig) → Buf (Elt Ideal) ℓ) : Prop :=
  True

def Pre_DwOutARefIdeal (m : (ℓ : Loc Cert.DwOutARefIdeal.nD Cert.DwOutARefIdeal.τ Cert.DwOutARefIdeal.sig) → Buf (Elt Ideal) ℓ) : Prop :=
  True

def Pre_DwOutC (m : (ℓ : Loc Cert.DwOutC.nD Cert.DwOutC.τ Cert.DwOutC.sig) → Buf (Elt Bits) ℓ) : Prop :=
  True

def Pre_DwOutCIdeal (m : (ℓ : Loc Cert.DwOutCIdeal.nD Cert.DwOutCIdeal.τ Cert.DwOutCIdeal.sig) → Buf (Elt Ideal) ℓ) : Prop :=
  True

def Pre_DwOutCRefIdeal (m : (ℓ : Loc Cert.DwOutCRefIdeal.nD Cert.DwOutCRefIdeal.τ Cert.DwOutCRefIdeal.sig) → Buf (Elt Ideal) ℓ) : Prop :=
  True

def Pre_DuA (m : (ℓ : Loc Cert.DuA.nD Cert.DuA.τ Cert.DuA.sig) → Buf (Elt Bits) ℓ) : Prop :=
  True

def Pre_DuAIdeal (m : (ℓ : Loc Cert.DuAIdeal.nD Cert.DuAIdeal.τ Cert.DuAIdeal.sig) → Buf (Elt Ideal) ℓ) : Prop :=
  True

def Pre_DuARefIdeal (m : (ℓ : Loc Cert.DuARefIdeal.nD Cert.DuARefIdeal.τ Cert.DuARefIdeal.sig) → Buf (Elt Ideal) ℓ) : Prop :=
  True

def Pre_DuC (m : (ℓ : Loc Cert.DuC.nD Cert.DuC.τ Cert.DuC.sig) → Buf (Elt Bits) ℓ) : Prop :=
  True

def Pre_DuCIdeal (m : (ℓ : Loc Cert.DuCIdeal.nD Cert.DuCIdeal.τ Cert.DuCIdeal.sig) → Buf (Elt Ideal) ℓ) : Prop :=
  True

def Pre_DuCRefIdeal (m : (ℓ : Loc Cert.DuCRefIdeal.nD Cert.DuCRefIdeal.τ Cert.DuCRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCRefIdeal (m : (ℓ : Loc Cert.OutCRefIdeal.nD Cert.OutCRefIdeal.τ Cert.OutCRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInRefIdeal (m : (ℓ : Loc Cert.UpdateInRefIdeal.nD Cert.UpdateInRefIdeal.τ Cert.UpdateInRefIdeal.sig) → Buf (Elt Ideal) ℓ) : Prop :=
  True

def Pre_UpdateA (m : (ℓ : Loc Cert.UpdateA.nD Cert.UpdateA.τ Cert.UpdateA.sig) → Buf (Elt Bits) ℓ) : Prop :=
  True

def Pre_UpdateAIdeal (m : (ℓ : Loc Cert.UpdateAIdeal.nD Cert.UpdateAIdeal.τ Cert.UpdateAIdeal.sig) → Buf (Elt Ideal) ℓ) : Prop :=
  True

def Pre_UpdateARefIdeal (m : (ℓ : Loc Cert.UpdateARefIdeal.nD Cert.UpdateARefIdeal.τ Cert.UpdateARefIdeal.sig) → Buf (Elt Ideal) ℓ) : Prop :=
  True

def Pre_UpdateC (m : (ℓ : Loc Cert.UpdateC.nD Cert.UpdateC.τ Cert.UpdateC.sig) → Buf (Elt Bits) ℓ) : Prop :=
  True

def Pre_UpdateCIdeal (m : (ℓ : Loc Cert.UpdateCIdeal.nD Cert.UpdateCIdeal.τ Cert.UpdateCIdeal.sig) → Buf (Elt Ideal) ℓ) : Prop :=
  True

def Pre_UpdateCRefIdeal (m : (ℓ : Loc Cert.UpdateCRefIdeal.nD Cert.UpdateCRefIdeal.τ Cert.UpdateCRefIdeal.sig) → Buf (Elt Ideal) ℓ) : Prop :=
  True

def Pre_UpdateSmall (m : (ℓ : Loc Cert.UpdateSmall.nD Cert.UpdateSmall.τ Cert.UpdateSmall.sig) → Buf (Elt Bits) ℓ) : Prop :=
  True

def Pre_UpdateSmallIdeal (m : (ℓ : Loc Cert.UpdateSmallIdeal.nD Cert.UpdateSmallIdeal.τ Cert.UpdateSmallIdeal.sig) → Buf (Elt Ideal) ℓ) : Prop :=
  True

def Pre_UpdateSmallRefIdeal (m : (ℓ : Loc Cert.UpdateSmallRefIdeal.nD Cert.UpdateSmallRefIdeal.τ Cert.UpdateSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2))) = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_finite_conv [hPre_finite_conv : Cert.Pre_finite_conv.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2))) = (fun _ => 1#1)

def Pre_LowerFwd (m : (ℓ : Loc Cert.LowerFwd.nD Cert.LowerFwd.τ Cert.LowerFwd.sig) → Buf (Elt Bits) ℓ) : Prop :=
  True

def Pre_LowerFwdIdeal (m : (ℓ : Loc Cert.LowerFwdIdeal.nD Cert.LowerFwdIdeal.τ Cert.LowerFwdIdeal.sig) → Buf (Elt Ideal) ℓ) : Prop :=
  True

def Pre_LowerFwdIdeal_finite_lower [hPre_finite_lower : Cert.Pre_finite_lower.Facts] (m : (ℓ : Loc Cert.LowerFwdIdeal.nD Cert.LowerFwdIdeal.τ Cert.LowerFwdIdeal.sig) → Buf (Elt Ideal) ℓ) : Prop :=
  ∀ c : Dev Cert.LowerFwdIdeal.nD,
    (Cert.Pre_finite_lower.fn (F := Ideal) (m ((c.tc : Thread Cert.LowerFwdIdeal.nD Cert.LowerFwdIdeal.τ).loc Cert.LowerFwdIdeal.main_arg0))) = (fun _ => 1#1)

def Pre_LowerFwdRefIdeal (m : (ℓ : Loc Cert.LowerFwdRefIdeal.nD Cert.LowerFwdRefIdeal.τ Cert.LowerFwdRefIdeal.sig) → Buf (Elt Ideal) ℓ) : Prop :=
  True

def Pre_LowerFwdRefIdeal_finite_lower [hPre_finite_lower : Cert.Pre_finite_lower.Facts] (m : (ℓ : Loc Cert.LowerFwdRefIdeal.nD Cert.LowerFwdRefIdeal.τ Cert.LowerFwdRefIdeal.sig) → Buf (Elt Ideal) ℓ) : Prop :=
  ∀ c : Dev Cert.LowerFwdRefIdeal.nD,
    (Cert.Pre_finite_lower.fn (F := Ideal) (m ((c.tc : Thread Cert.LowerFwdRefIdeal.nD Cert.LowerFwdRefIdeal.τ).loc Cert.LowerFwdRefIdeal.main_arg0))) = (fun _ => 1#1)

def Pre_LowerBwd (m : (ℓ : Loc Cert.LowerBwd.nD Cert.LowerBwd.τ Cert.LowerBwd.sig) → Buf (Elt Bits) ℓ) : Prop :=
  True

def Pre_LowerBwdIdeal (m : (ℓ : Loc Cert.LowerBwdIdeal.nD Cert.LowerBwdIdeal.τ Cert.LowerBwdIdeal.sig) → Buf (Elt Ideal) ℓ) : Prop :=
  True

def Pre_LowerBwdIdeal_finite_lower_d [hPre_finite_lower_d : Cert.Pre_finite_lower_d.Facts] (m : (ℓ : Loc Cert.LowerBwdIdeal.nD Cert.LowerBwdIdeal.τ Cert.LowerBwdIdeal.sig) → Buf (Elt Ideal) ℓ) : Prop :=
  ∀ c : Dev Cert.LowerBwdIdeal.nD,
    (Cert.Pre_finite_lower_d.fn (F := Ideal) (m ((c.tc : Thread Cert.LowerBwdIdeal.nD Cert.LowerBwdIdeal.τ).loc Cert.LowerBwdIdeal.main_arg0)) (m ((c.tc : Thread Cert.LowerBwdIdeal.nD Cert.LowerBwdIdeal.τ).loc Cert.LowerBwdIdeal.main_arg1))) = (fun _ => 1#1)

def Pre_LowerBwdRefIdeal (m : (ℓ : Loc Cert.LowerBwdRefIdeal.nD Cert.LowerBwdRefIdeal.τ Cert.LowerBwdRefIdeal.sig) → Buf (Elt Ideal) ℓ) : Prop :=
  True

def Pre_LowerBwdRefIdeal_finite_lower_d [hPre_finite_lower_d : Cert.Pre_finite_lower_d.Facts] (m : (ℓ : Loc Cert.LowerBwdRefIdeal.nD Cert.LowerBwdRefIdeal.τ Cert.LowerBwdRefIdeal.sig) → Buf (Elt Ideal) ℓ) : Prop :=
  ∀ c : Dev Cert.LowerBwdRefIdeal.nD,
    (Cert.Pre_finite_lower_d.fn (F := Ideal) (m ((c.tc : Thread Cert.LowerBwdRefIdeal.nD Cert.LowerBwdRefIdeal.τ).loc Cert.LowerBwdRefIdeal.main_arg0)) (m ((c.tc : Thread Cert.LowerBwdRefIdeal.nD Cert.LowerBwdRefIdeal.τ).loc Cert.LowerBwdRefIdeal.main_arg1))) = (fun _ => 1#1)

def Pre_SumConv (m : (ℓ : Loc Cert.SumConv.nD Cert.SumConv.τ Cert.SumConv.sig) → Buf (Elt Bits) ℓ) : Prop :=
  True

def Pre_SumConvIdeal (m : (ℓ : Loc Cert.SumConvIdeal.nD Cert.SumConvIdeal.τ Cert.SumConvIdeal.sig) → Buf (Elt Ideal) ℓ) : Prop :=
  True

def Pre_SumConvRefIdeal (m : (ℓ : Loc Cert.SumConvRefIdeal.nD Cert.SumConvRefIdeal.τ Cert.SumConvRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6)
      ∧ r.2.mem ((c.tc : Thread Cert.Dh.nD Cert.Dh.τ).loc Cert.Dh.main_arg7) = m ((c.tc : Thread Cert.Dh.nD Cert.Dh.τ).loc Cert.Dh.main_arg7))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7))
      ∧ r.2.sem = fun _ => 0)

def quiescent_DwA [hDwA : Cert.DwA.Facts] : Prop :=
  ∀ (m : (ℓ : Loc Cert.DwA.nD Cert.DwA.τ Cert.DwA.sig) → Buf (Elt Bits) ℓ) (g : Dev Cert.DwA.nD → PrngReg), Pre_DwA m →
    θ_run (Cert.DwA.defs (F := Bits)) (onTc (τ := Cert.DwA.τ) (Cert.DwA.main (F := Bits))) ⟨m, fun _ => 0, g⟩ (fun r => (∀ c : Dev Cert.DwA.nD,
      r.2.mem ((c.tc : Thread Cert.DwA.nD Cert.DwA.τ).loc Cert.DwA.main_arg0) = m ((c.tc : Thread Cert.DwA.nD Cert.DwA.τ).loc Cert.DwA.main_arg0)
      ∧ r.2.mem ((c.tc : Thread Cert.DwA.nD Cert.DwA.τ).loc Cert.DwA.main_arg1) = m ((c.tc : Thread Cert.DwA.nD Cert.DwA.τ).loc Cert.DwA.main_arg1))
      ∧ r.2.sem = fun _ => 0)

def quiescent_DwAIdeal [hDwAIdeal : Cert.DwAIdeal.Facts] : Prop :=
  ∀ (m : (ℓ : Loc Cert.DwAIdeal.nD Cert.DwAIdeal.τ Cert.DwAIdeal.sig) → Buf (Elt Ideal) ℓ) (g : Dev Cert.DwAIdeal.nD → PrngReg), Pre_DwAIdeal m →
    θ_run (Cert.DwAIdeal.defs (F := Ideal)) (onTc (τ := Cert.DwAIdeal.τ) (Cert.DwAIdeal.main (F := Ideal))) ⟨m, fun _ => 0, g⟩ (fun r => (∀ c : Dev Cert.DwAIdeal.nD,
      r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
      ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ r.2.sem = fun _ => 0)

def quiescent_DwARefIdeal [hDwARefIdeal : Cert.DwARefIdeal.Facts] : Prop :=
  ∀ (m : (ℓ : Loc Cert.DwARefIdeal.nD Cert.DwARefIdeal.τ Cert.DwARefIdeal.sig) → Buf (Elt Ideal) ℓ) (g : Dev Cert.DwARefIdeal.nD → PrngReg), Pre_DwARefIdeal m →
    θ_run (Cert.DwARefIdeal.defs (F := Ideal)) (onTc (τ := Cert.DwARefIdeal.τ) (Cert.DwARefIdeal.main (F := Ideal))) ⟨m, fun _ => 0, g⟩ (fun r => (∀ c : Dev Cert.DwARefIdeal.nD,
      r.2.mem ((c.tc : Thread Cert.DwARefIdeal.nD Cert.DwARefIdeal.τ).loc Cert.DwARefIdeal.main_arg0) = m ((c.tc : Thread Cert.DwARefIdeal.nD Cert.DwARefIdeal.τ).loc Cert.DwARefIdeal.main_arg0)
      ∧ r.2.mem ((c.tc : Thread Cert.DwARefIdeal.nD Cert.DwARefIdeal.τ).loc Cert.DwARefIdeal.main_arg1) = m ((c.tc : Thread Cert.DwARefIdeal.nD Cert.DwARefIdeal.τ).loc Cert.DwARefIdeal.main_arg1))
      ∧ r.2.sem = fun _ => 0)

def quiescent_DwC [hDwC : Cert.DwC.Facts] : Prop :=
  ∀ (m : (ℓ : Loc Cert.DwC.nD Cert.DwC.τ Cert.DwC.sig) → Buf (Elt Bits) ℓ) (g : Dev Cert.DwC.nD → PrngReg), Pre_DwC m →
    θ_run (Cert.DwC.defs (F := Bits)) (onTc (τ := Cert.DwC.τ) (Cert.DwC.main (F := Bits))) ⟨m, fun _ => 0, g⟩ (fun r => (∀ c : Dev Cert.DwC.nD,
      r.2.mem ((c.tc : Thread Cert.DwC.nD Cert.DwC.τ).loc Cert.DwC.main_arg0) = m ((c.tc : Thread Cert.DwC.nD Cert.DwC.τ).loc Cert.DwC.main_arg0)
      ∧ r.2.mem ((c.tc : Thread Cert.DwC.nD Cert.DwC.τ).loc Cert.DwC.main_arg1) = m ((c.tc : Thread Cert.DwC.nD Cert.DwC.τ).loc Cert.DwC.main_arg1))
      ∧ r.2.sem = fun _ => 0)

def quiescent_DwCIdeal [hDwCIdeal : Cert.DwCIdeal.Facts] : Prop :=
  ∀ (m : (ℓ : Loc Cert.DwCIdeal.nD Cert.DwCIdeal.τ Cert.DwCIdeal.sig) → Buf (Elt Ideal) ℓ) (g : Dev Cert.DwCIdeal.nD → PrngReg), Pre_DwCIdeal m →
    θ_run (Cert.DwCIdeal.defs (F := Ideal)) (onTc (τ := Cert.DwCIdeal.τ) (Cert.DwCIdeal.main (F := Ideal))) ⟨m, fun _ => 0, g⟩ (fun r => (∀ c : Dev Cert.DwCIdeal.nD,
      r.2.mem ((c.tc : Thread Cert.DwCIdeal.nD Cert.DwCIdeal.τ).loc Cert.DwCIdeal.main_arg0) = m ((c.tc : Thread Cert.DwCIdeal.nD Cert.DwCIdeal.τ).loc Cert.DwCIdeal.main_arg0)
      ∧ r.2.mem ((c.tc : Thread Cert.DwCIdeal.nD Cert.DwCIdeal.τ).loc Cert.DwCIdeal.main_arg1) = m ((c.tc : Thread Cert.DwCIdeal.nD Cert.DwCIdeal.τ).loc Cert.DwCIdeal.main_arg1))
      ∧ r.2.sem = fun _ => 0)

def quiescent_DwCRefIdeal [hDwCRefIdeal : Cert.DwCRefIdeal.Facts] : Prop :=
  ∀ (m : (ℓ : Loc Cert.DwCRefIdeal.nD Cert.DwCRefIdeal.τ Cert.DwCRefIdeal.sig) → Buf (Elt Ideal) ℓ) (g : Dev Cert.DwCRefIdeal.nD → PrngReg), Pre_DwCRefIdeal m →
    θ_run (Cert.DwCRefIdeal.defs (F := Ideal)) (onTc (τ := Cert.DwCRefIdeal.τ) (Cert.DwCRefIdeal.main (F := Ideal))) ⟨m, fun _ => 0, g⟩ (fun r => (∀ c : Dev Cert.DwCRefIdeal.nD,
      r.2.mem ((c.tc : Thread Cert.DwCRefIdeal.nD Cert.DwCRefIdeal.τ).loc Cert.DwCRefIdeal.main_arg0) = m ((c.tc : Thread Cert.DwCRefIdeal.nD Cert.DwCRefIdeal.τ).loc Cert.DwCRefIdeal.main_arg0)
      ∧ r.2.mem ((c.tc : Thread Cert.DwCRefIdeal.nD Cert.DwCRefIdeal.τ).loc Cert.DwCRefIdeal.main_arg1) = m ((c.tc : Thread Cert.DwCRefIdeal.nD Cert.DwCRefIdeal.τ).loc Cert.DwCRefIdeal.main_arg1))
      ∧ r.2.sem = fun _ => 0)

def quiescent_DwG [hDwG : Cert.DwG.Facts] : Prop :=
  ∀ (m : (ℓ : Loc Cert.DwG.nD Cert.DwG.τ Cert.DwG.sig) → Buf (Elt Bits) ℓ) (g : Dev Cert.DwG.nD → PrngReg), Pre_DwG m →
    θ_run (Cert.DwG.defs (F := Bits)) (onTc (τ := Cert.DwG.τ) (Cert.DwG.main (F := Bits))) ⟨m, fun _ => 0, g⟩ (fun r => (∀ c : Dev Cert.DwG.nD,
      r.2.mem ((c.tc : Thread Cert.DwG.nD Cert.DwG.τ).loc Cert.DwG.main_arg0) = m ((c.tc : Thread Cert.DwG.nD Cert.DwG.τ).loc Cert.DwG.main_arg0)
      ∧ r.2.mem ((c.tc : Thread Cert.DwG.nD Cert.DwG.τ).loc Cert.DwG.main_arg1) = m ((c.tc : Thread Cert.DwG.nD Cert.DwG.τ).loc Cert.DwG.main_arg1))
      ∧ r.2.sem = fun _ => 0)

def quiescent_DwGIdeal [hDwGIdeal : Cert.DwGIdeal.Facts] : Prop :=
  ∀ (m : (ℓ : Loc Cert.DwGIdeal.nD Cert.DwGIdeal.τ Cert.DwGIdeal.sig) → Buf (Elt Ideal) ℓ) (g : Dev Cert.DwGIdeal.nD → PrngReg), Pre_DwGIdeal m →
    θ_run (Cert.DwGIdeal.defs (F := Ideal)) (onTc (τ := Cert.DwGIdeal.τ) (Cert.DwGIdeal.main (F := Ideal))) ⟨m, fun _ => 0, g⟩ (fun r => (∀ c : Dev Cert.DwGIdeal.nD,
      r.2.mem ((c.tc : Thread Cert.DwGIdeal.nD Cert.DwGIdeal.τ).loc Cert.DwGIdeal.main_arg0) = m ((c.tc : Thread Cert.DwGIdeal.nD Cert.DwGIdeal.τ).loc Cert.DwGIdeal.main_arg0)
      ∧ r.2.mem ((c.tc : Thread Cert.DwGIdeal.nD Cert.DwGIdeal.τ).loc Cert.DwGIdeal.main_arg1) = m ((c.tc : Thread Cert.DwGIdeal.nD Cert.DwGIdeal.τ).loc Cert.DwGIdeal.main_arg1))
      ∧ r.2.sem = fun _ => 0)

def quiescent_DwGRefIdeal [hDwGRefIdeal : Cert.DwGRefIdeal.Facts] : Prop :=
  ∀ (m : (ℓ : Loc Cert.DwGRefIdeal.nD Cert.DwGRefIdeal.τ Cert.DwGRefIdeal.sig) → Buf (Elt Ideal) ℓ) (g : Dev Cert.DwGRefIdeal.nD → PrngReg), Pre_DwGRefIdeal m →
    θ_run (Cert.DwGRefIdeal.defs (F := Ideal)) (onTc (τ := Cert.DwGRefIdeal.τ) (Cert.DwGRefIdeal.main (F := Ideal))) ⟨m, fun _ => 0, g⟩ (fun r => (∀ c : Dev Cert.DwGRefIdeal.nD,
      r.2.mem ((c.tc : Thread Cert.DwGRefIdeal.nD Cert.DwGRefIdeal.τ).loc Cert.DwGRefIdeal.main_arg0) = m ((c.tc : Thread Cert.DwGRefIdeal.nD Cert.DwGRefIdeal.τ).loc Cert.DwGRefIdeal.main_arg0)
      ∧ r.2.mem ((c.tc : Thread Cert.DwGRefIdeal.nD Cert.DwGRefIdeal.τ).loc Cert.DwGRefIdeal.main_arg1) = m ((c.tc : Thread Cert.DwGRefIdeal.nD Cert.DwGRefIdeal.τ).loc Cert.DwGRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ r.2.sem = fun _ => 0)

def quiescent_ProjGRefIdeal [hProjGRefIdeal : Cert.ProjGRefIdeal.Facts] : Prop :=
  ∀ (m : (ℓ : Loc Cert.ProjGRefIdeal.nD Cert.ProjGRefIdeal.τ Cert.ProjGRefIdeal.sig) → Buf (Elt Ideal) ℓ) (g : Dev Cert.ProjGRefIdeal.nD → PrngReg), Pre_ProjGRefIdeal m →
    θ_run (Cert.ProjGRefIdeal.defs (F := Ideal)) (onTc (τ := Cert.ProjGRefIdeal.τ) (Cert.ProjGRefIdeal.main (F := Ideal))) ⟨m, fun _ => 0, g⟩ (fun r => (∀ c : Dev Cert.ProjGRefIdeal.nD,
      r.2.mem ((c.tc : Thread Cert.ProjGRefIdeal.nD Cert.ProjGRefIdeal.τ).loc Cert.ProjGRefIdeal.main_arg0) = m ((c.tc : Thread Cert.ProjGRefIdeal.nD Cert.ProjGRefIdeal.τ).loc Cert.ProjGRefIdeal.main_arg0)
      ∧ r.2.mem ((c.tc : Thread Cert.ProjGRefIdeal.nD Cert.ProjGRefIdeal.τ).loc Cert.ProjGRefIdeal.main_arg1) = m ((c.tc : Thread Cert.ProjGRefIdeal.nD Cert.ProjGRefIdeal.τ).loc Cert.ProjGRefIdeal.main_arg1))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_DwORefIdeal [hDwORefIdeal : Cert.DwORefIdeal.Facts] : Prop :=
  ∀ (m : (ℓ : Loc Cert.DwORefIdeal.nD Cert.DwORefIdeal.τ Cert.DwORefIdeal.sig) → Buf (Elt Ideal) ℓ) (g : Dev Cert.DwORefIdeal.nD → PrngReg), Pre_DwORefIdeal m →
    θ_run (Cert.DwORefIdeal.defs (F := Ideal)) (onTc (τ := Cert.DwORefIdeal.τ) (Cert.DwORefIdeal.main (F := Ideal))) ⟨m, fun _ => 0, g⟩ (fun r => (∀ c : Dev Cert.DwORefIdeal.nD,
      r.2.mem ((c.tc : Thread Cert.DwORefIdeal.nD Cert.DwORefIdeal.τ).loc Cert.DwORefIdeal.main_arg0) = m ((c.tc : Thread Cert.DwORefIdeal.nD Cert.DwORefIdeal.τ).loc Cert.DwORefIdeal.main_arg0)
      ∧ r.2.mem ((c.tc : Thread Cert.DwORefIdeal.nD Cert.DwORefIdeal.τ).loc Cert.DwORefIdeal.main_arg1) = m ((c.tc : Thread Cert.DwORefIdeal.nD Cert.DwORefIdeal.τ).loc Cert.DwORefIdeal.main_arg1))
      ∧ r.2.sem = fun _ => 0)

def quiescent_DwOutA [hDwOutA : Cert.DwOutA.Facts] : Prop :=
  ∀ (m : (ℓ : Loc Cert.DwOutA.nD Cert.DwOutA.τ Cert.DwOutA.sig) → Buf (Elt Bits) ℓ) (g : Dev Cert.DwOutA.nD → PrngReg), Pre_DwOutA m →
    θ_run (Cert.DwOutA.defs (F := Bits)) (onTc (τ := Cert.DwOutA.τ) (Cert.DwOutA.main (F := Bits))) ⟨m, fun _ => 0, g⟩ (fun r => (∀ c : Dev Cert.DwOutA.nD,
      r.2.mem ((c.tc : Thread Cert.DwOutA.nD Cert.DwOutA.τ).loc Cert.DwOutA.main_arg0) = m ((c.tc : Thread Cert.DwOutA.nD Cert.DwOutA.τ).loc Cert.DwOutA.main_arg0)
      ∧ r.2.mem ((c.tc : Thread Cert.DwOutA.nD Cert.DwOutA.τ).loc Cert.DwOutA.main_arg1) = m ((c.tc : Thread Cert.DwOutA.nD Cert.DwOutA.τ).loc Cert.DwOutA.main_arg1))
      ∧ r.2.sem = fun _ => 0)

def quiescent_DwOutAIdeal [hDwOutAIdeal : Cert.DwOutAIdeal.Facts] : Prop :=
  ∀ (m : (ℓ : Loc Cert.DwOutAIdeal.nD Cert.DwOutAIdeal.τ Cert.DwOutAIdeal.sig) → Buf (Elt Ideal) ℓ) (g : Dev Cert.DwOutAIdeal.nD → PrngReg), Pre_DwOutAIdeal m →
    θ_run (Cert.DwOutAIdeal.defs (F := Ideal)) (onTc (τ := Cert.DwOutAIdeal.τ) (Cert.DwOutAIdeal.main (F := Ideal))) ⟨m, fun _ => 0, g⟩ (fun r => (∀ c : Dev Cert.DwOutAIdeal.nD,
      r.2.mem ((c.tc : Thread Cert.DwOutAIdeal.nD Cert.DwOutAIdeal.τ).loc Cert.DwOutAIdeal.main_arg0) = m ((c.tc : Thread Cert.DwOutAIdeal.nD Cert.DwOutAIdeal.τ).loc Cert.DwOutAIdeal.main_arg0)
      ∧ r.2.mem ((c.tc : Thread Cert.DwOutAIdeal.nD Cert.DwOutAIdeal.τ).loc Cert.DwOutAIdeal.main_arg1) = m ((c.tc : Thread Cert.DwOutAIdeal.nD Cert.DwOutAIdeal.τ).loc Cert.DwOutAIdeal.main_arg1))
      ∧ r.2.sem = fun _ => 0)

def quiescent_DwOutARefIdeal [hDwOutARefIdeal : Cert.DwOutARefIdeal.Facts] : Prop :=
  ∀ (m : (ℓ : Loc Cert.DwOutARefIdeal.nD Cert.DwOutARefIdeal.τ Cert.DwOutARefIdeal.sig) → Buf (Elt Ideal) ℓ) (g : Dev Cert.DwOutARefIdeal.nD → PrngReg), Pre_DwOutARefIdeal m →
    θ_run (Cert.DwOutARefIdeal.defs (F := Ideal)) (onTc (τ := Cert.DwOutARefIdeal.τ) (Cert.DwOutARefIdeal.main (F := Ideal))) ⟨m, fun _ => 0, g⟩ (fun r => (∀ c : Dev Cert.DwOutARefIdeal.nD,
      r.2.mem ((c.tc : Thread Cert.DwOutARefIdeal.nD Cert.DwOutARefIdeal.τ).loc Cert.DwOutARefIdeal.main_arg0) = m ((c.tc : Thread Cert.DwOutARefIdeal.nD Cert.DwOutARefIdeal.τ).loc Cert.DwOutARefIdeal.main_arg0)
      ∧ r.2.mem ((c.tc : Thread Cert.DwOutARefIdeal.nD Cert.DwOutARefIdeal.τ).loc Cert.DwOutARefIdeal.main_arg1) = m ((c.tc : Thread Cert.DwOutARefIdeal.nD Cert.DwOutARefIdeal.τ).loc Cert.DwOutARefIdeal.main_arg1))
      ∧ r.2.sem = fun _ => 0)

def quiescent_DwOutC [hDwOutC : Cert.DwOutC.Facts] : Prop :=
  ∀ (m : (ℓ : Loc Cert.DwOutC.nD Cert.DwOutC.τ Cert.DwOutC.sig) → Buf (Elt Bits) ℓ) (g : Dev Cert.DwOutC.nD → PrngReg), Pre_DwOutC m →
    θ_run (Cert.DwOutC.defs (F := Bits)) (onTc (τ := Cert.DwOutC.τ) (Cert.DwOutC.main (F := Bits))) ⟨m, fun _ => 0, g⟩ (fun r => (∀ c : Dev Cert.DwOutC.nD,
      r.2.mem ((c.tc : Thread Cert.DwOutC.nD Cert.DwOutC.τ).loc Cert.DwOutC.main_arg0) = m ((c.tc : Thread Cert.DwOutC.nD Cert.DwOutC.τ).loc Cert.DwOutC.main_arg0)
      ∧ r.2.mem ((c.tc : Thread Cert.DwOutC.nD Cert.DwOutC.τ).loc Cert.DwOutC.main_arg1) = m ((c.tc : Thread Cert.DwOutC.nD Cert.DwOutC.τ).loc Cert.DwOutC.main_arg1))
      ∧ r.2.sem = fun _ => 0)

def quiescent_DwOutCIdeal [hDwOutCIdeal : Cert.DwOutCIdeal.Facts] : Prop :=
  ∀ (m : (ℓ : Loc Cert.DwOutCIdeal.nD Cert.DwOutCIdeal.τ Cert.DwOutCIdeal.sig) → Buf (Elt Ideal) ℓ) (g : Dev Cert.DwOutCIdeal.nD → PrngReg), Pre_DwOutCIdeal m →
    θ_run (Cert.DwOutCIdeal.defs (F := Ideal)) (onTc (τ := Cert.DwOutCIdeal.τ) (Cert.DwOutCIdeal.main (F := Ideal))) ⟨m, fun _ => 0, g⟩ (fun r => (∀ c : Dev Cert.DwOutCIdeal.nD,
      r.2.mem ((c.tc : Thread Cert.DwOutCIdeal.nD Cert.DwOutCIdeal.τ).loc Cert.DwOutCIdeal.main_arg0) = m ((c.tc : Thread Cert.DwOutCIdeal.nD Cert.DwOutCIdeal.τ).loc Cert.DwOutCIdeal.main_arg0)
      ∧ r.2.mem ((c.tc : Thread Cert.DwOutCIdeal.nD Cert.DwOutCIdeal.τ).loc Cert.DwOutCIdeal.main_arg1) = m ((c.tc : Thread Cert.DwOutCIdeal.nD Cert.DwOutCIdeal.τ).loc Cert.DwOutCIdeal.main_arg1))
      ∧ r.2.sem = fun _ => 0)

def quiescent_DwOutCRefIdeal [hDwOutCRefIdeal : Cert.DwOutCRefIdeal.Facts] : Prop :=
  ∀ (m : (ℓ : Loc Cert.DwOutCRefIdeal.nD Cert.DwOutCRefIdeal.τ Cert.DwOutCRefIdeal.sig) → Buf (Elt Ideal) ℓ) (g : Dev Cert.DwOutCRefIdeal.nD → PrngReg), Pre_DwOutCRefIdeal m →
    θ_run (Cert.DwOutCRefIdeal.defs (F := Ideal)) (onTc (τ := Cert.DwOutCRefIdeal.τ) (Cert.DwOutCRefIdeal.main (F := Ideal))) ⟨m, fun _ => 0, g⟩ (fun r => (∀ c : Dev Cert.DwOutCRefIdeal.nD,
      r.2.mem ((c.tc : Thread Cert.DwOutCRefIdeal.nD Cert.DwOutCRefIdeal.τ).loc Cert.DwOutCRefIdeal.main_arg0) = m ((c.tc : Thread Cert.DwOutCRefIdeal.nD Cert.DwOutCRefIdeal.τ).loc Cert.DwOutCRefIdeal.main_arg0)
      ∧ r.2.mem ((c.tc : Thread Cert.DwOutCRefIdeal.nD Cert.DwOutCRefIdeal.τ).loc Cert.DwOutCRefIdeal.main_arg1) = m ((c.tc : Thread Cert.DwOutCRefIdeal.nD Cert.DwOutCRefIdeal.τ).loc Cert.DwOutCRefIdeal.main_arg1))
      ∧ r.2.sem = fun _ => 0)

def quiescent_DuA [hDuA : Cert.DuA.Facts] : Prop :=
  ∀ (m : (ℓ : Loc Cert.DuA.nD Cert.DuA.τ Cert.DuA.sig) → Buf (Elt Bits) ℓ) (g : Dev Cert.DuA.nD → PrngReg), Pre_DuA m →
    θ_run (Cert.DuA.defs (F := Bits)) (onTc (τ := Cert.DuA.τ) (Cert.DuA.main (F := Bits))) ⟨m, fun _ => 0, g⟩ (fun r => (∀ c : Dev Cert.DuA.nD,
      r.2.mem ((c.tc : Thread Cert.DuA.nD Cert.DuA.τ).loc Cert.DuA.main_arg0) = m ((c.tc : Thread Cert.DuA.nD Cert.DuA.τ).loc Cert.DuA.main_arg0)
      ∧ r.2.mem ((c.tc : Thread Cert.DuA.nD Cert.DuA.τ).loc Cert.DuA.main_arg1) = m ((c.tc : Thread Cert.DuA.nD Cert.DuA.τ).loc Cert.DuA.main_arg1))
      ∧ r.2.sem = fun _ => 0)

def quiescent_DuAIdeal [hDuAIdeal : Cert.DuAIdeal.Facts] : Prop :=
  ∀ (m : (ℓ : Loc Cert.DuAIdeal.nD Cert.DuAIdeal.τ Cert.DuAIdeal.sig) → Buf (Elt Ideal) ℓ) (g : Dev Cert.DuAIdeal.nD → PrngReg), Pre_DuAIdeal m →
    θ_run (Cert.DuAIdeal.defs (F := Ideal)) (onTc (τ := Cert.DuAIdeal.τ) (Cert.DuAIdeal.main (F := Ideal))) ⟨m, fun _ => 0, g⟩ (fun r => (∀ c : Dev Cert.DuAIdeal.nD,
      r.2.mem ((c.tc : Thread Cert.DuAIdeal.nD Cert.DuAIdeal.τ).loc Cert.DuAIdeal.main_arg0) = m ((c.tc : Thread Cert.DuAIdeal.nD Cert.DuAIdeal.τ).loc Cert.DuAIdeal.main_arg0)
      ∧ r.2.mem ((c.tc : Thread Cert.DuAIdeal.nD Cert.DuAIdeal.τ).loc Cert.DuAIdeal.main_arg1) = m ((c.tc : Thread Cert.DuAIdeal.nD Cert.DuAIdeal.τ).loc Cert.DuAIdeal.main_arg1))
      ∧ r.2.sem = fun _ => 0)

def quiescent_DuARefIdeal [hDuARefIdeal : Cert.DuARefIdeal.Facts] : Prop :=
  ∀ (m : (ℓ : Loc Cert.DuARefIdeal.nD Cert.DuARefIdeal.τ Cert.DuARefIdeal.sig) → Buf (Elt Ideal) ℓ) (g : Dev Cert.DuARefIdeal.nD → PrngReg), Pre_DuARefIdeal m →
    θ_run (Cert.DuARefIdeal.defs (F := Ideal)) (onTc (τ := Cert.DuARefIdeal.τ) (Cert.DuARefIdeal.main (F := Ideal))) ⟨m, fun _ => 0, g⟩ (fun r => (∀ c : Dev Cert.DuARefIdeal.nD,
      r.2.mem ((c.tc : Thread Cert.DuARefIdeal.nD Cert.DuARefIdeal.τ).loc Cert.DuARefIdeal.main_arg0) = m ((c.tc : Thread Cert.DuARefIdeal.nD Cert.DuARefIdeal.τ).loc Cert.DuARefIdeal.main_arg0)
      ∧ r.2.mem ((c.tc : Thread Cert.DuARefIdeal.nD Cert.DuARefIdeal.τ).loc Cert.DuARefIdeal.main_arg1) = m ((c.tc : Thread Cert.DuARefIdeal.nD Cert.DuARefIdeal.τ).loc Cert.DuARefIdeal.main_arg1))
      ∧ r.2.sem = fun _ => 0)

def quiescent_DuC [hDuC : Cert.DuC.Facts] : Prop :=
  ∀ (m : (ℓ : Loc Cert.DuC.nD Cert.DuC.τ Cert.DuC.sig) → Buf (Elt Bits) ℓ) (g : Dev Cert.DuC.nD → PrngReg), Pre_DuC m →
    θ_run (Cert.DuC.defs (F := Bits)) (onTc (τ := Cert.DuC.τ) (Cert.DuC.main (F := Bits))) ⟨m, fun _ => 0, g⟩ (fun r => (∀ c : Dev Cert.DuC.nD,
      r.2.mem ((c.tc : Thread Cert.DuC.nD Cert.DuC.τ).loc Cert.DuC.main_arg0) = m ((c.tc : Thread Cert.DuC.nD Cert.DuC.τ).loc Cert.DuC.main_arg0)
      ∧ r.2.mem ((c.tc : Thread Cert.DuC.nD Cert.DuC.τ).loc Cert.DuC.main_arg1) = m ((c.tc : Thread Cert.DuC.nD Cert.DuC.τ).loc Cert.DuC.main_arg1))
      ∧ r.2.sem = fun _ => 0)

def quiescent_DuCIdeal [hDuCIdeal : Cert.DuCIdeal.Facts] : Prop :=
  ∀ (m : (ℓ : Loc Cert.DuCIdeal.nD Cert.DuCIdeal.τ Cert.DuCIdeal.sig) → Buf (Elt Ideal) ℓ) (g : Dev Cert.DuCIdeal.nD → PrngReg), Pre_DuCIdeal m →
    θ_run (Cert.DuCIdeal.defs (F := Ideal)) (onTc (τ := Cert.DuCIdeal.τ) (Cert.DuCIdeal.main (F := Ideal))) ⟨m, fun _ => 0, g⟩ (fun r => (∀ c : Dev Cert.DuCIdeal.nD,
      r.2.mem ((c.tc : Thread Cert.DuCIdeal.nD Cert.DuCIdeal.τ).loc Cert.DuCIdeal.main_arg0) = m ((c.tc : Thread Cert.DuCIdeal.nD Cert.DuCIdeal.τ).loc Cert.DuCIdeal.main_arg0)
      ∧ r.2.mem ((c.tc : Thread Cert.DuCIdeal.nD Cert.DuCIdeal.τ).loc Cert.DuCIdeal.main_arg1) = m ((c.tc : Thread Cert.DuCIdeal.nD Cert.DuCIdeal.τ).loc Cert.DuCIdeal.main_arg1))
      ∧ r.2.sem = fun _ => 0)

def quiescent_DuCRefIdeal [hDuCRefIdeal : Cert.DuCRefIdeal.Facts] : Prop :=
  ∀ (m : (ℓ : Loc Cert.DuCRefIdeal.nD Cert.DuCRefIdeal.τ Cert.DuCRefIdeal.sig) → Buf (Elt Ideal) ℓ) (g : Dev Cert.DuCRefIdeal.nD → PrngReg), Pre_DuCRefIdeal m →
    θ_run (Cert.DuCRefIdeal.defs (F := Ideal)) (onTc (τ := Cert.DuCRefIdeal.τ) (Cert.DuCRefIdeal.main (F := Ideal))) ⟨m, fun _ => 0, g⟩ (fun r => (∀ c : Dev Cert.DuCRefIdeal.nD,
      r.2.mem ((c.tc : Thread Cert.DuCRefIdeal.nD Cert.DuCRefIdeal.τ).loc Cert.DuCRefIdeal.main_arg0) = m ((c.tc : Thread Cert.DuCRefIdeal.nD Cert.DuCRefIdeal.τ).loc Cert.DuCRefIdeal.main_arg0)
      ∧ r.2.mem ((c.tc : Thread Cert.DuCRefIdeal.nD Cert.DuCRefIdeal.τ).loc Cert.DuCRefIdeal.main_arg1) = m ((c.tc : Thread Cert.DuCRefIdeal.nD Cert.DuCRefIdeal.τ).loc Cert.DuCRefIdeal.main_arg1))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1))
      ∧ r.2.sem = fun _ => 0)

def quiescent_OutCRefIdeal [hOutCRefIdeal : Cert.OutCRefIdeal.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3)
      ∧ r.2.mem ((c.tc : Thread Cert.UpdateIn.nD Cert.UpdateIn.τ).loc Cert.UpdateIn.main_arg4) = m ((c.tc : Thread Cert.UpdateIn.nD Cert.UpdateIn.τ).loc Cert.UpdateIn.main_arg4))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3)
      ∧ r.2.mem ((c.tc : Thread Cert.UpdateInIdeal.nD Cert.UpdateInIdeal.τ).loc Cert.UpdateInIdeal.main_arg4) = m ((c.tc : Thread Cert.UpdateInIdeal.nD Cert.UpdateInIdeal.τ).loc Cert.UpdateInIdeal.main_arg4))
      ∧ r.2.sem = fun _ => 0)

def quiescent_UpdateInRefIdeal [hUpdateInRefIdeal : Cert.UpdateInRefIdeal.Facts] : Prop :=
  ∀ (m : (ℓ : Loc Cert.UpdateInRefIdeal.nD Cert.UpdateInRefIdeal.τ Cert.UpdateInRefIdeal.sig) → Buf (Elt Ideal) ℓ) (g : Dev Cert.UpdateInRefIdeal.nD → PrngReg), Pre_UpdateInRefIdeal m →
    θ_run (Cert.UpdateInRefIdeal.defs (F := Ideal)) (onTc (τ := Cert.UpdateInRefIdeal.τ) (Cert.UpdateInRefIdeal.main (F := Ideal))) ⟨m, fun _ => 0, g⟩ (fun r => (∀ c : Dev Cert.UpdateInRefIdeal.nD,
      r.2.mem ((c.tc : Thread Cert.UpdateInRefIdeal.nD Cert.UpdateInRefIdeal.τ).loc Cert.UpdateInRefIdeal.main_arg0) = m ((c.tc : Thread Cert.UpdateInRefIdeal.nD Cert.UpdateInRefIdeal.τ).loc Cert.UpdateInRefIdeal.main_arg0)
      ∧ r.2.mem ((c.tc : Thread Cert.UpdateInRefIdeal.nD Cert.UpdateInRefIdeal.τ).loc Cert.UpdateInRefIdeal.main_arg1) = m ((c.tc : Thread Cert.UpdateInRefIdeal.nD Cert.UpdateInRefIdeal.τ).loc Cert.UpdateInRefIdeal.main_arg1)
      ∧ r.2.mem ((c.tc : Thread Cert.UpdateInRefIdeal.nD Cert.UpdateInRefIdeal.τ).loc Cert.UpdateInRefIdeal.main_arg2) = m ((c.tc : Thread Cert.UpdateInRefIdeal.nD Cert.UpdateInRefIdeal.τ).loc Cert.UpdateInRefIdeal.main_arg2)
      ∧ r.2.mem ((c.tc : Thread Cert.UpdateInRefIdeal.nD Cert.UpdateInRefIdeal.τ).loc Cert.UpdateInRefIdeal.main_arg3) = m ((c.tc : Thread Cert.UpdateInRefIdeal.nD Cert.UpdateInRefIdeal.τ).loc Cert.UpdateInRefIdeal.main_arg3)
      ∧ r.2.mem ((c.tc : Thread Cert.UpdateInRefIdeal.nD Cert.UpdateInRefIdeal.τ).loc Cert.UpdateInRefIdeal.main_arg4) = m ((c.tc : Thread Cert.UpdateInRefIdeal.nD Cert.UpdateInRefIdeal.τ).loc Cert.UpdateInRefIdeal.main_arg4))
      ∧ r.2.sem = fun _ => 0)

def quiescent_UpdateA [hUpdateA : Cert.UpdateA.Facts] : Prop :=
  ∀ (m : (ℓ : Loc Cert.UpdateA.nD Cert.UpdateA.τ Cert.UpdateA.sig) → Buf (Elt Bits) ℓ) (g : Dev Cert.UpdateA.nD → PrngReg), Pre_UpdateA m →
    θ_run (Cert.UpdateA.defs (F := Bits)) (onTc (τ := Cert.UpdateA.τ) (Cert.UpdateA.main (F := Bits))) ⟨m, fun _ => 0, g⟩ (fun r => (∀ c : Dev Cert.UpdateA.nD,
      r.2.mem ((c.tc : Thread Cert.UpdateA.nD Cert.UpdateA.τ).loc Cert.UpdateA.main_arg0) = m ((c.tc : Thread Cert.UpdateA.nD Cert.UpdateA.τ).loc Cert.UpdateA.main_arg0)
      ∧ r.2.mem ((c.tc : Thread Cert.UpdateA.nD Cert.UpdateA.τ).loc Cert.UpdateA.main_arg1) = m ((c.tc : Thread Cert.UpdateA.nD Cert.UpdateA.τ).loc Cert.UpdateA.main_arg1)
      ∧ r.2.mem ((c.tc : Thread Cert.UpdateA.nD Cert.UpdateA.τ).loc Cert.UpdateA.main_arg2) = m ((c.tc : Thread Cert.UpdateA.nD Cert.UpdateA.τ).loc Cert.UpdateA.main_arg2)
      ∧ r.2.mem ((c.tc : Thread Cert.UpdateA.nD Cert.UpdateA.τ).loc Cert.UpdateA.main_arg3) = m ((c.tc : Thread Cert.UpdateA.nD Cert.UpdateA.τ).loc Cert.UpdateA.main_arg3)
      ∧ r.2.mem ((c.tc : Thread Cert.UpdateA.nD Cert.UpdateA.τ).loc Cert.UpdateA.main_arg4) = m ((c.tc : Thread Cert.UpdateA.nD Cert.UpdateA.τ).loc Cert.UpdateA.main_arg4))
      ∧ r.2.sem = fun _ => 0)

def quiescent_UpdateAIdeal [hUpdateAIdeal : Cert.UpdateAIdeal.Facts] : Prop :=
  ∀ (m : (ℓ : Loc Cert.UpdateAIdeal.nD Cert.UpdateAIdeal.τ Cert.UpdateAIdeal.sig) → Buf (Elt Ideal) ℓ) (g : Dev Cert.UpdateAIdeal.nD → PrngReg), Pre_UpdateAIdeal m →
    θ_run (Cert.UpdateAIdeal.defs (F := Ideal)) (onTc (τ := Cert.UpdateAIdeal.τ) (Cert.UpdateAIdeal.main (F := Ideal))) ⟨m, fun _ => 0, g⟩ (fun r => (∀ c : Dev Cert.UpdateAIdeal.nD,
      r.2.mem ((c.tc : Thread Cert.UpdateAIdeal.nD Cert.UpdateAIdeal.τ).loc Cert.UpdateAIdeal.main_arg0) = m ((c.tc : Thread Cert.UpdateAIdeal.nD Cert.UpdateAIdeal.τ).loc Cert.UpdateAIdeal.main_arg0)
      ∧ r.2.mem ((c.tc : Thread Cert.UpdateAIdeal.nD Cert.UpdateAIdeal.τ).loc Cert.UpdateAIdeal.main_arg1) = m ((c.tc : Thread Cert.UpdateAIdeal.nD Cert.UpdateAIdeal.τ).loc Cert.UpdateAIdeal.main_arg1)
      ∧ r.2.mem ((c.tc : Thread Cert.UpdateAIdeal.nD Cert.UpdateAIdeal.τ).loc Cert.UpdateAIdeal.main_arg2) = m ((c.tc : Thread Cert.UpdateAIdeal.nD Cert.UpdateAIdeal.τ).loc Cert.UpdateAIdeal.main_arg2)
      ∧ r.2.mem ((c.tc : Thread Cert.UpdateAIdeal.nD Cert.UpdateAIdeal.τ).loc Cert.UpdateAIdeal.main_arg3) = m ((c.tc : Thread Cert.UpdateAIdeal.nD Cert.UpdateAIdeal.τ).loc Cert.UpdateAIdeal.main_arg3)
      ∧ r.2.mem ((c.tc : Thread Cert.UpdateAIdeal.nD Cert.UpdateAIdeal.τ).loc Cert.UpdateAIdeal.main_arg4) = m ((c.tc : Thread Cert.UpdateAIdeal.nD Cert.UpdateAIdeal.τ).loc Cert.UpdateAIdeal.main_arg4))
      ∧ r.2.sem = fun _ => 0)

def quiescent_UpdateARefIdeal [hUpdateARefIdeal : Cert.UpdateARefIdeal.Facts] : Prop :=
  ∀ (m : (ℓ : Loc Cert.UpdateARefIdeal.nD Cert.UpdateARefIdeal.τ Cert.UpdateARefIdeal.sig) → Buf (Elt Ideal) ℓ) (g : Dev Cert.UpdateARefIdeal.nD → PrngReg), Pre_UpdateARefIdeal m →
    θ_run (Cert.UpdateARefIdeal.defs (F := Ideal)) (onTc (τ := Cert.UpdateARefIdeal.τ) (Cert.UpdateARefIdeal.main (F := Ideal))) ⟨m, fun _ => 0, g⟩ (fun r => (∀ c : Dev Cert.UpdateARefIdeal.nD,
      r.2.mem ((c.tc : Thread Cert.UpdateARefIdeal.nD Cert.UpdateARefIdeal.τ).loc Cert.UpdateARefIdeal.main_arg0) = m ((c.tc : Thread Cert.UpdateARefIdeal.nD Cert.UpdateARefIdeal.τ).loc Cert.UpdateARefIdeal.main_arg0)
      ∧ r.2.mem ((c.tc : Thread Cert.UpdateARefIdeal.nD Cert.UpdateARefIdeal.τ).loc Cert.UpdateARefIdeal.main_arg1) = m ((c.tc : Thread Cert.UpdateARefIdeal.nD Cert.UpdateARefIdeal.τ).loc Cert.UpdateARefIdeal.main_arg1)
      ∧ r.2.mem ((c.tc : Thread Cert.UpdateARefIdeal.nD Cert.UpdateARefIdeal.τ).loc Cert.UpdateARefIdeal.main_arg2) = m ((c.tc : Thread Cert.UpdateARefIdeal.nD Cert.UpdateARefIdeal.τ).loc Cert.UpdateARefIdeal.main_arg2)
      ∧ r.2.mem ((c.tc : Thread Cert.UpdateARefIdeal.nD Cert.UpdateARefIdeal.τ).loc Cert.UpdateARefIdeal.main_arg3) = m ((c.tc : Thread Cert.UpdateARefIdeal.nD Cert.UpdateARefIdeal.τ).loc Cert.UpdateARefIdeal.main_arg3)
      ∧ r.2.mem ((c.tc : Thread Cert.UpdateARefIdeal.nD Cert.UpdateARefIdeal.τ).loc Cert.UpdateARefIdeal.main_arg4) = m ((c.tc : Thread Cert.UpdateARefIdeal.nD Cert.UpdateARefIdeal.τ).loc Cert.UpdateARefIdeal.main_arg4))
      ∧ r.2.sem = fun _ => 0)

def quiescent_UpdateC [hUpdateC : Cert.UpdateC.Facts] : Prop :=
  ∀ (m : (ℓ : Loc Cert.UpdateC.nD Cert.UpdateC.τ Cert.UpdateC.sig) → Buf (Elt Bits) ℓ) (g : Dev Cert.UpdateC.nD → PrngReg), Pre_UpdateC m →
    θ_run (Cert.UpdateC.defs (F := Bits)) (onTc (τ := Cert.UpdateC.τ) (Cert.UpdateC.main (F := Bits))) ⟨m, fun _ => 0, g⟩ (fun r => (∀ c : Dev Cert.UpdateC.nD,
      r.2.mem ((c.tc : Thread Cert.UpdateC.nD Cert.UpdateC.τ).loc Cert.UpdateC.main_arg0) = m ((c.tc : Thread Cert.UpdateC.nD Cert.UpdateC.τ).loc Cert.UpdateC.main_arg0)
      ∧ r.2.mem ((c.tc : Thread Cert.UpdateC.nD Cert.UpdateC.τ).loc Cert.UpdateC.main_arg1) = m ((c.tc : Thread Cert.UpdateC.nD Cert.UpdateC.τ).loc Cert.UpdateC.main_arg1)
      ∧ r.2.mem ((c.tc : Thread Cert.UpdateC.nD Cert.UpdateC.τ).loc Cert.UpdateC.main_arg2) = m ((c.tc : Thread Cert.UpdateC.nD Cert.UpdateC.τ).loc Cert.UpdateC.main_arg2)
      ∧ r.2.mem ((c.tc : Thread Cert.UpdateC.nD Cert.UpdateC.τ).loc Cert.UpdateC.main_arg3) = m ((c.tc : Thread Cert.UpdateC.nD Cert.UpdateC.τ).loc Cert.UpdateC.main_arg3)
      ∧ r.2.mem ((c.tc : Thread Cert.UpdateC.nD Cert.UpdateC.τ).loc Cert.UpdateC.main_arg4) = m ((c.tc : Thread Cert.UpdateC.nD Cert.UpdateC.τ).loc Cert.UpdateC.main_arg4))
      ∧ r.2.sem = fun _ => 0)

def quiescent_UpdateCIdeal [hUpdateCIdeal : Cert.UpdateCIdeal.Facts] : Prop :=
  ∀ (m : (ℓ : Loc Cert.UpdateCIdeal.nD Cert.UpdateCIdeal.τ Cert.UpdateCIdeal.sig) → Buf (Elt Ideal) ℓ) (g : Dev Cert.UpdateCIdeal.nD → PrngReg), Pre_UpdateCIdeal m →
    θ_run (Cert.UpdateCIdeal.defs (F := Ideal)) (onTc (τ := Cert.UpdateCIdeal.τ) (Cert.UpdateCIdeal.main (F := Ideal))) ⟨m, fun _ => 0, g⟩ (fun r => (∀ c : Dev Cert.UpdateCIdeal.nD,
      r.2.mem ((c.tc : Thread Cert.UpdateCIdeal.nD Cert.UpdateCIdeal.τ).loc Cert.UpdateCIdeal.main_arg0) = m ((c.tc : Thread Cert.UpdateCIdeal.nD Cert.UpdateCIdeal.τ).loc Cert.UpdateCIdeal.main_arg0)
      ∧ r.2.mem ((c.tc : Thread Cert.UpdateCIdeal.nD Cert.UpdateCIdeal.τ).loc Cert.UpdateCIdeal.main_arg1) = m ((c.tc : Thread Cert.UpdateCIdeal.nD Cert.UpdateCIdeal.τ).loc Cert.UpdateCIdeal.main_arg1)
      ∧ r.2.mem ((c.tc : Thread Cert.UpdateCIdeal.nD Cert.UpdateCIdeal.τ).loc Cert.UpdateCIdeal.main_arg2) = m ((c.tc : Thread Cert.UpdateCIdeal.nD Cert.UpdateCIdeal.τ).loc Cert.UpdateCIdeal.main_arg2)
      ∧ r.2.mem ((c.tc : Thread Cert.UpdateCIdeal.nD Cert.UpdateCIdeal.τ).loc Cert.UpdateCIdeal.main_arg3) = m ((c.tc : Thread Cert.UpdateCIdeal.nD Cert.UpdateCIdeal.τ).loc Cert.UpdateCIdeal.main_arg3)
      ∧ r.2.mem ((c.tc : Thread Cert.UpdateCIdeal.nD Cert.UpdateCIdeal.τ).loc Cert.UpdateCIdeal.main_arg4) = m ((c.tc : Thread Cert.UpdateCIdeal.nD Cert.UpdateCIdeal.τ).loc Cert.UpdateCIdeal.main_arg4))
      ∧ r.2.sem = fun _ => 0)

def quiescent_UpdateCRefIdeal [hUpdateCRefIdeal : Cert.UpdateCRefIdeal.Facts] : Prop :=
  ∀ (m : (ℓ : Loc Cert.UpdateCRefIdeal.nD Cert.UpdateCRefIdeal.τ Cert.UpdateCRefIdeal.sig) → Buf (Elt Ideal) ℓ) (g : Dev Cert.UpdateCRefIdeal.nD → PrngReg), Pre_UpdateCRefIdeal m →
    θ_run (Cert.UpdateCRefIdeal.defs (F := Ideal)) (onTc (τ := Cert.UpdateCRefIdeal.τ) (Cert.UpdateCRefIdeal.main (F := Ideal))) ⟨m, fun _ => 0, g⟩ (fun r => (∀ c : Dev Cert.UpdateCRefIdeal.nD,
      r.2.mem ((c.tc : Thread Cert.UpdateCRefIdeal.nD Cert.UpdateCRefIdeal.τ).loc Cert.UpdateCRefIdeal.main_arg0) = m ((c.tc : Thread Cert.UpdateCRefIdeal.nD Cert.UpdateCRefIdeal.τ).loc Cert.UpdateCRefIdeal.main_arg0)
      ∧ r.2.mem ((c.tc : Thread Cert.UpdateCRefIdeal.nD Cert.UpdateCRefIdeal.τ).loc Cert.UpdateCRefIdeal.main_arg1) = m ((c.tc : Thread Cert.UpdateCRefIdeal.nD Cert.UpdateCRefIdeal.τ).loc Cert.UpdateCRefIdeal.main_arg1)
      ∧ r.2.mem ((c.tc : Thread Cert.UpdateCRefIdeal.nD Cert.UpdateCRefIdeal.τ).loc Cert.UpdateCRefIdeal.main_arg2) = m ((c.tc : Thread Cert.UpdateCRefIdeal.nD Cert.UpdateCRefIdeal.τ).loc Cert.UpdateCRefIdeal.main_arg2)
      ∧ r.2.mem ((c.tc : Thread Cert.UpdateCRefIdeal.nD Cert.UpdateCRefIdeal.τ).loc Cert.UpdateCRefIdeal.main_arg3) = m ((c.tc : Thread Cert.UpdateCRefIdeal.nD Cert.UpdateCRefIdeal.τ).loc Cert.UpdateCRefIdeal.main_arg3)
      ∧ r.2.mem ((c.tc : Thread Cert.UpdateCRefIdeal.nD Cert.UpdateCRefIdeal.τ).loc Cert.UpdateCRefIdeal.main_arg4) = m ((c.tc : Thread Cert.UpdateCRefIdeal.nD Cert.UpdateCRefIdeal.τ).loc Cert.UpdateCRefIdeal.main_arg4))
      ∧ r.2.sem = fun _ => 0)

def quiescent_UpdateSmall [hUpdateSmall : Cert.UpdateSmall.Facts] : Prop :=
  ∀ (m : (ℓ : Loc Cert.UpdateSmall.nD Cert.UpdateSmall.τ Cert.UpdateSmall.sig) → Buf (Elt Bits) ℓ) (g : Dev Cert.UpdateSmall.nD → PrngReg), Pre_UpdateSmall m →
    θ_run (Cert.UpdateSmall.defs (F := Bits)) (onTc (τ := Cert.UpdateSmall.τ) (Cert.UpdateSmall.main (F := Bits))) ⟨m, fun _ => 0, g⟩ (fun r => (∀ c : Dev Cert.UpdateSmall.nD,
      r.2.mem ((c.tc : Thread Cert.UpdateSmall.nD Cert.UpdateSmall.τ).loc Cert.UpdateSmall.main_arg0) = m ((c.tc : Thread Cert.UpdateSmall.nD Cert.UpdateSmall.τ).loc Cert.UpdateSmall.main_arg0)
      ∧ r.2.mem ((c.tc : Thread Cert.UpdateSmall.nD Cert.UpdateSmall.τ).loc Cert.UpdateSmall.main_arg1) = m ((c.tc : Thread Cert.UpdateSmall.nD Cert.UpdateSmall.τ).loc Cert.UpdateSmall.main_arg1)
      ∧ r.2.mem ((c.tc : Thread Cert.UpdateSmall.nD Cert.UpdateSmall.τ).loc Cert.UpdateSmall.main_arg2) = m ((c.tc : Thread Cert.UpdateSmall.nD Cert.UpdateSmall.τ).loc Cert.UpdateSmall.main_arg2)
      ∧ r.2.mem ((c.tc : Thread Cert.UpdateSmall.nD Cert.UpdateSmall.τ).loc Cert.UpdateSmall.main_arg3) = m ((c.tc : Thread Cert.UpdateSmall.nD Cert.UpdateSmall.τ).loc Cert.UpdateSmall.main_arg3))
      ∧ r.2.sem = fun _ => 0)

def quiescent_UpdateSmallIdeal [hUpdateSmallIdeal : Cert.UpdateSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg), Pre_UpdateSmallIdeal m →
    θ_run (Cert.UpdateSmallIdeal.defs (F := Ideal)) (onTc (τ := Cert.UpdateSmallIdeal.τ) (Cert.UpdateSmallIdeal.main (F := Ideal))) ⟨m, fun _ => 0, g⟩ (fun r => (∀ c : Dev Cert.UpdateSmallIdeal.nD,
      r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
      ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
      ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
      ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ r.2.sem = fun _ => 0)

def quiescent_UpdateSmallRefIdeal [hUpdateSmallRefIdeal : Cert.UpdateSmallRefIdeal.Facts] : Prop :=
  ∀ (m : (ℓ : Loc Cert.UpdateSmallRefIdeal.nD Cert.UpdateSmallRefIdeal.τ Cert.UpdateSmallRefIdeal.sig) → Buf (Elt Ideal) ℓ) (g : Dev Cert.UpdateSmallRefIdeal.nD → PrngReg), Pre_UpdateSmallRefIdeal m →
    θ_run (Cert.UpdateSmallRefIdeal.defs (F := Ideal)) (onTc (τ := Cert.UpdateSmallRefIdeal.τ) (Cert.UpdateSmallRefIdeal.main (F := Ideal))) ⟨m, fun _ => 0, g⟩ (fun r => (∀ c : Dev Cert.UpdateSmallRefIdeal.nD,
      r.2.mem ((c.tc : Thread Cert.UpdateSmallRefIdeal.nD Cert.UpdateSmallRefIdeal.τ).loc Cert.UpdateSmallRefIdeal.main_arg0) = m ((c.tc : Thread Cert.UpdateSmallRefIdeal.nD Cert.UpdateSmallRefIdeal.τ).loc Cert.UpdateSmallRefIdeal.main_arg0)
      ∧ r.2.mem ((c.tc : Thread Cert.UpdateSmallRefIdeal.nD Cert.UpdateSmallRefIdeal.τ).loc Cert.UpdateSmallRefIdeal.main_arg1) = m ((c.tc : Thread Cert.UpdateSmallRefIdeal.nD Cert.UpdateSmallRefIdeal.τ).loc Cert.UpdateSmallRefIdeal.main_arg1)
      ∧ r.2.mem ((c.tc : Thread Cert.UpdateSmallRefIdeal.nD Cert.UpdateSmallRefIdeal.τ).loc Cert.UpdateSmallRefIdeal.main_arg2) = m ((c.tc : Thread Cert.UpdateSmallRefIdeal.nD Cert.UpdateSmallRefIdeal.τ).loc Cert.UpdateSmallRefIdeal.main_arg2)
      ∧ r.2.mem ((c.tc : Thread Cert.UpdateSmallRefIdeal.nD Cert.UpdateSmallRefIdeal.τ).loc Cert.UpdateSmallRefIdeal.main_arg3) = m ((c.tc : Thread Cert.UpdateSmallRefIdeal.nD Cert.UpdateSmallRefIdeal.τ).loc Cert.UpdateSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_ConvBwdRefIdeal_pre_finite_conv [hConvBwdRefIdeal : Cert.ConvBwdRefIdeal.Facts] [hPre_finite_conv : Cert.Pre_finite_conv.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_finite_conv m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_LowerFwd [hLowerFwd : Cert.LowerFwd.Facts] : Prop :=
  ∀ (m : (ℓ : Loc Cert.LowerFwd.nD Cert.LowerFwd.τ Cert.LowerFwd.sig) → Buf (Elt Bits) ℓ) (g : Dev Cert.LowerFwd.nD → PrngReg), Pre_LowerFwd m →
    θ_run (Cert.LowerFwd.defs (F := Bits)) (onTc (τ := Cert.LowerFwd.τ) (Cert.LowerFwd.main (F := Bits))) ⟨m, fun _ => 0, g⟩ (fun r => (∀ c : Dev Cert.LowerFwd.nD,
      r.2.mem ((c.tc : Thread Cert.LowerFwd.nD Cert.LowerFwd.τ).loc Cert.LowerFwd.main_arg0) = m ((c.tc : Thread Cert.LowerFwd.nD Cert.LowerFwd.τ).loc Cert.LowerFwd.main_arg0))
      ∧ r.2.sem = fun _ => 0)

def quiescent_LowerFwdIdeal [hLowerFwdIdeal : Cert.LowerFwdIdeal.Facts] : Prop :=
  ∀ (m : (ℓ : Loc Cert.LowerFwdIdeal.nD Cert.LowerFwdIdeal.τ Cert.LowerFwdIdeal.sig) → Buf (Elt Ideal) ℓ) (g : Dev Cert.LowerFwdIdeal.nD → PrngReg), Pre_LowerFwdIdeal m →
    θ_run (Cert.LowerFwdIdeal.defs (F := Ideal)) (onTc (τ := Cert.LowerFwdIdeal.τ) (Cert.LowerFwdIdeal.main (F := Ideal))) ⟨m, fun _ => 0, g⟩ (fun r => (∀ c : Dev Cert.LowerFwdIdeal.nD,
      r.2.mem ((c.tc : Thread Cert.LowerFwdIdeal.nD Cert.LowerFwdIdeal.τ).loc Cert.LowerFwdIdeal.main_arg0) = m ((c.tc : Thread Cert.LowerFwdIdeal.nD Cert.LowerFwdIdeal.τ).loc Cert.LowerFwdIdeal.main_arg0))
      ∧ r.2.sem = fun _ => 0)

def quiescent_LowerFwdIdeal_pre_finite_lower [hLowerFwdIdeal : Cert.LowerFwdIdeal.Facts] [hPre_finite_lower : Cert.Pre_finite_lower.Facts] : Prop :=
  ∀ (m : (ℓ : Loc Cert.LowerFwdIdeal.nD Cert.LowerFwdIdeal.τ Cert.LowerFwdIdeal.sig) → Buf (Elt Ideal) ℓ) (g : Dev Cert.LowerFwdIdeal.nD → PrngReg), Pre_LowerFwdIdeal_finite_lower m →
    θ_run (Cert.LowerFwdIdeal.defs (F := Ideal)) (onTc (τ := Cert.LowerFwdIdeal.τ) (Cert.LowerFwdIdeal.main (F := Ideal))) ⟨m, fun _ => 0, g⟩ (fun r => (∀ c : Dev Cert.LowerFwdIdeal.nD,
      r.2.mem ((c.tc : Thread Cert.LowerFwdIdeal.nD Cert.LowerFwdIdeal.τ).loc Cert.LowerFwdIdeal.main_arg0) = m ((c.tc : Thread Cert.LowerFwdIdeal.nD Cert.LowerFwdIdeal.τ).loc Cert.LowerFwdIdeal.main_arg0))
      ∧ r.2.sem = fun _ => 0)

def quiescent_LowerFwdRefIdeal [hLowerFwdRefIdeal : Cert.LowerFwdRefIdeal.Facts] : Prop :=
  ∀ (m : (ℓ : Loc Cert.LowerFwdRefIdeal.nD Cert.LowerFwdRefIdeal.τ Cert.LowerFwdRefIdeal.sig) → Buf (Elt Ideal) ℓ) (g : Dev Cert.LowerFwdRefIdeal.nD → PrngReg), Pre_LowerFwdRefIdeal m →
    θ_run (Cert.LowerFwdRefIdeal.defs (F := Ideal)) (onTc (τ := Cert.LowerFwdRefIdeal.τ) (Cert.LowerFwdRefIdeal.main (F := Ideal))) ⟨m, fun _ => 0, g⟩ (fun r => (∀ c : Dev Cert.LowerFwdRefIdeal.nD,
      r.2.mem ((c.tc : Thread Cert.LowerFwdRefIdeal.nD Cert.LowerFwdRefIdeal.τ).loc Cert.LowerFwdRefIdeal.main_arg0) = m ((c.tc : Thread Cert.LowerFwdRefIdeal.nD Cert.LowerFwdRefIdeal.τ).loc Cert.LowerFwdRefIdeal.main_arg0))
      ∧ r.2.sem = fun _ => 0)

def quiescent_LowerFwdRefIdeal_pre_finite_lower [hLowerFwdRefIdeal : Cert.LowerFwdRefIdeal.Facts] [hPre_finite_lower : Cert.Pre_finite_lower.Facts] : Prop :=
  ∀ (m : (ℓ : Loc Cert.LowerFwdRefIdeal.nD Cert.LowerFwdRefIdeal.τ Cert.LowerFwdRefIdeal.sig) → Buf (Elt Ideal) ℓ) (g : Dev Cert.LowerFwdRefIdeal.nD → PrngReg), Pre_LowerFwdRefIdeal_finite_lower m →
    θ_run (Cert.LowerFwdRefIdeal.defs (F := Ideal)) (onTc (τ := Cert.LowerFwdRefIdeal.τ) (Cert.LowerFwdRefIdeal.main (F := Ideal))) ⟨m, fun _ => 0, g⟩ (fun r => (∀ c : Dev Cert.LowerFwdRefIdeal.nD,
      r.2.mem ((c.tc : Thread Cert.LowerFwdRefIdeal.nD Cert.LowerFwdRefIdeal.τ).loc Cert.LowerFwdRefIdeal.main_arg0) = m ((c.tc : Thread Cert.LowerFwdRefIdeal.nD Cert.LowerFwdRefIdeal.τ).loc Cert.LowerFwdRefIdeal.main_arg0))
      ∧ r.2.sem = fun _ => 0)

def quiescent_LowerBwd [hLowerBwd : Cert.LowerBwd.Facts] : Prop :=
  ∀ (m : (ℓ : Loc Cert.LowerBwd.nD Cert.LowerBwd.τ Cert.LowerBwd.sig) → Buf (Elt Bits) ℓ) (g : Dev Cert.LowerBwd.nD → PrngReg), Pre_LowerBwd m →
    θ_run (Cert.LowerBwd.defs (F := Bits)) (onTc (τ := Cert.LowerBwd.τ) (Cert.LowerBwd.main (F := Bits))) ⟨m, fun _ => 0, g⟩ (fun r => (∀ c : Dev Cert.LowerBwd.nD,
      r.2.mem ((c.tc : Thread Cert.LowerBwd.nD Cert.LowerBwd.τ).loc Cert.LowerBwd.main_arg0) = m ((c.tc : Thread Cert.LowerBwd.nD Cert.LowerBwd.τ).loc Cert.LowerBwd.main_arg0)
      ∧ r.2.mem ((c.tc : Thread Cert.LowerBwd.nD Cert.LowerBwd.τ).loc Cert.LowerBwd.main_arg1) = m ((c.tc : Thread Cert.LowerBwd.nD Cert.LowerBwd.τ).loc Cert.LowerBwd.main_arg1))
      ∧ r.2.sem = fun _ => 0)

def quiescent_LowerBwdIdeal [hLowerBwdIdeal : Cert.LowerBwdIdeal.Facts] : Prop :=
  ∀ (m : (ℓ : Loc Cert.LowerBwdIdeal.nD Cert.LowerBwdIdeal.τ Cert.LowerBwdIdeal.sig) → Buf (Elt Ideal) ℓ) (g : Dev Cert.LowerBwdIdeal.nD → PrngReg), Pre_LowerBwdIdeal m →
    θ_run (Cert.LowerBwdIdeal.defs (F := Ideal)) (onTc (τ := Cert.LowerBwdIdeal.τ) (Cert.LowerBwdIdeal.main (F := Ideal))) ⟨m, fun _ => 0, g⟩ (fun r => (∀ c : Dev Cert.LowerBwdIdeal.nD,
      r.2.mem ((c.tc : Thread Cert.LowerBwdIdeal.nD Cert.LowerBwdIdeal.τ).loc Cert.LowerBwdIdeal.main_arg0) = m ((c.tc : Thread Cert.LowerBwdIdeal.nD Cert.LowerBwdIdeal.τ).loc Cert.LowerBwdIdeal.main_arg0)
      ∧ r.2.mem ((c.tc : Thread Cert.LowerBwdIdeal.nD Cert.LowerBwdIdeal.τ).loc Cert.LowerBwdIdeal.main_arg1) = m ((c.tc : Thread Cert.LowerBwdIdeal.nD Cert.LowerBwdIdeal.τ).loc Cert.LowerBwdIdeal.main_arg1))
      ∧ r.2.sem = fun _ => 0)

def quiescent_LowerBwdIdeal_pre_finite_lower_d [hLowerBwdIdeal : Cert.LowerBwdIdeal.Facts] [hPre_finite_lower_d : Cert.Pre_finite_lower_d.Facts] : Prop :=
  ∀ (m : (ℓ : Loc Cert.LowerBwdIdeal.nD Cert.LowerBwdIdeal.τ Cert.LowerBwdIdeal.sig) → Buf (Elt Ideal) ℓ) (g : Dev Cert.LowerBwdIdeal.nD → PrngReg), Pre_LowerBwdIdeal_finite_lower_d m →
    θ_run (Cert.LowerBwdIdeal.defs (F := Ideal)) (onTc (τ := Cert.LowerBwdIdeal.τ) (Cert.LowerBwdIdeal.main (F := Ideal))) ⟨m, fun _ => 0, g⟩ (fun r => (∀ c : Dev Cert.LowerBwdIdeal.nD,
      r.2.mem ((c.tc : Thread Cert.LowerBwdIdeal.nD Cert.LowerBwdIdeal.τ).loc Cert.LowerBwdIdeal.main_arg0) = m ((c.tc : Thread Cert.LowerBwdIdeal.nD Cert.LowerBwdIdeal.τ).loc Cert.LowerBwdIdeal.main_arg0)
      ∧ r.2.mem ((c.tc : Thread Cert.LowerBwdIdeal.nD Cert.LowerBwdIdeal.τ).loc Cert.LowerBwdIdeal.main_arg1) = m ((c.tc : Thread Cert.LowerBwdIdeal.nD Cert.LowerBwdIdeal.τ).loc Cert.LowerBwdIdeal.main_arg1))
      ∧ r.2.sem = fun _ => 0)

def quiescent_LowerBwdRefIdeal [hLowerBwdRefIdeal : Cert.LowerBwdRefIdeal.Facts] : Prop :=
  ∀ (m : (ℓ : Loc Cert.LowerBwdRefIdeal.nD Cert.LowerBwdRefIdeal.τ Cert.LowerBwdRefIdeal.sig) → Buf (Elt Ideal) ℓ) (g : Dev Cert.LowerBwdRefIdeal.nD → PrngReg), Pre_LowerBwdRefIdeal m →
    θ_run (Cert.LowerBwdRefIdeal.defs (F := Ideal)) (onTc (τ := Cert.LowerBwdRefIdeal.τ) (Cert.LowerBwdRefIdeal.main (F := Ideal))) ⟨m, fun _ => 0, g⟩ (fun r => (∀ c : Dev Cert.LowerBwdRefIdeal.nD,
      r.2.mem ((c.tc : Thread Cert.LowerBwdRefIdeal.nD Cert.LowerBwdRefIdeal.τ).loc Cert.LowerBwdRefIdeal.main_arg0) = m ((c.tc : Thread Cert.LowerBwdRefIdeal.nD Cert.LowerBwdRefIdeal.τ).loc Cert.LowerBwdRefIdeal.main_arg0)
      ∧ r.2.mem ((c.tc : Thread Cert.LowerBwdRefIdeal.nD Cert.LowerBwdRefIdeal.τ).loc Cert.LowerBwdRefIdeal.main_arg1) = m ((c.tc : Thread Cert.LowerBwdRefIdeal.nD Cert.LowerBwdRefIdeal.τ).loc Cert.LowerBwdRefIdeal.main_arg1))
      ∧ r.2.sem = fun _ => 0)

def quiescent_LowerBwdRefIdeal_pre_finite_lower_d [hLowerBwdRefIdeal : Cert.LowerBwdRefIdeal.Facts] [hPre_finite_lower_d : Cert.Pre_finite_lower_d.Facts] : Prop :=
  ∀ (m : (ℓ : Loc Cert.LowerBwdRefIdeal.nD Cert.LowerBwdRefIdeal.τ Cert.LowerBwdRefIdeal.sig) → Buf (Elt Ideal) ℓ) (g : Dev Cert.LowerBwdRefIdeal.nD → PrngReg), Pre_LowerBwdRefIdeal_finite_lower_d m →
    θ_run (Cert.LowerBwdRefIdeal.defs (F := Ideal)) (onTc (τ := Cert.LowerBwdRefIdeal.τ) (Cert.LowerBwdRefIdeal.main (F := Ideal))) ⟨m, fun _ => 0, g⟩ (fun r => (∀ c : Dev Cert.LowerBwdRefIdeal.nD,
      r.2.mem ((c.tc : Thread Cert.LowerBwdRefIdeal.nD Cert.LowerBwdRefIdeal.τ).loc Cert.LowerBwdRefIdeal.main_arg0) = m ((c.tc : Thread Cert.LowerBwdRefIdeal.nD Cert.LowerBwdRefIdeal.τ).loc Cert.LowerBwdRefIdeal.main_arg0)
      ∧ r.2.mem ((c.tc : Thread Cert.LowerBwdRefIdeal.nD Cert.LowerBwdRefIdeal.τ).loc Cert.LowerBwdRefIdeal.main_arg1) = m ((c.tc : Thread Cert.LowerBwdRefIdeal.nD Cert.LowerBwdRefIdeal.τ).loc Cert.LowerBwdRefIdeal.main_arg1))
      ∧ r.2.sem = fun _ => 0)

def quiescent_SumConv [hSumConv : Cert.SumConv.Facts] : Prop :=
  ∀ (m : (ℓ : Loc Cert.SumConv.nD Cert.SumConv.τ Cert.SumConv.sig) → Buf (Elt Bits) ℓ) (g : Dev Cert.SumConv.nD → PrngReg), Pre_SumConv m →
    θ_run (Cert.SumConv.defs (F := Bits)) (onTc (τ := Cert.SumConv.τ) (Cert.SumConv.main (F := Bits))) ⟨m, fun _ => 0, g⟩ (fun r => (∀ c : Dev Cert.SumConv.nD,
      r.2.mem ((c.tc : Thread Cert.SumConv.nD Cert.SumConv.τ).loc Cert.SumConv.main_arg0) = m ((c.tc : Thread Cert.SumConv.nD Cert.SumConv.τ).loc Cert.SumConv.main_arg0))
      ∧ r.2.sem = fun _ => 0)

def quiescent_SumConvIdeal [hSumConvIdeal : Cert.SumConvIdeal.Facts] : Prop :=
  ∀ (m : (ℓ : Loc Cert.SumConvIdeal.nD Cert.SumConvIdeal.τ Cert.SumConvIdeal.sig) → Buf (Elt Ideal) ℓ) (g : Dev Cert.SumConvIdeal.nD → PrngReg), Pre_SumConvIdeal m →
    θ_run (Cert.SumConvIdeal.defs (F := Ideal)) (onTc (τ := Cert.SumConvIdeal.τ) (Cert.SumConvIdeal.main (F := Ideal))) ⟨m, fun _ => 0, g⟩ (fun r => (∀ c : Dev Cert.SumConvIdeal.nD,
      r.2.mem ((c.tc : Thread Cert.SumConvIdeal.nD Cert.SumConvIdeal.τ).loc Cert.SumConvIdeal.main_arg0) = m ((c.tc : Thread Cert.SumConvIdeal.nD Cert.SumConvIdeal.τ).loc Cert.SumConvIdeal.main_arg0))
      ∧ r.2.sem = fun _ => 0)

def quiescent_SumConvRefIdeal [hSumConvRefIdeal : Cert.SumConvRefIdeal.Facts] : Prop :=
  ∀ (m : (ℓ : Loc Cert.SumConvRefIdeal.nD Cert.SumConvRefIdeal.τ Cert.SumConvRefIdeal.sig) → Buf (Elt Ideal) ℓ) (g : Dev Cert.SumConvRefIdeal.nD → PrngReg), Pre_SumConvRefIdeal m →
    θ_run (Cert.SumConvRefIdeal.defs (F := Ideal)) (onTc (τ := Cert.SumConvRefIdeal.τ) (Cert.SumConvRefIdeal.main (F := Ideal))) ⟨m, fun _ => 0, g⟩ (fun r => (∀ c : Dev Cert.SumConvRefIdeal.nD,
      r.2.mem ((c.tc : Thread Cert.SumConvRefIdeal.nD Cert.SumConvRefIdeal.τ).loc Cert.SumConvRefIdeal.main_arg0) = m ((c.tc : Thread Cert.SumConvRefIdeal.nD Cert.SumConvRefIdeal.τ).loc Cert.SumConvRefIdeal.main_arg0))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v54) = v0 c
          ∧ r.2.mem ((c.tc : Thread Cert.MergeRefIdeal.nD Cert.MergeRefIdeal.τ).loc Cert.MergeRefIdeal.main_v49) = v1 c
          ∧ r.2.mem ((c.tc : Thread Cert.MergeRefIdeal.nD Cert.MergeRefIdeal.τ).loc Cert.MergeRefIdeal.main_v48) = v2 c
          ∧ r.2.mem ((c.tc : Thread Cert.MergeRefIdeal.nD Cert.MergeRefIdeal.τ).loc Cert.MergeRefIdeal.main_v47) = v3 c
          ∧ r.2.mem ((c.tc : Thread Cert.MergeRefIdeal.nD Cert.MergeRefIdeal.τ).loc Cert.MergeRefIdeal.main_v53) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)
      ∧ m' ((c.tc : Thread Cert.DhRefIdeal.nD Cert.DhRefIdeal.τ).loc Cert.DhRefIdeal.main_arg7) = m ((c.tc : Thread Cert.DhIdeal.nD Cert.DhIdeal.τ).loc Cert.DhIdeal.main_arg7)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
          ∧ r.2.mem ((c.tc : Thread Cert.DhIdeal.nD Cert.DhIdeal.τ).loc Cert.DhIdeal.main_arg7) = m ((c.tc : Thread Cert.DhIdeal.nD Cert.DhIdeal.τ).loc Cert.DhIdeal.main_arg7))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v19) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6)
          ∧ r.2.mem ((c.tc : Thread Cert.DhRefIdeal.nD Cert.DhRefIdeal.τ).loc Cert.DhRefIdeal.main_arg7) = m' ((c.tc : Thread Cert.DhRefIdeal.nD Cert.DhRefIdeal.τ).loc Cert.DhRefIdeal.main_arg7))

def preserves_DwA_DwAIdeal : Prop :=
  True

def algebraic_DwAIdeal_DwARefIdeal [hDwAIdeal : Cert.DwAIdeal.Facts] [hDwARefIdeal : Cert.DwARefIdeal.Facts] : Prop :=
  ∀ (m : (ℓ : Loc Cert.DwAIdeal.nD Cert.DwAIdeal.τ Cert.DwAIdeal.sig) → Buf (Elt Ideal) ℓ) (g : Dev Cert.DwAIdeal.nD → PrngReg)
    (m' : (ℓ : Loc Cert.DwARefIdeal.nD Cert.DwARefIdeal.τ Cert.DwARefIdeal.sig) → Buf (Elt Ideal) ℓ) (g' : Dev Cert.DwARefIdeal.nD → PrngReg), Pre_DwAIdeal m →
    (∀ c : Dev Cert.DwAIdeal.nD,
      m' ((c.tc : Thread Cert.DwARefIdeal.nD Cert.DwARefIdeal.τ).loc Cert.DwARefIdeal.main_arg0) = m ((c.tc : Thread Cert.DwAIdeal.nD Cert.DwAIdeal.τ).loc Cert.DwAIdeal.main_arg0)
      ∧ m' ((c.tc : Thread Cert.DwARefIdeal.nD Cert.DwARefIdeal.τ).loc Cert.DwARefIdeal.main_arg1) = m ((c.tc : Thread Cert.DwAIdeal.nD Cert.DwAIdeal.τ).loc Cert.DwAIdeal.main_arg1)) →
    ∃ (v0 : (c : Dev Cert.DwAIdeal.nD) → Buf (Elt Ideal) ((c.tc : Thread Cert.DwAIdeal.nD Cert.DwAIdeal.τ).loc Cert.DwAIdeal.main_v0)),
      θ_run (Cert.DwAIdeal.defs (F := Ideal)) (onTc (τ := Cert.DwAIdeal.τ) (Cert.DwAIdeal.main (F := Ideal))) ⟨m, fun _ => 0, g⟩ (fun r => ∀ c : Dev Cert.DwAIdeal.nD,
          r.2.mem ((c.tc : Thread Cert.DwAIdeal.nD Cert.DwAIdeal.τ).loc Cert.DwAIdeal.main_v0) = v0 c
          ∧ r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
          ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ θ_run (Cert.DwARefIdeal.defs (F := Ideal)) (onTc (τ := Cert.DwARefIdeal.τ) (Cert.DwARefIdeal.main (F := Ideal))) ⟨m', fun _ => 0, g'⟩ (fun r => ∀ c : Dev Cert.DwARefIdeal.nD,
          r.2.mem ((c.tc : Thread Cert.DwARefIdeal.nD Cert.DwARefIdeal.τ).loc Cert.DwARefIdeal.main_v7) = v0 c
          ∧ r.2.mem ((c.tc : Thread Cert.DwARefIdeal.nD Cert.DwARefIdeal.τ).loc Cert.DwARefIdeal.main_arg0) = m' ((c.tc : Thread Cert.DwARefIdeal.nD Cert.DwARefIdeal.τ).loc Cert.DwARefIdeal.main_arg0)
          ∧ r.2.mem ((c.tc : Thread Cert.DwARefIdeal.nD Cert.DwARefIdeal.τ).loc Cert.DwARefIdeal.main_arg1) = m' ((c.tc : Thread Cert.DwARefIdeal.nD Cert.DwARefIdeal.τ).loc Cert.DwARefIdeal.main_arg1))

def preserves_DwC_DwCIdeal : Prop :=
  True

def algebraic_DwCIdeal_DwCRefIdeal [hDwCIdeal : Cert.DwCIdeal.Facts] [hDwCRefIdeal : Cert.DwCRefIdeal.Facts] : Prop :=
  ∀ (m : (ℓ : Loc Cert.DwCIdeal.nD Cert.DwCIdeal.τ Cert.DwCIdeal.sig) → Buf (Elt Ideal) ℓ) (g : Dev Cert.DwCIdeal.nD → PrngReg)
    (m' : (ℓ : Loc Cert.DwCRefIdeal.nD Cert.DwCRefIdeal.τ Cert.DwCRefIdeal.sig) → Buf (Elt Ideal) ℓ) (g' : Dev Cert.DwCRefIdeal.nD → PrngReg), Pre_DwCIdeal m →
    (∀ c : Dev Cert.DwCIdeal.nD,
      m' ((c.tc : Thread Cert.DwCRefIdeal.nD Cert.DwCRefIdeal.τ).loc Cert.DwCRefIdeal.main_arg0) = m ((c.tc : Thread Cert.DwCIdeal.nD Cert.DwCIdeal.τ).loc Cert.DwCIdeal.main_arg0)
      ∧ m' ((c.tc : Thread Cert.DwCRefIdeal.nD Cert.DwCRefIdeal.τ).loc Cert.DwCRefIdeal.main_arg1) = m ((c.tc : Thread Cert.DwCIdeal.nD Cert.DwCIdeal.τ).loc Cert.DwCIdeal.main_arg1)) →
    ∃ (v0 : (c : Dev Cert.DwCIdeal.nD) → Buf (Elt Ideal) ((c.tc : Thread Cert.DwCIdeal.nD Cert.DwCIdeal.τ).loc Cert.DwCIdeal.main_v0)),
      θ_run (Cert.DwCIdeal.defs (F := Ideal)) (onTc (τ := Cert.DwCIdeal.τ) (Cert.DwCIdeal.main (F := Ideal))) ⟨m, fun _ => 0, g⟩ (fun r => ∀ c : Dev Cert.DwCIdeal.nD,
          r.2.mem ((c.tc : Thread Cert.DwCIdeal.nD Cert.DwCIdeal.τ).loc Cert.DwCIdeal.main_v0) = v0 c
          ∧ r.2.mem ((c.tc : Thread Cert.DwCIdeal.nD Cert.DwCIdeal.τ).loc Cert.DwCIdeal.main_arg0) = m ((c.tc : Thread Cert.DwCIdeal.nD Cert.DwCIdeal.τ).loc Cert.DwCIdeal.main_arg0)
          ∧ r.2.mem ((c.tc : Thread Cert.DwCIdeal.nD Cert.DwCIdeal.τ).loc Cert.DwCIdeal.main_arg1) = m ((c.tc : Thread Cert.DwCIdeal.nD Cert.DwCIdeal.τ).loc Cert.DwCIdeal.main_arg1))
      ∧ θ_run (Cert.DwCRefIdeal.defs (F := Ideal)) (onTc (τ := Cert.DwCRefIdeal.τ) (Cert.DwCRefIdeal.main (F := Ideal))) ⟨m', fun _ => 0, g'⟩ (fun r => ∀ c : Dev Cert.DwCRefIdeal.nD,
          r.2.mem ((c.tc : Thread Cert.DwCRefIdeal.nD Cert.DwCRefIdeal.τ).loc Cert.DwCRefIdeal.main_v7) = v0 c
          ∧ r.2.mem ((c.tc : Thread Cert.DwCRefIdeal.nD Cert.DwCRefIdeal.τ).loc Cert.DwCRefIdeal.main_arg0) = m' ((c.tc : Thread Cert.DwCRefIdeal.nD Cert.DwCRefIdeal.τ).loc Cert.DwCRefIdeal.main_arg0)
          ∧ r.2.mem ((c.tc : Thread Cert.DwCRefIdeal.nD Cert.DwCRefIdeal.τ).loc Cert.DwCRefIdeal.main_arg1) = m' ((c.tc : Thread Cert.DwCRefIdeal.nD Cert.DwCRefIdeal.τ).loc Cert.DwCRefIdeal.main_arg1))

def preserves_DwG_DwGIdeal : Prop :=
  True

def algebraic_DwGIdeal_DwGRefIdeal [hDwGIdeal : Cert.DwGIdeal.Facts] [hDwGRefIdeal : Cert.DwGRefIdeal.Facts] : Prop :=
  ∀ (m : (ℓ : Loc Cert.DwGIdeal.nD Cert.DwGIdeal.τ Cert.DwGIdeal.sig) → Buf (Elt Ideal) ℓ) (g : Dev Cert.DwGIdeal.nD → PrngReg)
    (m' : (ℓ : Loc Cert.DwGRefIdeal.nD Cert.DwGRefIdeal.τ Cert.DwGRefIdeal.sig) → Buf (Elt Ideal) ℓ) (g' : Dev Cert.DwGRefIdeal.nD → PrngReg), Pre_DwGIdeal m →
    (∀ c : Dev Cert.DwGIdeal.nD,
      m' ((c.tc : Thread Cert.DwGRefIdeal.nD Cert.DwGRefIdeal.τ).loc Cert.DwGRefIdeal.main_arg0) = m ((c.tc : Thread Cert.DwGIdeal.nD Cert.DwGIdeal.τ).loc Cert.DwGIdeal.main_arg0)
      ∧ m' ((c.tc : Thread Cert.DwGRefIdeal.nD Cert.DwGRefIdeal.τ).loc Cert.DwGRefIdeal.main_arg1) = m ((c.tc : Thread Cert.DwGIdeal.nD Cert.DwGIdeal.τ).loc Cert.DwGIdeal.main_arg1)) →
    ∃ (v0 : (c : Dev Cert.DwGIdeal.nD) → Buf (Elt Ideal) ((c.tc : Thread Cert.DwGIdeal.nD Cert.DwGIdeal.τ).loc Cert.DwGIdeal.main_v0)),
      θ_run (Cert.DwGIdeal.defs (F := Ideal)) (onTc (τ := Cert.DwGIdeal.τ) (Cert.DwGIdeal.main (F := Ideal))) ⟨m, fun _ => 0, g⟩ (fun r => ∀ c : Dev Cert.DwGIdeal.nD,
          r.2.mem ((c.tc : Thread Cert.DwGIdeal.nD Cert.DwGIdeal.τ).loc Cert.DwGIdeal.main_v0) = v0 c
          ∧ r.2.mem ((c.tc : Thread Cert.DwGIdeal.nD Cert.DwGIdeal.τ).loc Cert.DwGIdeal.main_arg0) = m ((c.tc : Thread Cert.DwGIdeal.nD Cert.DwGIdeal.τ).loc Cert.DwGIdeal.main_arg0)
          ∧ r.2.mem ((c.tc : Thread Cert.DwGIdeal.nD Cert.DwGIdeal.τ).loc Cert.DwGIdeal.main_arg1) = m ((c.tc : Thread Cert.DwGIdeal.nD Cert.DwGIdeal.τ).loc Cert.DwGIdeal.main_arg1))
      ∧ θ_run (Cert.DwGRefIdeal.defs (F := Ideal)) (onTc (τ := Cert.DwGRefIdeal.τ) (Cert.DwGRefIdeal.main (F := Ideal))) ⟨m', fun _ => 0, g'⟩ (fun r => ∀ c : Dev Cert.DwGRefIdeal.nD,
          r.2.mem ((c.tc : Thread Cert.DwGRefIdeal.nD Cert.DwGRefIdeal.τ).loc Cert.DwGRefIdeal.main_v7) = v0 c
          ∧ r.2.mem ((c.tc : Thread Cert.DwGRefIdeal.nD Cert.DwGRefIdeal.τ).loc Cert.DwGRefIdeal.main_arg0) = m' ((c.tc : Thread Cert.DwGRefIdeal.nD Cert.DwGRefIdeal.τ).loc Cert.DwGRefIdeal.main_arg0)
          ∧ r.2.mem ((c.tc : Thread Cert.DwGRefIdeal.nD Cert.DwGRefIdeal.τ).loc Cert.DwGRefIdeal.main_arg1) = m' ((c.tc : Thread Cert.DwGRefIdeal.nD Cert.DwGRefIdeal.τ).loc Cert.DwGRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v2) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)) →
    ∃ (v0 : (c : Dev Cert.ProjCIdeal.nD) → Buf (Elt Ideal) ((c.tc : Thread Cert.ProjCIdeal.nD Cert.ProjCIdeal.τ).loc Cert.ProjCIdeal.main_v0)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v0) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v2) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1))

def preserves_ProjG_ProjGIdeal : Prop :=
  True

def algebraic_ProjGIdeal_ProjGRefIdeal [hProjGIdeal : Cert.ProjGIdeal.Facts] [hProjGRefIdeal : Cert.ProjGRefIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.ProjGRefIdeal.nD Cert.ProjGRefIdeal.τ Cert.ProjGRefIdeal.sig) → Buf (Elt Ideal) ℓ) (g' : Dev Cert.ProjGRefIdeal.nD → PrngReg), Pre_ProjGIdeal m →
    (∀ c : Dev Cert.ProjGIdeal.nD,
      m' ((c.tc : Thread Cert.ProjGRefIdeal.nD Cert.ProjGRefIdeal.τ).loc Cert.ProjGRefIdeal.main_arg0) = m ((c.tc : Thread Cert.ProjGIdeal.nD Cert.ProjGIdeal.τ).loc Cert.ProjGIdeal.main_arg0)
      ∧ m' ((c.tc : Thread Cert.ProjGRefIdeal.nD Cert.ProjGRefIdeal.τ).loc Cert.ProjGRefIdeal.main_arg1) = m ((c.tc : Thread Cert.ProjGIdeal.nD Cert.ProjGIdeal.τ).loc Cert.ProjGIdeal.main_arg1)) →
    ∃ (v0 : (c : Dev Cert.ProjGIdeal.nD) → Buf (Elt Ideal) ((c.tc : Thread Cert.ProjGIdeal.nD Cert.ProjGIdeal.τ).loc Cert.ProjGIdeal.main_v0)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v0) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ θ_run (Cert.ProjGRefIdeal.defs (F := Ideal)) (onTc (τ := Cert.ProjGRefIdeal.τ) (Cert.ProjGRefIdeal.main (F := Ideal))) ⟨m', fun _ => 0, g'⟩ (fun r => ∀ c : Dev Cert.ProjGRefIdeal.nD,
          r.2.mem ((c.tc : Thread Cert.ProjGRefIdeal.nD Cert.ProjGRefIdeal.τ).loc Cert.ProjGRefIdeal.main_v3) = v0 c
          ∧ r.2.mem ((c.tc : Thread Cert.ProjGRefIdeal.nD Cert.ProjGRefIdeal.τ).loc Cert.ProjGRefIdeal.main_arg0) = m' ((c.tc : Thread Cert.ProjGRefIdeal.nD Cert.ProjGRefIdeal.τ).loc Cert.ProjGRefIdeal.main_arg0)
          ∧ r.2.mem ((c.tc : Thread Cert.ProjGRefIdeal.nD Cert.ProjGRefIdeal.τ).loc Cert.ProjGRefIdeal.main_arg1) = m' ((c.tc : Thread Cert.ProjGRefIdeal.nD Cert.ProjGRefIdeal.τ).loc Cert.ProjGRefIdeal.main_arg1))

def preserves_DwO_DwOIdeal : Prop :=
  True

def algebraic_DwOIdeal_DwORefIdeal [hDwOIdeal : Cert.DwOIdeal.Facts] [hDwORefIdeal : Cert.DwORefIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwORefIdeal.nD Cert.DwORefIdeal.τ Cert.DwORefIdeal.sig) → Buf (Elt Ideal) ℓ) (g' : Dev Cert.DwORefIdeal.nD → PrngReg), Pre_DwOIdeal m →
    (∀ c : Dev Cert.DwOIdeal.nD,
      m' ((c.tc : Thread Cert.DwORefIdeal.nD Cert.DwORefIdeal.τ).loc Cert.DwORefIdeal.main_arg0) = m ((c.tc : Thread Cert.DwOIdeal.nD Cert.DwOIdeal.τ).loc Cert.DwOIdeal.main_arg0)
      ∧ m' ((c.tc : Thread Cert.DwORefIdeal.nD Cert.DwORefIdeal.τ).loc Cert.DwORefIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v0)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v0) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.DwORefIdeal.defs (F := Ideal)) (onTc (τ := Cert.DwORefIdeal.τ) (Cert.DwORefIdeal.main (F := Ideal))) ⟨m', fun _ => 0, g'⟩ (fun r => ∀ c : Dev Cert.DwORefIdeal.nD,
          r.2.mem ((c.tc : Thread Cert.DwORefIdeal.nD Cert.DwORefIdeal.τ).loc Cert.DwORefIdeal.main_v6) = v0 c
          ∧ r.2.mem ((c.tc : Thread Cert.DwORefIdeal.nD Cert.DwORefIdeal.τ).loc Cert.DwORefIdeal.main_arg0) = m' ((c.tc : Thread Cert.DwORefIdeal.nD Cert.DwORefIdeal.τ).loc Cert.DwORefIdeal.main_arg0)
          ∧ r.2.mem ((c.tc : Thread Cert.DwORefIdeal.nD Cert.DwORefIdeal.τ).loc Cert.DwORefIdeal.main_arg1) = m' ((c.tc : Thread Cert.DwORefIdeal.nD Cert.DwORefIdeal.τ).loc Cert.DwORefIdeal.main_arg1))

def preserves_DwOutA_DwOutAIdeal : Prop :=
  True

def algebraic_DwOutAIdeal_DwOutARefIdeal [hDwOutAIdeal : Cert.DwOutAIdeal.Facts] [hDwOutARefIdeal : Cert.DwOutARefIdeal.Facts] : Prop :=
  ∀ (m : (ℓ : Loc Cert.DwOutAIdeal.nD Cert.DwOutAIdeal.τ Cert.DwOutAIdeal.sig) → Buf (Elt Ideal) ℓ) (g : Dev Cert.DwOutAIdeal.nD → PrngReg)
    (m' : (ℓ : Loc Cert.DwOutARefIdeal.nD Cert.DwOutARefIdeal.τ Cert.DwOutARefIdeal.sig) → Buf (Elt Ideal) ℓ) (g' : Dev Cert.DwOutARefIdeal.nD → PrngReg), Pre_DwOutAIdeal m →
    (∀ c : Dev Cert.DwOutAIdeal.nD,
      m' ((c.tc : Thread Cert.DwOutARefIdeal.nD Cert.DwOutARefIdeal.τ).loc Cert.DwOutARefIdeal.main_arg0) = m ((c.tc : Thread Cert.DwOutAIdeal.nD Cert.DwOutAIdeal.τ).loc Cert.DwOutAIdeal.main_arg0)
      ∧ m' ((c.tc : Thread Cert.DwOutARefIdeal.nD Cert.DwOutARefIdeal.τ).loc Cert.DwOutARefIdeal.main_arg1) = m ((c.tc : Thread Cert.DwOutAIdeal.nD Cert.DwOutAIdeal.τ).loc Cert.DwOutAIdeal.main_arg1)) →
    ∃ (v0 : (c : Dev Cert.DwOutAIdeal.nD) → Buf (Elt Ideal) ((c.tc : Thread Cert.DwOutAIdeal.nD Cert.DwOutAIdeal.τ).loc Cert.DwOutAIdeal.main_v0)),
      θ_run (Cert.DwOutAIdeal.defs (F := Ideal)) (onTc (τ := Cert.DwOutAIdeal.τ) (Cert.DwOutAIdeal.main (F := Ideal))) ⟨m, fun _ => 0, g⟩ (fun r => ∀ c : Dev Cert.DwOutAIdeal.nD,
          r.2.mem ((c.tc : Thread Cert.DwOutAIdeal.nD Cert.DwOutAIdeal.τ).loc Cert.DwOutAIdeal.main_v0) = v0 c
          ∧ r.2.mem ((c.tc : Thread Cert.DwOutAIdeal.nD Cert.DwOutAIdeal.τ).loc Cert.DwOutAIdeal.main_arg0) = m ((c.tc : Thread Cert.DwOutAIdeal.nD Cert.DwOutAIdeal.τ).loc Cert.DwOutAIdeal.main_arg0)
          ∧ r.2.mem ((c.tc : Thread Cert.DwOutAIdeal.nD Cert.DwOutAIdeal.τ).loc Cert.DwOutAIdeal.main_arg1) = m ((c.tc : Thread Cert.DwOutAIdeal.nD Cert.DwOutAIdeal.τ).loc Cert.DwOutAIdeal.main_arg1))
      ∧ θ_run (Cert.DwOutARefIdeal.defs (F := Ideal)) (onTc (τ := Cert.DwOutARefIdeal.τ) (Cert.DwOutARefIdeal.main (F := Ideal))) ⟨m', fun _ => 0, g'⟩ (fun r => ∀ c : Dev Cert.DwOutARefIdeal.nD,
          r.2.mem ((c.tc : Thread Cert.DwOutARefIdeal.nD Cert.DwOutARefIdeal.τ).loc Cert.DwOutARefIdeal.main_v7) = v0 c
          ∧ r.2.mem ((c.tc : Thread Cert.DwOutARefIdeal.nD Cert.DwOutARefIdeal.τ).loc Cert.DwOutARefIdeal.main_arg0) = m' ((c.tc : Thread Cert.DwOutARefIdeal.nD Cert.DwOutARefIdeal.τ).loc Cert.DwOutARefIdeal.main_arg0)
          ∧ r.2.mem ((c.tc : Thread Cert.DwOutARefIdeal.nD Cert.DwOutARefIdeal.τ).loc Cert.DwOutARefIdeal.main_arg1) = m' ((c.tc : Thread Cert.DwOutARefIdeal.nD Cert.DwOutARefIdeal.τ).loc Cert.DwOutARefIdeal.main_arg1))

def preserves_DwOutC_DwOutCIdeal : Prop :=
  True

def algebraic_DwOutCIdeal_DwOutCRefIdeal [hDwOutCIdeal : Cert.DwOutCIdeal.Facts] [hDwOutCRefIdeal : Cert.DwOutCRefIdeal.Facts] : Prop :=
  ∀ (m : (ℓ : Loc Cert.DwOutCIdeal.nD Cert.DwOutCIdeal.τ Cert.DwOutCIdeal.sig) → Buf (Elt Ideal) ℓ) (g : Dev Cert.DwOutCIdeal.nD → PrngReg)
    (m' : (ℓ : Loc Cert.DwOutCRefIdeal.nD Cert.DwOutCRefIdeal.τ Cert.DwOutCRefIdeal.sig) → Buf (Elt Ideal) ℓ) (g' : Dev Cert.DwOutCRefIdeal.nD → PrngReg), Pre_DwOutCIdeal m →
    (∀ c : Dev Cert.DwOutCIdeal.nD,
      m' ((c.tc : Thread Cert.DwOutCRefIdeal.nD Cert.DwOutCRefIdeal.τ).loc Cert.DwOutCRefIdeal.main_arg0) = m ((c.tc : Thread Cert.DwOutCIdeal.nD Cert.DwOutCIdeal.τ).loc Cert.DwOutCIdeal.main_arg0)
      ∧ m' ((c.tc : Thread Cert.DwOutCRefIdeal.nD Cert.DwOutCRefIdeal.τ).loc Cert.DwOutCRefIdeal.main_arg1) = m ((c.tc : Thread Cert.DwOutCIdeal.nD Cert.DwOutCIdeal.τ).loc Cert.DwOutCIdeal.main_arg1)) →
    ∃ (v0 : (c : Dev Cert.DwOutCIdeal.nD) → Buf (Elt Ideal) ((c.tc : Thread Cert.DwOutCIdeal.nD Cert.DwOutCIdeal.τ).loc Cert.DwOutCIdeal.main_v0)),
      θ_run (Cert.DwOutCIdeal.defs (F := Ideal)) (onTc (τ := Cert.DwOutCIdeal.τ) (Cert.DwOutCIdeal.main (F := Ideal))) ⟨m, fun _ => 0, g⟩ (fun r => ∀ c : Dev Cert.DwOutCIdeal.nD,
          r.2.mem ((c.tc : Thread Cert.DwOutCIdeal.nD Cert.DwOutCIdeal.τ).loc Cert.DwOutCIdeal.main_v0) = v0 c
          ∧ r.2.mem ((c.tc : Thread Cert.DwOutCIdeal.nD Cert.DwOutCIdeal.τ).loc Cert.DwOutCIdeal.main_arg0) = m ((c.tc : Thread Cert.DwOutCIdeal.nD Cert.DwOutCIdeal.τ).loc Cert.DwOutCIdeal.main_arg0)
          ∧ r.2.mem ((c.tc : Thread Cert.DwOutCIdeal.nD Cert.DwOutCIdeal.τ).loc Cert.DwOutCIdeal.main_arg1) = m ((c.tc : Thread Cert.DwOutCIdeal.nD Cert.DwOutCIdeal.τ).loc Cert.DwOutCIdeal.main_arg1))
      ∧ θ_run (Cert.DwOutCRefIdeal.defs (F := Ideal)) (onTc (τ := Cert.DwOutCRefIdeal.τ) (Cert.DwOutCRefIdeal.main (F := Ideal))) ⟨m', fun _ => 0, g'⟩ (fun r => ∀ c : Dev Cert.DwOutCRefIdeal.nD,
          r.2.mem ((c.tc : Thread Cert.DwOutCRefIdeal.nD Cert.DwOutCRefIdeal.τ).loc Cert.DwOutCRefIdeal.main_v7) = v0 c
          ∧ r.2.mem ((c.tc : Thread Cert.DwOutCRefIdeal.nD Cert.DwOutCRefIdeal.τ).loc Cert.DwOutCRefIdeal.main_arg0) = m' ((c.tc : Thread Cert.DwOutCRefIdeal.nD Cert.DwOutCRefIdeal.τ).loc Cert.DwOutCRefIdeal.main_arg0)
          ∧ r.2.mem ((c.tc : Thread Cert.DwOutCRefIdeal.nD Cert.DwOutCRefIdeal.τ).loc Cert.DwOutCRefIdeal.main_arg1) = m' ((c.tc : Thread Cert.DwOutCRefIdeal.nD Cert.DwOutCRefIdeal.τ).loc Cert.DwOutCRefIdeal.main_arg1))

def preserves_DuA_DuAIdeal : Prop :=
  True

def algebraic_DuAIdeal_DuARefIdeal [hDuAIdeal : Cert.DuAIdeal.Facts] [hDuARefIdeal : Cert.DuARefIdeal.Facts] : Prop :=
  ∀ (m : (ℓ : Loc Cert.DuAIdeal.nD Cert.DuAIdeal.τ Cert.DuAIdeal.sig) → Buf (Elt Ideal) ℓ) (g : Dev Cert.DuAIdeal.nD → PrngReg)
    (m' : (ℓ : Loc Cert.DuARefIdeal.nD Cert.DuARefIdeal.τ Cert.DuARefIdeal.sig) → Buf (Elt Ideal) ℓ) (g' : Dev Cert.DuARefIdeal.nD → PrngReg), Pre_DuAIdeal m →
    (∀ c : Dev Cert.DuAIdeal.nD,
      m' ((c.tc : Thread Cert.DuARefIdeal.nD Cert.DuARefIdeal.τ).loc Cert.DuARefIdeal.main_arg0) = m ((c.tc : Thread Cert.DuAIdeal.nD Cert.DuAIdeal.τ).loc Cert.DuAIdeal.main_arg0)
      ∧ m' ((c.tc : Thread Cert.DuARefIdeal.nD Cert.DuARefIdeal.τ).loc Cert.DuARefIdeal.main_arg1) = m ((c.tc : Thread Cert.DuAIdeal.nD Cert.DuAIdeal.τ).loc Cert.DuAIdeal.main_arg1)) →
    ∃ (v0 : (c : Dev Cert.DuAIdeal.nD) → Buf (Elt Ideal) ((c.tc : Thread Cert.DuAIdeal.nD Cert.DuAIdeal.τ).loc Cert.DuAIdeal.main_v0)),
      θ_run (Cert.DuAIdeal.defs (F := Ideal)) (onTc (τ := Cert.DuAIdeal.τ) (Cert.DuAIdeal.main (F := Ideal))) ⟨m, fun _ => 0, g⟩ (fun r => ∀ c : Dev Cert.DuAIdeal.nD,
          r.2.mem ((c.tc : Thread Cert.DuAIdeal.nD Cert.DuAIdeal.τ).loc Cert.DuAIdeal.main_v0) = v0 c
          ∧ r.2.mem ((c.tc : Thread Cert.DuAIdeal.nD Cert.DuAIdeal.τ).loc Cert.DuAIdeal.main_arg0) = m ((c.tc : Thread Cert.DuAIdeal.nD Cert.DuAIdeal.τ).loc Cert.DuAIdeal.main_arg0)
          ∧ r.2.mem ((c.tc : Thread Cert.DuAIdeal.nD Cert.DuAIdeal.τ).loc Cert.DuAIdeal.main_arg1) = m ((c.tc : Thread Cert.DuAIdeal.nD Cert.DuAIdeal.τ).loc Cert.DuAIdeal.main_arg1))
      ∧ θ_run (Cert.DuARefIdeal.defs (F := Ideal)) (onTc (τ := Cert.DuARefIdeal.τ) (Cert.DuARefIdeal.main (F := Ideal))) ⟨m', fun _ => 0, g'⟩ (fun r => ∀ c : Dev Cert.DuARefIdeal.nD,
          r.2.mem ((c.tc : Thread Cert.DuARefIdeal.nD Cert.DuARefIdeal.τ).loc Cert.DuARefIdeal.main_v6) = v0 c
          ∧ r.2.mem ((c.tc : Thread Cert.DuARefIdeal.nD Cert.DuARefIdeal.τ).loc Cert.DuARefIdeal.main_arg0) = m' ((c.tc : Thread Cert.DuARefIdeal.nD Cert.DuARefIdeal.τ).loc Cert.DuARefIdeal.main_arg0)
          ∧ r.2.mem ((c.tc : Thread Cert.DuARefIdeal.nD Cert.DuARefIdeal.τ).loc Cert.DuARefIdeal.main_arg1) = m' ((c.tc : Thread Cert.DuARefIdeal.nD Cert.DuARefIdeal.τ).loc Cert.DuARefIdeal.main_arg1))

def preserves_DuC_DuCIdeal : Prop :=
  True

def algebraic_DuCIdeal_DuCRefIdeal [hDuCIdeal : Cert.DuCIdeal.Facts] [hDuCRefIdeal : Cert.DuCRefIdeal.Facts] : Prop :=
  ∀ (m : (ℓ : Loc Cert.DuCIdeal.nD Cert.DuCIdeal.τ Cert.DuCIdeal.sig) → Buf (Elt Ideal) ℓ) (g : Dev Cert.DuCIdeal.nD → PrngReg)
    (m' : (ℓ : Loc Cert.DuCRefIdeal.nD Cert.DuCRefIdeal.τ Cert.DuCRefIdeal.sig) → Buf (Elt Ideal) ℓ) (g' : Dev Cert.DuCRefIdeal.nD → PrngReg), Pre_DuCIdeal m →
    (∀ c : Dev Cert.DuCIdeal.nD,
      m' ((c.tc : Thread Cert.DuCRefIdeal.nD Cert.DuCRefIdeal.τ).loc Cert.DuCRefIdeal.main_arg0) = m ((c.tc : Thread Cert.DuCIdeal.nD Cert.DuCIdeal.τ).loc Cert.DuCIdeal.main_arg0)
      ∧ m' ((c.tc : Thread Cert.DuCRefIdeal.nD Cert.DuCRefIdeal.τ).loc Cert.DuCRefIdeal.main_arg1) = m ((c.tc : Thread Cert.DuCIdeal.nD Cert.DuCIdeal.τ).loc Cert.DuCIdeal.main_arg1)) →
    ∃ (v0 : (c : Dev Cert.DuCIdeal.nD) → Buf (Elt Ideal) ((c.tc : Thread Cert.DuCIdeal.nD Cert.DuCIdeal.τ).loc Cert.DuCIdeal.main_v0)),
      θ_run (Cert.DuCIdeal.defs (F := Ideal)) (onTc (τ := Cert.DuCIdeal.τ) (Cert.DuCIdeal.main (F := Ideal))) ⟨m, fun _ => 0, g⟩ (fun r => ∀ c : Dev Cert.DuCIdeal.nD,
          r.2.mem ((c.tc : Thread Cert.DuCIdeal.nD Cert.DuCIdeal.τ).loc Cert.DuCIdeal.main_v0) = v0 c
          ∧ r.2.mem ((c.tc : Thread Cert.DuCIdeal.nD Cert.DuCIdeal.τ).loc Cert.DuCIdeal.main_arg0) = m ((c.tc : Thread Cert.DuCIdeal.nD Cert.DuCIdeal.τ).loc Cert.DuCIdeal.main_arg0)
          ∧ r.2.mem ((c.tc : Thread Cert.DuCIdeal.nD Cert.DuCIdeal.τ).loc Cert.DuCIdeal.main_arg1) = m ((c.tc : Thread Cert.DuCIdeal.nD Cert.DuCIdeal.τ).loc Cert.DuCIdeal.main_arg1))
      ∧ θ_run (Cert.DuCRefIdeal.defs (F := Ideal)) (onTc (τ := Cert.DuCRefIdeal.τ) (Cert.DuCRefIdeal.main (F := Ideal))) ⟨m', fun _ => 0, g'⟩ (fun r => ∀ c : Dev Cert.DuCRefIdeal.nD,
          r.2.mem ((c.tc : Thread Cert.DuCRefIdeal.nD Cert.DuCRefIdeal.τ).loc Cert.DuCRefIdeal.main_v6) = v0 c
          ∧ r.2.mem ((c.tc : Thread Cert.DuCRefIdeal.nD Cert.DuCRefIdeal.τ).loc Cert.DuCRefIdeal.main_arg0) = m' ((c.tc : Thread Cert.DuCRefIdeal.nD Cert.DuCRefIdeal.τ).loc Cert.DuCRefIdeal.main_arg0)
          ∧ r.2.mem ((c.tc : Thread Cert.DuCRefIdeal.nD Cert.DuCRefIdeal.τ).loc Cert.DuCRefIdeal.main_arg1) = m' ((c.tc : Thread Cert.DuCRefIdeal.nD Cert.DuCRefIdeal.τ).loc Cert.DuCRefIdeal.main_arg1))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)) →
    ∃ (v0 : (c : Dev Cert.OutAIdeal.nD) → Buf (Elt Ideal) ((c.tc : Thread Cert.OutAIdeal.nD Cert.OutAIdeal.τ).loc Cert.OutAIdeal.main_v0)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v0) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v3) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1))

def preserves_OutC_OutCIdeal : Prop :=
  True

def algebraic_OutCIdeal_OutCRefIdeal [hOutCIdeal : Cert.OutCIdeal.Facts] [hOutCRefIdeal : Cert.OutCRefIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCRefIdeal.nD Cert.OutCRefIdeal.τ Cert.OutCRefIdeal.sig) → Buf (Elt Ideal) ℓ) (g' : Dev Cert.OutCRefIdeal.nD → PrngReg), Pre_OutCIdeal m →
    (∀ c : Dev Cert.OutCIdeal.nD,
      m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0)
      ∧ m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1)) →
    ∃ (v0 : (c : Dev Cert.OutCIdeal.nD) → Buf (Elt Ideal) ((c.tc : Thread Cert.OutCIdeal.nD Cert.OutCIdeal.τ).loc Cert.OutCIdeal.main_v0)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v0) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1))
      ∧ θ_run (Cert.OutCRefIdeal.defs (F := Ideal)) (onTc (τ := Cert.OutCRefIdeal.τ) (Cert.OutCRefIdeal.main (F := Ideal))) ⟨m', fun _ => 0, g'⟩ (fun r => ∀ c : Dev Cert.OutCRefIdeal.nD,
          r.2.mem ((c.tc : Thread Cert.OutCRefIdeal.nD Cert.OutCRefIdeal.τ).loc Cert.OutCRefIdeal.main_v3) = v0 c
          ∧ r.2.mem ((c.tc : Thread Cert.OutCRefIdeal.nD Cert.OutCRefIdeal.τ).loc Cert.OutCRefIdeal.main_arg0) = m' ((c.tc : Thread Cert.OutCRefIdeal.nD Cert.OutCRefIdeal.τ).loc Cert.OutCRefIdeal.main_arg0)
          ∧ r.2.mem ((c.tc : Thread Cert.OutCRefIdeal.nD Cert.OutCRefIdeal.τ).loc Cert.OutCRefIdeal.main_arg1) = m' ((c.tc : Thread Cert.OutCRefIdeal.nD Cert.OutCRefIdeal.τ).loc Cert.OutCRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v24) = v0 c
          ∧ r.2.mem ((c.tc : Thread Cert.MergeFwdRefIdeal.nD Cert.MergeFwdRefIdeal.τ).loc Cert.MergeFwdRefIdeal.main_v27) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v31) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_UpdateIn_UpdateInIdeal : Prop :=
  True

def algebraic_UpdateInIdeal_UpdateInRefIdeal [hUpdateInIdeal : Cert.UpdateInIdeal.Facts] [hUpdateInRefIdeal : Cert.UpdateInRefIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInRefIdeal.nD Cert.UpdateInRefIdeal.τ Cert.UpdateInRefIdeal.sig) → Buf (Elt Ideal) ℓ) (g' : Dev Cert.UpdateInRefIdeal.nD → PrngReg), Pre_UpdateInIdeal m →
    (∀ c : Dev Cert.UpdateInIdeal.nD,
      m' ((c.tc : Thread Cert.UpdateInRefIdeal.nD Cert.UpdateInRefIdeal.τ).loc Cert.UpdateInRefIdeal.main_arg0) = m ((c.tc : Thread Cert.UpdateInIdeal.nD Cert.UpdateInIdeal.τ).loc Cert.UpdateInIdeal.main_arg0)
      ∧ m' ((c.tc : Thread Cert.UpdateInRefIdeal.nD Cert.UpdateInRefIdeal.τ).loc Cert.UpdateInRefIdeal.main_arg1) = m ((c.tc : Thread Cert.UpdateInIdeal.nD Cert.UpdateInIdeal.τ).loc Cert.UpdateInIdeal.main_arg1)
      ∧ m' ((c.tc : Thread Cert.UpdateInRefIdeal.nD Cert.UpdateInRefIdeal.τ).loc Cert.UpdateInRefIdeal.main_arg2) = m ((c.tc : Thread Cert.UpdateInIdeal.nD Cert.UpdateInIdeal.τ).loc Cert.UpdateInIdeal.main_arg2)
      ∧ m' ((c.tc : Thread Cert.UpdateInRefIdeal.nD Cert.UpdateInRefIdeal.τ).loc Cert.UpdateInRefIdeal.main_arg3) = m ((c.tc : Thread Cert.UpdateInIdeal.nD Cert.UpdateInIdeal.τ).loc Cert.UpdateInIdeal.main_arg3)
      ∧ m' ((c.tc : Thread Cert.UpdateInRefIdeal.nD Cert.UpdateInRefIdeal.τ).loc Cert.UpdateInRefIdeal.main_arg4) = m ((c.tc : Thread Cert.UpdateInIdeal.nD Cert.UpdateInIdeal.τ).loc Cert.UpdateInIdeal.main_arg4)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)) (v3 : (c : Dev Cert.UpdateInIdeal.nD) → Buf (Elt Ideal) ((c.tc : Thread Cert.UpdateInIdeal.nD Cert.UpdateInIdeal.τ).loc Cert.UpdateInIdeal.main_v0_3)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_v0_3) = v3 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3)
          ∧ r.2.mem ((c.tc : Thread Cert.UpdateInIdeal.nD Cert.UpdateInIdeal.τ).loc Cert.UpdateInIdeal.main_arg4) = m ((c.tc : Thread Cert.UpdateInIdeal.nD Cert.UpdateInIdeal.τ).loc Cert.UpdateInIdeal.main_arg4))
      ∧ θ_run (Cert.UpdateInRefIdeal.defs (F := Ideal)) (onTc (τ := Cert.UpdateInRefIdeal.τ) (Cert.UpdateInRefIdeal.main (F := Ideal))) ⟨m', fun _ => 0, g'⟩ (fun r => ∀ c : Dev Cert.UpdateInRefIdeal.nD,
          r.2.mem ((c.tc : Thread Cert.UpdateInRefIdeal.nD Cert.UpdateInRefIdeal.τ).loc Cert.UpdateInRefIdeal.main_v4) = v0 c
          ∧ r.2.mem ((c.tc : Thread Cert.UpdateInRefIdeal.nD Cert.UpdateInRefIdeal.τ).loc Cert.UpdateInRefIdeal.main_v28) = v1 c
          ∧ r.2.mem ((c.tc : Thread Cert.UpdateInRefIdeal.nD Cert.UpdateInRefIdeal.τ).loc Cert.UpdateInRefIdeal.main_v9) = v2 c
          ∧ r.2.mem ((c.tc : Thread Cert.UpdateInRefIdeal.nD Cert.UpdateInRefIdeal.τ).loc Cert.UpdateInRefIdeal.main_v15) = v3 c
          ∧ r.2.mem ((c.tc : Thread Cert.UpdateInRefIdeal.nD Cert.UpdateInRefIdeal.τ).loc Cert.UpdateInRefIdeal.main_arg0) = m' ((c.tc : Thread Cert.UpdateInRefIdeal.nD Cert.UpdateInRefIdeal.τ).loc Cert.UpdateInRefIdeal.main_arg0)
          ∧ r.2.mem ((c.tc : Thread Cert.UpdateInRefIdeal.nD Cert.UpdateInRefIdeal.τ).loc Cert.UpdateInRefIdeal.main_arg1) = m' ((c.tc : Thread Cert.UpdateInRefIdeal.nD Cert.UpdateInRefIdeal.τ).loc Cert.UpdateInRefIdeal.main_arg1)
          ∧ r.2.mem ((c.tc : Thread Cert.UpdateInRefIdeal.nD Cert.UpdateInRefIdeal.τ).loc Cert.UpdateInRefIdeal.main_arg2) = m' ((c.tc : Thread Cert.UpdateInRefIdeal.nD Cert.UpdateInRefIdeal.τ).loc Cert.UpdateInRefIdeal.main_arg2)
          ∧ r.2.mem ((c.tc : Thread Cert.UpdateInRefIdeal.nD Cert.UpdateInRefIdeal.τ).loc Cert.UpdateInRefIdeal.main_arg3) = m' ((c.tc : Thread Cert.UpdateInRefIdeal.nD Cert.UpdateInRefIdeal.τ).loc Cert.UpdateInRefIdeal.main_arg3)
          ∧ r.2.mem ((c.tc : Thread Cert.UpdateInRefIdeal.nD Cert.UpdateInRefIdeal.τ).loc Cert.UpdateInRefIdeal.main_arg4) = m' ((c.tc : Thread Cert.UpdateInRefIdeal.nD Cert.UpdateInRefIdeal.τ).loc Cert.UpdateInRefIdeal.main_arg4))

def preserves_UpdateA_UpdateAIdeal : Prop :=
  True

def algebraic_UpdateAIdeal_UpdateARefIdeal [hUpdateAIdeal : Cert.UpdateAIdeal.Facts] [hUpdateARefIdeal : Cert.UpdateARefIdeal.Facts] : Prop :=
  ∀ (m : (ℓ : Loc Cert.UpdateAIdeal.nD Cert.UpdateAIdeal.τ Cert.UpdateAIdeal.sig) → Buf (Elt Ideal) ℓ) (g : Dev Cert.UpdateAIdeal.nD → PrngReg)
    (m' : (ℓ : Loc Cert.UpdateARefIdeal.nD Cert.UpdateARefIdeal.τ Cert.UpdateARefIdeal.sig) → Buf (Elt Ideal) ℓ) (g' : Dev Cert.UpdateARefIdeal.nD → PrngReg), Pre_UpdateAIdeal m →
    (∀ c : Dev Cert.UpdateAIdeal.nD,
      m' ((c.tc : Thread Cert.UpdateARefIdeal.nD Cert.UpdateARefIdeal.τ).loc Cert.UpdateARefIdeal.main_arg0) = m ((c.tc : Thread Cert.UpdateAIdeal.nD Cert.UpdateAIdeal.τ).loc Cert.UpdateAIdeal.main_arg0)
      ∧ m' ((c.tc : Thread Cert.UpdateARefIdeal.nD Cert.UpdateARefIdeal.τ).loc Cert.UpdateARefIdeal.main_arg1) = m ((c.tc : Thread Cert.UpdateAIdeal.nD Cert.UpdateAIdeal.τ).loc Cert.UpdateAIdeal.main_arg1)
      ∧ m' ((c.tc : Thread Cert.UpdateARefIdeal.nD Cert.UpdateARefIdeal.τ).loc Cert.UpdateARefIdeal.main_arg2) = m ((c.tc : Thread Cert.UpdateAIdeal.nD Cert.UpdateAIdeal.τ).loc Cert.UpdateAIdeal.main_arg2)
      ∧ m' ((c.tc : Thread Cert.UpdateARefIdeal.nD Cert.UpdateARefIdeal.τ).loc Cert.UpdateARefIdeal.main_arg3) = m ((c.tc : Thread Cert.UpdateAIdeal.nD Cert.UpdateAIdeal.τ).loc Cert.UpdateAIdeal.main_arg3)
      ∧ m' ((c.tc : Thread Cert.UpdateARefIdeal.nD Cert.UpdateARefIdeal.τ).loc Cert.UpdateARefIdeal.main_arg4) = m ((c.tc : Thread Cert.UpdateAIdeal.nD Cert.UpdateAIdeal.τ).loc Cert.UpdateAIdeal.main_arg4)) →
    ∃ (v0 : (c : Dev Cert.UpdateAIdeal.nD) → Buf (Elt Ideal) ((c.tc : Thread Cert.UpdateAIdeal.nD Cert.UpdateAIdeal.τ).loc Cert.UpdateAIdeal.main_v0_0)) (v1 : (c : Dev Cert.UpdateAIdeal.nD) → Buf (Elt Ideal) ((c.tc : Thread Cert.UpdateAIdeal.nD Cert.UpdateAIdeal.τ).loc Cert.UpdateAIdeal.main_v0_1)) (v2 : (c : Dev Cert.UpdateAIdeal.nD) → Buf (Elt Ideal) ((c.tc : Thread Cert.UpdateAIdeal.nD Cert.UpdateAIdeal.τ).loc Cert.UpdateAIdeal.main_v0_2)) (v3 : (c : Dev Cert.UpdateAIdeal.nD) → Buf (Elt Ideal) ((c.tc : Thread Cert.UpdateAIdeal.nD Cert.UpdateAIdeal.τ).loc Cert.UpdateAIdeal.main_v0_3)),
      θ_run (Cert.UpdateAIdeal.defs (F := Ideal)) (onTc (τ := Cert.UpdateAIdeal.τ) (Cert.UpdateAIdeal.main (F := Ideal))) ⟨m, fun _ => 0, g⟩ (fun r => ∀ c : Dev Cert.UpdateAIdeal.nD,
          r.2.mem ((c.tc : Thread Cert.UpdateAIdeal.nD Cert.UpdateAIdeal.τ).loc Cert.UpdateAIdeal.main_v0_0) = v0 c
          ∧ r.2.mem ((c.tc : Thread Cert.UpdateAIdeal.nD Cert.UpdateAIdeal.τ).loc Cert.UpdateAIdeal.main_v0_1) = v1 c
          ∧ r.2.mem ((c.tc : Thread Cert.UpdateAIdeal.nD Cert.UpdateAIdeal.τ).loc Cert.UpdateAIdeal.main_v0_2) = v2 c
          ∧ r.2.mem ((c.tc : Thread Cert.UpdateAIdeal.nD Cert.UpdateAIdeal.τ).loc Cert.UpdateAIdeal.main_v0_3) = v3 c
          ∧ r.2.mem ((c.tc : Thread Cert.UpdateAIdeal.nD Cert.UpdateAIdeal.τ).loc Cert.UpdateAIdeal.main_arg0) = m ((c.tc : Thread Cert.UpdateAIdeal.nD Cert.UpdateAIdeal.τ).loc Cert.UpdateAIdeal.main_arg0)
          ∧ r.2.mem ((c.tc : Thread Cert.UpdateAIdeal.nD Cert.UpdateAIdeal.τ).loc Cert.UpdateAIdeal.main_arg1) = m ((c.tc : Thread Cert.UpdateAIdeal.nD Cert.UpdateAIdeal.τ).loc Cert.UpdateAIdeal.main_arg1)
          ∧ r.2.mem ((c.tc : Thread Cert.UpdateAIdeal.nD Cert.UpdateAIdeal.τ).loc Cert.UpdateAIdeal.main_arg2) = m ((c.tc : Thread Cert.UpdateAIdeal.nD Cert.UpdateAIdeal.τ).loc Cert.UpdateAIdeal.main_arg2)
          ∧ r.2.mem ((c.tc : Thread Cert.UpdateAIdeal.nD Cert.UpdateAIdeal.τ).loc Cert.UpdateAIdeal.main_arg3) = m ((c.tc : Thread Cert.UpdateAIdeal.nD Cert.UpdateAIdeal.τ).loc Cert.UpdateAIdeal.main_arg3)
          ∧ r.2.mem ((c.tc : Thread Cert.UpdateAIdeal.nD Cert.UpdateAIdeal.τ).loc Cert.UpdateAIdeal.main_arg4) = m ((c.tc : Thread Cert.UpdateAIdeal.nD Cert.UpdateAIdeal.τ).loc Cert.UpdateAIdeal.main_arg4))
      ∧ θ_run (Cert.UpdateARefIdeal.defs (F := Ideal)) (onTc (τ := Cert.UpdateARefIdeal.τ) (Cert.UpdateARefIdeal.main (F := Ideal))) ⟨m', fun _ => 0, g'⟩ (fun r => ∀ c : Dev Cert.UpdateARefIdeal.nD,
          r.2.mem ((c.tc : Thread Cert.UpdateARefIdeal.nD Cert.UpdateARefIdeal.τ).loc Cert.UpdateARefIdeal.main_v4) = v0 c
          ∧ r.2.mem ((c.tc : Thread Cert.UpdateARefIdeal.nD Cert.UpdateARefIdeal.τ).loc Cert.UpdateARefIdeal.main_v28) = v1 c
          ∧ r.2.mem ((c.tc : Thread Cert.UpdateARefIdeal.nD Cert.UpdateARefIdeal.τ).loc Cert.UpdateARefIdeal.main_v9) = v2 c
          ∧ r.2.mem ((c.tc : Thread Cert.UpdateARefIdeal.nD Cert.UpdateARefIdeal.τ).loc Cert.UpdateARefIdeal.main_v15) = v3 c
          ∧ r.2.mem ((c.tc : Thread Cert.UpdateARefIdeal.nD Cert.UpdateARefIdeal.τ).loc Cert.UpdateARefIdeal.main_arg0) = m' ((c.tc : Thread Cert.UpdateARefIdeal.nD Cert.UpdateARefIdeal.τ).loc Cert.UpdateARefIdeal.main_arg0)
          ∧ r.2.mem ((c.tc : Thread Cert.UpdateARefIdeal.nD Cert.UpdateARefIdeal.τ).loc Cert.UpdateARefIdeal.main_arg1) = m' ((c.tc : Thread Cert.UpdateARefIdeal.nD Cert.UpdateARefIdeal.τ).loc Cert.UpdateARefIdeal.main_arg1)
          ∧ r.2.mem ((c.tc : Thread Cert.UpdateARefIdeal.nD Cert.UpdateARefIdeal.τ).loc Cert.UpdateARefIdeal.main_arg2) = m' ((c.tc : Thread Cert.UpdateARefIdeal.nD Cert.UpdateARefIdeal.τ).loc Cert.UpdateARefIdeal.main_arg2)
          ∧ r.2.mem ((c.tc : Thread Cert.UpdateARefIdeal.nD Cert.UpdateARefIdeal.τ).loc Cert.UpdateARefIdeal.main_arg3) = m' ((c.tc : Thread Cert.UpdateARefIdeal.nD Cert.UpdateARefIdeal.τ).loc Cert.UpdateARefIdeal.main_arg3)
          ∧ r.2.mem ((c.tc : Thread Cert.UpdateARefIdeal.nD Cert.UpdateARefIdeal.τ).loc Cert.UpdateARefIdeal.main_arg4) = m' ((c.tc : Thread Cert.UpdateARefIdeal.nD Cert.UpdateARefIdeal.τ).loc Cert.UpdateARefIdeal.main_arg4))

def preserves_UpdateC_UpdateCIdeal : Prop :=
  True

def algebraic_UpdateCIdeal_UpdateCRefIdeal [hUpdateCIdeal : Cert.UpdateCIdeal.Facts] [hUpdateCRefIdeal : Cert.UpdateCRefIdeal.Facts] : Prop :=
  ∀ (m : (ℓ : Loc Cert.UpdateCIdeal.nD Cert.UpdateCIdeal.τ Cert.UpdateCIdeal.sig) → Buf (Elt Ideal) ℓ) (g : Dev Cert.UpdateCIdeal.nD → PrngReg)
    (m' : (ℓ : Loc Cert.UpdateCRefIdeal.nD Cert.UpdateCRefIdeal.τ Cert.UpdateCRefIdeal.sig) → Buf (Elt Ideal) ℓ) (g' : Dev Cert.UpdateCRefIdeal.nD → PrngReg), Pre_UpdateCIdeal m →
    (∀ c : Dev Cert.UpdateCIdeal.nD,
      m' ((c.tc : Thread Cert.UpdateCRefIdeal.nD Cert.UpdateCRefIdeal.τ).loc Cert.UpdateCRefIdeal.main_arg0) = m ((c.tc : Thread Cert.UpdateCIdeal.nD Cert.UpdateCIdeal.τ).loc Cert.UpdateCIdeal.main_arg0)
      ∧ m' ((c.tc : Thread Cert.UpdateCRefIdeal.nD Cert.UpdateCRefIdeal.τ).loc Cert.UpdateCRefIdeal.main_arg1) = m ((c.tc : Thread Cert.UpdateCIdeal.nD Cert.UpdateCIdeal.τ).loc Cert.UpdateCIdeal.main_arg1)
      ∧ m' ((c.tc : Thread Cert.UpdateCRefIdeal.nD Cert.UpdateCRefIdeal.τ).loc Cert.UpdateCRefIdeal.main_arg2) = m ((c.tc : Thread Cert.UpdateCIdeal.nD Cert.UpdateCIdeal.τ).loc Cert.UpdateCIdeal.main_arg2)
      ∧ m' ((c.tc : Thread Cert.UpdateCRefIdeal.nD Cert.UpdateCRefIdeal.τ).loc Cert.UpdateCRefIdeal.main_arg3) = m ((c.tc : Thread Cert.UpdateCIdeal.nD Cert.UpdateCIdeal.τ).loc Cert.UpdateCIdeal.main_arg3)
      ∧ m' ((c.tc : Thread Cert.UpdateCRefIdeal.nD Cert.UpdateCRefIdeal.τ).loc Cert.UpdateCRefIdeal.main_arg4) = m ((c.tc : Thread Cert.UpdateCIdeal.nD Cert.UpdateCIdeal.τ).loc Cert.UpdateCIdeal.main_arg4)) →
    ∃ (v0 : (c : Dev Cert.UpdateCIdeal.nD) → Buf (Elt Ideal) ((c.tc : Thread Cert.UpdateCIdeal.nD Cert.UpdateCIdeal.τ).loc Cert.UpdateCIdeal.main_v0_0)) (v1 : (c : Dev Cert.UpdateCIdeal.nD) → Buf (Elt Ideal) ((c.tc : Thread Cert.UpdateCIdeal.nD Cert.UpdateCIdeal.τ).loc Cert.UpdateCIdeal.main_v0_1)) (v2 : (c : Dev Cert.UpdateCIdeal.nD) → Buf (Elt Ideal) ((c.tc : Thread Cert.UpdateCIdeal.nD Cert.UpdateCIdeal.τ).loc Cert.UpdateCIdeal.main_v0_2)) (v3 : (c : Dev Cert.UpdateCIdeal.nD) → Buf (Elt Ideal) ((c.tc : Thread Cert.UpdateCIdeal.nD Cert.UpdateCIdeal.τ).loc Cert.UpdateCIdeal.main_v0_3)),
      θ_run (Cert.UpdateCIdeal.defs (F := Ideal)) (onTc (τ := Cert.UpdateCIdeal.τ) (Cert.UpdateCIdeal.main (F := Ideal))) ⟨m, fun _ => 0, g⟩ (fun r => ∀ c : Dev Cert.UpdateCIdeal.nD,
          r.2.mem ((c.tc : Thread Cert.UpdateCIdeal.nD Cert.UpdateCIdeal.τ).loc Cert.UpdateCIdeal.main_v0_0) = v0 c
          ∧ r.2.mem ((c.tc : Thread Cert.UpdateCIdeal.nD Cert.UpdateCIdeal.τ).loc Cert.UpdateCIdeal.main_v0_1) = v1 c
          ∧ r.2.mem ((c.tc : Thread Cert.UpdateCIdeal.nD Cert.UpdateCIdeal.τ).loc Cert.UpdateCIdeal.main_v0_2) = v2 c
          ∧ r.2.mem ((c.tc : Thread Cert.UpdateCIdeal.nD Cert.UpdateCIdeal.τ).loc Cert.UpdateCIdeal.main_v0_3) = v3 c
          ∧ r.2.mem ((c.tc : Thread Cert.UpdateCIdeal.nD Cert.UpdateCIdeal.τ).loc Cert.UpdateCIdeal.main_arg0) = m ((c.tc : Thread Cert.UpdateCIdeal.nD Cert.UpdateCIdeal.τ).loc Cert.UpdateCIdeal.main_arg0)
          ∧ r.2.mem ((c.tc : Thread Cert.UpdateCIdeal.nD Cert.UpdateCIdeal.τ).loc Cert.UpdateCIdeal.main_arg1) = m ((c.tc : Thread Cert.UpdateCIdeal.nD Cert.UpdateCIdeal.τ).loc Cert.UpdateCIdeal.main_arg1)
          ∧ r.2.mem ((c.tc : Thread Cert.UpdateCIdeal.nD Cert.UpdateCIdeal.τ).loc Cert.UpdateCIdeal.main_arg2) = m ((c.tc : Thread Cert.UpdateCIdeal.nD Cert.UpdateCIdeal.τ).loc Cert.UpdateCIdeal.main_arg2)
          ∧ r.2.mem ((c.tc : Thread Cert.UpdateCIdeal.nD Cert.UpdateCIdeal.τ).loc Cert.UpdateCIdeal.main_arg3) = m ((c.tc : Thread Cert.UpdateCIdeal.nD Cert.UpdateCIdeal.τ).loc Cert.UpdateCIdeal.main_arg3)
          ∧ r.2.mem ((c.tc : Thread Cert.UpdateCIdeal.nD Cert.UpdateCIdeal.τ).loc Cert.UpdateCIdeal.main_arg4) = m ((c.tc : Thread Cert.UpdateCIdeal.nD Cert.UpdateCIdeal.τ).loc Cert.UpdateCIdeal.main_arg4))
      ∧ θ_run (Cert.UpdateCRefIdeal.defs (F := Ideal)) (onTc (τ := Cert.UpdateCRefIdeal.τ) (Cert.UpdateCRefIdeal.main (F := Ideal))) ⟨m', fun _ => 0, g'⟩ (fun r => ∀ c : Dev Cert.UpdateCRefIdeal.nD,
          r.2.mem ((c.tc : Thread Cert.UpdateCRefIdeal.nD Cert.UpdateCRefIdeal.τ).loc Cert.UpdateCRefIdeal.main_v4) = v0 c
          ∧ r.2.mem ((c.tc : Thread Cert.UpdateCRefIdeal.nD Cert.UpdateCRefIdeal.τ).loc Cert.UpdateCRefIdeal.main_v28) = v1 c
          ∧ r.2.mem ((c.tc : Thread Cert.UpdateCRefIdeal.nD Cert.UpdateCRefIdeal.τ).loc Cert.UpdateCRefIdeal.main_v9) = v2 c
          ∧ r.2.mem ((c.tc : Thread Cert.UpdateCRefIdeal.nD Cert.UpdateCRefIdeal.τ).loc Cert.UpdateCRefIdeal.main_v15) = v3 c
          ∧ r.2.mem ((c.tc : Thread Cert.UpdateCRefIdeal.nD Cert.UpdateCRefIdeal.τ).loc Cert.UpdateCRefIdeal.main_arg0) = m' ((c.tc : Thread Cert.UpdateCRefIdeal.nD Cert.UpdateCRefIdeal.τ).loc Cert.UpdateCRefIdeal.main_arg0)
          ∧ r.2.mem ((c.tc : Thread Cert.UpdateCRefIdeal.nD Cert.UpdateCRefIdeal.τ).loc Cert.UpdateCRefIdeal.main_arg1) = m' ((c.tc : Thread Cert.UpdateCRefIdeal.nD Cert.UpdateCRefIdeal.τ).loc Cert.UpdateCRefIdeal.main_arg1)
          ∧ r.2.mem ((c.tc : Thread Cert.UpdateCRefIdeal.nD Cert.UpdateCRefIdeal.τ).loc Cert.UpdateCRefIdeal.main_arg2) = m' ((c.tc : Thread Cert.UpdateCRefIdeal.nD Cert.UpdateCRefIdeal.τ).loc Cert.UpdateCRefIdeal.main_arg2)
          ∧ r.2.mem ((c.tc : Thread Cert.UpdateCRefIdeal.nD Cert.UpdateCRefIdeal.τ).loc Cert.UpdateCRefIdeal.main_arg3) = m' ((c.tc : Thread Cert.UpdateCRefIdeal.nD Cert.UpdateCRefIdeal.τ).loc Cert.UpdateCRefIdeal.main_arg3)
          ∧ r.2.mem ((c.tc : Thread Cert.UpdateCRefIdeal.nD Cert.UpdateCRefIdeal.τ).loc Cert.UpdateCRefIdeal.main_arg4) = m' ((c.tc : Thread Cert.UpdateCRefIdeal.nD Cert.UpdateCRefIdeal.τ).loc Cert.UpdateCRefIdeal.main_arg4))

def preserves_UpdateSmall_UpdateSmallIdeal : Prop :=
  True

def algebraic_UpdateSmallIdeal_UpdateSmallRefIdeal [hUpdateSmallIdeal : Cert.UpdateSmallIdeal.Facts] [hUpdateSmallRefIdeal : Cert.UpdateSmallRefIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg)
    (m' : (ℓ : Loc Cert.UpdateSmallRefIdeal.nD Cert.UpdateSmallRefIdeal.τ Cert.UpdateSmallRefIdeal.sig) → Buf (Elt Ideal) ℓ) (g' : Dev Cert.UpdateSmallRefIdeal.nD → PrngReg), Pre_UpdateSmallIdeal m →
    (∀ c : Dev Cert.UpdateSmallIdeal.nD,
      m' ((c.tc : Thread Cert.UpdateSmallRefIdeal.nD Cert.UpdateSmallRefIdeal.τ).loc Cert.UpdateSmallRefIdeal.main_arg0) = m ((c.tc : Thread Cert.UpdateSmallIdeal.nD Cert.UpdateSmallIdeal.τ).loc Cert.UpdateSmallIdeal.main_arg0)
      ∧ m' ((c.tc : Thread Cert.UpdateSmallRefIdeal.nD Cert.UpdateSmallRefIdeal.τ).loc Cert.UpdateSmallRefIdeal.main_arg1) = m ((c.tc : Thread Cert.UpdateSmallIdeal.nD Cert.UpdateSmallIdeal.τ).loc Cert.UpdateSmallIdeal.main_arg1)
      ∧ m' ((c.tc : Thread Cert.UpdateSmallRefIdeal.nD Cert.UpdateSmallRefIdeal.τ).loc Cert.UpdateSmallRefIdeal.main_arg2) = m ((c.tc : Thread Cert.UpdateSmallIdeal.nD Cert.UpdateSmallIdeal.τ).loc Cert.UpdateSmallIdeal.main_arg2)
      ∧ m' ((c.tc : Thread Cert.UpdateSmallRefIdeal.nD Cert.UpdateSmallRefIdeal.τ).loc Cert.UpdateSmallRefIdeal.main_arg3) = m ((c.tc : Thread Cert.UpdateSmallIdeal.nD Cert.UpdateSmallIdeal.τ).loc Cert.UpdateSmallIdeal.main_arg3)) →
    ∃ (v0 : (c : Dev Cert.UpdateSmallIdeal.nD) → Buf (Elt Ideal) ((c.tc : Thread Cert.UpdateSmallIdeal.nD Cert.UpdateSmallIdeal.τ).loc Cert.UpdateSmallIdeal.main_v0_0)) (v1 : (c : Dev Cert.UpdateSmallIdeal.nD) → Buf (Elt Ideal) ((c.tc : Thread Cert.UpdateSmallIdeal.nD Cert.UpdateSmallIdeal.τ).loc Cert.UpdateSmallIdeal.main_v0_1)) (v2 : (c : Dev Cert.UpdateSmallIdeal.nD) → Buf (Elt Ideal) ((c.tc : Thread Cert.UpdateSmallIdeal.nD Cert.UpdateSmallIdeal.τ).loc Cert.UpdateSmallIdeal.main_v0_2)),
      θ_run (Cert.UpdateSmallIdeal.defs (F := Ideal)) (onTc (τ := Cert.UpdateSmallIdeal.τ) (Cert.UpdateSmallIdeal.main (F := Ideal))) ⟨m, fun _ => 0, g⟩ (fun r => ∀ c : Dev Cert.UpdateSmallIdeal.nD,
          r.2.mem ((c.tc : Thread Cert.UpdateSmallIdeal.nD Cert.UpdateSmallIdeal.τ).loc Cert.UpdateSmallIdeal.main_v0_0) = v0 c
          ∧ r.2.mem ((c.tc : Thread Cert.UpdateSmallIdeal.nD Cert.UpdateSmallIdeal.τ).loc Cert.UpdateSmallIdeal.main_v0_1) = v1 c
          ∧ r.2.mem ((c.tc : Thread Cert.UpdateSmallIdeal.nD Cert.UpdateSmallIdeal.τ).loc Cert.UpdateSmallIdeal.main_v0_2) = v2 c
          ∧ r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
          ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
          ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
          ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ θ_run (Cert.UpdateSmallRefIdeal.defs (F := Ideal)) (onTc (τ := Cert.UpdateSmallRefIdeal.τ) (Cert.UpdateSmallRefIdeal.main (F := Ideal))) ⟨m', fun _ => 0, g'⟩ (fun r => ∀ c : Dev Cert.UpdateSmallRefIdeal.nD,
          r.2.mem ((c.tc : Thread Cert.UpdateSmallRefIdeal.nD Cert.UpdateSmallRefIdeal.τ).loc Cert.UpdateSmallRefIdeal.main_v23) = v0 c
          ∧ r.2.mem ((c.tc : Thread Cert.UpdateSmallRefIdeal.nD Cert.UpdateSmallRefIdeal.τ).loc Cert.UpdateSmallRefIdeal.main_v4) = v1 c
          ∧ r.2.mem ((c.tc : Thread Cert.UpdateSmallRefIdeal.nD Cert.UpdateSmallRefIdeal.τ).loc Cert.UpdateSmallRefIdeal.main_v10) = v2 c
          ∧ r.2.mem ((c.tc : Thread Cert.UpdateSmallRefIdeal.nD Cert.UpdateSmallRefIdeal.τ).loc Cert.UpdateSmallRefIdeal.main_arg0) = m' ((c.tc : Thread Cert.UpdateSmallRefIdeal.nD Cert.UpdateSmallRefIdeal.τ).loc Cert.UpdateSmallRefIdeal.main_arg0)
          ∧ r.2.mem ((c.tc : Thread Cert.UpdateSmallRefIdeal.nD Cert.UpdateSmallRefIdeal.τ).loc Cert.UpdateSmallRefIdeal.main_arg1) = m' ((c.tc : Thread Cert.UpdateSmallRefIdeal.nD Cert.UpdateSmallRefIdeal.τ).loc Cert.UpdateSmallRefIdeal.main_arg1)
          ∧ r.2.mem ((c.tc : Thread Cert.UpdateSmallRefIdeal.nD Cert.UpdateSmallRefIdeal.τ).loc Cert.UpdateSmallRefIdeal.main_arg2) = m' ((c.tc : Thread Cert.UpdateSmallRefIdeal.nD Cert.UpdateSmallRefIdeal.τ).loc Cert.UpdateSmallRefIdeal.main_arg2)
          ∧ r.2.mem ((c.tc : Thread Cert.UpdateSmallRefIdeal.nD Cert.UpdateSmallRefIdeal.τ).loc Cert.UpdateSmallRefIdeal.main_arg3) = m' ((c.tc : Thread Cert.UpdateSmallRefIdeal.nD Cert.UpdateSmallRefIdeal.τ).loc Cert.UpdateSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v17) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v49) = v0 c
          ∧ r.2.mem ((c.tc : Thread Cert.LossRefIdeal.nD Cert.LossRefIdeal.τ).loc Cert.LossRefIdeal.main_v48) = v1 c
          ∧ r.2.mem ((c.tc : Thread Cert.LossRefIdeal.nD Cert.LossRefIdeal.τ).loc Cert.LossRefIdeal.main_v32) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_ConvBwd_ConvBwdIdeal : Prop :=
  True

def algebraic_ConvBwdIdeal_ConvBwdRefIdeal_pre_finite_conv [hConvBwdIdeal : Cert.ConvBwdIdeal.Facts] [hConvBwdRefIdeal : Cert.ConvBwdRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_finite_conv m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v76) = v0 c
          ∧ r.2.mem ((c.tc : Thread Cert.ConvBwdRefIdeal.nD Cert.ConvBwdRefIdeal.τ).loc Cert.ConvBwdRefIdeal.main_v72) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_LowerFwd_LowerFwdIdeal : Prop :=
  True

def algebraic_LowerFwdIdeal_LowerFwdRefIdeal_pre_finite_lower [hLowerFwdIdeal : Cert.LowerFwdIdeal.Facts] [hLowerFwdRefIdeal : Cert.LowerFwdRefIdeal.Facts] [hPre_finite_lower : Cert.Pre_finite_lower.Facts] : Prop :=
  ∀ (m : (ℓ : Loc Cert.LowerFwdIdeal.nD Cert.LowerFwdIdeal.τ Cert.LowerFwdIdeal.sig) → Buf (Elt Ideal) ℓ) (g : Dev Cert.LowerFwdIdeal.nD → PrngReg)
    (m' : (ℓ : Loc Cert.LowerFwdRefIdeal.nD Cert.LowerFwdRefIdeal.τ Cert.LowerFwdRefIdeal.sig) → Buf (Elt Ideal) ℓ) (g' : Dev Cert.LowerFwdRefIdeal.nD → PrngReg), Pre_LowerFwdIdeal_finite_lower m →
    (∀ c : Dev Cert.LowerFwdIdeal.nD,
      m' ((c.tc : Thread Cert.LowerFwdRefIdeal.nD Cert.LowerFwdRefIdeal.τ).loc Cert.LowerFwdRefIdeal.main_arg0) = m ((c.tc : Thread Cert.LowerFwdIdeal.nD Cert.LowerFwdIdeal.τ).loc Cert.LowerFwdIdeal.main_arg0)) →
    ∃ (v0 : (c : Dev Cert.LowerFwdIdeal.nD) → Buf (Elt Ideal) ((c.tc : Thread Cert.LowerFwdIdeal.nD Cert.LowerFwdIdeal.τ).loc Cert.LowerFwdIdeal.main_v0)),
      θ_run (Cert.LowerFwdIdeal.defs (F := Ideal)) (onTc (τ := Cert.LowerFwdIdeal.τ) (Cert.LowerFwdIdeal.main (F := Ideal))) ⟨m, fun _ => 0, g⟩ (fun r => ∀ c : Dev Cert.LowerFwdIdeal.nD,
          r.2.mem ((c.tc : Thread Cert.LowerFwdIdeal.nD Cert.LowerFwdIdeal.τ).loc Cert.LowerFwdIdeal.main_v0) = v0 c
          ∧ r.2.mem ((c.tc : Thread Cert.LowerFwdIdeal.nD Cert.LowerFwdIdeal.τ).loc Cert.LowerFwdIdeal.main_arg0) = m ((c.tc : Thread Cert.LowerFwdIdeal.nD Cert.LowerFwdIdeal.τ).loc Cert.LowerFwdIdeal.main_arg0))
      ∧ θ_run (Cert.LowerFwdRefIdeal.defs (F := Ideal)) (onTc (τ := Cert.LowerFwdRefIdeal.τ) (Cert.LowerFwdRefIdeal.main (F := Ideal))) ⟨m', fun _ => 0, g'⟩ (fun r => ∀ c : Dev Cert.LowerFwdRefIdeal.nD,
          r.2.mem ((c.tc : Thread Cert.LowerFwdRefIdeal.nD Cert.LowerFwdRefIdeal.τ).loc Cert.LowerFwdRefIdeal.main_v19) = v0 c
          ∧ r.2.mem ((c.tc : Thread Cert.LowerFwdRefIdeal.nD Cert.LowerFwdRefIdeal.τ).loc Cert.LowerFwdRefIdeal.main_arg0) = m' ((c.tc : Thread Cert.LowerFwdRefIdeal.nD Cert.LowerFwdRefIdeal.τ).loc Cert.LowerFwdRefIdeal.main_arg0))

def preserves_LowerBwd_LowerBwdIdeal : Prop :=
  True

def algebraic_LowerBwdIdeal_LowerBwdRefIdeal_pre_finite_lower_d [hLowerBwdIdeal : Cert.LowerBwdIdeal.Facts] [hLowerBwdRefIdeal : Cert.LowerBwdRefIdeal.Facts] [hPre_finite_lower_d : Cert.Pre_finite_lower_d.Facts] : Prop :=
  ∀ (m : (ℓ : Loc Cert.LowerBwdIdeal.nD Cert.LowerBwdIdeal.τ Cert.LowerBwdIdeal.sig) → Buf (Elt Ideal) ℓ) (g : Dev Cert.LowerBwdIdeal.nD → PrngReg)
    (m' : (ℓ : Loc Cert.LowerBwdRefIdeal.nD Cert.LowerBwdRefIdeal.τ Cert.LowerBwdRefIdeal.sig) → Buf (Elt Ideal) ℓ) (g' : Dev Cert.LowerBwdRefIdeal.nD → PrngReg), Pre_LowerBwdIdeal_finite_lower_d m →
    (∀ c : Dev Cert.LowerBwdIdeal.nD,
      m' ((c.tc : Thread Cert.LowerBwdRefIdeal.nD Cert.LowerBwdRefIdeal.τ).loc Cert.LowerBwdRefIdeal.main_arg0) = m ((c.tc : Thread Cert.LowerBwdIdeal.nD Cert.LowerBwdIdeal.τ).loc Cert.LowerBwdIdeal.main_arg0)
      ∧ m' ((c.tc : Thread Cert.LowerBwdRefIdeal.nD Cert.LowerBwdRefIdeal.τ).loc Cert.LowerBwdRefIdeal.main_arg1) = m ((c.tc : Thread Cert.LowerBwdIdeal.nD Cert.LowerBwdIdeal.τ).loc Cert.LowerBwdIdeal.main_arg1)) →
    ∃ (v0 : (c : Dev Cert.LowerBwdIdeal.nD) → Buf (Elt Ideal) ((c.tc : Thread Cert.LowerBwdIdeal.nD Cert.LowerBwdIdeal.τ).loc Cert.LowerBwdIdeal.main_v0)),
      θ_run (Cert.LowerBwdIdeal.defs (F := Ideal)) (onTc (τ := Cert.LowerBwdIdeal.τ) (Cert.LowerBwdIdeal.main (F := Ideal))) ⟨m, fun _ => 0, g⟩ (fun r => ∀ c : Dev Cert.LowerBwdIdeal.nD,
          r.2.mem ((c.tc : Thread Cert.LowerBwdIdeal.nD Cert.LowerBwdIdeal.τ).loc Cert.LowerBwdIdeal.main_v0) = v0 c
          ∧ r.2.mem ((c.tc : Thread Cert.LowerBwdIdeal.nD Cert.LowerBwdIdeal.τ).loc Cert.LowerBwdIdeal.main_arg0) = m ((c.tc : Thread Cert.LowerBwdIdeal.nD Cert.LowerBwdIdeal.τ).loc Cert.LowerBwdIdeal.main_arg0)
          ∧ r.2.mem ((c.tc : Thread Cert.LowerBwdIdeal.nD Cert.LowerBwdIdeal.τ).loc Cert.LowerBwdIdeal.main_arg1) = m ((c.tc : Thread Cert.LowerBwdIdeal.nD Cert.LowerBwdIdeal.τ).loc Cert.LowerBwdIdeal.main_arg1))
      ∧ θ_run (Cert.LowerBwdRefIdeal.defs (F := Ideal)) (onTc (τ := Cert.LowerBwdRefIdeal.τ) (Cert.LowerBwdRefIdeal.main (F := Ideal))) ⟨m', fun _ => 0, g'⟩ (fun r => ∀ c : Dev Cert.LowerBwdRefIdeal.nD,
          r.2.mem ((c.tc : Thread Cert.LowerBwdRefIdeal.nD Cert.LowerBwdRefIdeal.τ).loc Cert.LowerBwdRefIdeal.main_v60) = v0 c
          ∧ r.2.mem ((c.tc : Thread Cert.LowerBwdRefIdeal.nD Cert.LowerBwdRefIdeal.τ).loc Cert.LowerBwdRefIdeal.main_arg0) = m' ((c.tc : Thread Cert.LowerBwdRefIdeal.nD Cert.LowerBwdRefIdeal.τ).loc Cert.LowerBwdRefIdeal.main_arg0)
          ∧ r.2.mem ((c.tc : Thread Cert.LowerBwdRefIdeal.nD Cert.LowerBwdRefIdeal.τ).loc Cert.LowerBwdRefIdeal.main_arg1) = m' ((c.tc : Thread Cert.LowerBwdRefIdeal.nD Cert.LowerBwdRefIdeal.τ).loc Cert.LowerBwdRefIdeal.main_arg1))

def preserves_SumConv_SumConvIdeal : Prop :=
  True

def algebraic_SumConvIdeal_SumConvRefIdeal [hSumConvIdeal : Cert.SumConvIdeal.Facts] [hSumConvRefIdeal : Cert.SumConvRefIdeal.Facts] : Prop :=
  ∀ (m : (ℓ : Loc Cert.SumConvIdeal.nD Cert.SumConvIdeal.τ Cert.SumConvIdeal.sig) → Buf (Elt Ideal) ℓ) (g : Dev Cert.SumConvIdeal.nD → PrngReg)
    (m' : (ℓ : Loc Cert.SumConvRefIdeal.nD Cert.SumConvRefIdeal.τ Cert.SumConvRefIdeal.sig) → Buf (Elt Ideal) ℓ) (g' : Dev Cert.SumConvRefIdeal.nD → PrngReg), Pre_SumConvIdeal m →
    (∀ c : Dev Cert.SumConvIdeal.nD,
      m' ((c.tc : Thread Cert.SumConvRefIdeal.nD Cert.SumConvRefIdeal.τ).loc Cert.SumConvRefIdeal.main_arg0) = m ((c.tc : Thread Cert.SumConvIdeal.nD Cert.SumConvIdeal.τ).loc Cert.SumConvIdeal.main_arg0)) →
    ∃ (v0 : (c : Dev Cert.SumConvIdeal.nD) → Buf (Elt Ideal) ((c.tc : Thread Cert.SumConvIdeal.nD Cert.SumConvIdeal.τ).loc Cert.SumConvIdeal.main_v0)),
      θ_run (Cert.SumConvIdeal.defs (F := Ideal)) (onTc (τ := Cert.SumConvIdeal.τ) (Cert.SumConvIdeal.main (F := Ideal))) ⟨m, fun _ => 0, g⟩ (fun r => ∀ c : Dev Cert.SumConvIdeal.nD,
          r.2.mem ((c.tc : Thread Cert.SumConvIdeal.nD Cert.SumConvIdeal.τ).loc Cert.SumConvIdeal.main_v0) = v0 c
          ∧ r.2.mem ((c.tc : Thread Cert.SumConvIdeal.nD Cert.SumConvIdeal.τ).loc Cert.SumConvIdeal.main_arg0) = m ((c.tc : Thread Cert.SumConvIdeal.nD Cert.SumConvIdeal.τ).loc Cert.SumConvIdeal.main_arg0))
      ∧ θ_run (Cert.SumConvRefIdeal.defs (F := Ideal)) (onTc (τ := Cert.SumConvRefIdeal.τ) (Cert.SumConvRefIdeal.main (F := Ideal))) ⟨m', fun _ => 0, g'⟩ (fun r => ∀ c : Dev Cert.SumConvRefIdeal.nD,
          r.2.mem ((c.tc : Thread Cert.SumConvRefIdeal.nD Cert.SumConvRefIdeal.τ).loc Cert.SumConvRefIdeal.main_v0) = v0 c
          ∧ r.2.mem ((c.tc : Thread Cert.SumConvRefIdeal.nD Cert.SumConvRefIdeal.τ).loc Cert.SumConvRefIdeal.main_arg0) = m' ((c.tc : Thread Cert.SumConvRefIdeal.nD Cert.SumConvRefIdeal.τ).loc Cert.SumConvRefIdeal.main_arg0))

def Claim : Prop :=
  ∃ (hMerge : Cert.Merge.Facts) (hMergeIdeal : Cert.MergeIdeal.Facts) (hMergeRefIdeal : Cert.MergeRefIdeal.Facts) (hDh : Cert.Dh.Facts) (hDhIdeal : Cert.DhIdeal.Facts) (hDhRefIdeal : Cert.DhRefIdeal.Facts) (hDwA : Cert.DwA.Facts) (hDwAIdeal : Cert.DwAIdeal.Facts) (hDwARefIdeal : Cert.DwARefIdeal.Facts) (hDwC : Cert.DwC.Facts) (hDwCIdeal : Cert.DwCIdeal.Facts) (hDwCRefIdeal : Cert.DwCRefIdeal.Facts) (hDwG : Cert.DwG.Facts) (hDwGIdeal : Cert.DwGIdeal.Facts) (hDwGRefIdeal : Cert.DwGRefIdeal.Facts) (hProjA : Cert.ProjA.Facts) (hProjAIdeal : Cert.ProjAIdeal.Facts) (hProjARefIdeal : Cert.ProjARefIdeal.Facts) (hProjC : Cert.ProjC.Facts) (hProjCIdeal : Cert.ProjCIdeal.Facts) (hProjCRefIdeal : Cert.ProjCRefIdeal.Facts) (hProjG : Cert.ProjG.Facts) (hProjGIdeal : Cert.ProjGIdeal.Facts) (hProjGRefIdeal : Cert.ProjGRefIdeal.Facts) (hDwO : Cert.DwO.Facts) (hDwOIdeal : Cert.DwOIdeal.Facts) (hDwORefIdeal : Cert.DwORefIdeal.Facts) (hDwOutA : Cert.DwOutA.Facts) (hDwOutAIdeal : Cert.DwOutAIdeal.Facts) (hDwOutARefIdeal : Cert.DwOutARefIdeal.Facts) (hDwOutC : Cert.DwOutC.Facts) (hDwOutCIdeal : Cert.DwOutCIdeal.Facts) (hDwOutCRefIdeal : Cert.DwOutCRefIdeal.Facts) (hDuA : Cert.DuA.Facts) (hDuAIdeal : Cert.DuAIdeal.Facts) (hDuARefIdeal : Cert.DuARefIdeal.Facts) (hDuC : Cert.DuC.Facts) (hDuCIdeal : Cert.DuCIdeal.Facts) (hDuCRefIdeal : Cert.DuCRefIdeal.Facts) (hOutA : Cert.OutA.Facts) (hOutAIdeal : Cert.OutAIdeal.Facts) (hOutARefIdeal : Cert.OutARefIdeal.Facts) (hOutC : Cert.OutC.Facts) (hOutCIdeal : Cert.OutCIdeal.Facts) (hOutCRefIdeal : Cert.OutCRefIdeal.Facts) (hMergeFwd : Cert.MergeFwd.Facts) (hMergeFwdIdeal : Cert.MergeFwdIdeal.Facts) (hMergeFwdRefIdeal : Cert.MergeFwdRefIdeal.Facts) (hConvFwd : Cert.ConvFwd.Facts) (hConvFwdIdeal : Cert.ConvFwdIdeal.Facts) (hConvFwdRefIdeal : Cert.ConvFwdRefIdeal.Facts) (hNormFwd : Cert.NormFwd.Facts) (hNormFwdIdeal : Cert.NormFwdIdeal.Facts) (hNormFwdRefIdeal : Cert.NormFwdRefIdeal.Facts) (hUpdateIn : Cert.UpdateIn.Facts) (hUpdateInIdeal : Cert.UpdateInIdeal.Facts) (hUpdateInRefIdeal : Cert.UpdateInRefIdeal.Facts) (hUpdateA : Cert.UpdateA.Facts) (hUpdateAIdeal : Cert.UpdateAIdeal.Facts) (hUpdateARefIdeal : Cert.UpdateARefIdeal.Facts) (hUpdateC : Cert.UpdateC.Facts) (hUpdateCIdeal : Cert.UpdateCIdeal.Facts) (hUpdateCRefIdeal : Cert.UpdateCRefIdeal.Facts) (hUpdateSmall : Cert.UpdateSmall.Facts) (hUpdateSmallIdeal : Cert.UpdateSmallIdeal.Facts) (hUpdateSmallRefIdeal : Cert.UpdateSmallRefIdeal.Facts) (hSumSmall : Cert.SumSmall.Facts) (hSumSmallIdeal : Cert.SumSmallIdeal.Facts) (hSumSmallRefIdeal : Cert.SumSmallRefIdeal.Facts) (hNormBwd : Cert.NormBwd.Facts) (hNormBwdIdeal : Cert.NormBwdIdeal.Facts) (hNormBwdRefIdeal : Cert.NormBwdRefIdeal.Facts) (hLoss : Cert.Loss.Facts) (hLossIdeal : Cert.LossIdeal.Facts) (hLossRefIdeal : Cert.LossRefIdeal.Facts) (hConvBwd : Cert.ConvBwd.Facts) (hConvBwdIdeal : Cert.ConvBwdIdeal.Facts) (hConvBwdRefIdeal : Cert.ConvBwdRefIdeal.Facts) (hLowerFwd : Cert.LowerFwd.Facts) (hLowerFwdIdeal : Cert.LowerFwdIdeal.Facts) (hLowerFwdRefIdeal : Cert.LowerFwdRefIdeal.Facts) (hLowerBwd : Cert.LowerBwd.Facts) (hLowerBwdIdeal : Cert.LowerBwdIdeal.Facts) (hLowerBwdRefIdeal : Cert.LowerBwdRefIdeal.Facts) (hSumConv : Cert.SumConv.Facts) (hSumConvIdeal : Cert.SumConvIdeal.Facts) (hSumConvRefIdeal : Cert.SumConvRefIdeal.Facts) (hPre_finite_conv : Cert.Pre_finite_conv.Facts) (hPre_finite_lower : Cert.Pre_finite_lower.Facts) (hPre_finite_lower_d : Cert.Pre_finite_lower_d.Facts),
    quiescent_Merge (hMerge := hMerge)
    ∧ quiescent_MergeIdeal (hMergeIdeal := hMergeIdeal)
    ∧ quiescent_MergeRefIdeal (hMergeRefIdeal := hMergeRefIdeal)
    ∧ quiescent_Dh (hDh := hDh)
    ∧ quiescent_DhIdeal (hDhIdeal := hDhIdeal)
    ∧ quiescent_DhRefIdeal (hDhRefIdeal := hDhRefIdeal)
    ∧ quiescent_DwA (hDwA := hDwA)
    ∧ quiescent_DwAIdeal (hDwAIdeal := hDwAIdeal)
    ∧ quiescent_DwARefIdeal (hDwARefIdeal := hDwARefIdeal)
    ∧ quiescent_DwC (hDwC := hDwC)
    ∧ quiescent_DwCIdeal (hDwCIdeal := hDwCIdeal)
    ∧ quiescent_DwCRefIdeal (hDwCRefIdeal := hDwCRefIdeal)
    ∧ quiescent_DwG (hDwG := hDwG)
    ∧ quiescent_DwGIdeal (hDwGIdeal := hDwGIdeal)
    ∧ quiescent_DwGRefIdeal (hDwGRefIdeal := hDwGRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_ProjG (hProjG := hProjG)
    ∧ quiescent_ProjGIdeal (hProjGIdeal := hProjGIdeal)
    ∧ quiescent_ProjGRefIdeal (hProjGRefIdeal := hProjGRefIdeal)
    ∧ quiescent_DwO (hDwO := hDwO)
    ∧ quiescent_DwOIdeal (hDwOIdeal := hDwOIdeal)
    ∧ quiescent_DwORefIdeal (hDwORefIdeal := hDwORefIdeal)
    ∧ quiescent_DwOutA (hDwOutA := hDwOutA)
    ∧ quiescent_DwOutAIdeal (hDwOutAIdeal := hDwOutAIdeal)
    ∧ quiescent_DwOutARefIdeal (hDwOutARefIdeal := hDwOutARefIdeal)
    ∧ quiescent_DwOutC (hDwOutC := hDwOutC)
    ∧ quiescent_DwOutCIdeal (hDwOutCIdeal := hDwOutCIdeal)
    ∧ quiescent_DwOutCRefIdeal (hDwOutCRefIdeal := hDwOutCRefIdeal)
    ∧ quiescent_DuA (hDuA := hDuA)
    ∧ quiescent_DuAIdeal (hDuAIdeal := hDuAIdeal)
    ∧ quiescent_DuARefIdeal (hDuARefIdeal := hDuARefIdeal)
    ∧ quiescent_DuC (hDuC := hDuC)
    ∧ quiescent_DuCIdeal (hDuCIdeal := hDuCIdeal)
    ∧ quiescent_DuCRefIdeal (hDuCRefIdeal := hDuCRefIdeal)
    ∧ quiescent_OutA (hOutA := hOutA)
    ∧ quiescent_OutAIdeal (hOutAIdeal := hOutAIdeal)
    ∧ quiescent_OutARefIdeal (hOutARefIdeal := hOutARefIdeal)
    ∧ quiescent_OutC (hOutC := hOutC)
    ∧ quiescent_OutCIdeal (hOutCIdeal := hOutCIdeal)
    ∧ quiescent_OutCRefIdeal (hOutCRefIdeal := hOutCRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_UpdateIn (hUpdateIn := hUpdateIn)
    ∧ quiescent_UpdateInIdeal (hUpdateInIdeal := hUpdateInIdeal)
    ∧ quiescent_UpdateInRefIdeal (hUpdateInRefIdeal := hUpdateInRefIdeal)
    ∧ quiescent_UpdateA (hUpdateA := hUpdateA)
    ∧ quiescent_UpdateAIdeal (hUpdateAIdeal := hUpdateAIdeal)
    ∧ quiescent_UpdateARefIdeal (hUpdateARefIdeal := hUpdateARefIdeal)
    ∧ quiescent_UpdateC (hUpdateC := hUpdateC)
    ∧ quiescent_UpdateCIdeal (hUpdateCIdeal := hUpdateCIdeal)
    ∧ quiescent_UpdateCRefIdeal (hUpdateCRefIdeal := hUpdateCRefIdeal)
    ∧ quiescent_UpdateSmall (hUpdateSmall := hUpdateSmall)
    ∧ quiescent_UpdateSmallIdeal (hUpdateSmallIdeal := hUpdateSmallIdeal)
    ∧ quiescent_UpdateSmallRefIdeal (hUpdateSmallRefIdeal := hUpdateSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Loss (hLoss := hLoss)
    ∧ quiescent_LossIdeal (hLossIdeal := hLossIdeal)
    ∧ quiescent_LossRefIdeal (hLossRefIdeal := hLossRefIdeal)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvBwdRefIdeal (hConvBwdRefIdeal := hConvBwdRefIdeal)
    ∧ quiescent_ConvBwdRefIdeal_pre_finite_conv (hConvBwdRefIdeal := hConvBwdRefIdeal) (hPre_finite_conv := hPre_finite_conv)
    ∧ quiescent_LowerFwd (hLowerFwd := hLowerFwd)
    ∧ quiescent_LowerFwdIdeal (hLowerFwdIdeal := hLowerFwdIdeal)
    ∧ quiescent_LowerFwdIdeal_pre_finite_lower (hLowerFwdIdeal := hLowerFwdIdeal) (hPre_finite_lower := hPre_finite_lower)
    ∧ quiescent_LowerFwdRefIdeal (hLowerFwdRefIdeal := hLowerFwdRefIdeal)
    ∧ quiescent_LowerFwdRefIdeal_pre_finite_lower (hLowerFwdRefIdeal := hLowerFwdRefIdeal) (hPre_finite_lower := hPre_finite_lower)
    ∧ quiescent_LowerBwd (hLowerBwd := hLowerBwd)
    ∧ quiescent_LowerBwdIdeal (hLowerBwdIdeal := hLowerBwdIdeal)
    ∧ quiescent_LowerBwdIdeal_pre_finite_lower_d (hLowerBwdIdeal := hLowerBwdIdeal) (hPre_finite_lower_d := hPre_finite_lower_d)
    ∧ quiescent_LowerBwdRefIdeal (hLowerBwdRefIdeal := hLowerBwdRefIdeal)
    ∧ quiescent_LowerBwdRefIdeal_pre_finite_lower_d (hLowerBwdRefIdeal := hLowerBwdRefIdeal) (hPre_finite_lower_d := hPre_finite_lower_d)
    ∧ quiescent_SumConv (hSumConv := hSumConv)
    ∧ quiescent_SumConvIdeal (hSumConvIdeal := hSumConvIdeal)
    ∧ quiescent_SumConvRefIdeal (hSumConvRefIdeal := hSumConvRefIdeal)
    ∧ preserves_Merge_MergeIdeal
    ∧ algebraic_MergeIdeal_MergeRefIdeal (hMergeIdeal := hMergeIdeal) (hMergeRefIdeal := hMergeRefIdeal)
    ∧ preserves_Dh_DhIdeal
    ∧ algebraic_DhIdeal_DhRefIdeal (hDhIdeal := hDhIdeal) (hDhRefIdeal := hDhRefIdeal)
    ∧ preserves_DwA_DwAIdeal
    ∧ algebraic_DwAIdeal_DwARefIdeal (hDwAIdeal := hDwAIdeal) (hDwARefIdeal := hDwARefIdeal)
    ∧ preserves_DwC_DwCIdeal
    ∧ algebraic_DwCIdeal_DwCRefIdeal (hDwCIdeal := hDwCIdeal) (hDwCRefIdeal := hDwCRefIdeal)
    ∧ preserves_DwG_DwGIdeal
    ∧ algebraic_DwGIdeal_DwGRefIdeal (hDwGIdeal := hDwGIdeal) (hDwGRefIdeal := hDwGRefIdeal)
    ∧ preserves_ProjA_ProjAIdeal
    ∧ algebraic_ProjAIdeal_ProjARefIdeal (hProjAIdeal := hProjAIdeal) (hProjARefIdeal := hProjARefIdeal)
    ∧ preserves_ProjC_ProjCIdeal
    ∧ algebraic_ProjCIdeal_ProjCRefIdeal (hProjCIdeal := hProjCIdeal) (hProjCRefIdeal := hProjCRefIdeal)
    ∧ preserves_ProjG_ProjGIdeal
    ∧ algebraic_ProjGIdeal_ProjGRefIdeal (hProjGIdeal := hProjGIdeal) (hProjGRefIdeal := hProjGRefIdeal)
    ∧ preserves_DwO_DwOIdeal
    ∧ algebraic_DwOIdeal_DwORefIdeal (hDwOIdeal := hDwOIdeal) (hDwORefIdeal := hDwORefIdeal)
    ∧ preserves_DwOutA_DwOutAIdeal
    ∧ algebraic_DwOutAIdeal_DwOutARefIdeal (hDwOutAIdeal := hDwOutAIdeal) (hDwOutARefIdeal := hDwOutARefIdeal)
    ∧ preserves_DwOutC_DwOutCIdeal
    ∧ algebraic_DwOutCIdeal_DwOutCRefIdeal (hDwOutCIdeal := hDwOutCIdeal) (hDwOutCRefIdeal := hDwOutCRefIdeal)
    ∧ preserves_DuA_DuAIdeal
    ∧ algebraic_DuAIdeal_DuARefIdeal (hDuAIdeal := hDuAIdeal) (hDuARefIdeal := hDuARefIdeal)
    ∧ preserves_DuC_DuCIdeal
    ∧ algebraic_DuCIdeal_DuCRefIdeal (hDuCIdeal := hDuCIdeal) (hDuCRefIdeal := hDuCRefIdeal)
    ∧ preserves_OutA_OutAIdeal
    ∧ algebraic_OutAIdeal_OutARefIdeal (hOutAIdeal := hOutAIdeal) (hOutARefIdeal := hOutARefIdeal)
    ∧ preserves_OutC_OutCIdeal
    ∧ algebraic_OutCIdeal_OutCRefIdeal (hOutCIdeal := hOutCIdeal) (hOutCRefIdeal := hOutCRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_UpdateIn_UpdateInIdeal
    ∧ algebraic_UpdateInIdeal_UpdateInRefIdeal (hUpdateInIdeal := hUpdateInIdeal) (hUpdateInRefIdeal := hUpdateInRefIdeal)
    ∧ preserves_UpdateA_UpdateAIdeal
    ∧ algebraic_UpdateAIdeal_UpdateARefIdeal (hUpdateAIdeal := hUpdateAIdeal) (hUpdateARefIdeal := hUpdateARefIdeal)
    ∧ preserves_UpdateC_UpdateCIdeal
    ∧ algebraic_UpdateCIdeal_UpdateCRefIdeal (hUpdateCIdeal := hUpdateCIdeal) (hUpdateCRefIdeal := hUpdateCRefIdeal)
    ∧ preserves_UpdateSmall_UpdateSmallIdeal
    ∧ algebraic_UpdateSmallIdeal_UpdateSmallRefIdeal (hUpdateSmallIdeal := hUpdateSmallIdeal) (hUpdateSmallRefIdeal := hUpdateSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_NormBwd_NormBwdIdeal
    ∧ algebraic_NormBwdIdeal_NormBwdRefIdeal (hNormBwdIdeal := hNormBwdIdeal) (hNormBwdRefIdeal := hNormBwdRefIdeal)
    ∧ preserves_Loss_LossIdeal
    ∧ algebraic_LossIdeal_LossRefIdeal (hLossIdeal := hLossIdeal) (hLossRefIdeal := hLossRefIdeal)
    ∧ preserves_ConvBwd_ConvBwdIdeal
    ∧ algebraic_ConvBwdIdeal_ConvBwdRefIdeal_pre_finite_conv (hConvBwdIdeal := hConvBwdIdeal) (hConvBwdRefIdeal := hConvBwdRefIdeal) (hPre_finite_conv := hPre_finite_conv)
    ∧ preserves_LowerFwd_LowerFwdIdeal
    ∧ algebraic_LowerFwdIdeal_LowerFwdRefIdeal_pre_finite_lower (hLowerFwdIdeal := hLowerFwdIdeal) (hLowerFwdRefIdeal := hLowerFwdRefIdeal) (hPre_finite_lower := hPre_finite_lower)
    ∧ preserves_LowerBwd_LowerBwdIdeal
    ∧ algebraic_LowerBwdIdeal_LowerBwdRefIdeal_pre_finite_lower_d (hLowerBwdIdeal := hLowerBwdIdeal) (hLowerBwdRefIdeal := hLowerBwdRefIdeal) (hPre_finite_lower_d := hPre_finite_lower_d)
    ∧ preserves_SumConv_SumConvIdeal
    ∧ algebraic_SumConvIdeal_SumConvRefIdeal (hSumConvIdeal := hSumConvIdeal) (hSumConvRefIdeal := hSumConvRefIdeal)
-- ==== Pre_finite_conv.lean ====
abbrev S8192x2048 : Shape := ⟨2, ![8192, 2048]⟩
abbrev S3x512 : Shape := ⟨2, ![3, 512]⟩
abbrev S8192x512 : Shape := ⟨2, ![8192, 512]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S3x512 : S_.BroadcastsInDim S3x512 (![] : Fin 0 → Fin S3x512.rank)
  reducesTo_S3x512_S_d0_1 : S3x512.ReducesTo [0, 1] S_
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x2048 .f32) (main_arg1 : FVec F S3x512 .f32) (main_arg2 : FVec F S8192x512 .bf16) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S3x512 .f32 := Host.absf main_arg1
  let main_cst_0 : FVec F S_ .f32 := constant S_ .f32 0x7F800000#32
  let main_v5 : FVec F S3x512 .f32 := broadcastInDim S3x512 ![] bcast_S_S3x512 main_cst_0
  let main_v6 : IVec S3x512 1 := cmpf .olt main_v4 main_v5
  let main_c_1 : IVec S_ 1 := constantI S_ 1 1#1
  let main_v7 : IVec S_ 1 := (fun x v => Host.reduce IntOp.andi x v reducesTo_S3x512_S_d0_1 h_S_) main_v6 main_c_1
  let main_v8 : IVec S_ 1 := andi main_v3 main_v7
  let main_v9 : FVec F S8192x512 .f32 := (extf .f32 · bitsLt_bf16_f32) main_arg2
  let main_v10 : FVec F S8192x512 .f32 := Host.absf main_v9
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_c_3 : IVec S_ 1 := constantI S_ 1 1#1
  let main_v13 : IVec S_ 1 := (fun x v => Host.reduce IntOp.andi x v reducesTo_S8192x512_S_d0_1 h_S_) main_v12 main_c_3
  let main_v14 : IVec S_ 1 := andi main_v8 main_v13
  main_v14
-- ==== Pre_finite_lower.lean ====
abbrev S8x512 : Shape := ⟨2, ![8, 512]⟩
abbrev S2x512 : Shape := ⟨2, ![2, 512]⟩
abbrev S_ : Shape := ⟨0, ![]⟩

class Facts : Prop where
  slices_S8x512_S2x512_0_0 : S8x512.Slices ![0, 0] S2x512
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S8x512 .f32) : IVec S_ 1 :=
  let main_v0 : FVec F S2x512 .f32 := (extractStridedSlice S2x512 ![0, 0] · slices_S8x512_S2x512_0_0) main_arg0
  let main_v1 : FVec F S2x512 .f32 := Host.absf main_v0
  let main_cst : FVec F S_ .f32 := constant S_ .f32 0x7F800000#32
  let main_v2 : FVec F S2x512 .f32 := broadcastInDim S2x512 ![] bcast_S_S2x512 main_cst
  let main_v3 : IVec S2x512 1 := cmpf .olt main_v1 main_v2
  let main_c : IVec S_ 1 := constantI S_ 1 1#1
  let main_v4 : IVec S_ 1 := (fun x v => Host.reduce IntOp.andi x v reducesTo_S2x512_S_d0_1 h_S_) main_v3 main_c
  main_v4
-- ==== Pre_finite_lower_d.lean ====
abbrev S8x512 : Shape := ⟨2, ![8, 512]⟩
abbrev S2x512 : Shape := ⟨2, ![2, 512]⟩
abbrev S_ : Shape := ⟨0, ![]⟩

class Facts : Prop where
  slices_S8x512_S2x512_0_0 : S8x512.Slices ![0, 0] S2x512
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S8x512 .f32) (main_arg1 : FVec F S8x512 .f32) : IVec S_ 1 :=
  let main_v0 : FVec F S2x512 .f32 := (extractStridedSlice S2x512 ![0, 0] · slices_S8x512_S2x512_0_0) main_arg1
  let main_v1 : FVec F S2x512 .f32 := Host.absf main_v0
  let main_cst : FVec F S_ .f32 := constant S_ .f32 0x7F800000#32
  let main_v2 : FVec F S2x512 .f32 := broadcastInDim S2x512 ![] bcast_S_S2x512 main_cst
  let main_v3 : IVec S2x512 1 := cmpf .olt main_v1 main_v2
  let main_c : IVec S_ 1 := constantI S_ 1 1#1
  let main_v4 : IVec S_ 1 := (fun x v => Host.reduce IntOp.andi x v reducesTo_S2x512_S_d0_1 h_S_) main_v3 main_c
  main_v4
-- ==== Merge.lean ====
abbrev S8192x1024 : Shape := ⟨2, ![8192, 1024]⟩
abbrev S1024x1024 : Shape := ⟨2, ![1024, 1024]⟩
abbrev S8192x3072 : Shape := ⟨2, ![8192, 3072]⟩
abbrev S1x3072 : Shape := ⟨2, ![1, 3072]⟩
abbrev S512x1024 : Shape := ⟨2, ![512, 1024]⟩
abbrev S512x3072 : Shape := ⟨2, ![512, 3072]⟩
abbrev S1x1024 : Shape := ⟨2, ![1, 1024]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x3072, .bf16⟩
  | .hbm, ⟨3, _⟩ => ⟨S1x3072, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x3072, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S1x3072, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x3072, .bf16⟩
  | .local _ .vmem, ⟨4, _⟩ => ⟨S512x3072, .bf16⟩
  | .local _ .vmem, ⟨5, _⟩ => ⟨S1x3072, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x3072, .bf16⟩
  | .local _ .vmem, ⟨13, _⟩ => ⟨S512x3072, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MergeRefIdeal.lean ====
abbrev S8192x1024 : Shape := ⟨2, ![8192, 1024]⟩
abbrev S1024x1024 : Shape := ⟨2, ![1024, 1024]⟩
abbrev S8192x3072 : Shape := ⟨2, ![8192, 3072]⟩
abbrev S1x3072 : Shape := ⟨2, ![1, 3072]⟩
abbrev S_ : Shape := ⟨0, ![]⟩
abbrev S8192x3x1024 : Shape := ⟨3, ![8192, 3, 1024]⟩
abbrev S8192x1x1024 : Shape := ⟨3, ![8192, 1, 1024]⟩
abbrev S3072 : Shape := ⟨1, ![3072]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x3072, .bf16⟩
  | .hbm, ⟨3, _⟩ => ⟨S1x3072, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x1024, .f32⟩
  | .hbm, ⟨38, _⟩ => ⟨S8192x1024, .f32⟩
  | .hbm, ⟨39, _⟩ => ⟨S1024x1024, .f32⟩
  | .hbm, ⟨40, _⟩ => ⟨S1024x1024, .f32⟩
  | .hbm, ⟨41, _⟩ => ⟨S8192x1024, .f32⟩
  | .hbm, ⟨42, _⟩ => ⟨S1024x1024, .bf16⟩
  | .hbm, ⟨43, _⟩ => ⟨S8192x1024, .f32⟩
  | .hbm, ⟨44, _⟩ => ⟨S8192x1024, .f32⟩
  | .hbm, ⟨45, _⟩ => ⟨S8192x1x1024, .f32⟩
  | .hbm, ⟨46, _⟩ => ⟨S_, .f32⟩
  | .hbm, ⟨47, _⟩ => ⟨S8192x3x1024, .f32⟩
  | .hbm, ⟨48, _⟩ => ⟨S8192x1024, .f32⟩
  | .hbm, ⟨49, _⟩ => ⟨S8192x1024, .f32⟩
  | .hbm, ⟨50, _⟩ => ⟨S8192x1x1024, .f32⟩
  | .hbm, ⟨51, _⟩ => ⟨S_, .f32⟩
  | .hbm, ⟨52, _⟩ => ⟨S8192x3x1024, .f32⟩
  | .hbm, ⟨53, _⟩ => ⟨S8192x3x1024, .f32⟩
  | .hbm, ⟨54, _⟩ => ⟨S8192x1024, .f32⟩
  | .hbm, ⟨55, _⟩ => ⟨S8192x1024, .f32⟩
  | .hbm, ⟨56, _⟩ => ⟨S8192x1x1024, .f32⟩
  | .hbm, ⟨57, _⟩ => ⟨S_, .f32⟩
  | .hbm, ⟨58, _⟩ => ⟨S8192x3x1024, .f32⟩
  | .hbm, ⟨59, _⟩ => ⟨S8192x3x1024, .f32⟩
  | .hbm, ⟨60, _⟩ => ⟨S8192x1024, .bf16⟩
  | .hbm, ⟨61, _⟩ => ⟨S8192x1024, .bf16⟩
  | .hbm, ⟨62, _⟩ => ⟨S8192x1024, .bf16⟩
  | .hbm, ⟨63, _⟩ => ⟨S8192x3072, .f32⟩
  | .hbm, ⟨64, _⟩ => ⟨S8192x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Dh.lean ====
abbrev S8192x2048 : Shape := ⟨2, ![8192, 2048]⟩
abbrev S1024x2048 : Shape := ⟨2, ![1024, 2048]⟩
abbrev S8192x3584 : Shape := ⟨2, ![8192, 3584]⟩
abbrev S1024x3584 : Shape := ⟨2, ![1024, 3584]⟩
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩
abbrev S1024x896 : Shape := ⟨2, ![1024, 896]⟩

abbrev nBuf : Space → Nat
  | .hbm => 9
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .bf16⟩
  | .hbm, ⟨3, _⟩ => ⟨S1024x2048, .bf16⟩
  | .hbm, ⟨4, _⟩ => ⟨S8192x3584, .bf16⟩
  | .hbm, ⟨5, _⟩ => ⟨S1024x3584, .bf16⟩
  | .hbm, ⟨6, _⟩ => ⟨S8192x3072, .bf16⟩
  | .hbm, ⟨7, _⟩ => ⟨S1024x3072, .bf16⟩
  | .hbm, ⟨8, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x896, .bf16⟩
  | .local _ .vmem, ⟨9, _⟩ => ⟨S1024x896, .bf16⟩
  | .local _ .vmem, ⟨10, _⟩ => ⟨S1024x896, .bf16⟩
  | .local _ .vmem, ⟨11, _⟩ => ⟨S1024x896, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 1, 11], ![false, false, false]⟩

def k0_cond6 (i : grid0.Coords) : BitVec 1 :=
  let arg2 : BitVec 32 := BitVec.ofNat 32 (i 2).val
  let c10_i32 : BitVec 32 := 10#32
  let v23 : BitVec 1 := Scalar.cmpi .eq arg2 c10_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== DhRefIdeal.lean ====
abbrev S8192x2048 : Shape := ⟨2, ![8192, 2048]⟩
abbrev S1024x2048 : Shape := ⟨2, ![1024, 2048]⟩
abbrev S8192x3584 : Shape := ⟨2, ![8192, 3584]⟩
abbrev S1024x3584 : Shape := ⟨2, ![1024, 3584]⟩
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .bf16⟩
  | .hbm, ⟨3, _⟩ => ⟨S1024x2048, .bf16⟩
  | .hbm, ⟨4, _⟩ => ⟨S8192x3584, .bf16⟩
  | .hbm, ⟨5, _⟩ => ⟨S1024x3584, .bf16⟩
  | .hbm, ⟨6, _⟩ => ⟨S8192x3072, .bf16⟩
  | .hbm, ⟨7, _⟩ => ⟨S1024x3072, .bf16⟩
  | .hbm, ⟨8, _⟩ => ⟨S1024x2048, .f32⟩
  | .hbm, ⟨9, _⟩ => ⟨S1024x2048, .f32⟩
  | .hbm, ⟨10, _⟩ => ⟨S1024x3584, .f32⟩
  | .hbm, ⟨11, _⟩ => ⟨S1024x3072, .f32⟩
  | .hbm, ⟨12, _⟩ => ⟨S8192x2048, .f32⟩
  | .hbm, ⟨13, _⟩ => ⟨S8192x2048, .f32⟩
  | .hbm, ⟨14, _⟩ => ⟨S8192x3584, .f32⟩
  | .hbm, ⟨15, _⟩ => ⟨S8192x3072, .f32⟩
  | .hbm, ⟨16, _⟩ => ⟨S_, .f32⟩
  | .hbm, ⟨17, _⟩ => ⟨S8192x1024, .f32⟩
  | .hbm, ⟨18, _⟩ => ⟨S8192x2048, .f32⟩
  | .hbm, ⟨19, _⟩ => ⟨S8192x2048, .f32⟩
  | .hbm, ⟨20, _⟩ => ⟨S8192x3584, .f32⟩
  | .hbm, ⟨21, _⟩ => ⟨S8192x3072, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== DwA.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwAIdeal.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwARefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .bf16⟩
  | .hbm, ⟨3, _⟩ => ⟨S1024x2048, .bf16⟩
  | .hbm, ⟨4, _⟩ => ⟨S8192x1024, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwC.lean ====
abbrev S8192x1024 : Shape := ⟨2, ![8192, 1024]⟩
abbrev S8192x3584 : Shape := ⟨2, ![8192, 3584]⟩
abbrev S1024x3584 : Shape := ⟨2, ![1024, 3584]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S1024x3584, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwCIdeal.lean ====
abbrev S8192x1024 : Shape := ⟨2, ![8192, 1024]⟩
abbrev S8192x3584 : Shape := ⟨2, ![8192, 3584]⟩
abbrev S1024x3584 : Shape := ⟨2, ![1024, 3584]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S1024x3584, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwCRefIdeal.lean ====
abbrev S8192x1024 : Shape := ⟨2, ![8192, 1024]⟩
abbrev S8192x3584 : Shape := ⟨2, ![8192, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S_, .bf16⟩
  | .hbm, ⟨3, _⟩ => ⟨S1024x3584, .bf16⟩
  | .hbm, ⟨4, _⟩ => ⟨S8192x1024, .f32⟩
  | .hbm, ⟨5, _⟩ => ⟨S1024x3584, .f32⟩
  | .hbm, ⟨6, _⟩ => ⟨S8192x3584, .f32⟩
  | .hbm, ⟨7, _⟩ => ⟨S8192x3584, .f32⟩
  | .hbm, ⟨8, _⟩ => ⟨S3584x1024, .f32⟩
  | .hbm, ⟨9, _⟩ => ⟨S1024x3584, .f32⟩
  | .hbm, ⟨10, _⟩ => ⟨S1024x3584, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwG.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGIdeal.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .bf16⟩
  | .hbm, ⟨3, _⟩ => ⟨S1024x3072, .bf16⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjA.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAIdeal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjC.lean ====
abbrev S8192x1024 : Shape := ⟨2, ![8192, 1024]⟩
abbrev S1024x3584 : Shape := ⟨2, ![1024, 3584]⟩
abbrev S8192x3584 : Shape := ⟨2, ![8192, 3584]⟩
abbrev S2048x1024 : Shape := ⟨2, ![2048, 1024]⟩
abbrev S1024x896 : Shape := ⟨2, ![1024, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x3584, .f32⟩
  | .local _ .vmem, ⟨0, _⟩ => ⟨S2048x1024, .bf16⟩
  | .local _ .vmem, ⟨1, _⟩ => ⟨S2048x1024, .bf16⟩
  | .local _ .vmem, ⟨2, _⟩ => ⟨S1024x896, .bf16⟩
  | .local _ .vmem, ⟨3, _⟩ => ⟨S1024x896, .bf16⟩
  | .local _ .vmem, ⟨4, _⟩ => ⟨S2048x896, .f32⟩
  | .local _ .vmem, ⟨5, _⟩ => ⟨S2048x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCRefIdeal.lean ====
abbrev S8192x1024 : Shape := ⟨2, ![8192, 1024]⟩
abbrev S1024x3584 : Shape := ⟨2, ![1024, 3584]⟩
abbrev S8192x3584 : Shape := ⟨2, ![8192, 3584]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x1024, .f32⟩
  | .hbm, ⟨3, _⟩ => ⟨S1024x3584, .f32⟩
  | .hbm, ⟨4, _⟩ => ⟨S8192x3584, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjG.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGIdeal.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwO.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwORefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .bf16⟩
  | .hbm, ⟨3, _⟩ => ⟨S1024x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOutA.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutAIdeal.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutARefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .bf16⟩
  | .hbm, ⟨3, _⟩ => ⟨S512x1024, .bf16⟩
  | .hbm, ⟨4, _⟩ => ⟨S8192x512, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwOutC.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutCRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .bf16⟩
  | .hbm, ⟨3, _⟩ => ⟨S1024x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DuA.lean ====
abbrev S8192x1024 : Shape := ⟨2, ![8192, 1024]⟩
abbrev S512x1024 : Shape := ⟨2, ![512, 1024]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuAIdeal.lean ====
abbrev S8192x1024 : Shape := ⟨2, ![8192, 1024]⟩
abbrev S512x1024 : Shape := ⟨2, ![512, 1024]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuARefIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .bf16⟩
  | .hbm, ⟨3, _⟩ => ⟨S8192x512, .bf16⟩
  | .hbm, ⟨4, _⟩ => ⟨S8192x512, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S8192x512, .f32⟩
  | .hbm, ⟨9, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DuC.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuCRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .bf16⟩
  | .hbm, ⟨3, _⟩ => ⟨S8192x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutA.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .bf16⟩
  | .local _ .vmem, ⟨4, _⟩ => ⟨S2048x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAIdeal.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .bf16⟩
  | .local _ .vmem, ⟨4, _⟩ => ⟨S2048x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutARefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutC.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutCRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MergeFwd.lean ====
abbrev S8192x3072 : Shape := ⟨2, ![8192, 3072]⟩
abbrev S1x3072 : Shape := ⟨2, ![1, 3072]⟩
abbrev S8192x1024 : Shape := ⟨2, ![8192, 1024]⟩
abbrev S1024x1024 : Shape := ⟨2, ![1024, 1024]⟩
abbrev S512x3072 : Shape := ⟨2, ![512, 3072]⟩
abbrev S512x1024 : Shape := ⟨2, ![512, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x3072, .bf16⟩
  | .hbm, ⟨1, _⟩ => ⟨S1x3072, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeFwdRefIdeal.lean ====
abbrev S8192x3072 : Shape := ⟨2, ![8192, 3072]⟩
abbrev S1x3072 : Shape := ⟨2, ![1, 3072]⟩
abbrev S8192x1024 : Shape := ⟨2, ![8192, 1024]⟩
abbrev S1024x1024 : Shape := ⟨2, ![1024, 1024]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x3072, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S1024x1024, .f32⟩
  | .hbm, ⟨35, _⟩ => ⟨S8192x1024, .f32⟩
  | .hbm, ⟨36, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== ConvFwd.lean ====
abbrev S8192x2048 : Shape := ⟨2, ![8192, 2048]⟩
abbrev S3x512 : Shape := ⟨2, ![3, 512]⟩
abbrev S8192x512 : Shape := ⟨2, ![8192, 512]⟩
abbrev S512x2048 : Shape := ⟨2, ![512, 2048]⟩
abbrev S512x512 : Shape := ⟨2, ![512, 512]⟩
abbrev S8x512 : Shape := ⟨2, ![8, 512]⟩
abbrev S520x512 : Shape := ⟨2, ![520, 512]⟩
abbrev S1x512 : Shape := ⟨2, ![1, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S3x512, .f32⟩
  | .hbm, ⟨2, _⟩ => ⟨S8192x512, .bf16⟩
  | .local _ .vmem, ⟨0, _⟩ => ⟨S512x2048, .f32⟩
  | .local _ .vmem, ⟨1, _⟩ => ⟨S512x2048, .f32⟩
  | .local _ .vmem, ⟨2, _⟩ => ⟨S3x512, .f32⟩
  | .local _ .vmem, ⟨3, _⟩ => ⟨S512x512, .bf16⟩
  | .local _ .vmem, ⟨4, _⟩ => ⟨S512x512, .bf16⟩
  | .local _ .vmem, ⟨5, _⟩ => ⟨S8x512, .f32⟩
  | .local _ .vmem, ⟨6, _⟩ => ⟨S8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvFwdRefIdeal.lean ====
abbrev S8192x2048 : Shape := ⟨2, ![8192, 2048]⟩
abbrev S3x512 : Shape := ⟨2, ![3, 512]⟩
abbrev S8192x512 : Shape := ⟨2, ![8192, 512]⟩
abbrev S1x512 : Shape := ⟨2, ![1, 512]⟩
abbrev S512 : Shape := ⟨1, ![512]⟩
abbrev S_ : Shape := ⟨0, ![]⟩
abbrev S2x512 : Shape := ⟨2, ![2, 512]⟩
abbrev S8190x512 : Shape := ⟨2, ![8190, 512]⟩
abbrev S8191x512 : Shape := ⟨2, ![8191, 512]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S3x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S1x512, .f32⟩
  | .hbm, ⟨8, _⟩ => ⟨S512, .f32⟩
  | .hbm, ⟨9, _⟩ => ⟨S_, .f32⟩
  | .hbm, ⟨10, _⟩ => ⟨S2x512, .f32⟩
  | .hbm, ⟨11, _⟩ => ⟨S8190x512, .f32⟩
  | .hbm, ⟨12, _⟩ => ⟨S8192x512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S1x512, .f32⟩
  | .hbm, ⟨17, _⟩ => ⟨S512, .f32⟩
  | .hbm, ⟨18, _⟩ => ⟨S_, .f32⟩
  | .hbm, ⟨19, _⟩ => ⟨S1x512, .f32⟩
  | .hbm, ⟨20, _⟩ => ⟨S8191x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== NormFwd.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== UpdateIn.lean ====
abbrev S8x1024x1282 : Shape := ⟨3, ![8, 1024, 1282]⟩
abbrev S2048x1282 : Shape := ⟨2, ![2048, 1282]⟩
abbrev S8x256x1282 : Shape := ⟨3, ![8, 256, 1282]⟩
abbrev S256x1282 : Shape := ⟨2, ![256, 1282]⟩
abbrev S1x256x1282 : Shape := ⟨3, ![1, 256, 1282]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x1282, .bf16⟩
  | .hbm, ⟨1, _⟩ => ⟨S8x1024x1282, .bf16⟩
  | .hbm, ⟨2, _⟩ => ⟨S2048x1282, .f32⟩
  | .hbm, ⟨3, _⟩ => ⟨S2048x1282, .f32⟩
  | .hbm, ⟨4, _⟩ => ⟨S2048x1282, .f32⟩
  | .hbm, ⟨5, _⟩ => ⟨S2048x1282, .f32⟩
  | .hbm, ⟨6, _⟩ => ⟨S2048x1282, .f32⟩
  | .hbm, ⟨7, _⟩ => ⟨S2048x1282, .f32⟩
  | .hbm, ⟨8, _⟩ => ⟨S2048x1282, .f32⟩
  | .local _ .vmem, ⟨0, _⟩ => ⟨S8x256x1282, .bf16⟩
  | .local _ .vmem, ⟨1, _⟩ => ⟨S8x256x1282, .bf16⟩
  | .local _ .vmem, ⟨2, _⟩ => ⟨S8x256x1282, .bf16⟩
  | .local _ .vmem, ⟨3, _⟩ => ⟨S8x256x1282, .bf16⟩
  | .local _ .vmem, ⟨4, _⟩ => ⟨S256x1282, .f32⟩
  | .local _ .vmem, ⟨5, _⟩ => ⟨S256x1282, .f32⟩
  | .local _ .vmem, ⟨6, _⟩ => ⟨S256x1282, .f32⟩
  | .local _ .vmem, ⟨7, _⟩ => ⟨S256x1282, .f32⟩
  | .local _ .vmem, ⟨8, _⟩ => ⟨S256x1282, .f32⟩
  | .local _ .vmem, ⟨9, _⟩ => ⟨S256x1282, .f32⟩
  | .local _ .vmem, ⟨10, _⟩ => ⟨S256x1282, .f32⟩
  | .local _ .vmem, ⟨11, _⟩ => ⟨S256x1282, .f32⟩
  | .local _ .vmem, ⟨12, _⟩ => ⟨S256x1282, .f32⟩
  | .local _ .vmem, ⟨13, _⟩ => ⟨S256x1282, .f32⟩
  | .local _ .vmem, ⟨14, _⟩ => ⟨S256x1282, .f32⟩
  | .local _ .vmem, ⟨15, _⟩ => ⟨S256x1282, .f32⟩
  | .local _ .vmem, ⟨16, _⟩ => ⟨S256x1282, .f32⟩
  | .local _ .vmem, ⟨17, _⟩ => ⟨S256x1282, .f32⟩
  | _, _ => ⟨S8x1024x1282, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x1282 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1282 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1282 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1282 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1282 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1282 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1282 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1282 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1282 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpdateInIdeal.lean ====
abbrev S8x1024x1282 : Shape := ⟨3, ![8, 1024, 1282]⟩
abbrev S2048x1282 : Shape := ⟨2, ![2048, 1282]⟩
abbrev S8x256x1282 : Shape := ⟨3, ![8, 256, 1282]⟩
abbrev S256x1282 : Shape := ⟨2, ![256, 1282]⟩
abbrev S1x256x1282 : Shape := ⟨3, ![1, 256, 1282]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x1282, .bf16⟩
  | .hbm, ⟨1, _⟩ => ⟨S8x1024x1282, .bf16⟩
  | .hbm, ⟨2, _⟩ => ⟨S2048x1282, .f32⟩
  | .hbm, ⟨3, _⟩ => ⟨S2048x1282, .f32⟩
  | .hbm, ⟨4, _⟩ => ⟨S2048x1282, .f32⟩
  | .hbm, ⟨5, _⟩ => ⟨S2048x1282, .f32⟩
  | .hbm, ⟨6, _⟩ => ⟨S2048x1282, .f32⟩
  | .hbm, ⟨7, _⟩ => ⟨S2048x1282, .f32⟩
  | .hbm, ⟨8, _⟩ => ⟨S2048x1282, .f32⟩
  | .local _ .vmem, ⟨0, _⟩ => ⟨S8x256x1282, .bf16⟩
  | .local _ .vmem, ⟨1, _⟩ => ⟨S8x256x1282, .bf16⟩
  | .local _ .vmem, ⟨2, _⟩ => ⟨S8x256x1282, .bf16⟩
  | .local _ .vmem, ⟨3, _⟩ => ⟨S8x256x1282, .bf16⟩
  | .local _ .vmem, ⟨4, _⟩ => ⟨S256x1282, .f32⟩
  | .local _ .vmem, ⟨5, _⟩ => ⟨S256x1282, .f32⟩
  | .local _ .vmem, ⟨6, _⟩ => ⟨S256x1282, .f32⟩
  | .local _ .vmem, ⟨7, _⟩ => ⟨S256x1282, .f32⟩
  | .local _ .vmem, ⟨8, _⟩ => ⟨S256x1282, .f32⟩
  | .local _ .vmem, ⟨9, _⟩ => ⟨S256x1282, .f32⟩
  | .local _ .vmem, ⟨10, _⟩ => ⟨S256x1282, .f32⟩
  | .local _ .vmem, ⟨11, _⟩ => ⟨S256x1282, .f32⟩
  | .local _ .vmem, ⟨12, _⟩ => ⟨S256x1282, .f32⟩
  | .local _ .vmem, ⟨13, _⟩ => ⟨S256x1282, .f32⟩
  | .local _ .vmem, ⟨14, _⟩ => ⟨S256x1282, .f32⟩
  | .local _ .vmem, ⟨15, _⟩ => ⟨S256x1282, .f32⟩
  | .local _ .vmem, ⟨16, _⟩ => ⟨S256x1282, .f32⟩
  | .local _ .vmem, ⟨17, _⟩ => ⟨S256x1282, .f32⟩
  | _, _ => ⟨S8x1024x1282, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x1282 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1282 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1282 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1282 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1282 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1282 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1282 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1282 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1282 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpdateInRefIdeal.lean ====
abbrev S8x1024x1282 : Shape := ⟨3, ![8, 1024, 1282]⟩
abbrev S2048x1282 : Shape := ⟨2, ![2048, 1282]⟩
abbrev S_ : Shape := ⟨0, ![]⟩
abbrev S1024x1282 : Shape := ⟨2, ![1024, 1282]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x1282, .bf16⟩
  | .hbm, ⟨1, _⟩ => ⟨S8x1024x1282, .bf16⟩
  | .hbm, ⟨2, _⟩ => ⟨S2048x1282, .f32⟩
  | .hbm, ⟨3, _⟩ => ⟨S2048x1282, .f32⟩
  | .hbm, ⟨4, _⟩ => ⟨S2048x1282, .f32⟩
  | .hbm, ⟨5, _⟩ => ⟨S8x1024x1282, .f32⟩
  | .hbm, ⟨6, _⟩ => ⟨S_, .f32⟩
  | .hbm, ⟨7, _⟩ => ⟨S1024x1282, .f32⟩
  | .hbm, ⟨8, _⟩ => ⟨S8x1024x1282, .f32⟩
  | .hbm, ⟨9, _⟩ => ⟨S_, .f32⟩
  | .hbm, ⟨10, _⟩ => ⟨S1024x1282, .f32⟩
  | .hbm, ⟨11, _⟩ => ⟨S2048x1282, .f32⟩
  | .hbm, ⟨12, _⟩ => ⟨S_, .f32⟩
  | .hbm, ⟨13, _⟩ => ⟨S2048x1282, .f32⟩
  | .hbm, ⟨14, _⟩ => ⟨S2048x1282, .f32⟩
  | .hbm, ⟨15, _⟩ => ⟨S_, .f32⟩
  | .hbm, ⟨16, _⟩ => ⟨S2048x1282, .f32⟩
  | .hbm, ⟨17, _⟩ => ⟨S2048x1282, .f32⟩
  | .hbm, ⟨18, _⟩ => ⟨S2048x1282, .f32⟩
  | .hbm, ⟨19, _⟩ => ⟨S_, .f32⟩
  | .hbm, ⟨20, _⟩ => ⟨S2048x1282, .f32⟩
  | .hbm, ⟨21, _⟩ => ⟨S2048x1282, .f32⟩
  | .hbm, ⟨22, _⟩ => ⟨S2048x1282, .f32⟩
  | .hbm, ⟨23, _⟩ => ⟨S_, .f32⟩
  | .hbm, ⟨24, _⟩ => ⟨S2048x1282, .f32⟩
  | .hbm, ⟨25, _⟩ => ⟨S2048x1282, .f32⟩
  | .hbm, ⟨26, _⟩ => ⟨S2048x1282, .f32⟩
  | .hbm, ⟨27, _⟩ => ⟨S_, .f32⟩
  | .hbm, ⟨28, _⟩ => ⟨S2048x1282, .f32⟩
  | .hbm, ⟨29, _⟩ => ⟨S2048x1282, .f32⟩
  | .hbm, ⟨30, _⟩ => ⟨S_, .f32⟩
  | .hbm, ⟨31, _⟩ => ⟨S2048x1282, .f32⟩
  | .hbm, ⟨32, _⟩ => ⟨S2048x1282, .f32⟩
  | .hbm, ⟨33, _⟩ => ⟨S2048x1282, .f32⟩
  | .hbm, ⟨34, _⟩ => ⟨S_, .f32⟩
  | .hbm, ⟨35, _⟩ => ⟨S2048x1282, .f32⟩
  | .hbm, ⟨36, _⟩ => ⟨S2048x1282, .f32⟩
  | .hbm, ⟨37, _⟩ => ⟨S2048x1282, .f32⟩
  | .hbm, ⟨38, _⟩ => ⟨S_, .f32⟩
  | .hbm, ⟨39, _⟩ => ⟨S2048x1282, .f32⟩
  | .hbm, ⟨40, _⟩ => ⟨S2048x1282, .f32⟩
  | .hbm, ⟨41, _⟩ => ⟨S2048x1282, .f32⟩
  | .hbm, ⟨42, _⟩ => ⟨S_, .f32⟩
  | .hbm, ⟨43, _⟩ => ⟨S2048x1282, .f32⟩
  | .hbm, ⟨44, _⟩ => ⟨S2048x1282, .f32⟩
  | _, _ => ⟨S8x1024x1282, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== UpdateA.lean ====
abbrev S8x512x128 : Shape := ⟨3, ![8, 512, 128]⟩
abbrev S1024x128 : Shape := ⟨2, ![1024, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpdateAIdeal.lean ====
abbrev S8x512x128 : Shape := ⟨3, ![8, 512, 128]⟩
abbrev S1024x128 : Shape := ⟨2, ![1024, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpdateARefIdeal.lean ====
abbrev S8x512x128 : Shape := ⟨3, ![8, 512, 128]⟩
abbrev S1024x128 : Shape := ⟨2, ![1024, 128]⟩
abbrev S_ : Shape := ⟨0, ![]⟩
abbrev S512x128 : Shape := ⟨2, ![512, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S8x512x128, .f32⟩
  | .hbm, ⟨9, _⟩ => ⟨S_, .f32⟩
  | .hbm, ⟨10, _⟩ => ⟨S512x128, .f32⟩
  | .hbm, ⟨11, _⟩ => ⟨S1024x128, .f32⟩
  | .hbm, ⟨12, _⟩ => ⟨S_, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S_, .f32⟩
  | .hbm, ⟨24, _⟩ => ⟨S1024x128, .f32⟩
  | .hbm, ⟨25, _⟩ => ⟨S1024x128, .f32⟩
  | .hbm, ⟨26, _⟩ => ⟨S1024x128, .f32⟩
  | .hbm, ⟨27, _⟩ => ⟨S_, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | .hbm, ⟨37, _⟩ => ⟨S1024x128, .f32⟩
  | .hbm, ⟨38, _⟩ => ⟨S_, .f32⟩
  | .hbm, ⟨39, _⟩ => ⟨S1024x128, .f32⟩
  | .hbm, ⟨40, _⟩ => ⟨S1024x128, .f32⟩
  | .hbm, ⟨41, _⟩ => ⟨S1024x128, .f32⟩
  | .hbm, ⟨42, _⟩ => ⟨S_, .f32⟩
  | .hbm, ⟨43, _⟩ => ⟨S1024x128, .f32⟩
  | .hbm, ⟨44, _⟩ => ⟨S1024x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== UpdateC.lean ====
abbrev S8x128x1024 : Shape := ⟨3, ![8, 128, 1024]⟩
abbrev S256x1024 : Shape := ⟨2, ![256, 1024]⟩
abbrev S128x1024 : Shape := ⟨2, ![128, 1024]⟩
abbrev S1x128x1024 : Shape := ⟨3, ![1, 128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpdateCRefIdeal.lean ====
abbrev S8x128x1024 : Shape := ⟨3, ![8, 128, 1024]⟩
abbrev S256x1024 : Shape := ⟨2, ![256, 1024]⟩
abbrev S_ : Shape := ⟨0, ![]⟩
abbrev S128x1024 : Shape := ⟨2, ![128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== UpdateSmall.lean ====
abbrev S104x128 : Shape := ⟨2, ![104, 128]⟩

abbrev nBuf : Space → Nat
  | .hbm => 7
  | .vmem => 7
  | .smem => 0
  | _ => 0

abbrev bufTy : (tb : Table) → Fin (tcTables nBuf tb) → BufTy
  | .hbm, ⟨0, _⟩ => ⟨S104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S104x128, .f32⟩
  | .hbm, ⟨5, _⟩ => ⟨S104x128, .f32⟩
  | .hbm, ⟨6, _⟩ => ⟨S104x128, .f32⟩
  | .local _ .vmem, ⟨0, _⟩ => ⟨S104x128, .f32⟩
  | .local _ .vmem, ⟨1, _⟩ => ⟨S104x128, .f32⟩
  | .local _ .vmem, ⟨2, _⟩ => ⟨S104x128, .f32⟩
  | .local _ .vmem, ⟨3, _⟩ => ⟨S104x128, .f32⟩
  | .local _ .vmem, ⟨4, _⟩ => ⟨S104x128, .f32⟩
  | .local _ .vmem, ⟨5, _⟩ => ⟨S104x128, .f32⟩
  | .local _ .vmem, ⟨6, _⟩ => ⟨S104x128, .f32⟩
  | _, _ => ⟨S104x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S104x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S104x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S104x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S104x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== UpdateSmallRefIdeal.lean ====
abbrev S104x128 : Shape := ⟨2, ![104, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S_, .f32⟩
  | .hbm, ⟨5, _⟩ => ⟨S104x128, .f32⟩
  | .hbm, ⟨6, _⟩ => ⟨S104x128, .f32⟩
  | .hbm, ⟨7, _⟩ => ⟨S_, .f32⟩
  | .hbm, ⟨8, _⟩ => ⟨S104x128, .f32⟩
  | .hbm, ⟨9, _⟩ => ⟨S104x128, .f32⟩
  | .hbm, ⟨10, _⟩ => ⟨S104x128, .f32⟩
  | .hbm, ⟨11, _⟩ => ⟨S_, .f32⟩
  | .hbm, ⟨12, _⟩ => ⟨S104x128, .f32⟩
  | .hbm, ⟨13, _⟩ => ⟨S104x128, .f32⟩
  | .hbm, ⟨14, _⟩ => ⟨S104x128, .f32⟩
  | .hbm, ⟨15, _⟩ => ⟨S_, .f32⟩
  | .hbm, ⟨16, _⟩ => ⟨S104x128, .f32⟩
  | .hbm, ⟨17, _⟩ => ⟨S104x128, .f32⟩
  | .hbm, ⟨18, _⟩ => ⟨S104x128, .f32⟩
  | .hbm, ⟨19, _⟩ => ⟨S_, .f32⟩
  | .hbm, ⟨20, _⟩ => ⟨S104x128, .f32⟩
  | .hbm, ⟨21, _⟩ => ⟨S104x128, .f32⟩
  | .hbm, ⟨22, _⟩ => ⟨S_, .f32⟩
  | .hbm, ⟨23, _⟩ => ⟨S104x128, .f32⟩
  | .hbm, ⟨24, _⟩ => ⟨S104x128, .f32⟩
  | .hbm, ⟨25, _⟩ => ⟨S104x128, .f32⟩
  | .hbm, ⟨26, _⟩ => ⟨S_, .f32⟩
  | .hbm, ⟨27, _⟩ => ⟨S104x128, .f32⟩
  | .hbm, ⟨28, _⟩ => ⟨S104x128, .f32⟩
  | .hbm, ⟨29, _⟩ => ⟨S104x128, .f32⟩
  | .hbm, ⟨30, _⟩ => ⟨S_, .f32⟩
  | .hbm, ⟨31, _⟩ => ⟨S104x128, .f32⟩
  | .hbm, ⟨32, _⟩ => ⟨S104x128, .f32⟩
  | .hbm, ⟨33, _⟩ => ⟨S104x128, .f32⟩
  | .hbm, ⟨34, _⟩ => ⟨S_, .f32⟩
  | .hbm, ⟨35, _⟩ => ⟨S104x128, .f32⟩
  | .hbm, ⟨36, _⟩ => ⟨S104x128, .f32⟩
  | _, _ => ⟨S104x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x240x128 : Shape := ⟨3, ![8, 240, 128]⟩
abbrev S240x128 : Shape := ⟨2, ![240, 128]⟩
abbrev S1x240x128 : Shape := ⟨3, ![1, 240, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x240x128, .f32⟩
  | .hbm, ⟨1, _⟩ => ⟨S240x128, .f32⟩
  | .local _ .vmem, ⟨0, _⟩ => ⟨S8x240x128, .f32⟩
  | .local _ .vmem, ⟨1, _⟩ => ⟨S240x128, .f32⟩
  | _, _ => ⟨S8x240x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x240x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallIdeal.lean ====
abbrev S8x240x128 : Shape := ⟨3, ![8, 240, 128]⟩
abbrev S240x128 : Shape := ⟨2, ![240, 128]⟩
abbrev S1x240x128 : Shape := ⟨3, ![1, 240, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x240x128, .f32⟩
  | .hbm, ⟨1, _⟩ => ⟨S240x128, .f32⟩
  | .local _ .vmem, ⟨0, _⟩ => ⟨S8x240x128, .f32⟩
  | .local _ .vmem, ⟨1, _⟩ => ⟨S240x128, .f32⟩
  | _, _ => ⟨S8x240x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x240x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x240x128 : Shape := ⟨3, ![8, 240, 128]⟩
abbrev S_ : Shape := ⟨0, ![]⟩
abbrev S240x128 : Shape := ⟨2, ![240, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x240x128, .f32⟩
  | .hbm, ⟨1, _⟩ => ⟨S_, .f32⟩
  | .hbm, ⟨2, _⟩ => ⟨S240x128, .f32⟩
  | _, _ => ⟨S8x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x1, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== ConvBwd.lean ====
abbrev S8192x2048 : Shape := ⟨2, ![8192, 2048]⟩
abbrev S3x512 : Shape := ⟨2, ![3, 512]⟩
abbrev S8192x512 : Shape := ⟨2, ![8192, 512]⟩
abbrev S512x2048 : Shape := ⟨2, ![512, 2048]⟩
abbrev S8x2048 : Shape := ⟨2, ![8, 2048]⟩
abbrev S512x512 : Shape := ⟨2, ![512, 512]⟩
abbrev S8x512 : Shape := ⟨2, ![8, 512]⟩
abbrev S520x512 : Shape := ⟨2, ![520, 512]⟩
abbrev S1x512 : Shape := ⟨2, ![1, 512]⟩
abbrev S512 : Shape := ⟨1, ![512]⟩
abbrev S504x512 : Shape := ⟨2, ![504, 512]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S3x512, .f32⟩
  | .hbm, ⟨2, _⟩ => ⟨S8192x512, .bf16⟩
  | .hbm, ⟨3, _⟩ => ⟨S8192x2048, .bf16⟩
  | .hbm, ⟨4, _⟩ => ⟨S3x512, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S3x512, .f32⟩
  | .local _ .vmem, ⟨5, _⟩ => ⟨S512x512, .bf16⟩
  | .local _ .vmem, ⟨6, _⟩ => ⟨S512x512, .bf16⟩
  | .local _ .vmem, ⟨7, _⟩ => ⟨S512x2048, .bf16⟩
  | .local _ .vmem, ⟨8, _⟩ => ⟨S512x2048, .bf16⟩
  | .local _ .vmem, ⟨9, _⟩ => ⟨S3x512, .f32⟩
  | .local _ .vmem, ⟨10, _⟩ => ⟨S8x512, .f32⟩
  | .local _ .vmem, ⟨11, _⟩ => ⟨S8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ConvBwdRefIdeal.lean ====
abbrev S8192x2048 : Shape := ⟨2, ![8192, 2048]⟩
abbrev S3x512 : Shape := ⟨2, ![3, 512]⟩
abbrev S8192x512 : Shape := ⟨2, ![8192, 512]⟩
abbrev S1x512 : Shape := ⟨2, ![1, 512]⟩
abbrev S512 : Shape := ⟨1, ![512]⟩
abbrev S_ : Shape := ⟨0, ![]⟩
abbrev S2x512 : Shape := ⟨2, ![2, 512]⟩
abbrev S8190x512 : Shape := ⟨2, ![8190, 512]⟩
abbrev S8191x512 : Shape := ⟨2, ![8191, 512]⟩

abbrev nBuf : Space → Nat
  | .hbm => 110
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S3x512, .f32⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S1x512, .f32⟩
  | .hbm, ⟨9, _⟩ => ⟨S512, .f32⟩
  | .hbm, ⟨10, _⟩ => ⟨S_, .f32⟩
  | .hbm, ⟨11, _⟩ => ⟨S2x512, .f32⟩
  | .hbm, ⟨12, _⟩ => ⟨S8190x512, .f32⟩
  | .hbm, ⟨13, _⟩ => ⟨S8192x512, .f32⟩
  | .hbm, ⟨14, _⟩ => ⟨S_, .f32⟩
  | .hbm, ⟨15, _⟩ => ⟨S2x512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S512, .f32⟩
  | .hbm, ⟨21, _⟩ => ⟨S_, .f32⟩
  | .hbm, ⟨22, _⟩ => ⟨S1x512, .f32⟩
  | .hbm, ⟨23, _⟩ => ⟨S8191x512, .f32⟩
  | .hbm, ⟨24, _⟩ => ⟨S8192x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S_, .f32⟩
  | .hbm, ⟨71, _⟩ => ⟨S3x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S8191x512, .f32⟩
  | .hbm, ⟨82, _⟩ => ⟨S_, .f32⟩
  | .hbm, ⟨83, _⟩ => ⟨S8192x512, .f32⟩
  | .hbm, ⟨84, _⟩ => ⟨S8192x512, .f32⟩
  | .hbm, ⟨85, _⟩ => ⟨S1x512, .f32⟩
  | .hbm, ⟨86, _⟩ => ⟨S_, .f32⟩
  | .hbm, ⟨87, _⟩ => ⟨S3x512, .f32⟩
  | .hbm, ⟨88, _⟩ => ⟨S3x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S_, .f32⟩
  | .hbm, ⟨93, _⟩ => ⟨S512, .f32⟩
  | .hbm, ⟨94, _⟩ => ⟨S1x512, .f32⟩
  | .hbm, ⟨95, _⟩ => ⟨S_, .f32⟩
  | .hbm, ⟨96, _⟩ => ⟨S512, .f32⟩
  | .hbm, ⟨97, _⟩ => ⟨S2x512, .f32⟩
  | .hbm, ⟨98, _⟩ => ⟨S8190x512, .f32⟩
  | .hbm, ⟨99, _⟩ => ⟨S_, .f32⟩
  | .hbm, ⟨100, _⟩ => ⟨S8192x512, .f32⟩
  | .hbm, ⟨101, _⟩ => ⟨S8192x512, .f32⟩
  | .hbm, ⟨102, _⟩ => ⟨S1x512, .f32⟩
  | .hbm, ⟨103, _⟩ => ⟨S_, .f32⟩
  | .hbm, ⟨104, _⟩ => ⟨S3x512, .f32⟩
  | .hbm, ⟨105, _⟩ => ⟨S3x512, .f32⟩
  | .hbm, ⟨106, _⟩ => ⟨S8192x512, .f32⟩
  | .hbm, ⟨107, _⟩ => ⟨S8192x512, .f32⟩
  | .hbm, ⟨108, _⟩ => ⟨S8192x2048, .f32⟩
  | .hbm, ⟨109, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]
-- ==== LowerFwd.lean ====
abbrev S8x512 : Shape := ⟨2, ![8, 512]⟩
abbrev S512 : Shape := ⟨1, ![512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x512, .f32⟩
  | .hbm, ⟨1, _⟩ => ⟨S8x512, .f32⟩
  | .local _ .vmem, ⟨0, _⟩ => ⟨S8x512, .f32⟩
  | .local _ .vmem, ⟨1, _⟩ => ⟨S8x512, .f32⟩
  | _, _ => ⟨S8x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LowerFwdRefIdeal.lean ====
abbrev S8x512 : Shape := ⟨2, ![8, 512]⟩
abbrev S2x512 : Shape := ⟨2, ![2, 512]⟩
abbrev S_ : Shape := ⟨0, ![]⟩
abbrev S512 : Shape := ⟨1, ![512]⟩
abbrev S1x512 : Shape := ⟨2, ![1, 512]⟩
abbrev S6x512 : Shape := ⟨2, ![6, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x512, .f32⟩
  | .hbm, ⟨1, _⟩ => ⟨S2x512, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S512, .f32⟩
  | .hbm, ⟨13, _⟩ => ⟨S1x512, .f32⟩
  | .hbm, ⟨14, _⟩ => ⟨S2x512, .f32⟩
  | .hbm, ⟨15, _⟩ => ⟨S2x512, .f32⟩
  | .hbm, ⟨16, _⟩ => ⟨S_, .f32⟩
  | .hbm, ⟨17, _⟩ => ⟨S_, .f32⟩
  | .hbm, ⟨18, _⟩ => ⟨S2x512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S2x512, .f32⟩
  | .hbm, ⟨23, _⟩ => ⟨S2x512, .f32⟩
  | .hbm, ⟨24, _⟩ => ⟨S_, .f32⟩
  | .hbm, ⟨25, _⟩ => ⟨S6x512, .f32⟩
  | .hbm, ⟨26, _⟩ => ⟨S8x512, .f32⟩
  | _, _ => ⟨S8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_call0_cst : Ref sig .tc := ⟨.hbm, 16, rfl⟩
abbrev main_call0_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== LowerBwd.lean ====
abbrev S8x512 : Shape := ⟨2, ![8, 512]⟩
abbrev S512 : Shape := ⟨1, ![512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S8x512, .f32⟩
  | .hbm, ⟨1, _⟩ => ⟨S8x512, .f32⟩
  | .hbm, ⟨2, _⟩ => ⟨S8x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | _, _ => ⟨S8x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LowerBwdRefIdeal.lean ====
abbrev S8x512 : Shape := ⟨2, ![8, 512]⟩
abbrev S2x512 : Shape := ⟨2, ![2, 512]⟩
abbrev S_ : Shape := ⟨0, ![]⟩
abbrev S512 : Shape := ⟨1, ![512]⟩
abbrev S1x512 : Shape := ⟨2, ![1, 512]⟩
abbrev S6x512 : Shape := ⟨2, ![6, 512]⟩

abbrev nBuf : Space → Nat
  | .hbm => 85
  | .vmem => 0
  | .smem => 0
  | _ => 0

abbrev bufTy : (tb : Table) → Fin (tcTables nBuf tb) → BufTy
  | .hbm, ⟨0, _⟩ => ⟨S8x512, .f32⟩
  | .hbm, ⟨1, _⟩ => ⟨S8x512, .f32⟩
  | .hbm, ⟨2, _⟩ => ⟨S2x512, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S2x512, .f32⟩
  | .hbm, ⟨7, _⟩ => ⟨S2x512, .i1⟩
  | .hbm, ⟨8, _⟩ => ⟨S2x512, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .i1⟩
  | .hbm, ⟨17, _⟩ => ⟨S_, .f32⟩
  | .hbm, ⟨18, _⟩ => ⟨S512, .f32⟩
  | .hbm, ⟨19, _⟩ => ⟨S512, .i1⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S1x512, .f32⟩
  | .hbm, ⟨29, _⟩ => ⟨S2x512, .f32⟩
  | .hbm, ⟨30, _⟩ => ⟨S2x512, .f32⟩
  | .hbm, ⟨31, _⟩ => ⟨S2x512, .f32⟩
  | .hbm, ⟨32, _⟩ => ⟨S_, .f32⟩
  | .hbm, ⟨33, _⟩ => ⟨S512, .f32⟩
  | .hbm, ⟨34, _⟩ => ⟨S1x512, .f32⟩
  | .hbm, ⟨35, _⟩ => ⟨S2x512, .f32⟩
  | .hbm, ⟨36, _⟩ => ⟨S2x512, .f32⟩
  | .hbm, ⟨37, _⟩ => ⟨S1x512, .f32⟩
  | .hbm, ⟨38, _⟩ => ⟨S_, .f32⟩
  | .hbm, ⟨39, _⟩ => ⟨S1x512, .f32⟩
  | .hbm, ⟨40, _⟩ => ⟨S1x512, .f32⟩
  | .hbm, ⟨41, _⟩ => ⟨S_, .f32⟩
  | .hbm, ⟨42, _⟩ => ⟨S_, .f32⟩
  | .hbm, ⟨43, _⟩ => ⟨S2x512, .f32⟩
  | .hbm, ⟨44, _⟩ => ⟨S1x512, .f32⟩
  | .hbm, ⟨45, _⟩ => ⟨S512, .f32⟩
  | .hbm, ⟨46, _⟩ => ⟨S1x512, .f32⟩
  | .hbm, ⟨47, _⟩ => ⟨S2x512, .f32⟩
  | .hbm, ⟨48, _⟩ => ⟨S2x512, .f32⟩
  | .hbm, ⟨49, _⟩ => ⟨S_, .f32⟩
  | .hbm, ⟨50, _⟩ => ⟨S6x512, .f32⟩
  | .hbm, ⟨51, _⟩ => ⟨S8x512, .f32⟩
  | .hbm, ⟨52, _⟩ => ⟨S_, .f32⟩
  | .hbm, ⟨53, _⟩ => ⟨S6x512, .f32⟩
  | .hbm, ⟨54, _⟩ => ⟨S2x512, .f32⟩
  | .hbm, ⟨55, _⟩ => ⟨S6x512, .f32⟩
  | .hbm, ⟨56, _⟩ => ⟨S2x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S_, .f32⟩
  | .hbm, ⟨64, _⟩ => ⟨S2x512, .f32⟩
  | .hbm, ⟨65, _⟩ => ⟨S_, .f32⟩
  | .hbm, ⟨66, _⟩ => ⟨S_, .f32⟩
  | .hbm, ⟨67, _⟩ => ⟨S2x512, .f32⟩
  | .hbm, ⟨68, _⟩ => ⟨S2x512, .f32⟩
  | .hbm, ⟨69, _⟩ => ⟨S2x512, .f32⟩
  | .hbm, ⟨70, _⟩ => ⟨S2x512, .f32⟩
  | .hbm, ⟨71, _⟩ => ⟨S2x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S1x512, .f32⟩
  | .hbm, ⟨76, _⟩ => ⟨S2x512, .f32⟩
  | .hbm, ⟨77, _⟩ => ⟨S2x512, .f32⟩
  | .hbm, ⟨78, _⟩ => ⟨S_, .f32⟩
  | .hbm, ⟨79, _⟩ => ⟨S512, .f32⟩
  | .hbm, ⟨80, _⟩ => ⟨S2x512, .f32⟩
  | .hbm, ⟨81, _⟩ => ⟨S2x512, .f32⟩
  | .hbm, ⟨82, _⟩ => ⟨S2x512, .f32⟩
  | .hbm, ⟨83, _⟩ => ⟨S_, .f32⟩
  | .hbm, ⟨84, _⟩ => ⟨S8x512, .f32⟩
  | _, _ => ⟨S8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_call0_call0_cst : Ref sig .tc := ⟨.hbm, 41, rfl⟩
abbrev main_call0_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_call1_call0_cst : Ref sig .tc := ⟨.hbm, 65, rfl⟩
abbrev main_call1_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== SumConv.lean ====
abbrev S8x152x128 : Shape := ⟨3, ![8, 152, 128]⟩
abbrev S152x128 : Shape := ⟨2, ![152, 128]⟩
abbrev S1x152x128 : Shape := ⟨3, ![1, 152, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x152x128, .f32⟩
  | .hbm, ⟨1, _⟩ => ⟨S152x128, .f32⟩
  | .local _ .vmem, ⟨0, _⟩ => ⟨S8x152x128, .f32⟩
  | .local _ .vmem, ⟨1, _⟩ => ⟨S152x128, .f32⟩
  | _, _ => ⟨S8x152x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumConvRefIdeal.lean ====
abbrev S8x152x128 : Shape := ⟨3, ![8, 152, 128]⟩
abbrev S_ : Shape := ⟨0, ![]⟩
abbrev S152x128 : Shape := ⟨2, ![152, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x152x128, .f32⟩
  | .hbm, ⟨1, _⟩ => ⟨S_, .f32⟩
  | .hbm, ⟨2, _⟩ => ⟨S152x128, .f32⟩
  | _, _ => ⟨S8x152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Canon.lean ====
/- Stores into one block, some over others. -/
module

public import Idealize.ShloMosaic.Lib.Pipeline.ValueKit

@[expose] public section

noncomputable section

open Idealize.ShloMosaic

namespace Cert

/-- Where some later store covers an index, the stores before those do not matter. -/
theorem canon_append_left {S : Shape} {e : EltTy} (L L' : List (View.Piece (Elt Ideal) S e)) (y : S.Idx) (hc : ∃ p ∈ L, y ∈ p.1.set) :
    View.canon (L ++ L') y = View.canon L y := by
  induction L with
  | nil => obtain ⟨p, hp, _⟩ := hc; exact absurd hp List.not_mem_nil
  | cons p L ih =>
    by_cases hy : y ∈ p.1.set
    · obtain ⟨x, rfl⟩ : ∃ x, p.1.emb x = y := p.1.exists_idx_of_mem hy
      exact (View.canon_cons_emb p.1 p.2 _ x).trans (View.canon_cons_emb p.1 p.2 _ x).symm
    · rw [List.cons_append, View.canon_cons_of_not_mem p _ hy, View.canon_cons_of_not_mem p _ hy]
      obtain ⟨q, hq, hm⟩ := hc
      rcases List.mem_cons.mp hq with rfl | hq
      · exact absurd hm hy
      · exact ih ⟨q, hq, hm⟩

end Cert
-- ==== Proof.MergeRead.lean ====
/- The merge's backward pass, as the reference computes it, read at one element. -/
module

public import proofs.«01_k».proof.Proof.Gen.MergeRefIdeal.Run
public import proofs.«01_k».proof.Proof.Gen.MergeRefIdeal.Read
public import proofs.«01_k».proof.Proof.Gen.MergeRefIdeal
public import Idealize.ShloMosaic.Lib.Pointwise

@[expose] public section

set_option maxRecDepth 16384

noncomputable section

namespace Cert.Merge.Math

open Idealize.ShloMosaic Idealize.ShloMosaic.TcCoe Idealize.SL.Sem
open Cert.MergeRefIdeal Cert.MergeRefIdeal.Read

/-- The gate of row `r` in column `k`: the logistic function of its pre-activation plus the bias. -/
def gate (PG : FVec Ideal S8192x3072 .bf16) (BG : FVec Ideal S1x3072 .f32) (r : Fin 8192) (k : Fin 3072) : EReal :=
  Ideal.div 1 (1 + Ideal.exp (-(PG (ix2 r k) + BG (ix2 0 k))))

/-- The cotangent of the merged row `r` in column `d`: the row's cotangent times the transposed output projection. -/
def dmerged (DX : FVec Ideal S8192x1024 .f32) (WO : FVec Ideal S1024x1024 .bf16) (r : Fin 8192) (d : Fin 1024) : EReal :=
  ∑ k : Fin 1024, DX (ix2 r k) * WO (ix2 d k)

/-- The branch output that the gate of column `k` multiplies, in row `r`: branch a for the first 1024 columns, then b, then c. -/
def branch (YA YB YC : FVec Ideal S8192x1024 .bf16) (r : Fin 8192) (k : Fin 3072) : EReal :=
  if k.val < 1024 then YA (ix2 r ⟨k.val % 1024, Nat.mod_lt _ (by omega)⟩)
  else if k.val < 2048 then YB (ix2 r ⟨k.val % 1024, Nat.mod_lt _ (by omega)⟩)
  else YC (ix2 r ⟨k.val % 1024, Nat.mod_lt _ (by omega)⟩)

/-- The cotangent of the gate's pre-activation in row `r`, column `k`. -/
def dgate (DX : FVec Ideal S8192x1024 .f32) (WO : FVec Ideal S1024x1024 .bf16) (PG : FVec Ideal S8192x3072 .bf16) (BG : FVec Ideal S1x3072 .f32)
    (YA YB YC : FVec Ideal S8192x1024 .bf16) (r : Fin 8192) (k : Fin 3072) : EReal :=
  dmerged DX WO r ⟨k.val % 1024, Nat.mod_lt _ (by omega)⟩ * branch YA YB YC r k * gate PG BG r k * (1 - gate PG BG r k)

section
variable (DX : FVec Ideal S8192x1024 .f32) (WO : FVec Ideal S1024x1024 .bf16) (PG : FVec Ideal S8192x3072 .bf16) (BG : FVec Ideal S1x3072 .f32)
variable (YA YB YC : FVec Ideal S8192x1024 .bf16)

/-- The cotangent of the gate's pre-activation in the columns of branch a. -/
theorem dgate_a (r : Fin 8192) (d : Fin 1024) (h) : dgate DX WO PG BG YA YB YC r ⟨d.val, h⟩
    = dmerged DX WO r d * YA (ix2 r d) * gate PG BG r ⟨d.val, h⟩ * (1 - gate PG BG r ⟨d.val, h⟩) := by
  have hd := d.isLt
  have e : (⟨d.val % 1024, Nat.mod_lt _ (by omega)⟩ : Fin 1024) = d := Fin.ext (by show _ % _ = _; omega)
  unfold dgate branch
  simp only [e]
  rw [if_pos hd]

/-- The cotangent of the gate's pre-activation in the columns of branch b. -/
theorem dgate_b (r : Fin 8192) (d : Fin 1024) (h) : dgate DX WO PG BG YA YB YC r ⟨1024 + d.val, h⟩
    = dmerged DX WO r d * YB (ix2 r d) * gate PG BG r ⟨1024 + d.val, h⟩ * (1 - gate PG BG r ⟨1024 + d.val, h⟩) := by
  have hd := d.isLt
  have e : (⟨(1024 + d.val) % 1024, Nat.mod_lt _ (by omega)⟩ : Fin 1024) = d := Fin.ext (by show _ % _ = _; omega)
  unfold dgate branch
  simp only [e]
  rw [if_neg (by omega), if_pos (by omega)]

/-- The cotangent of the gate's pre-activation in the columns of branch c. -/
theorem dgate_c (r : Fin 8192) (d : Fin 1024) (h) : dgate DX WO PG BG YA YB YC r ⟨2048 + d.val, h⟩
    = dmerged DX WO r d * YC (ix2 r d) * gate PG BG r ⟨2048 + d.val, h⟩ * (1 - gate PG BG r ⟨2048 + d.val, h⟩) := by
  have hd := d.isLt
  have e : (⟨(2048 + d.val) % 1024, Nat.mod_lt _ (by omega)⟩ : Fin 1024) = d := Fin.ext (by show _ % _ = _; omega)
  unfold dgate branch
  simp only [e]
  rw [if_neg (by omega), if_neg (by omega)]

/-- The reference's cotangent of branch a: the merged row's cotangent times its gate. -/
theorem ref_da (r : Fin 8192) (d : Fin 1024) :
    val_main_v49 (F := Ideal) DX WO PG BG (ix2 r d) = dmerged DX WO r d * gate PG BG r ⟨d.val, by omega⟩ := by
  pointwise [← val_main_v49_eq]
  rw [mul_comm]; rfl

/-- The reference's cotangent of branch b: the merged row's cotangent times its gate. -/
theorem ref_db (r : Fin 8192) (d : Fin 1024) :
    val_main_v48 (F := Ideal) DX WO PG BG (ix2 r d) = dmerged DX WO r d * gate PG BG r ⟨1024 + d.val, by omega⟩ := by
  pointwise [← val_main_v48_eq]
  rw [mul_comm]; rfl

/-- The reference's cotangent of branch c: the merged row's cotangent times its gate. -/
theorem ref_dc (r : Fin 8192) (d : Fin 1024) :
    val_main_v47 (F := Ideal) DX WO PG BG (ix2 r d) = dmerged DX WO r d * gate PG BG r ⟨2048 + d.val, by omega⟩ := by
  pointwise [← val_main_v47_eq]
  rw [mul_comm]; rfl

/-- Of the three products padded side by side only the column's own is not zero. -/
theorem padded (r : Fin 8192) (k : Fin 3072) : val_main_v50 (F := Ideal) DX WO YA YB YC (ix2 r k)
    = dmerged DX WO r ⟨k.val % 1024, Nat.mod_lt _ (by omega)⟩ * branch YA YB YC r k := by
  pointwise [val_main_v50, val_main_v46, val_main_v45, val_main_v44, val_main_v43, val_main_v41, val_main_v40, val_main_v39, val_main_v38, val_main_v36,
    val_main_v35, val_main_v34, val_main_v31, val_main_v30, val_main_v27, val_main_v15, val_main_v14, val_main_v13, val_main_cst_2, val_main_cst_3, val_main_cst_4]
  have hk := k.isLt
  have hm : k.val % 1024 < 1024 := Nat.mod_lt _ (by omega)
  have c2 : ((2 ≤ k.val / 1024 ∧ k.val / 1024 - 2 < 1) ∧ k.val % 1024 < 1024) ↔ 2048 ≤ k.val := by omega
  have c1 : ((1 ≤ k.val / 1024 ∧ k.val / 1024 - 1 < 1) ∧ k.val % 1024 < 1024) ↔ (1024 ≤ k.val ∧ k.val < 2048) := by omega
  have c0 : (k.val / 1024 < 1 ∧ k.val % 1024 < 1024) ↔ k.val < 1024 := by omega
  simp only [c2, c1, c0, dite_eq_ite, branch, dmerged]
  by_cases h1 : k.val < 1024
  · simp only [show ¬ 2048 ≤ k.val by omega, show ¬ 1024 ≤ k.val by omega, h1, false_and, ↓reduceDIte, if_true, if_false, zero_add]
  · by_cases h2 : k.val < 2048
    · simp only [show ¬ 2048 ≤ k.val by omega, show 1024 ≤ k.val by omega, h1, h2, and_true, ↓reduceDIte, if_true, if_false, zero_add, add_zero]
    · simp only [show 2048 ≤ k.val by omega, h1, h2, and_false, ↓reduceDIte, if_true, if_false, add_zero]

/-- The reference's cotangent of the gates' pre-activation, in f32. -/
theorem ref_dgate (r : Fin 8192) (k : Fin 3072) :
    val_main_v51 (F := Ideal) DX WO PG BG YA YB YC (ix2 r k) = dgate DX WO PG BG YA YB YC r k := by
  rw [val_main_v51_apply, padded]
  pointwise [val_main_v11, val_main_v10, val_main_v9, val_main_v8, val_main_v7, val_main_v6, val_main_v5, val_main_v4, val_main_v3, val_main_v2,
    val_main_v1, val_main_v0, val_main_cst, val_main_cst_0, val_main_cst_1]
  unfold dgate gate
  rw [mul_assoc, mul_assoc, mul_assoc]

/-- The reference's cotangent of the gates' pre-activation, as stored. -/
theorem ref_dg (r : Fin 8192) (k : Fin 3072) :
    val_main_v54 (F := Ideal) DX WO PG BG YA YB YC (ix2 r k) = dgate DX WO PG BG YA YB YC r k :=
  ref_dgate DX WO PG BG YA YB YC r k

/-- The reference's cotangent of the gate bias: the sum over the rows. -/
theorem ref_dbg (k : Fin 3072) :
    val_main_v53 (F := Ideal) DX WO PG BG YA YB YC (ix2 0 k) = ∑ r : Fin 8192, dgate DX WO PG BG YA YB YC r k := by
  pointwise [val_main_v53, val_main_v52, val_main_cst_5]
  exact Finset.sum_congr rfl fun r _ => ref_dgate DX WO PG BG YA YB YC r k

end

end Cert.Merge.Math
-- ==== Proof.MergeKernel.lean ====
/- The arrays the merge's backward kernel leaves, read at one element. -/
module

public import proofs.«01_k».proof.Proof.MergeRead
public import proofs.«01_k».proof.Proof.Gen.MergeIdeal.Value
public import Idealize.ShloMosaic.Lib.Pipeline.ValueKit

@[expose] public section

set_option maxRecDepth 16384

noncomputable section

namespace Cert.Merge.Kernel

open Idealize.ShloMosaic Idealize.ShloMosaic.TcCoe Idealize.SL.Sem
open Idealize.ShloMosaic.Pipeline (Dat)
open Cert.MergeIdeal Cert.MergeIdeal.Gen Cert.Merge.Math

variable (m : (ℓ : Loc nD τ sig) → Buf (Elt Ideal) ℓ) (c : Dev nD)

/-- The windows' block indices at grid point `t`: row block `t` for the row-blocked arrays, the whole array for the others. -/
theorem index_maps : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, 0] :=
  (by decide +kernel : ∀ t : Fin grid0.N, _)

/-- The cotangent of branch a after the run. -/
theorem final_da : (dats m 0 c).arrAt 8 (cfgs 0).N = fun i => dmerged (m ((c : Thread nD τ).loc main_arg0)) (m ((c : Thread nD τ).loc main_arg1)) (i 0) (i 1)
      * gate (m ((c : Thread nD τ).loc main_arg2)) (m ((c : Thread nD τ).loc main_arg3)) (i 0) ⟨(i 1).val, by have := (i 1).isLt; change _ < 1024 at this; omega⟩ := by
  refine (dats m 0 c).arrAt_eq_of_covers 8 _ (by decide +kernel) fun t _ y => ?_
  blk_simp
  have h : (outsAt0 m c t.val t.isLt).2.1 = k0_pay8 (iblk m c 2 t) (iblk m c 3 t) (iblk m c 0 t) (iblk m c 1 t) := by
    by_cases h0 : t.val % 16 = 0
    · rw [outsAt0_A m c t h0]; frame_out
    · rw [outsAt0_B m c t h0]; frame_out
  rw [after0_8, h]
  pointwise [k0_pay8, k0_pay7, k0_pay6, k0_pay5, dmerged, gate]
  rw [zero_sub]
  blk_point [iblk, V, index_maps t]

/-- The cotangent of branch b after the run. -/
theorem final_db : (dats m 0 c).arrAt 9 (cfgs 0).N = fun i => dmerged (m ((c : Thread nD τ).loc main_arg0)) (m ((c : Thread nD τ).loc main_arg1)) (i 0) (i 1)
      * gate (m ((c : Thread nD τ).loc main_arg2)) (m ((c : Thread nD τ).loc main_arg3)) (i 0) ⟨1024 + (i 1).val, by have := (i 1).isLt; change _ < 1024 at this; omega⟩ := by
  refine (dats m 0 c).arrAt_eq_of_covers 9 _ (by decide +kernel) fun t _ y => ?_
  blk_simp
  have h : (outsAt0 m c t.val t.isLt).2.2.1 = k0_pay13 (k0_pay5 (iblk m c 2 t) (iblk m c 3 t)) (k0_pay6 (iblk m c 0 t) (iblk m c 1 t)) := by
    by_cases h0 : t.val % 16 = 0
    · rw [outsAt0_A m c t h0]; frame_out
    · rw [outsAt0_B m c t h0]; frame_out
  rw [after0_9, h]
  pointwise [k0_pay13, k0_pay12, k0_pay6, k0_pay5, dmerged, gate]
  rw [zero_sub]
  blk_point [iblk, V, index_maps t]

/-- The cotangent of branch c after the run. -/
theorem final_dc : (dats m 0 c).arrAt 10 (cfgs 0).N = fun i => dmerged (m ((c : Thread nD τ).loc main_arg0)) (m ((c : Thread nD τ).loc main_arg1)) (i 0) (i 1)
      * gate (m ((c : Thread nD τ).loc main_arg2)) (m ((c : Thread nD τ).loc main_arg3)) (i 0) ⟨2048 + (i 1).val, by have := (i 1).isLt; change _ < 1024 at this; omega⟩ := by
  refine (dats m 0 c).arrAt_eq_of_covers 10 _ (by decide +kernel) fun t _ y => ?_
  blk_simp
  have h : (outsAt0 m c t.val t.isLt).2.2.2.1 = k0_pay18 (k0_pay5 (iblk m c 2 t) (iblk m c 3 t)) (k0_pay6 (iblk m c 0 t) (iblk m c 1 t)) := by
    by_cases h0 : t.val % 16 = 0
    · rw [outsAt0_A m c t h0]; frame_out
    · rw [outsAt0_B m c t h0]; frame_out
  rw [after0_10, h]
  pointwise [k0_pay18, k0_pay17, k0_pay6, k0_pay5, dmerged, gate]
  rw [zero_sub]
  blk_point [iblk, V, index_maps t]

end Cert.Merge.Kernel
-- ==== Proof.MergeGates.lean ====
/- The gates' cotangent and the gate bias's cotangent the merge's backward kernel leaves. -/
module

public import proofs.«01_k».proof.Proof.MergeKernel
public import proofs.«01_k».proof.Proof.Gen.MergeIdeal.Value
public import Idealize.ShloMosaic.Lib.Pipeline.ValueKit
public import Idealize.ShloMosaic.Lib.Pipeline.ReadBack

@[expose] public section

set_option maxRecDepth 16384

noncomputable section

namespace Cert.Merge.Kernel

open Idealize.ShloMosaic Idealize.ShloMosaic.TcCoe Idealize.SL.Sem
open Idealize.ShloMosaic.Pipeline (Dat)
open Cert.MergeIdeal Cert.MergeIdeal.Gen Cert.Merge.Math

variable (m : (ℓ : Loc nD τ sig) → Buf (Elt Ideal) ℓ) (c : Dev nD)

/-- Row `r` of row block `t` is a row of the array. -/
theorem row_lt (t : Fin cfg0.N) (r : Fin 512) : t.val * 512 + r.val < 8192 := by
  have h : t.val < 16 := lt_of_lt_of_eq t.isLt N_0
  omega

/-- The gates' cotangent of the argument arrays. -/
def dg (r : Fin 8192) (k : Fin 3072) : EReal :=
  dgate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r k

/-- The block of the gates' cotangent in the columns of branch a at grid point `t`. -/
theorem block_a (t : Fin cfg0.N) (r : Fin 512) (d : Fin 1024) :
    k0_pay9 (iblk m c 2 t) (iblk m c 3 t) (iblk m c 0 t) (iblk m c 1 t) (iblk m c 4 t) (ix2 r d)
      = dg m c ⟨t.val * 512 + r.val, row_lt t r⟩ ⟨d.val, by omega⟩ := by
  unfold dg
  rw [dgate_a]
  pointwise [k0_pay9, k0_pay7, k0_pay6, k0_pay5, dmerged, gate]
  rw [zero_sub]
  blk_point [iblk, V, index_maps t]

/-- The block of the gates' cotangent in the columns of branch b at grid point `t`. -/
theorem block_b (t : Fin cfg0.N) (r : Fin 512) (d : Fin 1024) :
    k0_pay14 (k0_pay5 (iblk m c 2 t) (iblk m c 3 t)) (k0_pay6 (iblk m c 0 t) (iblk m c 1 t)) (iblk m c 5 t) (ix2 r d)
      = dg m c ⟨t.val * 512 + r.val, row_lt t r⟩ ⟨1024 + d.val, by omega⟩ := by
  unfold dg
  rw [dgate_b]
  pointwise [k0_pay14, k0_pay12, k0_pay6, k0_pay5, dmerged, gate]
  rw [zero_sub]
  blk_point [iblk, V, index_maps t]

/-- The block of the gates' cotangent in the columns of branch c at grid point `t`. -/
theorem block_c (t : Fin cfg0.N) (r : Fin 512) (d : Fin 1024) :
    k0_pay1 (k0_pay17 (k0_pay5 (iblk m c 2 t) (iblk m c 3 t))) (k0_pay19 (k0_pay5 (iblk m c 2 t) (iblk m c 3 t)) (k0_pay6 (iblk m c 0 t) (iblk m c 1 t)) (iblk m c 6 t)) k0_pay20 (ix2 r d)
      = dg m c ⟨t.val * 512 + r.val, row_lt t r⟩ ⟨2048 + d.val, by omega⟩ := by
  unfold dg
  rw [dgate_c]
  pointwise [k0_pay1, k0_pay17, k0_pay19, k0_pay20, k0_pay6, k0_pay5, dmerged, gate]
  rw [zero_sub]
  blk_point [iblk, V, index_maps t]

/-- The truncated block of branch c's columns, at an element. -/
theorem pay2_apply (u v w : FVec Ideal S512x1024 .f32) (x : S512x1024.Idx) : k0_pay2 (F := Ideal) u v w x = k0_pay1 (F := Ideal) u v w x := by pointwise [k0_pay2]

/-- The truncated block of branch b's columns, at an element. -/
theorem pay15_apply (g : FVec Ideal S512x3072 .f32) (u : FVec Ideal S512x1024 .f32) (w : FVec Ideal S512x1024 .bf16) (x : S512x1024.Idx) :
    k0_pay15 (F := Ideal) g u w x = k0_pay14 (F := Ideal) g u w x := by pointwise [k0_pay15]

/-- The truncated block of branch a's columns, at an element. -/
theorem pay10_apply (p : FVec Ideal S512x3072 .bf16) (b : FVec Ideal S1x3072 .f32) (u : FVec Ideal S512x1024 .f32) (w : FVec Ideal S1024x1024 .bf16)
    (y : FVec Ideal S512x1024 .bf16) (x : S512x1024.Idx) : k0_pay10 (F := Ideal) p b u w y x = k0_pay9 (F := Ideal) p b u w y x := by pointwise [k0_pay10]

/-- The bias's running sum in branch a's columns. -/
theorem pay11_apply (u : FVec Ideal S512x1024 .f32) (s : FVec Ideal S1x1024 .f32) (d : Fin 1024) :
    k0_pay11 u s (ix2 0 d) = s (ix2 0 d) + ∑ r : Fin 512, u (ix2 r d) := by pointwise [k0_pay11]

/-- The bias's running sum in branch b's columns. -/
theorem pay16_apply (g : FVec Ideal S512x3072 .f32) (u : FVec Ideal S512x1024 .f32) (w : FVec Ideal S512x1024 .bf16) (s : FVec Ideal S1x1024 .f32)
    (d : Fin 1024) : k0_pay16 g u w s (ix2 0 d) = s (ix2 0 d) + ∑ r : Fin 512, k0_pay14 g u w (ix2 r d) := by pointwise [k0_pay16]

/-- The bias's running sum in branch c's columns. -/
theorem pay3_apply (u v w : FVec Ideal S512x1024 .f32) (s : FVec Ideal S1x1024 .f32) (d : Fin 1024) :
    k0_pay3 u v w s (ix2 0 d) = s (ix2 0 d) + ∑ r : Fin 512, k0_pay1 u v w (ix2 r d) := by pointwise [k0_pay3]

end Cert.Merge.Kernel
-- ==== Proof.MergeFinal.lean ====
/- The gates' cotangent and the gate bias's cotangent the merge's backward kernel leaves. -/
module

public import proofs.«01_k».proof.Proof.Canon
public import proofs.«01_k».proof.Proof.MergeGates
public import proofs.«01_k».proof.Proof.Gen.MergeIdeal.Value
public import Idealize.ShloMosaic.Lib.Pipeline.ValueKit
public import Idealize.ShloMosaic.Lib.Pipeline.ReadBack

@[expose] public section

set_option maxRecDepth 16384

noncomputable section

namespace Cert.Merge.Kernel

open Idealize.ShloMosaic Idealize.ShloMosaic.TcCoe Idealize.SL.Sem
open Idealize.ShloMosaic.Pipeline (Dat)
open Cert.MergeIdeal Cert.MergeIdeal.Gen Cert.Merge.Math

variable (m : (ℓ : Loc nD τ sig) → Buf (Elt Ideal) ℓ) (c : Dev nD)

/-- Branch a's columns are among the gates' columns. -/
theorem lt_a (d : Fin 1024) : d.val < 3072 := lt_trans d.isLt (by decide)

/-- Branch b's columns are among the gates' columns. -/
theorem lt_b (d : Fin 1024) : 1024 + d.val < 3072 := by have := d.isLt; omega

/-- Equal coordinates, equal cotangents. -/
theorem dg_congr {r r' : Fin 8192} {k k' : Fin 3072} (hr : r.val = r'.val) (hk : k.val = k'.val) : dg m c r k = dg m c r' k' := by
  rw [Fin.ext hr, Fin.ext hk]

/-- What grid point `t` stores of the gates' cotangent: rows `512 t` to `512 t + 511`. -/
theorem stored_dg (t : Fin cfg0.N) (y : S512x3072.Idx) :
    (outsAt0 m c t.val t.isLt).1 y = dg m c ⟨t.val * 512 + (y 0).val, row_lt t (y 0)⟩ (y 1) := by
  by_cases hA : t.val % 16 = 0
  on_goal 1 => rw [outsAt0_A m c t hA]
  on_goal 2 => rw [outsAt0_B m c t hA]
  all_goals
    frame_out
    canon_tiles x h
    · rw [pay2_apply, eq_ix2 x, block_c m c t (x 0) (x 1)]
      exact dg_congr m c (congrArg (t.val * 512 + ·) h0.symm) h1.symm
    · rw [pay15_apply, eq_ix2 x, block_b m c t (x 0) (x 1)]
      exact dg_congr m c (congrArg (t.val * 512 + ·) h0.symm) h1.symm
    · rw [pay10_apply, eq_ix2 x, block_a m c t (x 0) (x 1)]
      exact dg_congr m c (congrArg (t.val * 512 + ·) h0.symm) h1.symm

/-- The gates' cotangent after the run. -/
theorem final_dg : (dats m 0 c).arrAt 7 (cfgs 0).N = fun i => dg m c (i 0) (i 1) := by
  refine (dats m 0 c).arrAt_eq_of_covers 7 _ (by decide +kernel) fun t _ y => ?_
  blk_simp
  rw [after0_7, stored_dg m c t y]
  exact dg_congr m c (by blk_simp [index_maps t]) (by blk_simp [index_maps t])

/-- The sum over one row block of the gates' cotangent. -/
def colsum (t : Fin cfg0.N) (k : Fin 3072) : EReal := ∑ r : Fin 512, dg m c ⟨t.val * 512 + r.val, row_lt t r⟩ k

/-- Equal columns, equal sums. -/
theorem colsum_congr (t : Fin cfg0.N) {k k' : Fin 3072} (hk : k.val = k'.val) : colsum m c t k = colsum m c t k' := by rw [Fin.ext hk]

/-- At the first grid point the bias's cotangent is the first row block's sum. -/
theorem stored_dbg_A (t : Fin cfg0.N) (hA : t.val % 16 = 0) (k : Fin 3072) :
    (outsAt0 m c t.val t.isLt).2.2.2.2 (ix2 0 k) = (0 : EReal) + colsum m c t k := by
  rw [outsAt0_A m c t hA]
  frame_out
  rw [View.readCov_skip _ _ _ _ _ (by decide), View.readCov_skip _ _ _ _ _ (by decide)]
  repeat rw [View.readCov_fill _ _ _ _ _ (by decide)]
  rw [View.readCov_skip _ _ _ _ _ (by decide)]
  repeat rw [View.readCov_fill _ _ _ _ _ (by decide)]
  refine (canon_append_left [_, _, _] [_] (ix2 0 k) (View.cover_of_tiled_head _ _ _ (by rfl) _)).trans ?_
  canon_tiles x h
  · obtain ⟨d, rfl⟩ : ∃ d : Fin 1024, x = ix2 0 d := ⟨x 1, by rw [eq_ix2 x]; congr 1; exact Fin.ext (Nat.lt_one_iff.mp x0_lt)⟩
    obtain rfl : k = ⟨2048 + d.val, Nat.add_lt_add_left d.isLt 2048⟩ := Fin.ext h1
    rw [pay3_apply]
    pointwise [colsum, block_c, k0_pay4]
  · obtain ⟨d, rfl⟩ : ∃ d : Fin 1024, x = ix2 0 d := ⟨x 1, by rw [eq_ix2 x]; congr 1; exact Fin.ext (Nat.lt_one_iff.mp x0_lt)⟩
    obtain rfl : k = ⟨1024 + d.val, lt_b d⟩ := Fin.ext h1
    rw [pay16_apply]
    pointwise [colsum, block_b, k0_pay4]
  · obtain ⟨d, rfl⟩ : ∃ d : Fin 1024, x = ix2 0 d := ⟨x 1, by rw [eq_ix2 x]; congr 1; exact Fin.ext (Nat.lt_one_iff.mp x0_lt)⟩
    obtain rfl : k = ⟨d.val, lt_a d⟩ := Fin.ext h1
    rw [pay11_apply]
    pointwise [colsum, block_a, k0_pay4]

/-- At each later grid point the row block's sum is added. -/
theorem stored_dbg_B (t : Fin cfg0.N) (hB : ¬t.val % 16 = 0) (k : Fin 3072) : (outsAt0 m c t.val t.isLt).2.2.2.2 (ix2 0 k)
    = (show EReal from (outsAt0 m c (t.val - 1) (Nat.lt_of_le_of_lt (Nat.sub_le _ _) t.isLt)).2.2.2.2 (ix2 0 k)) + colsum m c t k := by
  rw [outsAt0_B m c t hB]
  frame_out
  canon_tiles x h
  · obtain ⟨d, rfl⟩ : ∃ d : Fin 1024, x = ix2 0 d := ⟨x 1, by rw [eq_ix2 x]; congr 1; exact Fin.ext (Nat.lt_one_iff.mp x0_lt)⟩
    obtain rfl : k = ⟨2048 + d.val, Nat.add_lt_add_left d.isLt 2048⟩ := Fin.ext h1
    rw [pay3_apply]
    pointwise [colsum, block_c]
  · obtain ⟨d, rfl⟩ : ∃ d : Fin 1024, x = ix2 0 d := ⟨x 1, by rw [eq_ix2 x]; congr 1; exact Fin.ext (Nat.lt_one_iff.mp x0_lt)⟩
    obtain rfl : k = ⟨1024 + d.val, lt_b d⟩ := Fin.ext h1
    rw [pay16_apply]
    pointwise [colsum, block_b]
  · obtain ⟨d, rfl⟩ : ∃ d : Fin 1024, x = ix2 0 d := ⟨x 1, by rw [eq_ix2 x]; congr 1; exact Fin.ext (Nat.lt_one_iff.mp x0_lt)⟩
    obtain rfl : k = ⟨d.val, lt_a d⟩ := Fin.ext h1
    rw [pay11_apply]
    pointwise [colsum, block_a]

/-- The gate bias's cotangent after the run: the sum over all rows. -/
theorem final_dbg : (dats m 0 c).arrAt 11 (cfgs 0).N = fun i => ∑ r : Fin 8192, dg m c r (i 1) := by
  refine (dats m 0 c).arrAt_eq_of_after_last 11 t0_15 (by decide +kernel) _ fun j => ?_
  blk_simp
  obtain ⟨k, rfl⟩ : ∃ k : Fin 3072, j = ix2 0 k := ⟨j 1, by rw [eq_ix2 j]; congr 1; exact Subsingleton.elim (α := Fin 1) _ _⟩
  rw [after0_11]
  have h := Pipeline.eq_sum_fin_of_reset_step_apply_last (fun n h (k : Fin 3072) => (show EReal from (outsAt0 m c n h).2.2.2.2 (ix2 0 k))) 16 (fun _ => 0) (colsum m c)
    (fun t h k => stored_dbg_A m c t h k) (fun t h k => stored_dbg_B m c t h k) (le_of_eq N_0) t0_15 rfl k
  refine h.trans ?_
  rw [zero_add]
  refine Fin.sum_mul_add_congr fun t r hl => ?_
  rfl

end Cert.Merge.Kernel
-- ==== Proof.MergeClaim.lean ====
/- The merge's backward pass: the kernel's five results are the reference's. -/
module

public import proofs.«01_k».proof.Defs
public import proofs.«01_k».proof.Proof.MergeFinal
public import proofs.«01_k».proof.Proof.Gen.MergeRefIdeal.Run
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Read
public import Idealize.ShloMosaic.Lib.Quiescent

@[expose] public section

set_option maxRecDepth 16384

noncomputable section

namespace Cert.Merge

open Idealize.ShloMosaic Idealize.ShloMosaic.TcCoe Idealize.SL.Sem
open Cert.Merge.Math Cert.Merge.Kernel

open Cert.MergeRefIdeal.Read

section Results

variable (m : (ℓ : Loc Cert.MergeIdeal.nD Cert.MergeIdeal.τ Cert.MergeIdeal.sig) → Buf (Elt Ideal) ℓ) (c : Dev Cert.MergeIdeal.nD)

/-- The merge kernel's gate cotangent is the reference's. -/
theorem dg_eq : (Cert.MergeIdeal.Gen.dats m 0 c).arrAt 7 Cert.MergeIdeal.cfg0.N
    = val_main_v54 (F := Ideal) (m (c.tc.loc Cert.MergeIdeal.main_arg0)) (m (c.tc.loc Cert.MergeIdeal.main_arg1)) (m (c.tc.loc Cert.MergeIdeal.main_arg2)) (m (c.tc.loc Cert.MergeIdeal.main_arg3)) (m (c.tc.loc Cert.MergeIdeal.main_arg4)) (m (c.tc.loc Cert.MergeIdeal.main_arg5)) (m (c.tc.loc Cert.MergeIdeal.main_arg6)) := by
  refine (final_dg m c).trans (funext fun i => ?_)
  exact ((congrArg _ (eq_ix2 i)).trans (ref_dg _ _ _ _ _ _ _ _ _)).symm

/-- The merge kernel's cotangent of branch a is the reference's. -/
theorem da_eq : (Cert.MergeIdeal.Gen.dats m 0 c).arrAt 8 Cert.MergeIdeal.cfg0.N
    = val_main_v49 (F := Ideal) (m (c.tc.loc Cert.MergeIdeal.main_arg0)) (m (c.tc.loc Cert.MergeIdeal.main_arg1)) (m (c.tc.loc Cert.MergeIdeal.main_arg2)) (m (c.tc.loc Cert.MergeIdeal.main_arg3)) := by
  refine (final_da m c).trans (funext fun i => ?_)
  exact ((congrArg _ (eq_ix2 i)).trans (ref_da _ _ _ _ _ _)).symm

/-- The merge kernel's cotangent of branch b is the reference's. -/
theorem db_eq : (Cert.MergeIdeal.Gen.dats m 0 c).arrAt 9 Cert.MergeIdeal.cfg0.N
    = val_main_v48 (F := Ideal) (m (c.tc.loc Cert.MergeIdeal.main_arg0)) (m (c.tc.loc Cert.MergeIdeal.main_arg1)) (m (c.tc.loc Cert.MergeIdeal.main_arg2)) (m (c.tc.loc Cert.MergeIdeal.main_arg3)) := by
  refine (final_db m c).trans (funext fun i => ?_)
  exact ((congrArg _ (eq_ix2 i)).trans (ref_db _ _ _ _ _ _)).symm

/-- The merge kernel's cotangent of branch c is the reference's. -/
theorem dc_eq : (Cert.MergeIdeal.Gen.dats m 0 c).arrAt 10 Cert.MergeIdeal.cfg0.N
    = val_main_v47 (F := Ideal) (m (c.tc.loc Cert.MergeIdeal.main_arg0)) (m (c.tc.loc Cert.MergeIdeal.main_arg1)) (m (c.tc.loc Cert.MergeIdeal.main_arg2)) (m (c.tc.loc Cert.MergeIdeal.main_arg3)) := by
  refine (final_dc m c).trans (funext fun i => ?_)
  exact ((congrArg _ (eq_ix2 i)).trans (ref_dc _ _ _ _ _ _)).symm

/-- The merge kernel's gate-bias gradient is the reference's. -/
theorem dbg_eq : (Cert.MergeIdeal.Gen.dats m 0 c).arrAt 11 Cert.MergeIdeal.cfg0.N
    = val_main_v53 (F := Ideal) (m (c.tc.loc Cert.MergeIdeal.main_arg0)) (m (c.tc.loc Cert.MergeIdeal.main_arg1)) (m (c.tc.loc Cert.MergeIdeal.main_arg2)) (m (c.tc.loc Cert.MergeIdeal.main_arg3)) (m (c.tc.loc Cert.MergeIdeal.main_arg4)) (m (c.tc.loc Cert.MergeIdeal.main_arg5)) (m (c.tc.loc Cert.MergeIdeal.main_arg6)) := by
  refine (final_dbg m c).trans (funext fun i => ?_)
  have hi : i = ix2 0 (i 1) := (eq_ix2 i).trans (congrArg (fun a => ix2 a (i 1)) (Subsingleton.elim (α := Fin 1) _ _))
  exact ((congrArg _ hi).trans (ref_dbg _ _ _ _ _ _ _ _)).symm

end Results

/-- Over the extended reals the merge's backward kernel and the reference return the same five arrays. -/
theorem algebraic : @Cert.algebraic_MergeIdeal_MergeRefIdeal Cert.MergeIdeal.Gen.facts Cert.MergeRefIdeal.Gen.facts := by
  intro m g m' g' _ hag
  refine ⟨fun c => (Cert.MergeIdeal.Gen.dats m 0 c).arrAt 7 Cert.MergeIdeal.cfg0.N, fun c => (Cert.MergeIdeal.Gen.dats m 0 c).arrAt 8 Cert.MergeIdeal.cfg0.N, fun c => (Cert.MergeIdeal.Gen.dats m 0 c).arrAt 9 Cert.MergeIdeal.cfg0.N, fun c => (Cert.MergeIdeal.Gen.dats m 0 c).arrAt 10 Cert.MergeIdeal.cfg0.N, fun c => (Cert.MergeIdeal.Gen.dats m 0 c).arrAt 11 Cert.MergeIdeal.cfg0.N,
    Cert.MergeIdeal.Value.run_blocks m g, (θ_run _ _ _).mono (fun r h c => ?_) (Cert.MergeRefIdeal.Value.run m' g')⟩
  obtain ⟨h0, h1, h2, h3, h4, hk⟩ := h c
  obtain ⟨a0, a1, a2, a3, a4, a5, a6⟩ := hag c
  refine ⟨h0.trans ((val_main_v54_eq _ _ _ _ _ _ _).trans ?_), h1.trans ((val_main_v49_eq _ _ _ _).trans ?_), h2.trans ((val_main_v48_eq _ _ _ _).trans ?_), h3.trans ((val_main_v47_eq _ _ _ _).trans ?_), h4.trans ((val_main_v53_eq _ _ _ _ _ _ _).trans ?_), hk⟩
  · rw [a0, a1, a2, a3, a4, a5, a6]; exact (dg_eq m c).symm
  · rw [a0, a1, a2, a3]; exact (da_eq m c).symm
  · rw [a0, a1, a2, a3]; exact (db_eq m c).symm
  · rw [a0, a1, a2, a3]; exact (dc_eq m c).symm
  · rw [a0, a1, a2, a3, a4, a5, a6]; exact (dbg_eq m c).symm

/-- The reference's run leaves its arguments and every semaphore as they were. -/
theorem ref_frame : @Cert.quiescent_MergeRefIdeal Cert.MergeRefIdeal.Gen.facts := by
  intro m g _
  refine (θ_run _ _ _).mono (fun r h => ⟨fun c => ?_, sem_eq_zero_of_no_sems (by decide) _⟩) (Cert.MergeRefIdeal.Value.run m g)
  exact (h c).2.2.2.2.2

end Cert.Merge
-- ==== Proof.Dh.lean ====
/- The gradient that reaches the normalised activations through the four input projections: the kernel's array is the reference's. -/
module

public import proofs.«01_k».proof.Proof.Gen.DhIdeal.Value
public import proofs.«01_k».proof.Proof.Gen.DhRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Dh.Proof

open Idealize.ShloMosaic Idealize.ShloMosaic.TcCoe Idealize.SL.Sem
open Idealize.ShloMosaic.Pipeline (Dat)
open Cert.DhIdeal Cert.DhIdeal.Gen

/-- The reference's gradient at one element: four sums, one per piece of the projection's columns. -/
theorem ref (DA : FVec Ideal Cert.DhRefIdeal.S8192x2048 .bf16) (WA : FVec Ideal Cert.DhRefIdeal.S1024x2048 .bf16) (DB : FVec Ideal Cert.DhRefIdeal.S8192x2048 .bf16) (WB : FVec Ideal Cert.DhRefIdeal.S1024x2048 .bf16)
    (DC : FVec Ideal Cert.DhRefIdeal.S8192x3584 .bf16) (WC : FVec Ideal Cert.DhRefIdeal.S1024x3584 .bf16) (DG : FVec Ideal Cert.DhRefIdeal.S8192x3072 .bf16) (WG : FVec Ideal Cert.DhRefIdeal.S1024x3072 .bf16) (i : Fin 8192) (j : Fin 1024) :
    Cert.DhRefIdeal.Read.val_main_v19 (F := Ideal) DA WA DB WB DC WC DG WG (ix2 i j)
      = (((∑ l : Fin 3072, DG (ix2 i l) * WG (ix2 j l)) + ∑ l : Fin 3584, DC (ix2 i l) * WC (ix2 j l)) + ∑ l : Fin 2048, DB (ix2 i l) * WB (ix2 j l))
        + ∑ l : Fin 2048, DA (ix2 i l) * WA (ix2 j l) := by
  pointwise [← Cert.DhRefIdeal.Read.val_main_v19_eq]

/-- The zero block. -/
theorem zero_apply (y : S1024x1024.Idx) : k0_pay1 (F := Ideal) y = 0 := by pointwise [k0_pay1]

/-- One accumulation step over the piece `a` at one element. -/
theorem step_a (acc : FVec Ideal S1024x1024 .f32) (a b : FVec Ideal S1024x1024 .bf16) (y : S1024x1024.Idx) :
    k0_pay2 (F := Ideal) acc a b y = acc y + ∑ k : Fin 1024, a (ix2 (y 0) k) * b (ix2 (y 1) k) := by
  rw [eq_ix2 y]; pointwise [k0_pay2]

/-- One accumulation step over the piece `b` at one element. -/
theorem step_b (acc : FVec Ideal S1024x1024 .f32) (a b : FVec Ideal S1024x1024 .bf16) (y : S1024x1024.Idx) :
    k0_pay3 (F := Ideal) acc a b y = acc y + ∑ k : Fin 1024, a (ix2 (y 0) k) * b (ix2 (y 1) k) := by
  rw [eq_ix2 y]; pointwise [k0_pay3]

/-- One accumulation step over the piece `c` at one element. -/
theorem step_c (acc : FVec Ideal S1024x1024 .f32) (a b : FVec Ideal S1024x896 .bf16) (y : S1024x1024.Idx) :
    k0_pay4 (F := Ideal) acc a b y = acc y + ∑ k : Fin 896, a (ix2 (y 0) k) * b (ix2 (y 1) k) := by
  rw [eq_ix2 y]; pointwise [k0_pay4]

/-- One accumulation step over the piece `g` at one element. -/
theorem step_g (acc : FVec Ideal S1024x1024 .f32) (a b : FVec Ideal S1024x1024 .bf16) (y : S1024x1024.Idx) :
    k0_pay5 (F := Ideal) acc a b y = acc y + ∑ k : Fin 1024, a (ix2 (y 0) k) * b (ix2 (y 1) k) := by
  rw [eq_ix2 y]; pointwise [k0_pay5]

/-- The block indices of the piece `a` at the points that work on it. -/
theorem index_a : ∀ t : Fin cfg0.N, t.val % 11 ≤ 1 → win0_0.index t = ![t.val / 11, t.val % 11] ∧ win0_1.index t = ![0, t.val % 11] :=
  (by decide +kernel : ∀ t : Fin grid0.N, _)

/-- The block indices of the piece `b` at the points that work on it. -/
theorem index_b : ∀ t : Fin cfg0.N, 2 ≤ t.val % 11 ∧ t.val % 11 ≤ 3 → win0_2.index t = ![t.val / 11, t.val % 11 - 2] ∧ win0_3.index t = ![0, t.val % 11 - 2] :=
  (by decide +kernel : ∀ t : Fin grid0.N, _)

/-- The block indices of the piece `c` at the points that work on it. -/
theorem index_c : ∀ t : Fin cfg0.N, 4 ≤ t.val % 11 ∧ t.val % 11 ≤ 7 → win0_4.index t = ![t.val / 11, t.val % 11 - 4] ∧ win0_5.index t = ![0, t.val % 11 - 4] :=
  (by decide +kernel : ∀ t : Fin grid0.N, _)

/-- The block indices of the piece `g` at the points that work on it. -/
theorem index_g : ∀ t : Fin cfg0.N, 8 ≤ t.val % 11 → win0_6.index t = ![t.val / 11, t.val % 11 - 8] ∧ win0_7.index t = ![0, t.val % 11 - 8] :=
  (by decide +kernel : ∀ t : Fin grid0.N, _)

/-- The output's block index. -/
theorem index_out : ∀ t : Fin cfg0.N, win0_8.index t = ![t.val / 11, 0] :=
  (by decide +kernel : ∀ t : Fin grid0.N, _)

variable (m : (ℓ : Loc nD τ sig) → Buf (Elt Ideal) ℓ) (c : Dev nD)

/-- What a point of the piece `a` adds. -/
def part_a (t : Fin cfg0.N) (y : S1024x1024.Idx) : EReal :=
  ∑ k : Fin 1024, (show EReal from iblk m c 0 t (ix2 (y 0) k)) * (show EReal from iblk m c 1 t (ix2 (y 1) k))

/-- What a point of the piece `b` adds. -/
def part_b (t : Fin cfg0.N) (y : S1024x1024.Idx) : EReal :=
  ∑ k : Fin 1024, (show EReal from iblk m c 2 t (ix2 (y 0) k)) * (show EReal from iblk m c 3 t (ix2 (y 1) k))

/-- What a point of the piece `c` adds. -/
def part_c (t : Fin cfg0.N) (y : S1024x1024.Idx) : EReal :=
  ∑ k : Fin 896, (show EReal from iblk m c 4 t (ix2 (y 0) k)) * (show EReal from iblk m c 5 t (ix2 (y 1) k))

/-- What a point of the piece `g` adds. -/
def part_g (t : Fin cfg0.N) (y : S1024x1024.Idx) : EReal :=
  ∑ k : Fin 1024, (show EReal from iblk m c 6 t (ix2 (y 0) k)) * (show EReal from iblk m c 7 t (ix2 (y 1) k))

/-- What point `t` adds to the accumulated block. -/
def part (t : Fin cfg0.N) (y : S1024x1024.Idx) : EReal :=
  if t.val % 11 ≤ 1 then part_a m c t y else if t.val % 11 ≤ 3 then part_b m c t y else if t.val % 11 ≤ 7 then part_c m c t y else part_g m c t y

/-- The accumulated block at the point that writes it back: the sum of the eleven points' parts. -/
theorem acc_eq (t : Fin cfg0.N) (hr : t.val % 11 = 10) (y : S1024x1024.Idx) :
    (outsAt0 m c t.val t.isLt).2 y = ∑ s : Fin 11, part m c ⟨11 * (t.val / 11) + s.val, Pipeline.run_point_lt_of_flush t hr s⟩ y := by
  rw [Pipeline.eq_sum_fin_of_reset_step_apply_of_flush (fun n h => (outsAt0 m c n h).2) 11 (fun _ => (0 : EReal)) (part m c)
    (fun t h j => ?_) (fun t h j => ?_) t hr y, zero_add]
  · rw [outsAt0_A m c t h (by omega) (by omega) (by omega) (by omega) (by omega)]; frame_out; rw [step_a, zero_apply]
    unfold part; rw [if_pos (by omega)]; rfl
  · unfold part
    by_cases h1 : t.val % 11 ≤ 1
    · rw [outsAt0_B m c t h h1 (by omega) (by omega) (by omega) (by omega)]; frame_out; rw [step_a, read_unread_whole, if_pos h1]; rfl
    · by_cases h2 : t.val % 11 ≤ 3
      · rw [outsAt0_C m c t h h1 (by omega) (by omega) (by omega) (by omega)]; frame_out; rw [step_b, read_unread_whole, if_neg h1, if_pos h2]; rfl
      · by_cases h3 : t.val % 11 ≤ 7
        · rw [outsAt0_D m c t h h1 (by omega) (by omega) (by omega) (by omega)]; frame_out; rw [step_c, read_unread_whole, if_neg h1, if_neg h2, if_pos h3]; rfl
        · by_cases h5 : t.val % 11 = 10
          · rw [outsAt0_F m c t h h1 (by omega) (by omega) (by omega) h5]; frame_out; rw [step_g, read_unread_whole, if_neg h1, if_neg h2, if_neg h3]; rfl
          · rw [outsAt0_E m c t h h1 (by omega) (by omega) (by omega) h5]; frame_out; rw [step_g, read_unread_whole, if_neg h1, if_neg h2, if_neg h3]; rfl

/-- Eleven terms in the pieces the points take them in. -/
theorem sum_eleven (f : Fin 11 → EReal) : ∑ s : Fin 11, f s
    = (((∑ s : Fin 3, f ⟨8 + s.val, by omega⟩) + ∑ s : Fin 4, f ⟨4 + s.val, by omega⟩) + ∑ s : Fin 2, f ⟨2 + s.val, by omega⟩) + ∑ s : Fin 2, f ⟨s.val, by omega⟩ := by
  have h1 : ∑ s : Fin 11, f s = (∑ s : Fin 8, f ⟨s.val, by omega⟩) + ∑ s : Fin 3, f ⟨8 + s.val, by omega⟩ :=
    Fin.sum_univ_add (a := 8) (b := 3) f
  have h2 : ∑ s : Fin 8, f ⟨s.val, by omega⟩ = (∑ s : Fin 4, f ⟨s.val, by omega⟩) + ∑ s : Fin 4, f ⟨4 + s.val, by omega⟩ :=
    Fin.sum_univ_add (a := 4) (b := 4) fun s : Fin 8 => f ⟨s.val, by omega⟩
  have h3 : ∑ s : Fin 4, f ⟨s.val, by omega⟩ = (∑ s : Fin 2, f ⟨s.val, by omega⟩) + ∑ s : Fin 2, f ⟨2 + s.val, by omega⟩ :=
    Fin.sum_univ_add (a := 2) (b := 2) fun s : Fin 4 => f ⟨s.val, by omega⟩
  rw [h1, h2, h3]; ac_rfl

/-- The parts of the piece `a` make its sum. -/
theorem parts_a (t : Fin cfg0.N) (hr : t.val % 11 = 10) (y : S1024x1024.Idx) :
    ∑ s : Fin 2, part m c ⟨11 * (t.val / 11) + s.val, Pipeline.run_point_lt_of_flush t hr ⟨s.val, by omega⟩⟩ y
      = ∑ l : Fin 2048, (show EReal from m ((c : Thread nD τ).loc main_arg0) (ix2 ((win0_8.blk t).view.emb y 0) l)) * (show EReal from m ((c : Thread nD τ).loc main_arg1) (ix2 ((win0_8.blk t).view.emb y 1) l)) := by
  refine (Fin.sum_fin_congr fun s => ?_).trans (Fin.sum_mul_add_congr
    (F := fun (s : Fin 2) (k : Fin 1024) => (show EReal from iblk m c 0 ⟨11 * (t.val / 11) + s.val, Pipeline.run_point_lt_of_flush t hr ⟨s.val, by omega⟩⟩ (ix2 (y 0) k))
      * (show EReal from iblk m c 1 ⟨11 * (t.val / 11) + s.val, Pipeline.run_point_lt_of_flush t hr ⟨s.val, by omega⟩⟩ (ix2 (y 1) k)))
    fun s k hl => ?_)
  · have := s.isLt
    unfold part; rw [if_pos (by dsimp only; omega)]; rfl
  · have hs := s.isLt
    have hi := index_a ⟨11 * (t.val / 11) + s.val, Pipeline.run_point_lt_of_flush t hr ⟨s.val, by omega⟩⟩ (by dsimp only; omega)
    exact congrArg₂ (fun a b : EReal => a * b) (by blk_ext [iblk, V, hi, index_out t]) (by blk_ext [iblk, V, hi, index_out t])

/-- The parts of the piece `b` make its sum. -/
theorem parts_b (t : Fin cfg0.N) (hr : t.val % 11 = 10) (y : S1024x1024.Idx) :
    ∑ s : Fin 2, part m c ⟨11 * (t.val / 11) + (2 + s.val), Pipeline.run_point_lt_of_flush t hr ⟨(2 + s.val), by omega⟩⟩ y
      = ∑ l : Fin 2048, (show EReal from m ((c : Thread nD τ).loc main_arg2) (ix2 ((win0_8.blk t).view.emb y 0) l)) * (show EReal from m ((c : Thread nD τ).loc main_arg3) (ix2 ((win0_8.blk t).view.emb y 1) l)) := by
  refine (Fin.sum_fin_congr fun s => ?_).trans (Fin.sum_mul_add_congr
    (F := fun (s : Fin 2) (k : Fin 1024) => (show EReal from iblk m c 2 ⟨11 * (t.val / 11) + (2 + s.val), Pipeline.run_point_lt_of_flush t hr ⟨(2 + s.val), by omega⟩⟩ (ix2 (y 0) k))
      * (show EReal from iblk m c 3 ⟨11 * (t.val / 11) + (2 + s.val), Pipeline.run_point_lt_of_flush t hr ⟨(2 + s.val), by omega⟩⟩ (ix2 (y 1) k)))
    fun s k hl => ?_)
  · have := s.isLt
    unfold part; rw [if_neg (by dsimp only; omega), if_pos (by dsimp only; omega)]; rfl
  · have hs := s.isLt
    have hi := index_b ⟨11 * (t.val / 11) + (2 + s.val), Pipeline.run_point_lt_of_flush t hr ⟨(2 + s.val), by omega⟩⟩ (by dsimp only; omega)
    exact congrArg₂ (fun a b : EReal => a * b) (by blk_ext [iblk, V, hi, index_out t]) (by blk_ext [iblk, V, hi, index_out t])

/-- The parts of the piece `c` make its sum. -/
theorem parts_c (t : Fin cfg0.N) (hr : t.val % 11 = 10) (y : S1024x1024.Idx) :
    ∑ s : Fin 4, part m c ⟨11 * (t.val / 11) + (4 + s.val), Pipeline.run_point_lt_of_flush t hr ⟨(4 + s.val), by omega⟩⟩ y
      = ∑ l : Fin 3584, (show EReal from m ((c : Thread nD τ).loc main_arg4) (ix2 ((win0_8.blk t).view.emb y 0) l)) * (show EReal from m ((c : Thread nD τ).loc main_arg5) (ix2 ((win0_8.blk t).view.emb y 1) l)) := by
  refine (Fin.sum_fin_congr fun s => ?_).trans (Fin.sum_mul_add_congr
    (F := fun (s : Fin 4) (k : Fin 896) => (show EReal from iblk m c 4 ⟨11 * (t.val / 11) + (4 + s.val), Pipeline.run_point_lt_of_flush t hr ⟨(4 + s.val), by omega⟩⟩ (ix2 (y 0) k))
      * (show EReal from iblk m c 5 ⟨11 * (t.val / 11) + (4 + s.val), Pipeline.run_point_lt_of_flush t hr ⟨(4 + s.val), by omega⟩⟩ (ix2 (y 1) k)))
    fun s k hl => ?_)
  · have := s.isLt
    unfold part; rw [if_neg (by dsimp only; omega), if_neg (by dsimp only; omega), if_pos (by dsimp only; omega)]; rfl
  · have hs := s.isLt
    have hi := index_c ⟨11 * (t.val / 11) + (4 + s.val), Pipeline.run_point_lt_of_flush t hr ⟨(4 + s.val), by omega⟩⟩ (by dsimp only; omega)
    exact congrArg₂ (fun a b : EReal => a * b) (by blk_ext [iblk, V, hi, index_out t]) (by blk_ext [iblk, V, hi, index_out t])

/-- The parts of the piece `g` make its sum. -/
theorem parts_g (t : Fin cfg0.N) (hr : t.val % 11 = 10) (y : S1024x1024.Idx) :
    ∑ s : Fin 3, part m c ⟨11 * (t.val / 11) + (8 + s.val), Pipeline.run_point_lt_of_flush t hr ⟨(8 + s.val), by omega⟩⟩ y
      = ∑ l : Fin 3072, (show EReal from m ((c : Thread nD τ).loc main_arg6) (ix2 ((win0_8.blk t).view.emb y 0) l)) * (show EReal from m ((c : Thread nD τ).loc main_arg7) (ix2 ((win0_8.blk t).view.emb y 1) l)) := by
  refine (Fin.sum_fin_congr fun s => ?_).trans (Fin.sum_mul_add_congr
    (F := fun (s : Fin 3) (k : Fin 1024) => (show EReal from iblk m c 6 ⟨11 * (t.val / 11) + (8 + s.val), Pipeline.run_point_lt_of_flush t hr ⟨(8 + s.val), by omega⟩⟩ (ix2 (y 0) k))
      * (show EReal from iblk m c 7 ⟨11 * (t.val / 11) + (8 + s.val), Pipeline.run_point_lt_of_flush t hr ⟨(8 + s.val), by omega⟩⟩ (ix2 (y 1) k)))
    fun s k hl => ?_)
  · have := s.isLt
    unfold part; rw [if_neg (by dsimp only; omega), if_neg (by dsimp only; omega), if_neg (by dsimp only; omega)]; rfl
  · have hs := s.isLt
    have hi := index_g ⟨11 * (t.val / 11) + (8 + s.val), Pipeline.run_point_lt_of_flush t hr ⟨(8 + s.val), by omega⟩⟩ (by dsimp only; omega)
    exact congrArg₂ (fun a b : EReal => a * b) (by blk_ext [iblk, V, hi, index_out t]) (by blk_ext [iblk, V, hi, index_out t])

/-- The kernel's array after the run. -/
theorem final : (dats m 0 c).arrAt 8 (cfgs 0).N = fun i =>
    (((∑ l : Fin 3072, (show EReal from m ((c : Thread nD τ).loc main_arg6) (ix2 (i 0) l)) * (show EReal from m ((c : Thread nD τ).loc main_arg7) (ix2 (i 1) l)))
      + ∑ l : Fin 3584, (show EReal from m ((c : Thread nD τ).loc main_arg4) (ix2 (i 0) l)) * (show EReal from m ((c : Thread nD τ).loc main_arg5) (ix2 (i 1) l)))
      + ∑ l : Fin 2048, (show EReal from m ((c : Thread nD τ).loc main_arg2) (ix2 (i 0) l)) * (show EReal from m ((c : Thread nD τ).loc main_arg3) (ix2 (i 1) l)))
      + ∑ l : Fin 2048, (show EReal from m ((c : Thread nD τ).loc main_arg0) (ix2 (i 0) l)) * (show EReal from m ((c : Thread nD τ).loc main_arg1) (ix2 (i 1) l)) := by
  refine (dats m 0 c).arrAt_eq_of_covers 8 _ (by decide +kernel) fun t hf y => ?_
  blk_simp
  have hr : t.val % 11 = 10 := (flush0_8 t).mp hf
  have h : (outsAt0 m c t.val t.isLt).1 y = (outsAt0 m c t.val t.isLt).2 y := by
    rw [outsAt0_F m c t (by omega) (by omega) (by omega) (by omega) (by omega) hr]; frame_out
  rw [after0_8, h, acc_eq m c t hr y, sum_eleven]
  exact congrArg₂ (fun a b : EReal => a + b) (congrArg₂ (fun a b : EReal => a + b) (congrArg₂ (fun a b : EReal => a + b)
    (parts_g m c t hr y) (parts_c m c t hr y)) (parts_b m c t hr y)) (parts_a m c t hr y)

end Cert.Dh.Proof
-- ==== Proof.WeightGrads.lean ====
/- The gradients of the weights: each is a product over the 8192 rows, accumulated over four blocks of rows. -/
module

public import proofs.«01_k».proof.Proof.Gen.DwAIdeal.Value
public import proofs.«01_k».proof.Proof.Gen.DwARefIdeal.Read
public import proofs.«01_k».proof.Proof.Gen.DwCIdeal.Value
public import proofs.«01_k».proof.Proof.Gen.DwCRefIdeal.Read
public import proofs.«01_k».proof.Proof.Gen.DwGIdeal.Value
public import proofs.«01_k».proof.Proof.Gen.DwGRefIdeal.Read
public import proofs.«01_k».proof.Proof.Gen.DwOIdeal.Value
public import proofs.«01_k».proof.Proof.Gen.DwORefIdeal.Read
public import proofs.«01_k».proof.Proof.Gen.DwOutAIdeal.Value
public import proofs.«01_k».proof.Proof.Gen.DwOutARefIdeal.Read
public import proofs.«01_k».proof.Proof.Gen.DwOutCIdeal.Value
public import proofs.«01_k».proof.Proof.Gen.DwOutCRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! ## The projection's weight in the columns of the convolution branch and of the gated recurrence (one shape) -/

namespace Cert.DwA.Proof

open Cert.DwAIdeal Cert.DwAIdeal.Gen

/-- The reference's gradient at one element: the sum over the rows of the activation times the cotangent. -/
theorem ref (H : FVec Ideal Cert.DwARefIdeal.S8192x1024 .bf16) (DP : FVec Ideal Cert.DwARefIdeal.S8192x2048 .bf16) (i : Fin 1024) (j : Fin 2048) :
    Cert.DwARefIdeal.Read.val_main_v7 (F := Ideal) H DP (ix2 i j) = ∑ l : Fin 8192, H (ix2 l i) * DP (ix2 l j) := by
  pointwise [← Cert.DwARefIdeal.Read.val_main_v7_eq]
  exact Fin.sum_fin_congr fun l => mul_comm _ _

/-- One accumulation step at one element: the product of the two blocks over 2048 rows is added. -/
theorem step_apply (acc : FVec Ideal S1024x1024 .f32) (a : FVec Ideal S2048x1024 .bf16) (b : FVec Ideal S2048x1024 .bf16) (y : S1024x1024.Idx) :
    k0_pay2 (F := Ideal) acc a b y = acc y + ∑ k : Fin 2048, a (ix2 k (y 0)) * b (ix2 k (y 1)) := by
  rw [eq_ix2 y]; pointwise [k0_pay2]

/-- The windows' block indices: point `t` works on column block `t / 4` and rows `2048 (t % 4)` onward. -/
theorem index_maps : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ) (c : Dev nD)

/-- What point `t` adds to the accumulated block. -/
def part (t : Fin cfg0.N) (y : S1024x1024.Idx) : EReal :=
  ∑ k : Fin 2048, (show EReal from iblk m c 0 t (ix2 k (y 0))) * (show EReal from iblk m c 1 t (ix2 k (y 1)))

/-- The accumulated block at the point that writes it back: the sum of the four points' parts. -/
theorem acc_eq (t : Fin cfg0.N) (hr : t.val % 4 = 3) (y : S1024x1024.Idx) :
    (outsAt0 m c t.val t.isLt).2 y = ∑ s : Fin 4, part m c ⟨4 * (t.val / 4) + s.val, Pipeline.run_point_lt_of_flush t hr s⟩ y := by
  rw [Pipeline.eq_sum_fin_of_reset_step_apply_of_flush (fun n h => (outsAt0 m c n h).2) 4 (fun _ => (0 : EReal)) (part m c)
    (fun t h j => ?_) (fun t h j => ?_) t hr y, zero_add]
  · rw [outsAt0_A m c t h (by omega)]; frame_out
    rw [step_apply]; pointwise [k0_pay1]; rfl
  · by_cases h1 : t.val % 4 = 3
    · rw [outsAt0_C m c t h h1]; frame_out; rw [step_apply, read_unread_whole]; rfl
    · rw [outsAt0_B m c t h h1]; frame_out; rw [step_apply, read_unread_whole]; rfl

/-- The kernel's array after the run. -/
theorem final : (dats m 0 c).arrAt 2 (cfgs 0).N = fun i => ∑ l : Fin 8192, (show EReal from m ((c : Thread nD τ).loc main_arg0) (ix2 l (i 0)))
    * (show EReal from m ((c : Thread nD τ).loc main_arg1) (ix2 l (i 1))) := by
  refine (dats m 0 c).arrAt_eq_of_covers 2 _ (by decide +kernel) fun t hf y => ?_
  blk_simp
  have hr : t.val % 4 = 3 := (flush0_2 t).mp hf
  have h : (outsAt0 m c t.val t.isLt).1 y = (outsAt0 m c t.val t.isLt).2 y := by
    rw [outsAt0_C m c t (by omega) hr]; frame_out; pointwise [k0_pay3]
  rw [after0_2, h, acc_eq m c t hr y]
  refine Fin.sum_mul_add_congr fun s k hl => ?_
  exact congrArg₂ (fun a b : EReal => a * b)
    (by blk_ext [iblk, V, index_maps t, index_maps ⟨_, Pipeline.run_point_lt_of_flush t hr s⟩])
    (by blk_ext [iblk, V, index_maps t, index_maps ⟨_, Pipeline.run_point_lt_of_flush t hr s⟩])

end Cert.DwA.Proof

/-! ## The projection's weight in the columns of the gated delta net -/

namespace Cert.DwC.Proof

open Cert.DwCIdeal Cert.DwCIdeal.Gen

/-- The reference's gradient at one element: the sum over the rows of the activation times the cotangent. -/
theorem ref (H : FVec Ideal Cert.DwCRefIdeal.S8192x1024 .bf16) (DP : FVec Ideal Cert.DwCRefIdeal.S8192x3584 .bf16) (i : Fin 1024) (j : Fin 3584) :
    Cert.DwCRefIdeal.Read.val_main_v7 (F := Ideal) H DP (ix2 i j) = ∑ l : Fin 8192, H (ix2 l i) * DP (ix2 l j) := by
  pointwise [← Cert.DwCRefIdeal.Read.val_main_v7_eq]
  exact Fin.sum_fin_congr fun l => mul_comm _ _

/-- One accumulation step at one element: the product of the two blocks over 2048 rows is added. -/
theorem step_apply (acc : FVec Ideal S1024x896 .f32) (a : FVec Ideal S2048x1024 .bf16) (b : FVec Ideal S2048x896 .bf16) (y : S1024x896.Idx) :
    k0_pay2 (F := Ideal) acc a b y = acc y + ∑ k : Fin 2048, a (ix2 k (y 0)) * b (ix2 k (y 1)) := by
  rw [eq_ix2 y]; pointwise [k0_pay2]

/-- The windows' block indices: point `t` works on column block `t / 4` and rows `2048 (t % 4)` onward. -/
theorem index_maps : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ) (c : Dev nD)

/-- What point `t` adds to the accumulated block. -/
def part (t : Fin cfg0.N) (y : S1024x896.Idx) : EReal :=
  ∑ k : Fin 2048, (show EReal from iblk m c 0 t (ix2 k (y 0))) * (show EReal from iblk m c 1 t (ix2 k (y 1)))

/-- The accumulated block at the point that writes it back: the sum of the four points' parts. -/
theorem acc_eq (t : Fin cfg0.N) (hr : t.val % 4 = 3) (y : S1024x896.Idx) :
    (outsAt0 m c t.val t.isLt).2 y = ∑ s : Fin 4, part m c ⟨4 * (t.val / 4) + s.val, Pipeline.run_point_lt_of_flush t hr s⟩ y := by
  rw [Pipeline.eq_sum_fin_of_reset_step_apply_of_flush (fun n h => (outsAt0 m c n h).2) 4 (fun _ => (0 : EReal)) (part m c)
    (fun t h j => ?_) (fun t h j => ?_) t hr y, zero_add]
  · rw [outsAt0_A m c t h (by omega)]; frame_out
    rw [step_apply]; pointwise [k0_pay1]; rfl
  · by_cases h1 : t.val % 4 = 3
    · rw [outsAt0_C m c t h h1]; frame_out; rw [step_apply, read_unread_whole]; rfl
    · rw [outsAt0_B m c t h h1]; frame_out; rw [step_apply, read_unread_whole]; rfl

/-- The kernel's array after the run. -/
theorem final : (dats m 0 c).arrAt 2 (cfgs 0).N = fun i => ∑ l : Fin 8192, (show EReal from m ((c : Thread nD τ).loc main_arg0) (ix2 l (i 0)))
    * (show EReal from m ((c : Thread nD τ).loc main_arg1) (ix2 l (i 1))) := by
  refine (dats m 0 c).arrAt_eq_of_covers 2 _ (by decide +kernel) fun t hf y => ?_
  blk_simp
  have hr : t.val % 4 = 3 := (flush0_2 t).mp hf
  have h : (outsAt0 m c t.val t.isLt).1 y = (outsAt0 m c t.val t.isLt).2 y := by
    rw [outsAt0_C m c t (by omega) hr]; frame_out; pointwise [k0_pay3]
  rw [after0_2, h, acc_eq m c t hr y]
  refine Fin.sum_mul_add_congr fun s k hl => ?_
  exact congrArg₂ (fun a b : EReal => a * b)
    (by blk_ext [iblk, V, index_maps t, index_maps ⟨_, Pipeline.run_point_lt_of_flush t hr s⟩])
    (by blk_ext [iblk, V, index_maps t, index_maps ⟨_, Pipeline.run_point_lt_of_flush t hr s⟩])

end Cert.DwC.Proof

/-! ## The projection's weight in the columns of the gates -/

namespace Cert.DwG.Proof

open Cert.DwGIdeal Cert.DwGIdeal.Gen

/-- The reference's gradient at one element: the sum over the rows of the activation times the cotangent. -/
theorem ref (H : FVec Ideal Cert.DwGRefIdeal.S8192x1024 .bf16) (DP : FVec Ideal Cert.DwGRefIdeal.S8192x3072 .bf16) (i : Fin 1024) (j : Fin 3072) :
    Cert.DwGRefIdeal.Read.val_main_v7 (F := Ideal) H DP (ix2 i j) = ∑ l : Fin 8192, H (ix2 l i) * DP (ix2 l j) := by
  pointwise [← Cert.DwGRefIdeal.Read.val_main_v7_eq]
  exact Fin.sum_fin_congr fun l => mul_comm _ _

/-- One accumulation step at one element: the product of the two blocks over 2048 rows is added. -/
theorem step_apply (acc : FVec Ideal S1024x1024 .f32) (a : FVec Ideal S2048x1024 .bf16) (b : FVec Ideal S2048x1024 .bf16) (y : S1024x1024.Idx) :
    k0_pay2 (F := Ideal) acc a b y = acc y + ∑ k : Fin 2048, a (ix2 k (y 0)) * b (ix2 k (y 1)) := by
  rw [eq_ix2 y]; pointwise [k0_pay2]

/-- The windows' block indices: point `t` works on column block `t / 4` and rows `2048 (t % 4)` onward. -/
theorem index_maps : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ) (c : Dev nD)

/-- What point `t` adds to the accumulated block. -/
def part (t : Fin cfg0.N) (y : S1024x1024.Idx) : EReal :=
  ∑ k : Fin 2048, (show EReal from iblk m c 0 t (ix2 k (y 0))) * (show EReal from iblk m c 1 t (ix2 k (y 1)))

/-- The accumulated block at the point that writes it back: the sum of the four points' parts. -/
theorem acc_eq (t : Fin cfg0.N) (hr : t.val % 4 = 3) (y : S1024x1024.Idx) :
    (outsAt0 m c t.val t.isLt).2 y = ∑ s : Fin 4, part m c ⟨4 * (t.val / 4) + s.val, Pipeline.run_point_lt_of_flush t hr s⟩ y := by
  rw [Pipeline.eq_sum_fin_of_reset_step_apply_of_flush (fun n h => (outsAt0 m c n h).2) 4 (fun _ => (0 : EReal)) (part m c)
    (fun t h j => ?_) (fun t h j => ?_) t hr y, zero_add]
  · rw [outsAt0_A m c t h (by omega)]; frame_out
    rw [step_apply]; pointwise [k0_pay1]; rfl
  · by_cases h1 : t.val % 4 = 3
    · rw [outsAt0_C m c t h h1]; frame_out; rw [step_apply, read_unread_whole]; rfl
    · rw [outsAt0_B m c t h h1]; frame_out; rw [step_apply, read_unread_whole]; rfl

/-- The kernel's array after the run. -/
theorem final : (dats m 0 c).arrAt 2 (cfgs 0).N = fun i => ∑ l : Fin 8192, (show EReal from m ((c : Thread nD τ).loc main_arg0) (ix2 l (i 0)))
    * (show EReal from m ((c : Thread nD τ).loc main_arg1) (ix2 l (i 1))) := by
  refine (dats m 0 c).arrAt_eq_of_covers 2 _ (by decide +kernel) fun t hf y => ?_
  blk_simp
  have hr : t.val % 4 = 3 := (flush0_2 t).mp hf
  have h : (outsAt0 m c t.val t.isLt).1 y = (outsAt0 m c t.val t.isLt).2 y := by
    rw [outsAt0_C m c t (by omega) hr]; frame_out; pointwise [k0_pay3]
  rw [after0_2, h, acc_eq m c t hr y]
  refine Fin.sum_mul_add_congr fun s k hl => ?_
  exact congrArg₂ (fun a b : EReal => a * b)
    (by blk_ext [iblk, V, index_maps t, index_maps ⟨_, Pipeline.run_point_lt_of_flush t hr s⟩])
    (by blk_ext [iblk, V, index_maps t, index_maps ⟨_, Pipeline.run_point_lt_of_flush t hr s⟩])

end Cert.DwG.Proof

/-! ## The output projection's weight -/

namespace Cert.DwO.Proof

open Cert.DwOIdeal Cert.DwOIdeal.Gen

/-- The reference's gradient at one element: the sum over the rows of the activation times the cotangent. -/
theorem ref (H : FVec Ideal Cert.DwORefIdeal.S8192x1024 .bf16) (DP : FVec Ideal Cert.DwORefIdeal.S8192x1024 .f32) (i : Fin 1024) (j : Fin 1024) :
    Cert.DwORefIdeal.Read.val_main_v6 (F := Ideal) H DP (ix2 i j) = ∑ l : Fin 8192, H (ix2 l i) * DP (ix2 l j) := by
  pointwise [← Cert.DwORefIdeal.Read.val_main_v6_eq]
  exact Fin.sum_fin_congr fun l => mul_comm _ _

/-- One accumulation step at one element: the product of the two blocks over 2048 rows is added. -/
theorem step_apply (acc : FVec Ideal S1024x1024 .f32) (a : FVec Ideal S2048x1024 .bf16) (b : FVec Ideal S2048x1024 .f32) (y : S1024x1024.Idx) :
    k0_pay2 (F := Ideal) acc a b y = acc y + ∑ k : Fin 2048, a (ix2 k (y 0)) * b (ix2 k (y 1)) := by
  rw [eq_ix2 y]; pointwise [k0_pay2]

/-- The windows' block indices: point `t` works on column block `t / 4` and rows `2048 (t % 4)` onward. -/
theorem index_maps : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ) (c : Dev nD)

/-- What point `t` adds to the accumulated block. -/
def part (t : Fin cfg0.N) (y : S1024x1024.Idx) : EReal :=
  ∑ k : Fin 2048, (show EReal from iblk m c 0 t (ix2 k (y 0))) * (show EReal from iblk m c 1 t (ix2 k (y 1)))

/-- The accumulated block at the point that writes it back: the sum of the four points' parts. -/
theorem acc_eq (t : Fin cfg0.N) (hr : t.val % 4 = 3) (y : S1024x1024.Idx) :
    (outsAt0 m c t.val t.isLt).2 y = ∑ s : Fin 4, part m c ⟨4 * (t.val / 4) + s.val, Pipeline.run_point_lt_of_flush t hr s⟩ y := by
  rw [Pipeline.eq_sum_fin_of_reset_step_apply_of_flush (fun n h => (outsAt0 m c n h).2) 4 (fun _ => (0 : EReal)) (part m c)
    (fun t h j => ?_) (fun t h j => ?_) t hr y, zero_add]
  · rw [outsAt0_A m c t h (by omega)]; frame_out
    rw [step_apply]; pointwise [k0_pay1]; rfl
  · by_cases h1 : t.val % 4 = 3
    · rw [outsAt0_C m c t h h1]; frame_out; rw [step_apply, read_unread_whole]; rfl
    · rw [outsAt0_B m c t h h1]; frame_out; rw [step_apply, read_unread_whole]; rfl

/-- The kernel's array after the run. -/
theorem final : (dats m 0 c).arrAt 2 (cfgs 0).N = fun i => ∑ l : Fin 8192, (show EReal from m ((c : Thread nD τ).loc main_arg0) (ix2 l (i 0)))
    * (show EReal from m ((c : Thread nD τ).loc main_arg1) (ix2 l (i 1))) := by
  refine (dats m 0 c).arrAt_eq_of_covers 2 _ (by decide +kernel) fun t hf y => ?_
  blk_simp
  have hr : t.val % 4 = 3 := (flush0_2 t).mp hf
  have h : (outsAt0 m c t.val t.isLt).1 y = (outsAt0 m c t.val t.isLt).2 y := by
    rw [outsAt0_C m c t (by omega) hr]; frame_out; pointwise [k0_pay3]
  rw [after0_2, h, acc_eq m c t hr y]
  refine Fin.sum_mul_add_congr fun s k hl => ?_
  exact congrArg₂ (fun a b : EReal => a * b)
    (by blk_ext [iblk, V, index_maps t, index_maps ⟨_, Pipeline.run_point_lt_of_flush t hr s⟩])
    (by blk_ext [iblk, V, index_maps t, index_maps ⟨_, Pipeline.run_point_lt_of_flush t hr s⟩])

end Cert.DwO.Proof

/-! ## The weight of the output projection of the convolution branch and of the gated recurrence (one shape) -/

namespace Cert.DwOutA.Proof

open Cert.DwOutAIdeal Cert.DwOutAIdeal.Gen

/-- The reference's gradient at one element: the sum over the rows of the activation times the cotangent. -/
theorem ref (H : FVec Ideal Cert.DwOutARefIdeal.S8192x512 .bf16) (DP : FVec Ideal Cert.DwOutARefIdeal.S8192x1024 .bf16) (i : Fin 512) (j : Fin 1024) :
    Cert.DwOutARefIdeal.Read.val_main_v7 (F := Ideal) H DP (ix2 i j) = ∑ l : Fin 8192, H (ix2 l i) * DP (ix2 l j) := by
  pointwise [← Cert.DwOutARefIdeal.Read.val_main_v7_eq]
  exact Fin.sum_fin_congr fun l => mul_comm _ _

/-- One accumulation step at one element: the product of the two blocks over 2048 rows is added. -/
theorem step_apply (acc : FVec Ideal S512x1024 .f32) (a : FVec Ideal S2048x512 .bf16) (b : FVec Ideal S2048x1024 .bf16) (y : S512x1024.Idx) :
    k0_pay2 (F := Ideal) acc a b y = acc y + ∑ k : Fin 2048, a (ix2 k (y 0)) * b (ix2 k (y 1)) := by
  rw [eq_ix2 y]; pointwise [k0_pay2]

/-- The windows' block indices: point `t` works on column block `t / 4` and rows `2048 (t % 4)` onward. -/
theorem index_maps : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ) (c : Dev nD)

/-- What point `t` adds to the accumulated block. -/
def part (t : Fin cfg0.N) (y : S512x1024.Idx) : EReal :=
  ∑ k : Fin 2048, (show EReal from iblk m c 0 t (ix2 k (y 0))) * (show EReal from iblk m c 1 t (ix2 k (y 1)))

/-- The accumulated block at the point that writes it back: the sum of the four points' parts. -/
theorem acc_eq (t : Fin cfg0.N) (hr : t.val % 4 = 3) (y : S512x1024.Idx) :
    (outsAt0 m c t.val t.isLt).2 y = ∑ s : Fin 4, part m c ⟨4 * (t.val / 4) + s.val, Pipeline.run_point_lt_of_flush t hr s⟩ y := by
  rw [Pipeline.eq_sum_fin_of_reset_step_apply_of_flush (fun n h => (outsAt0 m c n h).2) 4 (fun _ => (0 : EReal)) (part m c)
    (fun t h j => ?_) (fun t h j => ?_) t hr y, zero_add]
  · rw [outsAt0_A m c t h (by omega)]; frame_out
    rw [step_apply]; pointwise [k0_pay1]; rfl
  · by_cases h1 : t.val % 4 = 3
    · rw [outsAt0_C m c t h h1]; frame_out; rw [step_apply, read_unread_whole]; rfl
    · rw [outsAt0_B m c t h h1]; frame_out; rw [step_apply, read_unread_whole]; rfl

/-- The kernel's array after the run. -/
theorem final : (dats m 0 c).arrAt 2 (cfgs 0).N = fun i => ∑ l : Fin 8192, (show EReal from m ((c : Thread nD τ).loc main_arg0) (ix2 l (i 0)))
    * (show EReal from m ((c : Thread nD τ).loc main_arg1) (ix2 l (i 1))) := by
  refine (dats m 0 c).arrAt_eq_of_covers 2 _ (by decide +kernel) fun t hf y => ?_
  blk_simp
  have hr : t.val % 4 = 3 := (flush0_2 t).mp hf
  have h : (outsAt0 m c t.val t.isLt).1 y = (outsAt0 m c t.val t.isLt).2 y := by
    rw [outsAt0_C m c t (by omega) hr]; frame_out; pointwise [k0_pay3]
  rw [after0_2, h, acc_eq m c t hr y]
  refine Fin.sum_mul_add_congr fun s k hl => ?_
  exact congrArg₂ (fun a b : EReal => a * b)
    (by blk_ext [iblk, V, index_maps t, index_maps ⟨_, Pipeline.run_point_lt_of_flush t hr s⟩])
    (by blk_ext [iblk, V, index_maps t, index_maps ⟨_, Pipeline.run_point_lt_of_flush t hr s⟩])

end Cert.DwOutA.Proof

/-! ## The weight of the output projection of the gated delta net -/

namespace Cert.DwOutC.Proof

open Cert.DwOutCIdeal Cert.DwOutCIdeal.Gen

/-- The reference's gradient at one element: the sum over the rows of the activation times the cotangent. -/
theorem ref (H : FVec Ideal Cert.DwOutCRefIdeal.S8192x1024 .bf16) (DP : FVec Ideal Cert.DwOutCRefIdeal.S8192x1024 .bf16) (i : Fin 1024) (j : Fin 1024) :
    Cert.DwOutCRefIdeal.Read.val_main_v7 (F := Ideal) H DP (ix2 i j) = ∑ l : Fin 8192, H (ix2 l i) * DP (ix2 l j) := by
  pointwise [← Cert.DwOutCRefIdeal.Read.val_main_v7_eq]
  exact Fin.sum_fin_congr fun l => mul_comm _ _

/-- One accumulation step at one element: the product of the two blocks over 2048 rows is added. -/
theorem step_apply (acc : FVec Ideal S1024x1024 .f32) (a : FVec Ideal S2048x1024 .bf16) (b : FVec Ideal S2048x1024 .bf16) (y : S1024x1024.Idx) :
    k0_pay2 (F := Ideal) acc a b y = acc y + ∑ k : Fin 2048, a (ix2 k (y 0)) * b (ix2 k (y 1)) := by
  rw [eq_ix2 y]; pointwise [k0_pay2]

/-- The windows' block indices: point `t` works on column block `t / 4` and rows `2048 (t % 4)` onward. -/
theorem index_maps : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ) (c : Dev nD)

/-- What point `t` adds to the accumulated block. -/
def part (t : Fin cfg0.N) (y : S1024x1024.Idx) : EReal :=
  ∑ k : Fin 2048, (show EReal from iblk m c 0 t (ix2 k (y 0))) * (show EReal from iblk m c 1 t (ix2 k (y 1)))

/-- The accumulated block at the point that writes it back: the sum of the four points' parts. -/
theorem acc_eq (t : Fin cfg0.N) (hr : t.val % 4 = 3) (y : S1024x1024.Idx) :
    (outsAt0 m c t.val t.isLt).2 y = ∑ s : Fin 4, part m c ⟨4 * (t.val / 4) + s.val, Pipeline.run_point_lt_of_flush t hr s⟩ y := by
  rw [Pipeline.eq_sum_fin_of_reset_step_apply_of_flush (fun n h => (outsAt0 m c n h).2) 4 (fun _ => (0 : EReal)) (part m c)
    (fun t h j => ?_) (fun t h j => ?_) t hr y, zero_add]
  · rw [outsAt0_A m c t h (by omega)]; frame_out
    rw [step_apply]; pointwise [k0_pay1]; rfl
  · by_cases h1 : t.val % 4 = 3
    · rw [outsAt0_C m c t h h1]; frame_out; rw [step_apply, read_unread_whole]; rfl
    · rw [outsAt0_B m c t h h1]; frame_out; rw [step_apply, read_unread_whole]; rfl

/-- The kernel's array after the run. -/
theorem final : (dats m 0 c).arrAt 2 (cfgs 0).N = fun i => ∑ l : Fin 8192, (show EReal from m ((c : Thread nD τ).loc main_arg0) (ix2 l (i 0)))
    * (show EReal from m ((c : Thread nD τ).loc main_arg1) (ix2 l (i 1))) := by
  refine (dats m 0 c).arrAt_eq_of_covers 2 _ (by decide +kernel) fun t hf y => ?_
  blk_simp
  have hr : t.val % 4 = 3 := (flush0_2 t).mp hf
  have h : (outsAt0 m c t.val t.isLt).1 y = (outsAt0 m c t.val t.isLt).2 y := by
    rw [outsAt0_C m c t (by omega) hr]; frame_out; pointwise [k0_pay3]
  rw [after0_2, h, acc_eq m c t hr y]
  refine Fin.sum_mul_add_congr fun s k hl => ?_
  exact congrArg₂ (fun a b : EReal => a * b)
    (by blk_ext [iblk, V, index_maps t, index_maps ⟨_, Pipeline.run_point_lt_of_flush t hr s⟩])
    (by blk_ext [iblk, V, index_maps t, index_maps ⟨_, Pipeline.run_point_lt_of_flush t hr s⟩])

end Cert.DwOutC.Proof
-- ==== Proof.RowProducts.lean ====
/- The products that keep the rows: the projections, and the cotangents of the activations. Each block is one product. -/
module

public import proofs.«01_k».proof.Proof.Gen.ProjAIdeal.Value
public import proofs.«01_k».proof.Proof.Gen.ProjARefIdeal.Read
public import proofs.«01_k».proof.Proof.Gen.ProjCIdeal.Value
public import proofs.«01_k».proof.Proof.Gen.ProjCRefIdeal.Read
public import proofs.«01_k».proof.Proof.Gen.ProjGIdeal.Value
public import proofs.«01_k».proof.Proof.Gen.ProjGRefIdeal.Read
public import proofs.«01_k».proof.Proof.Gen.OutAIdeal.Value
public import proofs.«01_k».proof.Proof.Gen.OutARefIdeal.Read
public import proofs.«01_k».proof.Proof.Gen.OutCIdeal.Value
public import proofs.«01_k».proof.Proof.Gen.OutCRefIdeal.Read
public import proofs.«01_k».proof.Proof.Gen.DuAIdeal.Value
public import proofs.«01_k».proof.Proof.Gen.DuARefIdeal.Read
public import proofs.«01_k».proof.Proof.Gen.DuCIdeal.Value
public import proofs.«01_k».proof.Proof.Gen.DuCRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! ## The input projection in the columns of the convolution branch and of the gated recurrence (one shape) -/

namespace Cert.ProjA.Proof

open Cert.ProjAIdeal Cert.ProjAIdeal.Gen

/-- The reference's product at one element. -/
theorem ref (H : FVec Ideal Cert.ProjARefIdeal.S8192x1024 .bf16) (W : FVec Ideal Cert.ProjARefIdeal.S1024x2048 .bf16) (i : Fin 8192) (j : Fin 2048) :
    Cert.ProjARefIdeal.Read.val_main_v2 (F := Ideal) H W (ix2 i j) = ∑ l : Fin 1024, H (ix2 i l) * W (ix2 l j) := by
  pointwise [← Cert.ProjARefIdeal.Read.val_main_v2_eq]

/-- The product of the two blocks at one element. -/
theorem block_apply (a : FVec Ideal S2048x1024 .bf16) (b : FVec Ideal S1024x1024 .bf16) (y : S2048x1024.Idx) :
    k0_pay1 (F := Ideal) a b y = ∑ k : Fin 1024, a (ix2 (y 0) k) * b (ix2 k (y 1)) := by
  rw [eq_ix2 y]; pointwise [k0_pay1]

/-- The windows' block indices. -/
theorem index_maps : ∀ t : Fin cfg0.N, win0_0.index t = ![t.val / 2, 0] ∧ win0_1.index t = ![0, t.val % 2] ∧ win0_2.index t = ![t.val / 2, t.val % 2] :=
  (by decide +kernel : ∀ t : Fin grid0.N, _)

/-- The kernel's array after the run. -/
theorem final (m : (ℓ : Loc nD τ sig) → Buf (Elt Ideal) ℓ) (c : Dev nD) : (dats m 0 c).arrAt 2 (cfgs 0).N =
    fun i => ∑ l : Fin 1024, (show EReal from m ((c : Thread nD τ).loc main_arg0) (ix2 (i 0) l)) * (show EReal from m ((c : Thread nD τ).loc main_arg1) (ix2 l (i 1))) := by
  refine (dats m 0 c).arrAt_eq_of_covers 2 _ (by decide +kernel) fun t hf y => ?_
  blk_simp
  rw [after0_2]; unfold out0_2; frame_out; rw [block_apply]
  exact Fin.sum_fin_congr fun k => congrArg₂ (fun a b : EReal => a * b) (by blk_ext [iblk, V, index_maps t]) (by blk_ext [iblk, V, index_maps t])

end Cert.ProjA.Proof

/-! ## The input projection in the columns of the gated delta net -/

namespace Cert.ProjC.Proof

open Cert.ProjCIdeal Cert.ProjCIdeal.Gen

/-- The reference's product at one element. -/
theorem ref (H : FVec Ideal Cert.ProjCRefIdeal.S8192x1024 .bf16) (W : FVec Ideal Cert.ProjCRefIdeal.S1024x3584 .bf16) (i : Fin 8192) (j : Fin 3584) :
    Cert.ProjCRefIdeal.Read.val_main_v2 (F := Ideal) H W (ix2 i j) = ∑ l : Fin 1024, H (ix2 i l) * W (ix2 l j) := by
  pointwise [← Cert.ProjCRefIdeal.Read.val_main_v2_eq]

/-- The product of the two blocks at one element. -/
theorem block_apply (a : FVec Ideal S2048x1024 .bf16) (b : FVec Ideal S1024x896 .bf16) (y : S2048x896.Idx) :
    k0_pay1 (F := Ideal) a b y = ∑ k : Fin 1024, a (ix2 (y 0) k) * b (ix2 k (y 1)) := by
  rw [eq_ix2 y]; pointwise [k0_pay1]

/-- The windows' block indices. -/
theorem index_maps : ∀ t : Fin cfg0.N, win0_0.index t = ![t.val / 4, 0] ∧ win0_1.index t = ![0, t.val % 4] ∧ win0_2.index t = ![t.val / 4, t.val % 4] :=
  (by decide +kernel : ∀ t : Fin grid0.N, _)

/-- The kernel's array after the run. -/
theorem final (m : (ℓ : Loc nD τ sig) → Buf (Elt Ideal) ℓ) (c : Dev nD) : (dats m 0 c).arrAt 2 (cfgs 0).N =
    fun i => ∑ l : Fin 1024, (show EReal from m ((c : Thread nD τ).loc main_arg0) (ix2 (i 0) l)) * (show EReal from m ((c : Thread nD τ).loc main_arg1) (ix2 l (i 1))) := by
  refine (dats m 0 c).arrAt_eq_of_covers 2 _ (by decide +kernel) fun t hf y => ?_
  blk_simp
  rw [after0_2]; unfold out0_2; frame_out; rw [block_apply]
  exact Fin.sum_fin_congr fun k => congrArg₂ (fun a b : EReal => a * b) (by blk_ext [iblk, V, index_maps t]) (by blk_ext [iblk, V, index_maps t])

end Cert.ProjC.Proof

/-! ## The input projection in the columns of the gates -/

namespace Cert.ProjG.Proof

open Cert.ProjGIdeal Cert.ProjGIdeal.Gen

/-- The reference's product at one element. -/
theorem ref (H : FVec Ideal Cert.ProjGRefIdeal.S8192x1024 .bf16) (W : FVec Ideal Cert.ProjGRefIdeal.S1024x3072 .bf16) (i : Fin 8192) (j : Fin 3072) :
    Cert.ProjGRefIdeal.Read.val_main_v3 (F := Ideal) H W (ix2 i j) = ∑ l : Fin 1024, H (ix2 i l) * W (ix2 l j) := by
  pointwise [← Cert.ProjGRefIdeal.Read.val_main_v3_eq]

/-- The product of the two blocks at one element. -/
theorem block_apply (a : FVec Ideal S2048x1024 .bf16) (b : FVec Ideal S1024x1024 .bf16) (y : S2048x1024.Idx) :
    k0_pay1 (F := Ideal) a b y = ∑ k : Fin 1024, a (ix2 (y 0) k) * b (ix2 k (y 1)) := by
  rw [eq_ix2 y]; pointwise [k0_pay1]

/-- The windows' block indices. -/
theorem index_maps : ∀ t : Fin cfg0.N, win0_0.index t = ![t.val / 3, 0] ∧ win0_1.index t = ![0, t.val % 3] ∧ win0_2.index t = ![t.val / 3, t.val % 3] :=
  (by decide +kernel : ∀ t : Fin grid0.N, _)

/-- The kernel's array after the run. -/
theorem final (m : (ℓ : Loc nD τ sig) → Buf (Elt Ideal) ℓ) (c : Dev nD) : (dats m 0 c).arrAt 2 (cfgs 0).N =
    fun i => ∑ l : Fin 1024, (show EReal from m ((c : Thread nD τ).loc main_arg0) (ix2 (i 0) l)) * (show EReal from m ((c : Thread nD τ).loc main_arg1) (ix2 l (i 1))) := by
  refine (dats m 0 c).arrAt_eq_of_covers 2 _ (by decide +kernel) fun t hf y => ?_
  blk_simp
  rw [after0_2]; unfold out0_2; frame_out; rw [block_apply]
  exact Fin.sum_fin_congr fun k => congrArg₂ (fun a b : EReal => a * b) (by blk_ext [iblk, V, index_maps t]) (by blk_ext [iblk, V, index_maps t])

end Cert.ProjG.Proof

/-! ## The output projection of the convolution branch and of the gated recurrence (one shape) -/

namespace Cert.OutA.Proof

open Cert.OutAIdeal Cert.OutAIdeal.Gen

/-- The reference's product at one element. -/
theorem ref (H : FVec Ideal Cert.OutARefIdeal.S8192x512 .bf16) (W : FVec Ideal Cert.OutARefIdeal.S512x1024 .bf16) (i : Fin 8192) (j : Fin 1024) :
    Cert.OutARefIdeal.Read.val_main_v3 (F := Ideal) H W (ix2 i j) = ∑ l : Fin 512, H (ix2 i l) * W (ix2 l j) := by
  pointwise [← Cert.OutARefIdeal.Read.val_main_v3_eq]

/-- The product of the two blocks at one element. -/
theorem block_apply (a : FVec Ideal S2048x512 .bf16) (b : FVec Ideal S512x1024 .bf16) (y : S2048x1024.Idx) :
    k0_pay1 (F := Ideal) a b y = ∑ k : Fin 512, a (ix2 (y 0) k) * b (ix2 k (y 1)) := by
  rw [eq_ix2 y]; pointwise [k0_pay1]

/-- The windows' block indices. -/
theorem index_maps : ∀ t : Fin cfg0.N, win0_0.index t = ![t.val / 1, 0] ∧ win0_1.index t = ![0, t.val % 1] ∧ win0_2.index t = ![t.val / 1, t.val % 1] :=
  (by decide +kernel : ∀ t : Fin grid0.N, _)

/-- The kernel's array after the run. -/
theorem final (m : (ℓ : Loc nD τ sig) → Buf (Elt Ideal) ℓ) (c : Dev nD) : (dats m 0 c).arrAt 2 (cfgs 0).N =
    fun i => ∑ l : Fin 512, (show EReal from m ((c : Thread nD τ).loc main_arg0) (ix2 (i 0) l)) * (show EReal from m ((c : Thread nD τ).loc main_arg1) (ix2 l (i 1))) := by
  refine (dats m 0 c).arrAt_eq_of_covers 2 _ (by decide +kernel) fun t hf y => ?_
  blk_simp
  rw [after0_2]; unfold out0_2; frame_out; rw [block_apply]
  exact Fin.sum_fin_congr fun k => congrArg₂ (fun a b : EReal => a * b) (by blk_ext [iblk, V, index_maps t]) (by blk_ext [iblk, V, index_maps t])

end Cert.OutA.Proof

/-! ## The output projection of the gated delta net -/

namespace Cert.OutC.Proof

open Cert.OutCIdeal Cert.OutCIdeal.Gen

/-- The reference's product at one element. -/
theorem ref (H : FVec Ideal Cert.OutCRefIdeal.S8192x1024 .bf16) (W : FVec Ideal Cert.OutCRefIdeal.S1024x1024 .bf16) (i : Fin 8192) (j : Fin 1024) :
    Cert.OutCRefIdeal.Read.val_main_v3 (F := Ideal) H W (ix2 i j) = ∑ l : Fin 1024, H (ix2 i l) * W (ix2 l j) := by
  pointwise [← Cert.OutCRefIdeal.Read.val_main_v3_eq]

/-- The product of the two blocks at one element. -/
theorem block_apply (a : FVec Ideal S2048x1024 .bf16) (b : FVec Ideal S1024x1024 .bf16) (y : S2048x1024.Idx) :
    k0_pay1 (F := Ideal) a b y = ∑ k : Fin 1024, a (ix2 (y 0) k) * b (ix2 k (y 1)) := by
  rw [eq_ix2 y]; pointwise [k0_pay1]

/-- The windows' block indices. -/
theorem index_maps : ∀ t : Fin cfg0.N, win0_0.index t = ![t.val / 1, 0] ∧ win0_1.index t = ![0, t.val % 1] ∧ win0_2.index t = ![t.val / 1, t.val % 1] :=
  (by decide +kernel : ∀ t : Fin grid0.N, _)

/-- The kernel's array after the run. -/
theorem final (m : (ℓ : Loc nD τ sig) → Buf (Elt Ideal) ℓ) (c : Dev nD) : (dats m 0 c).arrAt 2 (cfgs 0).N =
    fun i => ∑ l : Fin 1024, (show EReal from m ((c : Thread nD τ).loc main_arg0) (ix2 (i 0) l)) * (show EReal from m ((c : Thread nD τ).loc main_arg1) (ix2 l (i 1))) := by
  refine (dats m 0 c).arrAt_eq_of_covers 2 _ (by decide +kernel) fun t hf y => ?_
  blk_simp
  rw [after0_2]; unfold out0_2; frame_out; rw [block_apply]
  exact Fin.sum_fin_congr fun k => congrArg₂ (fun a b : EReal => a * b) (by blk_ext [iblk, V, index_maps t]) (by blk_ext [iblk, V, index_maps t])

end Cert.OutC.Proof

/-! ## The cotangent of the activations of the convolution branch and of the gated recurrence (one shape) -/

namespace Cert.DuA.Proof

open Cert.DuAIdeal Cert.DuAIdeal.Gen

/-- The reference's product at one element. -/
theorem ref (H : FVec Ideal Cert.DuARefIdeal.S8192x1024 .bf16) (W : FVec Ideal Cert.DuARefIdeal.S512x1024 .bf16) (i : Fin 8192) (j : Fin 512) :
    Cert.DuARefIdeal.Read.val_main_v6 (F := Ideal) H W (ix2 i j) = ∑ l : Fin 1024, H (ix2 i l) * W (ix2 j l) := by
  pointwise [← Cert.DuARefIdeal.Read.val_main_v6_eq]

/-- The product of the two blocks at one element. -/
theorem block_apply (a : FVec Ideal S2048x1024 .bf16) (b : FVec Ideal S512x1024 .bf16) (y : S2048x512.Idx) :
    k0_pay1 (F := Ideal) a b y = ∑ k : Fin 1024, a (ix2 (y 0) k) * b (ix2 (y 1) k) := by
  rw [eq_ix2 y]; pointwise [k0_pay1]

/-- The windows' block indices. -/
theorem index_maps : ∀ t : Fin cfg0.N, win0_0.index t = ![t.val / 1, 0] ∧ win0_1.index t = ![t.val % 1, 0] ∧ win0_2.index t = ![t.val / 1, t.val % 1] :=
  (by decide +kernel : ∀ t : Fin grid0.N, _)

/-- The kernel's array after the run. -/
theorem final (m : (ℓ : Loc nD τ sig) → Buf (Elt Ideal) ℓ) (c : Dev nD) : (dats m 0 c).arrAt 2 (cfgs 0).N =
    fun i => ∑ l : Fin 1024, (show EReal from m ((c : Thread nD τ).loc main_arg0) (ix2 (i 0) l)) * (show EReal from m ((c : Thread nD τ).loc main_arg1) (ix2 (i 1) l)) := by
  refine (dats m 0 c).arrAt_eq_of_covers 2 _ (by decide +kernel) fun t hf y => ?_
  blk_simp
  rw [after0_2]; unfold out0_2; frame_out; rw [block_apply]
  exact Fin.sum_fin_congr fun k => congrArg₂ (fun a b : EReal => a * b) (by blk_ext [iblk, V, index_maps t]) (by blk_ext [iblk, V, index_maps t])

end Cert.DuA.Proof

/-! ## The cotangent of the activations of the gated delta net -/

namespace Cert.DuC.Proof

open Cert.DuCIdeal Cert.DuCIdeal.Gen

/-- The reference's product at one element. -/
theorem ref (H : FVec Ideal Cert.DuCRefIdeal.S8192x1024 .bf16) (W : FVec Ideal Cert.DuCRefIdeal.S1024x1024 .bf16) (i : Fin 8192) (j : Fin 1024) :
    Cert.DuCRefIdeal.Read.val_main_v6 (F := Ideal) H W (ix2 i j) = ∑ l : Fin 1024, H (ix2 i l) * W (ix2 j l) := by
  pointwise [← Cert.DuCRefIdeal.Read.val_main_v6_eq]

/-- The product of the two blocks at one element. -/
theorem block_apply (a : FVec Ideal S2048x1024 .bf16) (b : FVec Ideal S1024x1024 .bf16) (y : S2048x1024.Idx) :
    k0_pay1 (F := Ideal) a b y = ∑ k : Fin 1024, a (ix2 (y 0) k) * b (ix2 (y 1) k) := by
  rw [eq_ix2 y]; pointwise [k0_pay1]

/-- The windows' block indices. -/
theorem index_maps : ∀ t : Fin cfg0.N, win0_0.index t = ![t.val / 1, 0] ∧ win0_1.index t = ![t.val % 1, 0] ∧ win0_2.index t = ![t.val / 1, t.val % 1] :=
  (by decide +kernel : ∀ t : Fin grid0.N, _)

/-- The kernel's array after the run. -/
theorem final (m : (ℓ : Loc nD τ sig) → Buf (Elt Ideal) ℓ) (c : Dev nD) : (dats m 0 c).arrAt 2 (cfgs 0).N =
    fun i => ∑ l : Fin 1024, (show EReal from m ((c : Thread nD τ).loc main_arg0) (ix2 (i 0) l)) * (show EReal from m ((c : Thread nD τ).loc main_arg1) (ix2 (i 1) l)) := by
  refine (dats m 0 c).arrAt_eq_of_covers 2 _ (by decide +kernel) fun t hf y => ?_
  blk_simp
  rw [after0_2]; unfold out0_2; frame_out; rw [block_apply]
  exact Fin.sum_fin_congr fun k => congrArg₂ (fun a b : EReal => a * b) (by blk_ext [iblk, V, index_maps t]) (by blk_ext [iblk, V, index_maps t])

end Cert.DuC.Proof
-- ==== Proof.MergeFwd.lean ====
/- The merge of the three branches and the output projection: the kernel's two arrays are the reference's. -/
module

public import proofs.«01_k».proof.Proof.Gen.MergeFwdIdeal.Value
public import proofs.«01_k».proof.Proof.Gen.MergeFwdRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeFwd.Proof

open Cert.MergeFwdIdeal Cert.MergeFwdIdeal.Gen

section
variable {R : ℕ} (PG : (⟨2, ![R, 3072]⟩ : Shape).Idx → EReal) (BG : (⟨2, ![1, 3072]⟩ : Shape).Idx → EReal) (YA YB YC : (⟨2, ![R, 1024]⟩ : Shape).Idx → EReal)

/-- The gate of row `r` in column `k`. -/
def gate (r : Fin R) (k : Fin 3072) : EReal := Ideal.div 1 (1 + Ideal.exp (-(PG (ix2 r k) + BG (ix2 0 k))))

/-- The merged row `r` in column `d`: the branches' outputs times their gates. -/
def merged (r : Fin R) (d : Fin 1024) : EReal :=
  gate PG BG r ⟨d.val, by omega⟩ * YA (ix2 r d) + gate PG BG r ⟨1024 + d.val, by omega⟩ * YB (ix2 r d) + gate PG BG r ⟨2048 + d.val, by omega⟩ * YC (ix2 r d)

end

section
variable (PG : FVec Ideal Cert.MergeFwdRefIdeal.S8192x3072 .bf16) (BG : FVec Ideal Cert.MergeFwdRefIdeal.S1x3072 .f32) (YA YB YC : FVec Ideal Cert.MergeFwdRefIdeal.S8192x1024 .bf16)
  (WO : FVec Ideal Cert.MergeFwdRefIdeal.S1024x1024 .bf16) (X : FVec Ideal Cert.MergeFwdRefIdeal.S8192x1024 .f32)

/-- The reference's merged rows. -/
theorem ref_merged (r : Fin 8192) (d : Fin 1024) : Cert.MergeFwdRefIdeal.Read.val_main_v23 (F := Ideal) PG BG YA YB YC (ix2 r d) = merged PG BG YA YB YC r d := by
  pointwise [← Cert.MergeFwdRefIdeal.Read.val_main_v24_eq, Cert.MergeFwdRefIdeal.Read.val_main_v23, Cert.MergeFwdRefIdeal.Read.val_main_v22, Cert.MergeFwdRefIdeal.Read.val_main_v21, Cert.MergeFwdRefIdeal.Read.val_main_v20, Cert.MergeFwdRefIdeal.Read.val_main_v19, Cert.MergeFwdRefIdeal.Read.val_main_v18, Cert.MergeFwdRefIdeal.Read.val_main_v17, Cert.MergeFwdRefIdeal.Read.val_main_v16, Cert.MergeFwdRefIdeal.Read.val_main_v15, Cert.MergeFwdRefIdeal.Read.val_main_v14, Cert.MergeFwdRefIdeal.Read.val_main_v13, Cert.MergeFwdRefIdeal.Read.val_main_v12, Cert.MergeFwdRefIdeal.Read.val_main_v11, Cert.MergeFwdRefIdeal.Read.val_main_v10, Cert.MergeFwdRefIdeal.Read.val_main_v9, Cert.MergeFwdRefIdeal.Read.val_main_v8, Cert.MergeFwdRefIdeal.Read.val_main_v7, Cert.MergeFwdRefIdeal.Read.val_main_v6, Cert.MergeFwdRefIdeal.Read.val_main_v5, Cert.MergeFwdRefIdeal.Read.val_main_v4, Cert.MergeFwdRefIdeal.Read.val_main_v3, Cert.MergeFwdRefIdeal.Read.val_main_v2, Cert.MergeFwdRefIdeal.Read.val_main_v1, Cert.MergeFwdRefIdeal.Read.val_main_v0, Cert.MergeFwdRefIdeal.Read.val_main_cst, Cert.MergeFwdRefIdeal.Read.val_main_cst_0]
  rfl

/-- The reference's output rows: the residual row plus the merged row's product. -/
theorem ref_out (r : Fin 8192) (e : Fin 1024) : Cert.MergeFwdRefIdeal.Read.val_main_v27 (F := Ideal) PG BG YA YB YC WO X (ix2 r e)
    = (∑ d : Fin 1024, merged PG BG YA YB YC r d * WO (ix2 d e)) + X (ix2 r e) := by
  pointwise [Cert.MergeFwdRefIdeal.Read.val_main_v27, Cert.MergeFwdRefIdeal.Read.val_main_v26, Cert.MergeFwdRefIdeal.Read.val_main_v25]
  rw [add_comm]
  exact congrArg (fun s : EReal => s + X (ix2 r e)) (Fin.sum_fin_congr fun d => congrArg (fun a : EReal => a * WO (ix2 d e)) (ref_merged PG BG YA YB YC r d))

end

/-- The windows' block indices: row block `t`, or the whole array. -/
theorem index_maps : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The merged rows of the argument arrays. -/
def rows (r : Fin 8192) (d : Fin 1024) : EReal :=
  merged (m ((c : Thread nD τ).loc main_arg0)) (m ((c : Thread nD τ).loc main_arg1)) (m ((c : Thread nD τ).loc main_arg2)) (m ((c : Thread nD τ).loc main_arg3)) (m ((c : Thread nD τ).loc main_arg4)) r d

/-- The merged rows after the run. -/
theorem final_merged : (dats m 0 c).arrAt 7 (cfgs 0).N = fun i => rows m c (i 0) (i 1) := by
  refine (dats m 0 c).arrAt_eq_of_covers 7 _ (by decide +kernel) fun t hf y => ?_
  blk_simp
  rw [after0_7]; unfold out0_7; frame_out
  pointwise [k0_pay1, rows, merged, gate]
  simp only [zero_sub]
  blk_point [iblk, V, index_maps t]

/-- The output rows after the run. -/
theorem final_out : (dats m 0 c).arrAt 8 (cfgs 0).N = fun i => (∑ d : Fin 1024, rows m c (i 0) d * (show EReal from m ((c : Thread nD τ).loc main_arg5) (ix2 d (i 1))))
    + (show EReal from m ((c : Thread nD τ).loc main_arg6) (ix2 (i 0) (i 1))) := by
  refine (dats m 0 c).arrAt_eq_of_covers 8 _ (by decide +kernel) fun t hf y => ?_
  blk_simp
  rw [after0_8]; unfold out0_8; frame_out
  pointwise [k0_pay2, k0_pay1, rows, merged, gate]
  simp only [zero_sub]
  blk_point [iblk, V, index_maps t]

end Cert.MergeFwd.Proof
-- ==== Proof.Products.lean ====
/- The tiled products: each kernel's array is its reference's, and each reference's run ends quiet. -/
module

public import proofs.«01_k».proof.Defs
public import proofs.«01_k».proof.Proof.Dh
public import proofs.«01_k».proof.Proof.WeightGrads
public import proofs.«01_k».proof.Proof.RowProducts
public import proofs.«01_k».proof.Proof.MergeFwd
public import Idealize.ShloMosaic.Lib.Quiescent
public import proofs.«01_k».proof.Proof.Gen.DhRefIdeal
public import proofs.«01_k».proof.Proof.Gen.DhRefIdeal.Run
public import proofs.«01_k».proof.Proof.Gen.DhIdeal
public import proofs.«01_k».proof.Proof.Gen.DwARefIdeal
public import proofs.«01_k».proof.Proof.Gen.DwARefIdeal.Run
public import proofs.«01_k».proof.Proof.Gen.DwAIdeal
public import proofs.«01_k».proof.Proof.Gen.DwCRefIdeal
public import proofs.«01_k».proof.Proof.Gen.DwCRefIdeal.Run
public import proofs.«01_k».proof.Proof.Gen.DwCIdeal
public import proofs.«01_k».proof.Proof.Gen.DwGRefIdeal
public import proofs.«01_k».proof.Proof.Gen.DwGRefIdeal.Run
public import proofs.«01_k».proof.Proof.Gen.DwGIdeal
public import proofs.«01_k».proof.Proof.Gen.ProjARefIdeal
public import proofs.«01_k».proof.Proof.Gen.ProjARefIdeal.Run
public import proofs.«01_k».proof.Proof.Gen.ProjAIdeal
public import proofs.«01_k».proof.Proof.Gen.ProjCRefIdeal
public import proofs.«01_k».proof.Proof.Gen.ProjCRefIdeal.Run
public import proofs.«01_k».proof.Proof.Gen.ProjCIdeal
public import proofs.«01_k».proof.Proof.Gen.ProjGRefIdeal
public import proofs.«01_k».proof.Proof.Gen.ProjGRefIdeal.Run
public import proofs.«01_k».proof.Proof.Gen.ProjGIdeal
public import proofs.«01_k».proof.Proof.Gen.DwORefIdeal
public import proofs.«01_k».proof.Proof.Gen.DwORefIdeal.Run
public import proofs.«01_k».proof.Proof.Gen.DwOIdeal
public import proofs.«01_k».proof.Proof.Gen.DwOutARefIdeal
public import proofs.«01_k».proof.Proof.Gen.DwOutARefIdeal.Run
public import proofs.«01_k».proof.Proof.Gen.DwOutAIdeal
public import proofs.«01_k».proof.Proof.Gen.DwOutCRefIdeal
public import proofs.«01_k».proof.Proof.Gen.DwOutCRefIdeal.Run
public import proofs.«01_k».proof.Proof.Gen.DwOutCIdeal
public import proofs.«01_k».proof.Proof.Gen.DuARefIdeal
public import proofs.«01_k».proof.Proof.Gen.DuARefIdeal.Run
public import proofs.«01_k».proof.Proof.Gen.DuAIdeal
public import proofs.«01_k».proof.Proof.Gen.DuCRefIdeal
public import proofs.«01_k».proof.Proof.Gen.DuCRefIdeal.Run
public import proofs.«01_k».proof.Proof.Gen.DuCIdeal
public import proofs.«01_k».proof.Proof.Gen.OutARefIdeal
public import proofs.«01_k».proof.Proof.Gen.OutARefIdeal.Run
public import proofs.«01_k».proof.Proof.Gen.OutAIdeal
public import proofs.«01_k».proof.Proof.Gen.OutCRefIdeal
public import proofs.«01_k».proof.Proof.Gen.OutCRefIdeal.Run
public import proofs.«01_k».proof.Proof.Gen.OutCIdeal
public import proofs.«01_k».proof.Proof.Gen.MergeFwdRefIdeal
public import proofs.«01_k».proof.Proof.Gen.MergeFwdRefIdeal.Run
public import proofs.«01_k».proof.Proof.Gen.MergeFwdIdeal

@[expose] public section

set_option maxRecDepth 16384

noncomputable section

open Idealize.ShloMosaic Idealize.ShloMosaic.TcCoe Idealize.SL.Sem

namespace Cert.Dh.Proof

/-- Kernel and reference of the gradient that reaches the normalised activations end with the same array. -/
theorem algebraic : @Cert.algebraic_DhIdeal_DhRefIdeal Cert.DhIdeal.Gen.facts Cert.DhRefIdeal.Gen.facts := by
  intro m g m' g' _ hag
  refine ⟨fun c => (Cert.DhIdeal.Gen.dats m 0 c).arrAt 8 Cert.DhIdeal.cfg0.N, Cert.DhIdeal.Value.run_blocks m g, (θ_run _ _ _).mono (fun r h c => ?_) (Cert.DhRefIdeal.Value.run m' g')⟩
  obtain ⟨h0, hk⟩ := h c
  obtain ⟨a0, a1, a2, a3, a4, a5, a6, a7⟩ := hag c
  refine ⟨h0.trans ((Cert.DhRefIdeal.Read.val_main_v19_eq _ _ _ _ _ _ _ _).trans ?_), hk⟩
  rw [a0, a1, a2, a3, a4, a5, a6, a7]
  exact ((final m c).trans (funext fun i => ((congrArg _ (eq_ix2 i)).trans (ref _ _ _ _ _ _ _ _ _ _)).symm)).symm

/-- The reference of the gradient that reaches the normalised activations ends with its arguments kept and no signal pending. -/
theorem ref_frame : @Cert.quiescent_DhRefIdeal Cert.DhRefIdeal.Gen.facts := by
  intro m g _
  refine (θ_run _ _ _).mono (fun r h => ⟨fun c => ?_, sem_eq_zero_of_no_sems (by decide) _⟩) (Cert.DhRefIdeal.Value.run m g)
  exact (h c).2

end Cert.Dh.Proof

namespace Cert.DwA.Proof

/-- Kernel and reference of the weight gradient in the columns of the convolution branch and of the gated recurrence end with the same array. -/
theorem algebraic : @Cert.algebraic_DwAIdeal_DwARefIdeal Cert.DwAIdeal.Gen.facts Cert.DwARefIdeal.Gen.facts := by
  intro m g m' g' _ hag
  refine ⟨fun c => (Cert.DwAIdeal.Gen.dats m 0 c).arrAt 2 Cert.DwAIdeal.cfg0.N, Cert.DwAIdeal.Value.run_blocks m g, (θ_run _ _ _).mono (fun r h c => ?_) (Cert.DwARefIdeal.Value.run m' g')⟩
  obtain ⟨h0, hk⟩ := h c
  obtain ⟨a0, a1⟩ := hag c
  refine ⟨h0.trans ((Cert.DwARefIdeal.Read.val_main_v7_eq _ _).trans ?_), hk⟩
  rw [a0, a1]
  exact ((final m c).trans (funext fun i => ((congrArg _ (eq_ix2 i)).trans (ref _ _ _ _)).symm)).symm

/-- The reference of the weight gradient in the columns of the convolution branch and of the gated recurrence ends with its arguments kept and no signal pending. -/
theorem ref_frame : @Cert.quiescent_DwARefIdeal Cert.DwARefIdeal.Gen.facts := by
  intro m g _
  refine (θ_run _ _ _).mono (fun r h => ⟨fun c => ?_, sem_eq_zero_of_no_sems (by decide) _⟩) (Cert.DwARefIdeal.Value.run m g)
  exact (h c).2

end Cert.DwA.Proof

namespace Cert.DwC.Proof

/-- Kernel and reference of the weight gradient in the gated delta net's columns end with the same array. -/
theorem algebraic : @Cert.algebraic_DwCIdeal_DwCRefIdeal Cert.DwCIdeal.Gen.facts Cert.DwCRefIdeal.Gen.facts := by
  intro m g m' g' _ hag
  refine ⟨fun c => (Cert.DwCIdeal.Gen.dats m 0 c).arrAt 2 Cert.DwCIdeal.cfg0.N, Cert.DwCIdeal.Value.run_blocks m g, (θ_run _ _ _).mono (fun r h c => ?_) (Cert.DwCRefIdeal.Value.run m' g')⟩
  obtain ⟨h0, hk⟩ := h c
  obtain ⟨a0, a1⟩ := hag c
  refine ⟨h0.trans ((Cert.DwCRefIdeal.Read.val_main_v7_eq _ _).trans ?_), hk⟩
  rw [a0, a1]
  exact ((final m c).trans (funext fun i => ((congrArg _ (eq_ix2 i)).trans (ref _ _ _ _)).symm)).symm

/-- The reference of the weight gradient in the gated delta net's columns ends with its arguments kept and no signal pending. -/
theorem ref_frame : @Cert.quiescent_DwCRefIdeal Cert.DwCRefIdeal.Gen.facts := by
  intro m g _
  refine (θ_run _ _ _).mono (fun r h => ⟨fun c => ?_, sem_eq_zero_of_no_sems (by decide) _⟩) (Cert.DwCRefIdeal.Value.run m g)
  exact (h c).2

end Cert.DwC.Proof

namespace Cert.DwG.Proof

/-- Kernel and reference of the weight gradient in the gates' columns end with the same array. -/
theorem algebraic : @Cert.algebraic_DwGIdeal_DwGRefIdeal Cert.DwGIdeal.Gen.facts Cert.DwGRefIdeal.Gen.facts := by
  intro m g m' g' _ hag
  refine ⟨fun c => (Cert.DwGIdeal.Gen.dats m 0 c).arrAt 2 Cert.DwGIdeal.cfg0.N, Cert.DwGIdeal.Value.run_blocks m g, (θ_run _ _ _).mono (fun r h c => ?_) (Cert.DwGRefIdeal.Value.run m' g')⟩
  obtain ⟨h0, hk⟩ := h c
  obtain ⟨a0, a1⟩ := hag c
  refine ⟨h0.trans ((Cert.DwGRefIdeal.Read.val_main_v7_eq _ _).trans ?_), hk⟩
  rw [a0, a1]
  exact ((final m c).trans (funext fun i => ((congrArg _ (eq_ix2 i)).trans (ref _ _ _ _)).symm)).symm

/-- The reference of the weight gradient in the gates' columns ends with its arguments kept and no signal pending. -/
theorem ref_frame : @Cert.quiescent_DwGRefIdeal Cert.DwGRefIdeal.Gen.facts := by
  intro m g _
  refine (θ_run _ _ _).mono (fun r h => ⟨fun c => ?_, sem_eq_zero_of_no_sems (by decide) _⟩) (Cert.DwGRefIdeal.Value.run m g)
  exact (h c).2

end Cert.DwG.Proof

namespace Cert.ProjA.Proof

/-- Kernel and reference of the projection in the columns of the convolution branch and of the gated recurrence end with the same array. -/
theorem algebraic : @Cert.algebraic_ProjAIdeal_ProjARefIdeal Cert.ProjAIdeal.Gen.facts Cert.ProjARefIdeal.Gen.facts := by
  intro m g m' g' _ hag
  refine ⟨fun c => (Cert.ProjAIdeal.Gen.dats m 0 c).arrAt 2 Cert.ProjAIdeal.cfg0.N, Cert.ProjAIdeal.Value.run_blocks m g, (θ_run _ _ _).mono (fun r h c => ?_) (Cert.ProjARefIdeal.Value.run m' g')⟩
  obtain ⟨h0, hk⟩ := h c
  obtain ⟨a0, a1⟩ := hag c
  refine ⟨h0.trans ((Cert.ProjARefIdeal.Read.val_main_v2_eq _ _).trans ?_), hk⟩
  rw [a0, a1]
  exact ((final m c).trans (funext fun i => ((congrArg _ (eq_ix2 i)).trans (ref _ _ _ _)).symm)).symm

/-- The reference of the projection in the columns of the convolution branch and of the gated recurrence ends with its arguments kept and no signal pending. -/
theorem ref_frame : @Cert.quiescent_ProjARefIdeal Cert.ProjARefIdeal.Gen.facts := by
  intro m g _
  refine (θ_run _ _ _).mono (fun r h => ⟨fun c => ?_, sem_eq_zero_of_no_sems (by decide) _⟩) (Cert.ProjARefIdeal.Value.run m g)
  exact (h c).2

end Cert.ProjA.Proof

namespace Cert.ProjC.Proof

/-- Kernel and reference of the projection in the gated delta net's columns end with the same array. -/
theorem algebraic : @Cert.algebraic_ProjCIdeal_ProjCRefIdeal Cert.ProjCIdeal.Gen.facts Cert.ProjCRefIdeal.Gen.facts := by
  intro m g m' g' _ hag
  refine ⟨fun c => (Cert.ProjCIdeal.Gen.dats m 0 c).arrAt 2 Cert.ProjCIdeal.cfg0.N, Cert.ProjCIdeal.Value.run_blocks m g, (θ_run _ _ _).mono (fun r h c => ?_) (Cert.ProjCRefIdeal.Value.run m' g')⟩
  obtain ⟨h0, hk⟩ := h c
  obtain ⟨a0, a1⟩ := hag c
  refine ⟨h0.trans ((Cert.ProjCRefIdeal.Read.val_main_v2_eq _ _).trans ?_), hk⟩
  rw [a0, a1]
  exact ((final m c).trans (funext fun i => ((congrArg _ (eq_ix2 i)).trans (ref _ _ _ _)).symm)).symm

/-- The reference of the projection in the gated delta net's columns ends with its arguments kept and no signal pending. -/
theorem ref_frame : @Cert.quiescent_ProjCRefIdeal Cert.ProjCRefIdeal.Gen.facts := by
  intro m g _
  refine (θ_run _ _ _).mono (fun r h => ⟨fun c => ?_, sem_eq_zero_of_no_sems (by decide) _⟩) (Cert.ProjCRefIdeal.Value.run m g)
  exact (h c).2

end Cert.ProjC.Proof

namespace Cert.ProjG.Proof

/-- Kernel and reference of the projection in the gates' columns end with the same array. -/
theorem algebraic : @Cert.algebraic_ProjGIdeal_ProjGRefIdeal Cert.ProjGIdeal.Gen.facts Cert.ProjGRefIdeal.Gen.facts := by
  intro m g m' g' _ hag
  refine ⟨fun c => (Cert.ProjGIdeal.Gen.dats m 0 c).arrAt 2 Cert.ProjGIdeal.cfg0.N, Cert.ProjGIdeal.Value.run_blocks m g, (θ_run _ _ _).mono (fun r h c => ?_) (Cert.ProjGRefIdeal.Value.run m' g')⟩
  obtain ⟨h0, hk⟩ := h c
  obtain ⟨a0, a1⟩ := hag c
  refine ⟨h0.trans ((Cert.ProjGRefIdeal.Read.val_main_v3_eq _ _).trans ?_), hk⟩
  rw [a0, a1]
  exact ((final m c).trans (funext fun i => ((congrArg _ (eq_ix2 i)).trans (ref _ _ _ _)).symm)).symm

/-- The reference of the projection in the gates' columns ends with its arguments kept and no signal pending. -/
theorem ref_frame : @Cert.quiescent_ProjGRefIdeal Cert.ProjGRefIdeal.Gen.facts := by
  intro m g _
  refine (θ_run _ _ _).mono (fun r h => ⟨fun c => ?_, sem_eq_zero_of_no_sems (by decide) _⟩) (Cert.ProjGRefIdeal.Value.run m g)
  exact (h c).2

end Cert.ProjG.Proof

namespace Cert.DwO.Proof

/-- Kernel and reference of the output projection's weight gradient end with the same array. -/
theorem algebraic : @Cert.algebraic_DwOIdeal_DwORefIdeal Cert.DwOIdeal.Gen.facts Cert.DwORefIdeal.Gen.facts := by
  intro m g m' g' _ hag
  refine ⟨fun c => (Cert.DwOIdeal.Gen.dats m 0 c).arrAt 2 Cert.DwOIdeal.cfg0.N, Cert.DwOIdeal.Value.run_blocks m g, (θ_run _ _ _).mono (fun r h c => ?_) (Cert.DwORefIdeal.Value.run m' g')⟩
  obtain ⟨h0, hk⟩ := h c
  obtain ⟨a0, a1⟩ := hag c
  refine ⟨h0.trans ((Cert.DwORefIdeal.Read.val_main_v6_eq _ _).trans ?_), hk⟩
  rw [a0, a1]
  exact ((final m c).trans (funext fun i => ((congrArg _ (eq_ix2 i)).trans (ref _ _ _ _)).symm)).symm

/-- The reference of the output projection's weight gradient ends with its arguments kept and no signal pending. -/
theorem ref_frame : @Cert.quiescent_DwORefIdeal Cert.DwORefIdeal.Gen.facts := by
  intro m g _
  refine (θ_run _ _ _).mono (fun r h => ⟨fun c => ?_, sem_eq_zero_of_no_sems (by decide) _⟩) (Cert.DwORefIdeal.Value.run m g)
  exact (h c).2

end Cert.DwO.Proof

namespace Cert.DwOutA.Proof

/-- Kernel and reference of the weight gradient of the first two branches' output projection end with the same array. -/
theorem algebraic : @Cert.algebraic_DwOutAIdeal_DwOutARefIdeal Cert.DwOutAIdeal.Gen.facts Cert.DwOutARefIdeal.Gen.facts := by
  intro m g m' g' _ hag
  refine ⟨fun c => (Cert.DwOutAIdeal.Gen.dats m 0 c).arrAt 2 Cert.DwOutAIdeal.cfg0.N, Cert.DwOutAIdeal.Value.run_blocks m g, (θ_run _ _ _).mono (fun r h c => ?_) (Cert.DwOutARefIdeal.Value.run m' g')⟩
  obtain ⟨h0, hk⟩ := h c
  obtain ⟨a0, a1⟩ := hag c
  refine ⟨h0.trans ((Cert.DwOutARefIdeal.Read.val_main_v7_eq _ _).trans ?_), hk⟩
  rw [a0, a1]
  exact ((final m c).trans (funext fun i => ((congrArg _ (eq_ix2 i)).trans (ref _ _ _ _)).symm)).symm

/-- The reference of the weight gradient of the first two branches' output projection ends with its arguments kept and no signal pending. -/
theorem ref_frame : @Cert.quiescent_DwOutARefIdeal Cert.DwOutARefIdeal.Gen.facts := by
  intro m g _
  refine (θ_run _ _ _).mono (fun r h => ⟨fun c => ?_, sem_eq_zero_of_no_sems (by decide) _⟩) (Cert.DwOutARefIdeal.Value.run m g)
  exact (h c).2

end Cert.DwOutA.Proof

namespace Cert.DwOutC.Proof

/-- Kernel and reference of the weight gradient of the third branch's output projection end with the same array. -/
theorem algebraic : @Cert.algebraic_DwOutCIdeal_DwOutCRefIdeal Cert.DwOutCIdeal.Gen.facts Cert.DwOutCRefIdeal.Gen.facts := by
  intro m g m' g' _ hag
  refine ⟨fun c => (Cert.DwOutCIdeal.Gen.dats m 0 c).arrAt 2 Cert.DwOutCIdeal.cfg0.N, Cert.DwOutCIdeal.Value.run_blocks m g, (θ_run _ _ _).mono (fun r h c => ?_) (Cert.DwOutCRefIdeal.Value.run m' g')⟩
  obtain ⟨h0, hk⟩ := h c
  obtain ⟨a0, a1⟩ := hag c
  refine ⟨h0.trans ((Cert.DwOutCRefIdeal.Read.val_main_v7_eq _ _).trans ?_), hk⟩
  rw [a0, a1]
  exact ((final m c).trans (funext fun i => ((congrArg _ (eq_ix2 i)).trans (ref _ _ _ _)).symm)).symm

/-- The reference of the weight gradient of the third branch's output projection ends with its arguments kept and no signal pending. -/
theorem ref_frame : @Cert.quiescent_DwOutCRefIdeal Cert.DwOutCRefIdeal.Gen.facts := by
  intro m g _
  refine (θ_run _ _ _).mono (fun r h => ⟨fun c => ?_, sem_eq_zero_of_no_sems (by decide) _⟩) (Cert.DwOutCRefIdeal.Value.run m g)
  exact (h c).2

end Cert.DwOutC.Proof

namespace Cert.DuA.Proof

/-- Kernel and reference of the cotangent of the first two branches' activations end with the same array. -/
theorem algebraic : @Cert.algebraic_DuAIdeal_DuARefIdeal Cert.DuAIdeal.Gen.facts Cert.DuARefIdeal.Gen.facts := by
  intro m g m' g' _ hag
  refine ⟨fun c => (Cert.DuAIdeal.Gen.dats m 0 c).arrAt 2 Cert.DuAIdeal.cfg0.N, Cert.DuAIdeal.Value.run_blocks m g, (θ_run _ _ _).mono (fun r h c => ?_) (Cert.DuARefIdeal.Value.run m' g')⟩
  obtain ⟨h0, hk⟩ := h c
  obtain ⟨a0, a1⟩ := hag c
  refine ⟨h0.trans ((Cert.DuARefIdeal.Read.val_main_v6_eq _ _).trans ?_), hk⟩
  rw [a0, a1]
  exact ((final m c).trans (funext fun i => ((congrArg _ (eq_ix2 i)).trans (ref _ _ _ _)).symm)).symm

/-- The reference of the cotangent of the first two branches' activations ends with its arguments kept and no signal pending. -/
theorem ref_frame : @Cert.quiescent_DuARefIdeal Cert.DuARefIdeal.Gen.facts := by
  intro m g _
  refine (θ_run _ _ _).mono (fun r h => ⟨fun c => ?_, sem_eq_zero_of_no_sems (by decide) _⟩) (Cert.DuARefIdeal.Value.run m g)
  exact (h c).2

end Cert.DuA.Proof

namespace Cert.DuC.Proof

/-- Kernel and reference of the cotangent of the third branch's activations end with the same array. -/
theorem algebraic : @Cert.algebraic_DuCIdeal_DuCRefIdeal Cert.DuCIdeal.Gen.facts Cert.DuCRefIdeal.Gen.facts := by
  intro m g m' g' _ hag
  refine ⟨fun c => (Cert.DuCIdeal.Gen.dats m 0 c).arrAt 2 Cert.DuCIdeal.cfg0.N, Cert.DuCIdeal.Value.run_blocks m g, (θ_run _ _ _).mono (fun r h c => ?_) (Cert.DuCRefIdeal.Value.run m' g')⟩
  obtain ⟨h0, hk⟩ := h c
  obtain ⟨a0, a1⟩ := hag c
  refine ⟨h0.trans ((Cert.DuCRefIdeal.Read.val_main_v6_eq _ _).trans ?_), hk⟩
  rw [a0, a1]
  exact ((final m c).trans (funext fun i => ((congrArg _ (eq_ix2 i)).trans (ref _ _ _ _)).symm)).symm

/-- The reference of the cotangent of the third branch's activations ends with its arguments kept and no signal pending. -/
theorem ref_frame : @Cert.quiescent_DuCRefIdeal Cert.DuCRefIdeal.Gen.facts := by
  intro m g _
  refine (θ_run _ _ _).mono (fun r h => ⟨fun c => ?_, sem_eq_zero_of_no_sems (by decide) _⟩) (Cert.DuCRefIdeal.Value.run m g)
  exact (h c).2

end Cert.DuC.Proof

namespace Cert.OutA.Proof

/-- Kernel and reference of the first two branches' output projection end with the same array. -/
theorem algebraic : @Cert.algebraic_OutAIdeal_OutARefIdeal Cert.OutAIdeal.Gen.facts Cert.OutARefIdeal.Gen.facts := by
  intro m g m' g' _ hag
  refine ⟨fun c => (Cert.OutAIdeal.Gen.dats m 0 c).arrAt 2 Cert.OutAIdeal.cfg0.N, Cert.OutAIdeal.Value.run_blocks m g, (θ_run _ _ _).mono (fun r h c => ?_) (Cert.OutARefIdeal.Value.run m' g')⟩
  obtain ⟨h0, hk⟩ := h c
  obtain ⟨a0, a1⟩ := hag c
  refine ⟨h0.trans ((Cert.OutARefIdeal.Read.val_main_v3_eq _ _).trans ?_), hk⟩
  rw [a0, a1]
  exact ((final m c).trans (funext fun i => ((congrArg _ (eq_ix2 i)).trans (ref _ _ _ _)).symm)).symm

/-- The reference of the first two branches' output projection ends with its arguments kept and no signal pending. -/
theorem ref_frame : @Cert.quiescent_OutARefIdeal Cert.OutARefIdeal.Gen.facts := by
  intro m g _
  refine (θ_run _ _ _).mono (fun r h => ⟨fun c => ?_, sem_eq_zero_of_no_sems (by decide) _⟩) (Cert.OutARefIdeal.Value.run m g)
  exact (h c).2

end Cert.OutA.Proof

namespace Cert.OutC.Proof

/-- Kernel and reference of the third branch's output projection end with the same array. -/
theorem algebraic : @Cert.algebraic_OutCIdeal_OutCRefIdeal Cert.OutCIdeal.Gen.facts Cert.OutCRefIdeal.Gen.facts := by
  intro m g m' g' _ hag
  refine ⟨fun c => (Cert.OutCIdeal.Gen.dats m 0 c).arrAt 2 Cert.OutCIdeal.cfg0.N, Cert.OutCIdeal.Value.run_blocks m g, (θ_run _ _ _).mono (fun r h c => ?_) (Cert.OutCRefIdeal.Value.run m' g')⟩
  obtain ⟨h0, hk⟩ := h c
  obtain ⟨a0, a1⟩ := hag c
  refine ⟨h0.trans ((Cert.OutCRefIdeal.Read.val_main_v3_eq _ _).trans ?_), hk⟩
  rw [a0, a1]
  exact ((final m c).trans (funext fun i => ((congrArg _ (eq_ix2 i)).trans (ref _ _ _ _)).symm)).symm

/-- The reference of the third branch's output projection ends with its arguments kept and no signal pending. -/
theorem ref_frame : @Cert.quiescent_OutCRefIdeal Cert.OutCRefIdeal.Gen.facts := by
  intro m g _
  refine (θ_run _ _ _).mono (fun r h => ⟨fun c => ?_, sem_eq_zero_of_no_sems (by decide) _⟩) (Cert.OutCRefIdeal.Value.run m g)
  exact (h c).2

end Cert.OutC.Proof

namespace Cert.MergeFwd.Proof

/-- Kernel and reference of the merge end with the same merged rows and the same output rows. -/
theorem algebraic : @Cert.algebraic_MergeFwdIdeal_MergeFwdRefIdeal Cert.MergeFwdIdeal.Gen.facts Cert.MergeFwdRefIdeal.Gen.facts := by
  intro m g m' g' _ hag
  refine ⟨fun c => (Cert.MergeFwdIdeal.Gen.dats m 0 c).arrAt 7 Cert.MergeFwdIdeal.cfg0.N, fun c => (Cert.MergeFwdIdeal.Gen.dats m 0 c).arrAt 8 Cert.MergeFwdIdeal.cfg0.N,
    Cert.MergeFwdIdeal.Value.run_blocks m g, (θ_run _ _ _).mono (fun r h c => ?_) (Cert.MergeFwdRefIdeal.Value.run m' g')⟩
  obtain ⟨h0, h1, hk⟩ := h c
  obtain ⟨a0, a1, a2, a3, a4, a5, a6⟩ := hag c
  refine ⟨h0.trans ((Cert.MergeFwdRefIdeal.Read.val_main_v24_eq _ _ _ _ _).trans ?_), h1.trans ((Cert.MergeFwdRefIdeal.Read.val_main_v27_eq _ _ _ _ _ _ _).trans ?_), hk⟩
  · rw [a0, a1, a2, a3, a4]
    exact ((final_merged m c).trans (funext fun i => ((congrArg _ (eq_ix2 i)).trans (ref_merged _ _ _ _ _ _ _)).symm)).symm
  · rw [a0, a1, a2, a3, a4, a5, a6]
    exact ((final_out m c).trans (funext fun i => ((congrArg _ (eq_ix2 i)).trans (ref_out _ _ _ _ _ _ _ _ _)).symm)).symm

/-- The reference of the merge ends with its arguments kept and no signal pending. -/
theorem ref_frame : @Cert.quiescent_MergeFwdRefIdeal Cert.MergeFwdRefIdeal.Gen.facts := by
  intro m g _
  refine (θ_run _ _ _).mono (fun r h => ⟨fun c => ?_, sem_eq_zero_of_no_sems (by decide) _⟩) (Cert.MergeFwdRefIdeal.Value.run m g)
  exact (h c).2.2

end Cert.MergeFwd.Proof
-- ==== Proof.ConvFwd.lean ====
/- The gated short convolution, forward. -/
module

public import proofs.«01_k».proof.Proof.Gen.ConvFwdIdeal.Value
public import proofs.«01_k».proof.Proof.Gen.ConvFwdRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvFwd.Proof

open Cert.ConvFwdIdeal Cert.ConvFwdIdeal.Gen

/-- The product of the two streams `C` and `x_in`, `k` rows earlier than row `r` of a block whose eight rows before are `HC` and `HX`. -/
def late (HC HX : FVec Ideal S8x512 .f32) (AC AX : FVec Ideal S512x512 .f32) (k : ℕ) (hk : k ≤ 8) (r : Fin 512) (d : Fin 512) : EReal :=
  if h : r.val < k then HC (ix2 ⟨8 + r.val - k, by omega⟩ d) * HX (ix2 ⟨8 + r.val - k, by omega⟩ d)
  else AC (ix2 ⟨r.val - k, by omega⟩ d) * AX (ix2 ⟨r.val - k, by omega⟩ d)

/-- What the block stores before the gate: branch `B` times the weighted sum of the three delayed products. -/
theorem pay6_at (AC AX AB : FVec Ideal S512x512 .f32) (HC HX : FVec Ideal S8x512 .f32) (W0 W1 W2 : FVec Ideal S1x512 .f32) (r d : Fin 512) :
    k0_pay6 (F := Ideal) AC AX AB HC HX W0 W1 W2 (ix2 r d)
      = AB (ix2 r d) * (W0 (ix2 0 d) * late HC HX AC AX 2 (by omega) r d + W1 (ix2 0 d) * late HC HX AC AX 1 (by omega) r d + W2 (ix2 0 d) * (AC (ix2 r d) * AX (ix2 r d))) := by
  pointwise [k0_pay6, late]
  have e2 : (8 + r.val + 520 - 2) % 520 = 8 + r.val - 2 := by omega
  have e1 : (8 + r.val + 520 - 1) % 520 = 8 + r.val - 1 := by omega
  simp only [e2, e1]
  congr 1; congr 1; congr 1 <;> congr 1
  · by_cases h : r.val < 2
    · have h' : 8 + r.val - 2 < 8 := by omega
      simp only [h, h', dite_true]
    · have h' : ¬ 8 + r.val - 2 < 8 := by omega
      have h3 : 8 + r.val - 2 - 8 = r.val - 2 := by omega
      simp only [h, h', h3, dite_false]
  · by_cases h : r.val < 1
    · have h' : 8 + r.val - 1 < 8 := by omega
      simp only [h, h', dite_true]
    · have h' : ¬ 8 + r.val - 1 < 8 := by omega
      have h3 : 8 + r.val - 1 - 8 = r.val - 1 := by omega
      simp only [h, h', h3, dite_false]

section
variable (P : FVec Ideal Cert.ConvFwdRefIdeal.S8192x2048 .f32) (W : FVec Ideal Cert.ConvFwdRefIdeal.S3x512 .f32)

/-- The product of the two streams `k` rows before row `r`, zero before the first row. -/
def delayed (k : ℕ) (r : Fin 8192) (d : Fin 512) : EReal :=
  if h : r.val < k then 0 else P (ix2 ⟨r.val - k, by omega⟩ ⟨512 + d.val, by omega⟩) * P (ix2 ⟨r.val - k, by omega⟩ ⟨1024 + d.val, by omega⟩)

/-- The branch's output: `B` times the convolution times the gate. -/
def out (r : Fin 8192) (d : Fin 512) : EReal :=
  P (ix2 r ⟨d.val, by omega⟩) * (W (ix2 0 d) * delayed P 2 r d + W (ix2 1 d) * delayed P 1 r d + W (ix2 2 d) * (P (ix2 r ⟨512 + d.val, by omega⟩) * P (ix2 r ⟨1024 + d.val, by omega⟩)))
    * (P (ix2 r ⟨1536 + d.val, by omega⟩) * Ideal.div 1 (1 + Ideal.exp (-P (ix2 r ⟨1536 + d.val, by omega⟩))))

/-- The reference's output. -/
theorem ref_at (r : Fin 8192) (d : Fin 512) : Cert.ConvFwdRefIdeal.Read.val_main_v31 (F := Ideal) P W (ix2 r d) = out P W r d := by
  pointwise [out, delayed, Cert.ConvFwdRefIdeal.Read.val_main_v31, Cert.ConvFwdRefIdeal.Read.val_main_v30, Cert.ConvFwdRefIdeal.Read.val_main_v29, Cert.ConvFwdRefIdeal.Read.val_main_call0_v0, Cert.ConvFwdRefIdeal.Read.val_main_call0_v1, Cert.ConvFwdRefIdeal.Read.val_main_call0_v2, Cert.ConvFwdRefIdeal.Read.val_main_call0_v3, Cert.ConvFwdRefIdeal.Read.val_main_call0_v4, Cert.ConvFwdRefIdeal.Read.val_main_call0_v5, Cert.ConvFwdRefIdeal.Read.val_main_call0_cst, Cert.ConvFwdRefIdeal.Read.val_main_call0_cst_0, Cert.ConvFwdRefIdeal.Read.val_main_v28, Cert.ConvFwdRefIdeal.Read.val_main_v27, Cert.ConvFwdRefIdeal.Read.val_main_v26, Cert.ConvFwdRefIdeal.Read.val_main_v25, Cert.ConvFwdRefIdeal.Read.val_main_v24, Cert.ConvFwdRefIdeal.Read.val_main_v23, Cert.ConvFwdRefIdeal.Read.val_main_v22, Cert.ConvFwdRefIdeal.Read.val_main_v21, Cert.ConvFwdRefIdeal.Read.val_main_v20, Cert.ConvFwdRefIdeal.Read.val_main_v19, Cert.ConvFwdRefIdeal.Read.val_main_v18, Cert.ConvFwdRefIdeal.Read.val_main_v17, Cert.ConvFwdRefIdeal.Read.val_main_v16, Cert.ConvFwdRefIdeal.Read.val_main_v15, Cert.ConvFwdRefIdeal.Read.val_main_v14, Cert.ConvFwdRefIdeal.Read.val_main_v13, Cert.ConvFwdRefIdeal.Read.val_main_v12, Cert.ConvFwdRefIdeal.Read.val_main_v11, Cert.ConvFwdRefIdeal.Read.val_main_v10, Cert.ConvFwdRefIdeal.Read.val_main_v9, Cert.ConvFwdRefIdeal.Read.val_main_v8, Cert.ConvFwdRefIdeal.Read.val_main_v7, Cert.ConvFwdRefIdeal.Read.val_main_v6, Cert.ConvFwdRefIdeal.Read.val_main_v5, Cert.ConvFwdRefIdeal.Read.val_main_v4, Cert.ConvFwdRefIdeal.Read.val_main_v3, Cert.ConvFwdRefIdeal.Read.val_main_v2, Cert.ConvFwdRefIdeal.Read.val_main_v1, Cert.ConvFwdRefIdeal.Read.val_main_v0, Cert.ConvFwdRefIdeal.Read.val_main_cst, Cert.ConvFwdRefIdeal.Read.val_main_cst_0]

end

/-- The windows' block indices: row block `t`, or the whole array. -/
theorem index_maps : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The last eight rows of the two streams of block `t`, which the body leaves for the block after it. -/
theorem carried (t : Fin cfg0.N) :
    (∀ (k : Fin 8) (d : Fin 512), (outsAt0 m c t.val t.isLt).2.1 (ix2 k d) = iblk m c 0 t (ix2 ⟨504 + k.val, by omega⟩ ⟨512 + d.val, by omega⟩))
    ∧ ∀ (k : Fin 8) (d : Fin 512), (outsAt0 m c t.val t.isLt).2.2 (ix2 k d) = iblk m c 0 t (ix2 ⟨504 + k.val, by omega⟩ ⟨1024 + d.val, by omega⟩) := by
  by_cases h0 : t.val % 16 = 0
  · rw [outsAt0_A m c t h0]
    dsimp only
    constructor
    · intro k d; unfold sout0_A_0; frame_out; pointwise [k0_pay2]
    · intro k d; unfold sout0_A_1; frame_out; pointwise [k0_pay3]
  · rw [outsAt0_B m c t h0]
    dsimp only
    constructor
    · intro k d; unfold sout0_B_0; frame_out; pointwise [k0_pay2]
    · intro k d; unfold sout0_B_1; frame_out; pointwise [k0_pay3]

/-- What a block stores, when its rows are the rows of `P` from `512 t` on and the eight rows before it are given. -/
theorem body_at (P : FVec Ideal Cert.ConvFwdRefIdeal.S8192x2048 .f32) (W : FVec Ideal Cert.ConvFwdRefIdeal.S3x512 .f32) (t : ℕ) (ht : t < 16)
    (IB : FVec Ideal S512x2048 .f32) (WB : FVec Ideal S3x512 .f32) (HC HX : FVec Ideal S8x512 .f32)
    (hp : ∀ (r : Fin 512) (e : Fin 2048), IB (ix2 r e) = P (ix2 ⟨t * 512 + r.val, by omega⟩ e)) (hw : ∀ (k : Fin 3) (d : Fin 512), WB (ix2 k d) = W (ix2 k d))
    (hc : ∀ (k : Fin 8) (d : Fin 512), HC (ix2 k d) = if h : t = 0 then (0 : EReal) else P (ix2 ⟨t * 512 + k.val - 8, by omega⟩ ⟨512 + d.val, by omega⟩))
    (hx : ∀ (k : Fin 8) (d : Fin 512), HX (ix2 k d) = if h : t = 0 then (0 : EReal) else P (ix2 ⟨t * 512 + k.val - 8, by omega⟩ ⟨1024 + d.val, by omega⟩))
    (AB AC AX AZ : FVec Ideal S512x512 .f32) (W0 W1 W2 : FVec Ideal S1x512 .f32)
    (hB : AB = View.ld (Val := Elt Ideal) (e' := .f32) IB (Rect.unit (s := S512x2048) ![0, 0] S512x512.size inb_S512x2048_S512x512_0_0))
    (hC : AC = View.ld (Val := Elt Ideal) (e' := .f32) IB (Rect.unit (s := S512x2048) ![0, 512] S512x512.size inb_S512x2048_S512x512_0_512))
    (hX : AX = View.ld (Val := Elt Ideal) (e' := .f32) IB (Rect.unit (s := S512x2048) ![0, 1024] S512x512.size inb_S512x2048_S512x512_0_1024))
    (hZ : AZ = View.ld (Val := Elt Ideal) (e' := .f32) IB (Rect.unit (s := S512x2048) ![0, 1536] S512x512.size inb_S512x2048_S512x512_0_1536))
    (h0 : W0 = View.ld (Val := Elt Ideal) (e' := .f32) WB (Rect.unit (s := S3x512) ![0, 0] S1x512.size inb_S3x512_S1x512_0_0))
    (h1 : W1 = View.ld (Val := Elt Ideal) (e' := .f32) WB (Rect.unit (s := S3x512) ![1, 0] S1x512.size inb_S3x512_S1x512_1_0))
    (h2 : W2 = View.ld (Val := Elt Ideal) (e' := .f32) WB (Rect.unit (s := S3x512) ![2, 0] S1x512.size inb_S3x512_S1x512_2_0))
    (r d : Fin 512) :
    k0_pay1 (F := Ideal) AZ (k0_pay6 (F := Ideal) AC AX AB HC HX W0 W1 W2) (k0_pay7 (F := Ideal) AZ) (k0_pay8 (F := Ideal)) (ix2 r d)
      = out P W ⟨t * 512 + r.val, by omega⟩ d := by
  have e : ∀ (k : ℕ) (hk : k ≤ 8), late HC HX AC AX k hk r d = delayed P k ⟨t * 512 + r.val, by omega⟩ d := by
    intro k hk
    subst hC hX
    unfold late delayed
    by_cases h : r.val < k
    · rw [dif_pos h, hc, hx]
      by_cases h0 : t = 0
      · rw [dif_pos h0, dif_pos h0, dif_pos (by dsimp only; omega), mul_zero]
      · rw [dif_neg h0, dif_neg h0, dif_neg (by dsimp only; omega)]
        have e3 : t * 512 + (8 + r.val - k) - 8 = t * 512 + r.val - k := by omega
        simp only [e3]
    · rw [dif_neg h, dif_neg (by dsimp only; omega)]
      have e3 : t * 512 + (r.val - k) = t * 512 + r.val - k := by omega
      pointwise [hp, e3]
  pointwise [k0_pay1, k0_pay7, k0_pay8]
  rw [pay6_at, e, e]
  subst hB hC hX hZ h0 h1 h2
  pointwise [hp, hw, out]
  simp only [zero_sub]

/-- Every output row after the run. -/
theorem final : (dats m 0 c).arrAt 2 (cfgs 0).N = fun i => out (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  obtain ⟨r, d, rfl⟩ : ∃ (r : Fin 512) (d : Fin 512), y = ix2 r d := ⟨y 0, y 1, eq_ix2 y⟩
  have ht : t.val < 16 := lt_of_lt_of_eq t.isLt (show cfg0.N = 16 from N_0)
  have hp : ∀ (t : Fin cfg0.N) (r : Fin 512) (e : Fin 2048) (h : t.val * 512 + r.val < 8192), (iblk m c 0 t : FVec Ideal S512x2048 .f32) (ix2 r e) = m ((c : Thread nD τ).loc main_arg0) (ix2 ⟨t.val * 512 + r.val, h⟩ e) := by
    intro t r e h
    blk_point [iblk, V, index_maps t]
  have hw : ∀ (k : Fin 3) (d : Fin 512), (iblk m c 1 t : FVec Ideal S3x512 .f32) (ix2 k d) = m ((c : Thread nD τ).loc main_arg1) (ix2 k d) := by
    intro k d
    blk_point [iblk, V, index_maps t]
  have fin : ∀ v : EReal, v = out (m ((c : Thread nD τ).loc main_arg0)) (m ((c : Thread nD τ).loc main_arg1)) ⟨t.val * 512 + r.val, by omega⟩ d →
      v = out (m ((c : Thread nD τ).loc main_arg0)) (m ((c : Thread nD τ).loc main_arg1)) (((View.whole main_v0).slice (win0_2.rect t)).emb (ix2 r d) 0) (((View.whole main_v0).slice (win0_2.rect t)).emb (ix2 r d) 1) := by
    intro v hv
    rw [hv]
    exact congrArg₂ (out _ _) (Fin.ext (by blk_point [index_maps t])) (Fin.ext (by blk_point [index_maps t]))
  by_cases h0 : t.val % 16 = 0
  · rw [outsAt0_A m c t h0]
    dsimp only
    unfold out0_A_2; frame_out
    have hz : t.val = 0 := by omega
    refine fin _ (body_at _ _ t.val ht _ _ _ _ (fun r e => hp t r e _) hw (fun k d => ?_) (fun k d => ?_) _ _ _ _ _ _ _ rfl rfl rfl rfl rfl rfl rfl r d)
    · rw [dif_pos hz]; pointwise [k0_pay4]
    · rw [dif_pos hz]; pointwise [k0_pay5]
  · rw [outsAt0_B m c t h0]
    dsimp only
    unfold out0_B_2; frame_out
    have hz : ¬ t.val = 0 := by omega
    have hlt : t.val - 1 < cfg0.N := Nat.lt_of_le_of_lt (Nat.sub_le _ _) t.isLt
    have e : ∀ k : Fin 8, (t.val - 1) * 512 + (504 + k.val) = t.val * 512 + k.val - 8 := fun k => by omega
    refine fin _ (body_at _ _ t.val ht _ _ _ _ (fun r e => hp t r e _) hw (fun k d => ?_) (fun k d => ?_) _ _ _ _ _ _ _ rfl rfl rfl rfl rfl rfl rfl r d)
    · rw [dif_neg hz, read_unread_whole, (carried m c ⟨t.val - 1, hlt⟩).1, hp ⟨t.val - 1, hlt⟩ _ _ (by dsimp only; omega)]
      simp only [e]
    · rw [dif_neg hz, read_unread_whole, (carried m c ⟨t.val - 1, hlt⟩).2, hp ⟨t.val - 1, hlt⟩ _ _ (by dsimp only; omega)]
      simp only [e]

end Cert.ConvFwd.Proof
-- ==== Proof.NormFwd.lean ====
/- The root-mean-square norm with its weight: the kernel's array is the reference's. -/
module

public import proofs.«01_k».proof.Proof.Gen.NormFwdIdeal.Value
public import proofs.«01_k».proof.Proof.Gen.NormFwdRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormFwd.Proof

open Cert.NormFwdIdeal Cert.NormFwdIdeal.Gen

section
variable {R : ℕ} (X : (⟨2, ![R, 1024]⟩ : Shape).Idx → EReal) (W : (⟨2, ![1, 1024]⟩ : Shape).Idx → EReal)

/-- The normalised row `r` in column `d`, times the weight. -/
def normed (r : Fin R) (d : Fin 1024) : EReal :=
  X (ix2 r d) * Ideal.rsqrt (Ideal.div (∑ e : Fin 1024, X (ix2 r e) * X (ix2 r e)) (Ideal.ofBits FTy.f32 0x44800000#32) + Ideal.ofBits FTy.f32 0x358637BD#32) * W (ix2 0 d)

end

/-- The reference's rows. -/
theorem ref (X : FVec Ideal Cert.NormFwdRefIdeal.S8192x1024 .f32) (W : FVec Ideal Cert.NormFwdRefIdeal.S1x1024 .f32) (r : Fin 8192) (d : Fin 1024) :
    Cert.NormFwdRefIdeal.Read.val_main_v12 (F := Ideal) X W (ix2 r d) = normed X W r d := by
  pointwise [normed, Cert.NormFwdRefIdeal.Read.val_main_v0, Cert.NormFwdRefIdeal.Read.val_main_cst, Cert.NormFwdRefIdeal.Read.val_main_v1, Cert.NormFwdRefIdeal.Read.val_main_v2, Cert.NormFwdRefIdeal.Read.val_main_cst_0, Cert.NormFwdRefIdeal.Read.val_main_v3, Cert.NormFwdRefIdeal.Read.val_main_v4, Cert.NormFwdRefIdeal.Read.val_main_cst_1, Cert.NormFwdRefIdeal.Read.val_main_v5, Cert.NormFwdRefIdeal.Read.val_main_v6, Cert.NormFwdRefIdeal.Read.val_main_v7, Cert.NormFwdRefIdeal.Read.val_main_v8, Cert.NormFwdRefIdeal.Read.val_main_v9, Cert.NormFwdRefIdeal.Read.val_main_v10, Cert.NormFwdRefIdeal.Read.val_main_v11, Cert.NormFwdRefIdeal.Read.val_main_v12]

/-- The windows' block indices: row block `t`, or the whole weight. -/
theorem index_maps : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The normalised rows after the run. -/
theorem final : (dats m 0 c).arrAt 2 (cfgs 0).N = fun i => normed (m ((c : Thread nD τ).loc main_arg0)) (m ((c : Thread nD τ).loc main_arg1)) (i 0) (i 1) := by
  refine (dats m 0 c).arrAt_eq_of_covers 2 _ (by decide +kernel) fun t hf y => ?_
  blk_simp
  rw [after0_2]; unfold out0_2; frame_out
  pointwise [k0_pay1, normed]
  blk_point [iblk, V, index_maps t]

end Cert.NormFwd.Proof
-- ==== Proof.AdamW.lean ====
/- AdamW at one entry of a weight, and the sum over the devices of the partial gradients of a weight that lie in two arrays. -/
module

public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamW

/-- The new first moment: `0.9 m + 0.1 g`. -/
def moment (g m : EReal) : EReal := Ideal.ofBits FTy.f32 1063675494#32 * m + Ideal.ofBits FTy.f32 1036831949#32 * g

/-- The new second moment: `0.999 v + 0.001 g²`. -/
def square (g v : EReal) : EReal := Ideal.ofBits FTy.f32 1065336439#32 * v + Ideal.ofBits FTy.f32 981668463#32 * (g * g)

/-- The step: `-0.001 (m̂ / (√v̂ + 1e-8) + 0.01 w)`, with both new moments corrected for their bias. -/
def step (w g m v : EReal) : EReal :=
  Ideal.ofBits FTy.f32 3129152111#32 * (Ideal.div (Ideal.div (moment g m) (Ideal.ofBits FTy.f32 1059503362#32))
    (Ideal.sqrt (Ideal.div (square g v) (Ideal.ofBits FTy.f32 1008933580#32)) + Ideal.ofBits FTy.f32 841731191#32) + Ideal.ofBits FTy.f32 1008981770#32 * w)

/-- The gradient at row `r` and column `d`: the sum over the eight devices of their parts, of which the first array holds the first `H` rows and the second the rows after them. -/
def total {H D N : ℕ} (hN : N = H + H) (P0 P1 : (⟨3, ![8, H, D]⟩ : Shape).Idx → EReal) (r : Fin N) (d : Fin D) : EReal :=
  if h : r.val < H then ∑ k : Fin 8, P0 (ix3 k ⟨r.val, h⟩ d) else ∑ k : Fin 8, P1 (ix3 k ⟨r.val - H, by omega⟩ d)

end Cert.AdamW
-- ==== Proof.UpdateIn.lean ====
/- AdamW on the input projection from the devices' partial gradients: the kernel's four arrays are the reference's. -/
module

public import proofs.«01_k».proof.Proof.Gen.UpdateInIdeal.Value
public import proofs.«01_k».proof.Proof.Gen.UpdateInRefIdeal.Read
public import proofs.«01_k».proof.Proof.AdamW
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpdateIn.Proof

open Cert.UpdateInIdeal Cert.UpdateInIdeal.Gen Cert.AdamW

section
variable (P0 P1 : FVec Ideal Cert.UpdateInRefIdeal.S8x1024x1282 .bf16) (W M V : FVec Ideal Cert.UpdateInRefIdeal.S2048x1282 .f32) (r : Fin 2048) (d : Fin 1282)

/-- The gradient at one entry. -/
abbrev grad : EReal := total (by decide : 2048 = 1024 + 1024) P0 P1 r d

/-- The reference's gradient. -/
theorem ref_grad : Cert.UpdateInRefIdeal.Read.val_main_v4 (F := Ideal) P0 P1 (ix2 r d) = grad P0 P1 r d := by
  pointwise [grad, total, Cert.UpdateInRefIdeal.Read.val_main_v0, Cert.UpdateInRefIdeal.Read.val_main_cst, Cert.UpdateInRefIdeal.Read.val_main_v1, Cert.UpdateInRefIdeal.Read.val_main_v2, Cert.UpdateInRefIdeal.Read.val_main_cst_0, Cert.UpdateInRefIdeal.Read.val_main_v3, Cert.UpdateInRefIdeal.Read.val_main_v4, Cert.UpdateInRefIdeal.Read.val_main_cst_1, Cert.UpdateInRefIdeal.Read.val_main_v5, Cert.UpdateInRefIdeal.Read.val_main_v6, Cert.UpdateInRefIdeal.Read.val_main_cst_2, Cert.UpdateInRefIdeal.Read.val_main_v7, Cert.UpdateInRefIdeal.Read.val_main_v8, Cert.UpdateInRefIdeal.Read.val_main_v9, Cert.UpdateInRefIdeal.Read.val_main_cst_3, Cert.UpdateInRefIdeal.Read.val_main_v10, Cert.UpdateInRefIdeal.Read.val_main_v11, Cert.UpdateInRefIdeal.Read.val_main_v12, Cert.UpdateInRefIdeal.Read.val_main_cst_4, Cert.UpdateInRefIdeal.Read.val_main_v13, Cert.UpdateInRefIdeal.Read.val_main_v14, Cert.UpdateInRefIdeal.Read.val_main_v15, Cert.UpdateInRefIdeal.Read.val_main_cst_5, Cert.UpdateInRefIdeal.Read.val_main_v16, Cert.UpdateInRefIdeal.Read.val_main_v17, Cert.UpdateInRefIdeal.Read.val_main_cst_6, Cert.UpdateInRefIdeal.Read.val_main_v18, Cert.UpdateInRefIdeal.Read.val_main_v19, Cert.UpdateInRefIdeal.Read.val_main_v20, Cert.UpdateInRefIdeal.Read.val_main_cst_7, Cert.UpdateInRefIdeal.Read.val_main_v21, Cert.UpdateInRefIdeal.Read.val_main_v22, Cert.UpdateInRefIdeal.Read.val_main_v23, Cert.UpdateInRefIdeal.Read.val_main_cst_8, Cert.UpdateInRefIdeal.Read.val_main_v24, Cert.UpdateInRefIdeal.Read.val_main_v25, Cert.UpdateInRefIdeal.Read.val_main_v26, Cert.UpdateInRefIdeal.Read.val_main_cst_9, Cert.UpdateInRefIdeal.Read.val_main_v27, Cert.UpdateInRefIdeal.Read.val_main_v28]

/-- The reference's new first moment. -/
theorem ref_moment : Cert.UpdateInRefIdeal.Read.val_main_v9 (F := Ideal) P0 P1 M (ix2 r d) = moment (grad P0 P1 r d) (M (ix2 r d)) := by
  pointwise [moment, grad, total, Cert.UpdateInRefIdeal.Read.val_main_v0, Cert.UpdateInRefIdeal.Read.val_main_cst, Cert.UpdateInRefIdeal.Read.val_main_v1, Cert.UpdateInRefIdeal.Read.val_main_v2, Cert.UpdateInRefIdeal.Read.val_main_cst_0, Cert.UpdateInRefIdeal.Read.val_main_v3, Cert.UpdateInRefIdeal.Read.val_main_v4, Cert.UpdateInRefIdeal.Read.val_main_cst_1, Cert.UpdateInRefIdeal.Read.val_main_v5, Cert.UpdateInRefIdeal.Read.val_main_v6, Cert.UpdateInRefIdeal.Read.val_main_cst_2, Cert.UpdateInRefIdeal.Read.val_main_v7, Cert.UpdateInRefIdeal.Read.val_main_v8, Cert.UpdateInRefIdeal.Read.val_main_v9, Cert.UpdateInRefIdeal.Read.val_main_cst_3, Cert.UpdateInRefIdeal.Read.val_main_v10, Cert.UpdateInRefIdeal.Read.val_main_v11, Cert.UpdateInRefIdeal.Read.val_main_v12, Cert.UpdateInRefIdeal.Read.val_main_cst_4, Cert.UpdateInRefIdeal.Read.val_main_v13, Cert.UpdateInRefIdeal.Read.val_main_v14, Cert.UpdateInRefIdeal.Read.val_main_v15, Cert.UpdateInRefIdeal.Read.val_main_cst_5, Cert.UpdateInRefIdeal.Read.val_main_v16, Cert.UpdateInRefIdeal.Read.val_main_v17, Cert.UpdateInRefIdeal.Read.val_main_cst_6, Cert.UpdateInRefIdeal.Read.val_main_v18, Cert.UpdateInRefIdeal.Read.val_main_v19, Cert.UpdateInRefIdeal.Read.val_main_v20, Cert.UpdateInRefIdeal.Read.val_main_cst_7, Cert.UpdateInRefIdeal.Read.val_main_v21, Cert.UpdateInRefIdeal.Read.val_main_v22, Cert.UpdateInRefIdeal.Read.val_main_v23, Cert.UpdateInRefIdeal.Read.val_main_cst_8, Cert.UpdateInRefIdeal.Read.val_main_v24, Cert.UpdateInRefIdeal.Read.val_main_v25, Cert.UpdateInRefIdeal.Read.val_main_v26, Cert.UpdateInRefIdeal.Read.val_main_cst_9, Cert.UpdateInRefIdeal.Read.val_main_v27, Cert.UpdateInRefIdeal.Read.val_main_v28]

/-- The reference's new second moment. -/
theorem ref_square : Cert.UpdateInRefIdeal.Read.val_main_v15 (F := Ideal) P0 P1 V (ix2 r d) = square (grad P0 P1 r d) (V (ix2 r d)) := by
  pointwise [square, grad, total, Cert.UpdateInRefIdeal.Read.val_main_v0, Cert.UpdateInRefIdeal.Read.val_main_cst, Cert.UpdateInRefIdeal.Read.val_main_v1, Cert.UpdateInRefIdeal.Read.val_main_v2, Cert.UpdateInRefIdeal.Read.val_main_cst_0, Cert.UpdateInRefIdeal.Read.val_main_v3, Cert.UpdateInRefIdeal.Read.val_main_v4, Cert.UpdateInRefIdeal.Read.val_main_cst_1, Cert.UpdateInRefIdeal.Read.val_main_v5, Cert.UpdateInRefIdeal.Read.val_main_v6, Cert.UpdateInRefIdeal.Read.val_main_cst_2, Cert.UpdateInRefIdeal.Read.val_main_v7, Cert.UpdateInRefIdeal.Read.val_main_v8, Cert.UpdateInRefIdeal.Read.val_main_v9, Cert.UpdateInRefIdeal.Read.val_main_cst_3, Cert.UpdateInRefIdeal.Read.val_main_v10, Cert.UpdateInRefIdeal.Read.val_main_v11, Cert.UpdateInRefIdeal.Read.val_main_v12, Cert.UpdateInRefIdeal.Read.val_main_cst_4, Cert.UpdateInRefIdeal.Read.val_main_v13, Cert.UpdateInRefIdeal.Read.val_main_v14, Cert.UpdateInRefIdeal.Read.val_main_v15, Cert.UpdateInRefIdeal.Read.val_main_cst_5, Cert.UpdateInRefIdeal.Read.val_main_v16, Cert.UpdateInRefIdeal.Read.val_main_v17, Cert.UpdateInRefIdeal.Read.val_main_cst_6, Cert.UpdateInRefIdeal.Read.val_main_v18, Cert.UpdateInRefIdeal.Read.val_main_v19, Cert.UpdateInRefIdeal.Read.val_main_v20, Cert.UpdateInRefIdeal.Read.val_main_cst_7, Cert.UpdateInRefIdeal.Read.val_main_v21, Cert.UpdateInRefIdeal.Read.val_main_v22, Cert.UpdateInRefIdeal.Read.val_main_v23, Cert.UpdateInRefIdeal.Read.val_main_cst_8, Cert.UpdateInRefIdeal.Read.val_main_v24, Cert.UpdateInRefIdeal.Read.val_main_v25, Cert.UpdateInRefIdeal.Read.val_main_v26, Cert.UpdateInRefIdeal.Read.val_main_cst_9, Cert.UpdateInRefIdeal.Read.val_main_v27, Cert.UpdateInRefIdeal.Read.val_main_v28]

/-- The reference's step. -/
theorem ref_step : Cert.UpdateInRefIdeal.Read.val_main_v28 (F := Ideal) P0 P1 W M V (ix2 r d) = step (W (ix2 r d)) (grad P0 P1 r d) (M (ix2 r d)) (V (ix2 r d)) := by
  pointwise [step, moment, square, grad, total, Cert.UpdateInRefIdeal.Read.val_main_v0, Cert.UpdateInRefIdeal.Read.val_main_cst, Cert.UpdateInRefIdeal.Read.val_main_v1, Cert.UpdateInRefIdeal.Read.val_main_v2, Cert.UpdateInRefIdeal.Read.val_main_cst_0, Cert.UpdateInRefIdeal.Read.val_main_v3, Cert.UpdateInRefIdeal.Read.val_main_v4, Cert.UpdateInRefIdeal.Read.val_main_cst_1, Cert.UpdateInRefIdeal.Read.val_main_v5, Cert.UpdateInRefIdeal.Read.val_main_v6, Cert.UpdateInRefIdeal.Read.val_main_cst_2, Cert.UpdateInRefIdeal.Read.val_main_v7, Cert.UpdateInRefIdeal.Read.val_main_v8, Cert.UpdateInRefIdeal.Read.val_main_v9, Cert.UpdateInRefIdeal.Read.val_main_cst_3, Cert.UpdateInRefIdeal.Read.val_main_v10, Cert.UpdateInRefIdeal.Read.val_main_v11, Cert.UpdateInRefIdeal.Read.val_main_v12, Cert.UpdateInRefIdeal.Read.val_main_cst_4, Cert.UpdateInRefIdeal.Read.val_main_v13, Cert.UpdateInRefIdeal.Read.val_main_v14, Cert.UpdateInRefIdeal.Read.val_main_v15, Cert.UpdateInRefIdeal.Read.val_main_cst_5, Cert.UpdateInRefIdeal.Read.val_main_v16, Cert.UpdateInRefIdeal.Read.val_main_v17, Cert.UpdateInRefIdeal.Read.val_main_cst_6, Cert.UpdateInRefIdeal.Read.val_main_v18, Cert.UpdateInRefIdeal.Read.val_main_v19, Cert.UpdateInRefIdeal.Read.val_main_v20, Cert.UpdateInRefIdeal.Read.val_main_cst_7, Cert.UpdateInRefIdeal.Read.val_main_v21, Cert.UpdateInRefIdeal.Read.val_main_v22, Cert.UpdateInRefIdeal.Read.val_main_v23, Cert.UpdateInRefIdeal.Read.val_main_cst_8, Cert.UpdateInRefIdeal.Read.val_main_v24, Cert.UpdateInRefIdeal.Read.val_main_v25, Cert.UpdateInRefIdeal.Read.val_main_v26, Cert.UpdateInRefIdeal.Read.val_main_cst_9, Cert.UpdateInRefIdeal.Read.val_main_v27, Cert.UpdateInRefIdeal.Read.val_main_v28]

end

/-- The windows' block indices: the parts' row block while their array's rows are worked on, and row block `t` of the weight and its moments. -/
theorem index_maps : ∀ t : Fin cfg0.N, win0_0.index t = ![0, min t.val 3, 0] ∧ win0_1.index t = ![0, t.val - 4, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- Step `t`'s three updated blocks, from the gradient that the same step stores. -/
theorem updated (t : Fin cfg0.N) (r : Fin 256) (d : Fin 1282) :
    ((outsAt0 m c t.val t.isLt).2.1 (ix2 r d) : EReal) = step (iblk m c 2 t (ix2 r d)) ((outsAt0 m c t.val t.isLt).1 (ix2 r d)) (iblk m c 3 t (ix2 r d)) (iblk m c 4 t (ix2 r d))
    ∧ ((outsAt0 m c t.val t.isLt).2.2.1 (ix2 r d) : EReal) = moment ((outsAt0 m c t.val t.isLt).1 (ix2 r d)) (iblk m c 3 t (ix2 r d))
    ∧ ((outsAt0 m c t.val t.isLt).2.2.2 (ix2 r d) : EReal) = square ((outsAt0 m c t.val t.isLt).1 (ix2 r d)) (iblk m c 4 t (ix2 r d)) := by
  by_cases h0 : t.val < 4
  · rw [outsAt0_A m c t h0 (by omega)]
    dsimp only
    refine ⟨?_, ?_, ?_⟩
    · unfold out0_A_5 out0_A_6; frame_out; pointwise [k0_pay1, k0_pay2, k0_pay3, step, moment, square]
    · unfold out0_A_5 out0_A_7; frame_out; pointwise [k0_pay1, moment]
    · unfold out0_A_5 out0_A_8; frame_out; pointwise [k0_pay2, square]
  · rw [outsAt0_B m c t h0 (by omega)]
    dsimp only
    refine ⟨?_, ?_, ?_⟩
    · unfold out0_B_5 out0_B_6; frame_out; pointwise [k0_pay4, k0_pay5, k0_pay6, step, moment, square]
    · unfold out0_B_5 out0_B_7; frame_out; pointwise [k0_pay4, moment]
    · unfold out0_B_5 out0_B_8; frame_out; pointwise [k0_pay5, square]

/-- The gradient that step `t` stores. -/
theorem summed (t : Fin cfg0.N) (r : Fin 256) (d : Fin 1282) (h : t.val * 256 + r.val < 2048) :
    ((outsAt0 m c t.val t.isLt).1 (ix2 r d) : EReal) = grad (m ((c : Thread nD τ).loc main_arg0)) (m ((c : Thread nD τ).loc main_arg1)) ⟨t.val * 256 + r.val, h⟩ d := by
  have ht : t.val < 8 := lt_of_lt_of_eq t.isLt (show cfg0.N = 8 from N_0)
  by_cases h0 : t.val < 4
  · have hp : ∀ k : Fin 8, (iblk m c 0 t : FVec Ideal S8x256x1282 .bf16) (ix3 k r d) = m ((c : Thread nD τ).loc main_arg0) (ix3 k ⟨t.val * 256 + r.val, by omega⟩ d) := by
      intro k
      blk_point [iblk, V, index_maps t]
    rw [outsAt0_A m c t h0 (by omega)]
    dsimp only
    unfold out0_A_5; frame_out
    rw [grad, total, dif_pos (by dsimp only; omega), Fin.sum_univ_eight]
    pointwise [k0_pay7, hp]
  · have hp : ∀ k : Fin 8, (iblk m c 1 t : FVec Ideal S8x256x1282 .bf16) (ix3 k r d) = m ((c : Thread nD τ).loc main_arg1) (ix3 k ⟨t.val * 256 + r.val - 1024, by omega⟩ d) := by
      intro k
      blk_point [iblk, V, index_maps t]
    rw [outsAt0_B m c t h0 (by omega)]
    dsimp only
    unfold out0_B_5; frame_out
    rw [grad, total, dif_neg (by dsimp only; omega), Fin.sum_univ_eight]
    pointwise [k0_pay8, hp]

/-- A block of the weight, or of one of its moments, holds that array's rows from `256 t` on. -/
theorem rows (t : Fin cfg0.N) (r : Fin 256) (d : Fin 1282) (h : t.val * 256 + r.val < 2048) :
    (iblk m c 2 t : FVec Ideal S256x1282 .f32) (ix2 r d) = m ((c : Thread nD τ).loc main_arg2) (ix2 ⟨t.val * 256 + r.val, h⟩ d)
    ∧ (iblk m c 3 t : FVec Ideal S256x1282 .f32) (ix2 r d) = m ((c : Thread nD τ).loc main_arg3) (ix2 ⟨t.val * 256 + r.val, h⟩ d)
    ∧ (iblk m c 4 t : FVec Ideal S256x1282 .f32) (ix2 r d) = m ((c : Thread nD τ).loc main_arg4) (ix2 ⟨t.val * 256 + r.val, h⟩ d) := by
  refine ⟨?_, ?_, ?_⟩ <;> blk_point [iblk, V, index_maps t]

/-- Step `t`'s row stays inside the weight. -/
theorem inside (t : Fin cfg0.N) (r : Fin 256) : t.val * 256 + r.val < 2048 := by
  have ht : t.val < 8 := lt_of_lt_of_eq t.isLt (show cfg0.N = 8 from N_0)
  omega

/-- The gradient at one entry of the weight. -/
def out_grad (r : Fin 2048) (d : Fin 1282) : EReal := grad (m ((c : Thread nD τ).loc main_arg0)) (m ((c : Thread nD τ).loc main_arg1)) r d

/-- The gradient after the run. -/
theorem final_grad : (dats m 0 c).arrAt 5 (cfgs 0).N = fun i => out_grad m c (i 0) (i 1) := by
  refine (dats m 0 c).arrAt_eq_of_covers 5 _ (by decide +kernel) fun t hf y => ?_
  blk_simp
  obtain ⟨r, d, rfl⟩ : ∃ (r : Fin 256) (d : Fin 1282), y = ix2 r d := ⟨y 0, y 1, eq_ix2 y⟩
  rw [after0_5, summed m c t r d (inside t r)]
  exact congrArg₂ (out_grad m c) (Fin.ext (by blk_point [index_maps t])) (Fin.ext (by blk_point [index_maps t]))

/-- The step at one entry of the weight. -/
def out_step (r : Fin 2048) (d : Fin 1282) : EReal := step (show EReal from m ((c : Thread nD τ).loc main_arg2) (ix2 r d)) (grad (m ((c : Thread nD τ).loc main_arg0)) (m ((c : Thread nD τ).loc main_arg1)) r d) (show EReal from m ((c : Thread nD τ).loc main_arg3) (ix2 r d)) (show EReal from m ((c : Thread nD τ).loc main_arg4) (ix2 r d))

/-- The step after the run. -/
theorem final_step : (dats m 0 c).arrAt 6 (cfgs 0).N = fun i => out_step m c (i 0) (i 1) := by
  refine (dats m 0 c).arrAt_eq_of_covers 6 _ (by decide +kernel) fun t hf y => ?_
  blk_simp
  obtain ⟨r, d, rfl⟩ : ∃ (r : Fin 256) (d : Fin 1282), y = ix2 r d := ⟨y 0, y 1, eq_ix2 y⟩
  rw [after0_6, (updated m c t r d).1, summed m c t r d (inside t r), (rows m c t r d (inside t r)).1, (rows m c t r d (inside t r)).2.1, (rows m c t r d (inside t r)).2.2]
  exact congrArg₂ (out_step m c) (Fin.ext (by blk_point [index_maps t])) (Fin.ext (by blk_point [index_maps t]))

/-- The new first moment at one entry of the weight. -/
def out_moment (r : Fin 2048) (d : Fin 1282) : EReal := moment (grad (m ((c : Thread nD τ).loc main_arg0)) (m ((c : Thread nD τ).loc main_arg1)) r d) (show EReal from m ((c : Thread nD τ).loc main_arg3) (ix2 r d))

/-- The new first moment after the run. -/
theorem final_moment : (dats m 0 c).arrAt 7 (cfgs 0).N = fun i => out_moment m c (i 0) (i 1) := by
  refine (dats m 0 c).arrAt_eq_of_covers 7 _ (by decide +kernel) fun t hf y => ?_
  blk_simp
  obtain ⟨r, d, rfl⟩ : ∃ (r : Fin 256) (d : Fin 1282), y = ix2 r d := ⟨y 0, y 1, eq_ix2 y⟩
  rw [after0_7, (updated m c t r d).2.1, summed m c t r d (inside t r), (rows m c t r d (inside t r)).2.1]
  exact congrArg₂ (out_moment m c) (Fin.ext (by blk_point [index_maps t])) (Fin.ext (by blk_point [index_maps t]))

/-- The new second moment at one entry of the weight. -/
def out_square (r : Fin 2048) (d : Fin 1282) : EReal := square (grad (m ((c : Thread nD τ).loc main_arg0)) (m ((c : Thread nD τ).loc main_arg1)) r d) (show EReal from m ((c : Thread nD τ).loc main_arg4) (ix2 r d))

/-- The new second moment after the run. -/
theorem final_square : (dats m 0 c).arrAt 8 (cfgs 0).N = fun i => out_square m c (i 0) (i 1) := by
  refine (dats m 0 c).arrAt_eq_of_covers 8 _ (by decide +kernel) fun t hf y => ?_
  blk_simp
  obtain ⟨r, d, rfl⟩ : ∃ (r : Fin 256) (d : Fin 1282), y = ix2 r d := ⟨y 0, y 1, eq_ix2 y⟩
  rw [after0_8, (updated m c t r d).2.2, summed m c t r d (inside t r), (rows m c t r d (inside t r)).2.2]
  exact congrArg₂ (out_square m c) (Fin.ext (by blk_point [index_maps t])) (Fin.ext (by blk_point [index_maps t]))

end Cert.UpdateIn.Proof
-- ==== Proof.UpdateA.lean ====
/- AdamW on the output projections of the first two branches from the devices' partial gradients: the kernel's four arrays are the reference's. -/
module

public import proofs.«01_k».proof.Proof.Gen.UpdateAIdeal.Value
public import proofs.«01_k».proof.Proof.Gen.UpdateARefIdeal.Read
public import proofs.«01_k».proof.Proof.AdamW
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpdateA.Proof

open Cert.UpdateAIdeal Cert.UpdateAIdeal.Gen Cert.AdamW

section
variable (P0 P1 : FVec Ideal Cert.UpdateARefIdeal.S8x512x128 .bf16) (W M V : FVec Ideal Cert.UpdateARefIdeal.S1024x128 .f32) (r : Fin 1024) (d : Fin 128)

/-- The gradient at one entry. -/
abbrev grad : EReal := total (by decide : 1024 = 512 + 512) P0 P1 r d

/-- The reference's gradient. -/
theorem ref_grad : Cert.UpdateARefIdeal.Read.val_main_v4 (F := Ideal) P0 P1 (ix2 r d) = grad P0 P1 r d := by
  pointwise [grad, total, Cert.UpdateARefIdeal.Read.val_main_v0, Cert.UpdateARefIdeal.Read.val_main_cst, Cert.UpdateARefIdeal.Read.val_main_v1, Cert.UpdateARefIdeal.Read.val_main_v2, Cert.UpdateARefIdeal.Read.val_main_cst_0, Cert.UpdateARefIdeal.Read.val_main_v3, Cert.UpdateARefIdeal.Read.val_main_v4, Cert.UpdateARefIdeal.Read.val_main_cst_1, Cert.UpdateARefIdeal.Read.val_main_v5, Cert.UpdateARefIdeal.Read.val_main_v6, Cert.UpdateARefIdeal.Read.val_main_cst_2, Cert.UpdateARefIdeal.Read.val_main_v7, Cert.UpdateARefIdeal.Read.val_main_v8, Cert.UpdateARefIdeal.Read.val_main_v9, Cert.UpdateARefIdeal.Read.val_main_cst_3, Cert.UpdateARefIdeal.Read.val_main_v10, Cert.UpdateARefIdeal.Read.val_main_v11, Cert.UpdateARefIdeal.Read.val_main_v12, Cert.UpdateARefIdeal.Read.val_main_cst_4, Cert.UpdateARefIdeal.Read.val_main_v13, Cert.UpdateARefIdeal.Read.val_main_v14, Cert.UpdateARefIdeal.Read.val_main_v15, Cert.UpdateARefIdeal.Read.val_main_cst_5, Cert.UpdateARefIdeal.Read.val_main_v16, Cert.UpdateARefIdeal.Read.val_main_v17, Cert.UpdateARefIdeal.Read.val_main_cst_6, Cert.UpdateARefIdeal.Read.val_main_v18, Cert.UpdateARefIdeal.Read.val_main_v19, Cert.UpdateARefIdeal.Read.val_main_v20, Cert.UpdateARefIdeal.Read.val_main_cst_7, Cert.UpdateARefIdeal.Read.val_main_v21, Cert.UpdateARefIdeal.Read.val_main_v22, Cert.UpdateARefIdeal.Read.val_main_v23, Cert.UpdateARefIdeal.Read.val_main_cst_8, Cert.UpdateARefIdeal.Read.val_main_v24, Cert.UpdateARefIdeal.Read.val_main_v25, Cert.UpdateARefIdeal.Read.val_main_v26, Cert.UpdateARefIdeal.Read.val_main_cst_9, Cert.UpdateARefIdeal.Read.val_main_v27, Cert.UpdateARefIdeal.Read.val_main_v28]

/-- The reference's new first moment. -/
theorem ref_moment : Cert.UpdateARefIdeal.Read.val_main_v9 (F := Ideal) P0 P1 M (ix2 r d) = moment (grad P0 P1 r d) (M (ix2 r d)) := by
  pointwise [moment, grad, total, Cert.UpdateARefIdeal.Read.val_main_v0, Cert.UpdateARefIdeal.Read.val_main_cst, Cert.UpdateARefIdeal.Read.val_main_v1, Cert.UpdateARefIdeal.Read.val_main_v2, Cert.UpdateARefIdeal.Read.val_main_cst_0, Cert.UpdateARefIdeal.Read.val_main_v3, Cert.UpdateARefIdeal.Read.val_main_v4, Cert.UpdateARefIdeal.Read.val_main_cst_1, Cert.UpdateARefIdeal.Read.val_main_v5, Cert.UpdateARefIdeal.Read.val_main_v6, Cert.UpdateARefIdeal.Read.val_main_cst_2, Cert.UpdateARefIdeal.Read.val_main_v7, Cert.UpdateARefIdeal.Read.val_main_v8, Cert.UpdateARefIdeal.Read.val_main_v9, Cert.UpdateARefIdeal.Read.val_main_cst_3, Cert.UpdateARefIdeal.Read.val_main_v10, Cert.UpdateARefIdeal.Read.val_main_v11, Cert.UpdateARefIdeal.Read.val_main_v12, Cert.UpdateARefIdeal.Read.val_main_cst_4, Cert.UpdateARefIdeal.Read.val_main_v13, Cert.UpdateARefIdeal.Read.val_main_v14, Cert.UpdateARefIdeal.Read.val_main_v15, Cert.UpdateARefIdeal.Read.val_main_cst_5, Cert.UpdateARefIdeal.Read.val_main_v16, Cert.UpdateARefIdeal.Read.val_main_v17, Cert.UpdateARefIdeal.Read.val_main_cst_6, Cert.UpdateARefIdeal.Read.val_main_v18, Cert.UpdateARefIdeal.Read.val_main_v19, Cert.UpdateARefIdeal.Read.val_main_v20, Cert.UpdateARefIdeal.Read.val_main_cst_7, Cert.UpdateARefIdeal.Read.val_main_v21, Cert.UpdateARefIdeal.Read.val_main_v22, Cert.UpdateARefIdeal.Read.val_main_v23, Cert.UpdateARefIdeal.Read.val_main_cst_8, Cert.UpdateARefIdeal.Read.val_main_v24, Cert.UpdateARefIdeal.Read.val_main_v25, Cert.UpdateARefIdeal.Read.val_main_v26, Cert.UpdateARefIdeal.Read.val_main_cst_9, Cert.UpdateARefIdeal.Read.val_main_v27, Cert.UpdateARefIdeal.Read.val_main_v28]

/-- The reference's new second moment. -/
theorem ref_square : Cert.UpdateARefIdeal.Read.val_main_v15 (F := Ideal) P0 P1 V (ix2 r d) = square (grad P0 P1 r d) (V (ix2 r d)) := by
  pointwise [square, grad, total, Cert.UpdateARefIdeal.Read.val_main_v0, Cert.UpdateARefIdeal.Read.val_main_cst, Cert.UpdateARefIdeal.Read.val_main_v1, Cert.UpdateARefIdeal.Read.val_main_v2, Cert.UpdateARefIdeal.Read.val_main_cst_0, Cert.UpdateARefIdeal.Read.val_main_v3, Cert.UpdateARefIdeal.Read.val_main_v4, Cert.UpdateARefIdeal.Read.val_main_cst_1, Cert.UpdateARefIdeal.Read.val_main_v5, Cert.UpdateARefIdeal.Read.val_main_v6, Cert.UpdateARefIdeal.Read.val_main_cst_2, Cert.UpdateARefIdeal.Read.val_main_v7, Cert.UpdateARefIdeal.Read.val_main_v8, Cert.UpdateARefIdeal.Read.val_main_v9, Cert.UpdateARefIdeal.Read.val_main_cst_3, Cert.UpdateARefIdeal.Read.val_main_v10, Cert.UpdateARefIdeal.Read.val_main_v11, Cert.UpdateARefIdeal.Read.val_main_v12, Cert.UpdateARefIdeal.Read.val_main_cst_4, Cert.UpdateARefIdeal.Read.val_main_v13, Cert.UpdateARefIdeal.Read.val_main_v14, Cert.UpdateARefIdeal.Read.val_main_v15, Cert.UpdateARefIdeal.Read.val_main_cst_5, Cert.UpdateARefIdeal.Read.val_main_v16, Cert.UpdateARefIdeal.Read.val_main_v17, Cert.UpdateARefIdeal.Read.val_main_cst_6, Cert.UpdateARefIdeal.Read.val_main_v18, Cert.UpdateARefIdeal.Read.val_main_v19, Cert.UpdateARefIdeal.Read.val_main_v20, Cert.UpdateARefIdeal.Read.val_main_cst_7, Cert.UpdateARefIdeal.Read.val_main_v21, Cert.UpdateARefIdeal.Read.val_main_v22, Cert.UpdateARefIdeal.Read.val_main_v23, Cert.UpdateARefIdeal.Read.val_main_cst_8, Cert.UpdateARefIdeal.Read.val_main_v24, Cert.UpdateARefIdeal.Read.val_main_v25, Cert.UpdateARefIdeal.Read.val_main_v26, Cert.UpdateARefIdeal.Read.val_main_cst_9, Cert.UpdateARefIdeal.Read.val_main_v27, Cert.UpdateARefIdeal.Read.val_main_v28]

/-- The reference's step. -/
theorem ref_step : Cert.UpdateARefIdeal.Read.val_main_v28 (F := Ideal) P0 P1 W M V (ix2 r d) = step (W (ix2 r d)) (grad P0 P1 r d) (M (ix2 r d)) (V (ix2 r d)) := by
  pointwise [step, moment, square, grad, total, Cert.UpdateARefIdeal.Read.val_main_v0, Cert.UpdateARefIdeal.Read.val_main_cst, Cert.UpdateARefIdeal.Read.val_main_v1, Cert.UpdateARefIdeal.Read.val_main_v2, Cert.UpdateARefIdeal.Read.val_main_cst_0, Cert.UpdateARefIdeal.Read.val_main_v3, Cert.UpdateARefIdeal.Read.val_main_v4, Cert.UpdateARefIdeal.Read.val_main_cst_1, Cert.UpdateARefIdeal.Read.val_main_v5, Cert.UpdateARefIdeal.Read.val_main_v6, Cert.UpdateARefIdeal.Read.val_main_cst_2, Cert.UpdateARefIdeal.Read.val_main_v7, Cert.UpdateARefIdeal.Read.val_main_v8, Cert.UpdateARefIdeal.Read.val_main_v9, Cert.UpdateARefIdeal.Read.val_main_cst_3, Cert.UpdateARefIdeal.Read.val_main_v10, Cert.UpdateARefIdeal.Read.val_main_v11, Cert.UpdateARefIdeal.Read.val_main_v12, Cert.UpdateARefIdeal.Read.val_main_cst_4, Cert.UpdateARefIdeal.Read.val_main_v13, Cert.UpdateARefIdeal.Read.val_main_v14, Cert.UpdateARefIdeal.Read.val_main_v15, Cert.UpdateARefIdeal.Read.val_main_cst_5, Cert.UpdateARefIdeal.Read.val_main_v16, Cert.UpdateARefIdeal.Read.val_main_v17, Cert.UpdateARefIdeal.Read.val_main_cst_6, Cert.UpdateARefIdeal.Read.val_main_v18, Cert.UpdateARefIdeal.Read.val_main_v19, Cert.UpdateARefIdeal.Read.val_main_v20, Cert.UpdateARefIdeal.Read.val_main_cst_7, Cert.UpdateARefIdeal.Read.val_main_v21, Cert.UpdateARefIdeal.Read.val_main_v22, Cert.UpdateARefIdeal.Read.val_main_v23, Cert.UpdateARefIdeal.Read.val_main_cst_8, Cert.UpdateARefIdeal.Read.val_main_v24, Cert.UpdateARefIdeal.Read.val_main_v25, Cert.UpdateARefIdeal.Read.val_main_v26, Cert.UpdateARefIdeal.Read.val_main_cst_9, Cert.UpdateARefIdeal.Read.val_main_v27, Cert.UpdateARefIdeal.Read.val_main_v28]

end

/-- The windows' block indices: the parts' row block while their array's rows are worked on, and row block `t` of the weight and its moments. -/
theorem index_maps : ∀ t : Fin cfg0.N, win0_0.index t = ![0, min t.val 1, 0] ∧ win0_1.index t = ![0, t.val - 2, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- Step `t`'s three updated blocks, from the gradient that the same step stores. -/
theorem updated (t : Fin cfg0.N) (r : Fin 256) (d : Fin 128) :
    ((outsAt0 m c t.val t.isLt).2.1 (ix2 r d) : EReal) = step (iblk m c 2 t (ix2 r d)) ((outsAt0 m c t.val t.isLt).1 (ix2 r d)) (iblk m c 3 t (ix2 r d)) (iblk m c 4 t (ix2 r d))
    ∧ ((outsAt0 m c t.val t.isLt).2.2.1 (ix2 r d) : EReal) = moment ((outsAt0 m c t.val t.isLt).1 (ix2 r d)) (iblk m c 3 t (ix2 r d))
    ∧ ((outsAt0 m c t.val t.isLt).2.2.2 (ix2 r d) : EReal) = square ((outsAt0 m c t.val t.isLt).1 (ix2 r d)) (iblk m c 4 t (ix2 r d)) := by
  by_cases h0 : t.val < 2
  · rw [outsAt0_A m c t h0 (by omega)]
    dsimp only
    refine ⟨?_, ?_, ?_⟩
    · unfold out0_A_5 out0_A_6; frame_out; pointwise [k0_pay1, k0_pay2, k0_pay3, step, moment, square]
    · unfold out0_A_5 out0_A_7; frame_out; pointwise [k0_pay1, moment]
    · unfold out0_A_5 out0_A_8; frame_out; pointwise [k0_pay2, square]
  · rw [outsAt0_B m c t h0 (by omega)]
    dsimp only
    refine ⟨?_, ?_, ?_⟩
    · unfold out0_B_5 out0_B_6; frame_out; pointwise [k0_pay4, k0_pay5, k0_pay6, step, moment, square]
    · unfold out0_B_5 out0_B_7; frame_out; pointwise [k0_pay4, moment]
    · unfold out0_B_5 out0_B_8; frame_out; pointwise [k0_pay5, square]

/-- The gradient that step `t` stores. -/
theorem summed (t : Fin cfg0.N) (r : Fin 256) (d : Fin 128) (h : t.val * 256 + r.val < 1024) :
    ((outsAt0 m c t.val t.isLt).1 (ix2 r d) : EReal) = grad (m ((c : Thread nD τ).loc main_arg0)) (m ((c : Thread nD τ).loc main_arg1)) ⟨t.val * 256 + r.val, h⟩ d := by
  have ht : t.val < 4 := lt_of_lt_of_eq t.isLt (show cfg0.N = 4 from N_0)
  by_cases h0 : t.val < 2
  · have hp : ∀ k : Fin 8, (iblk m c 0 t : FVec Ideal S8x256x128 .bf16) (ix3 k r d) = m ((c : Thread nD τ).loc main_arg0) (ix3 k ⟨t.val * 256 + r.val, by omega⟩ d) := by
      intro k
      blk_point [iblk, V, index_maps t]
    rw [outsAt0_A m c t h0 (by omega)]
    dsimp only
    unfold out0_A_5; frame_out
    rw [grad, total, dif_pos (by dsimp only; omega), Fin.sum_univ_eight]
    pointwise [k0_pay7, hp]
  · have hp : ∀ k : Fin 8, (iblk m c 1 t : FVec Ideal S8x256x128 .bf16) (ix3 k r d) = m ((c : Thread nD τ).loc main_arg1) (ix3 k ⟨t.val * 256 + r.val - 512, by omega⟩ d) := by
      intro k
      blk_point [iblk, V, index_maps t]
    rw [outsAt0_B m c t h0 (by omega)]
    dsimp only
    unfold out0_B_5; frame_out
    rw [grad, total, dif_neg (by dsimp only; omega), Fin.sum_univ_eight]
    pointwise [k0_pay8, hp]

/-- A block of the weight, or of one of its moments, holds that array's rows from `256 t` on. -/
theorem rows (t : Fin cfg0.N) (r : Fin 256) (d : Fin 128) (h : t.val * 256 + r.val < 1024) :
    (iblk m c 2 t : FVec Ideal S256x128 .f32) (ix2 r d) = m ((c : Thread nD τ).loc main_arg2) (ix2 ⟨t.val * 256 + r.val, h⟩ d)
    ∧ (iblk m c 3 t : FVec Ideal S256x128 .f32) (ix2 r d) = m ((c : Thread nD τ).loc main_arg3) (ix2 ⟨t.val * 256 + r.val, h⟩ d)
    ∧ (iblk m c 4 t : FVec Ideal S256x128 .f32) (ix2 r d) = m ((c : Thread nD τ).loc main_arg4) (ix2 ⟨t.val * 256 + r.val, h⟩ d) := by
  refine ⟨?_, ?_, ?_⟩ <;> blk_point [iblk, V, index_maps t]

/-- Step `t`'s row stays inside the weight. -/
theorem inside (t : Fin cfg0.N) (r : Fin 256) : t.val * 256 + r.val < 1024 := by
  have ht : t.val < 4 := lt_of_lt_of_eq t.isLt (show cfg0.N = 4 from N_0)
  omega

/-- The gradient at one entry of the weight. -/
def out_grad (r : Fin 1024) (d : Fin 128) : EReal := grad (m ((c : Thread nD τ).loc main_arg0)) (m ((c : Thread nD τ).loc main_arg1)) r d

/-- The gradient after the run. -/
theorem final_grad : (dats m 0 c).arrAt 5 (cfgs 0).N = fun i => out_grad m c (i 0) (i 1) := by
  refine (dats m 0 c).arrAt_eq_of_covers 5 _ (by decide +kernel) fun t hf y => ?_
  blk_simp
  obtain ⟨r, d, rfl⟩ : ∃ (r : Fin 256) (d : Fin 128), y = ix2 r d := ⟨y 0, y 1, eq_ix2 y⟩
  rw [after0_5, summed m c t r d (inside t r)]
  exact congrArg₂ (out_grad m c) (Fin.ext (by blk_point [index_maps t])) (Fin.ext (by blk_point [index_maps t]))

/-- The step at one entry of the weight. -/
def out_step (r : Fin 1024) (d : Fin 128) : EReal := step (show EReal from m ((c : Thread nD τ).loc main_arg2) (ix2 r d)) (grad (m ((c : Thread nD τ).loc main_arg0)) (m ((c : Thread nD τ).loc main_arg1)) r d) (show EReal from m ((c : Thread nD τ).loc main_arg3) (ix2 r d)) (show EReal from m ((c : Thread nD τ).loc main_arg4) (ix2 r d))

/-- The step after the run. -/
theorem final_step : (dats m 0 c).arrAt 6 (cfgs 0).N = fun i => out_step m c (i 0) (i 1) := by
  refine (dats m 0 c).arrAt_eq_of_covers 6 _ (by decide +kernel) fun t hf y => ?_
  blk_simp
  obtain ⟨r, d, rfl⟩ : ∃ (r : Fin 256) (d : Fin 128), y = ix2 r d := ⟨y 0, y 1, eq_ix2 y⟩
  rw [after0_6, (updated m c t r d).1, summed m c t r d (inside t r), (rows m c t r d (inside t r)).1, (rows m c t r d (inside t r)).2.1, (rows m c t r d (inside t r)).2.2]
  exact congrArg₂ (out_step m c) (Fin.ext (by blk_point [index_maps t])) (Fin.ext (by blk_point [index_maps t]))

/-- The new first moment at one entry of the weight. -/
def out_moment (r : Fin 1024) (d : Fin 128) : EReal := moment (grad (m ((c : Thread nD τ).loc main_arg0)) (m ((c : Thread nD τ).loc main_arg1)) r d) (show EReal from m ((c : Thread nD τ).loc main_arg3) (ix2 r d))

/-- The new first moment after the run. -/
theorem final_moment : (dats m 0 c).arrAt 7 (cfgs 0).N = fun i => out_moment m c (i 0) (i 1) := by
  refine (dats m 0 c).arrAt_eq_of_covers 7 _ (by decide +kernel) fun t hf y => ?_
  blk_simp
  obtain ⟨r, d, rfl⟩ : ∃ (r : Fin 256) (d : Fin 128), y = ix2 r d := ⟨y 0, y 1, eq_ix2 y⟩
  rw [after0_7, (updated m c t r d).2.1, summed m c t r d (inside t r), (rows m c t r d (inside t r)).2.1]
  exact congrArg₂ (out_moment m c) (Fin.ext (by blk_point [index_maps t])) (Fin.ext (by blk_point [index_maps t]))

/-- The new second moment at one entry of the weight. -/
def out_square (r : Fin 1024) (d : Fin 128) : EReal := square (grad (m ((c : Thread nD τ).loc main_arg0)) (m ((c : Thread nD τ).loc main_arg1)) r d) (show EReal from m ((c : Thread nD τ).loc main_arg4) (ix2 r d))

/-- The new second moment after the run. -/
theorem final_square : (dats m 0 c).arrAt 8 (cfgs 0).N = fun i => out_square m c (i 0) (i 1) := by
  refine (dats m 0 c).arrAt_eq_of_covers 8 _ (by decide +kernel) fun t hf y => ?_
  blk_simp
  obtain ⟨r, d, rfl⟩ : ∃ (r : Fin 256) (d : Fin 128), y = ix2 r d := ⟨y 0, y 1, eq_ix2 y⟩
  rw [after0_8, (updated m c t r d).2.2, summed m c t r d (inside t r), (rows m c t r d (inside t r)).2.2]
  exact congrArg₂ (out_square m c) (Fin.ext (by blk_point [index_maps t])) (Fin.ext (by blk_point [index_maps t]))

end Cert.UpdateA.Proof
-- ==== Proof.UpdateC.lean ====
/- AdamW on the output projection of the third branch and the last projection from the devices' partial gradients: the kernel's four arrays are the reference's. -/
module

public import proofs.«01_k».proof.Proof.Gen.UpdateCIdeal.Value
public import proofs.«01_k».proof.Proof.Gen.UpdateCRefIdeal.Read
public import proofs.«01_k».proof.Proof.AdamW
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpdateC.Proof

open Cert.UpdateCIdeal Cert.UpdateCIdeal.Gen Cert.AdamW

section
variable (P0 P1 : FVec Ideal Cert.UpdateCRefIdeal.S8x128x1024 .bf16) (W M V : FVec Ideal Cert.UpdateCRefIdeal.S256x1024 .f32) (r : Fin 256) (d : Fin 1024)

/-- The gradient at one entry. -/
abbrev grad : EReal := total (by decide : 256 = 128 + 128) P0 P1 r d

/-- The reference's gradient. -/
theorem ref_grad : Cert.UpdateCRefIdeal.Read.val_main_v4 (F := Ideal) P0 P1 (ix2 r d) = grad P0 P1 r d := by
  pointwise [grad, total, Cert.UpdateCRefIdeal.Read.val_main_v0, Cert.UpdateCRefIdeal.Read.val_main_cst, Cert.UpdateCRefIdeal.Read.val_main_v1, Cert.UpdateCRefIdeal.Read.val_main_v2, Cert.UpdateCRefIdeal.Read.val_main_cst_0, Cert.UpdateCRefIdeal.Read.val_main_v3, Cert.UpdateCRefIdeal.Read.val_main_v4, Cert.UpdateCRefIdeal.Read.val_main_cst_1, Cert.UpdateCRefIdeal.Read.val_main_v5, Cert.UpdateCRefIdeal.Read.val_main_v6, Cert.UpdateCRefIdeal.Read.val_main_cst_2, Cert.UpdateCRefIdeal.Read.val_main_v7, Cert.UpdateCRefIdeal.Read.val_main_v8, Cert.UpdateCRefIdeal.Read.val_main_v9, Cert.UpdateCRefIdeal.Read.val_main_cst_3, Cert.UpdateCRefIdeal.Read.val_main_v10, Cert.UpdateCRefIdeal.Read.val_main_v11, Cert.UpdateCRefIdeal.Read.val_main_v12, Cert.UpdateCRefIdeal.Read.val_main_cst_4, Cert.UpdateCRefIdeal.Read.val_main_v13, Cert.UpdateCRefIdeal.Read.val_main_v14, Cert.UpdateCRefIdeal.Read.val_main_v15, Cert.UpdateCRefIdeal.Read.val_main_cst_5, Cert.UpdateCRefIdeal.Read.val_main_v16, Cert.UpdateCRefIdeal.Read.val_main_v17, Cert.UpdateCRefIdeal.Read.val_main_cst_6, Cert.UpdateCRefIdeal.Read.val_main_v18, Cert.UpdateCRefIdeal.Read.val_main_v19, Cert.UpdateCRefIdeal.Read.val_main_v20, Cert.UpdateCRefIdeal.Read.val_main_cst_7, Cert.UpdateCRefIdeal.Read.val_main_v21, Cert.UpdateCRefIdeal.Read.val_main_v22, Cert.UpdateCRefIdeal.Read.val_main_v23, Cert.UpdateCRefIdeal.Read.val_main_cst_8, Cert.UpdateCRefIdeal.Read.val_main_v24, Cert.UpdateCRefIdeal.Read.val_main_v25, Cert.UpdateCRefIdeal.Read.val_main_v26, Cert.UpdateCRefIdeal.Read.val_main_cst_9, Cert.UpdateCRefIdeal.Read.val_main_v27, Cert.UpdateCRefIdeal.Read.val_main_v28]

/-- The reference's new first moment. -/
theorem ref_moment : Cert.UpdateCRefIdeal.Read.val_main_v9 (F := Ideal) P0 P1 M (ix2 r d) = moment (grad P0 P1 r d) (M (ix2 r d)) := by
  pointwise [moment, grad, total, Cert.UpdateCRefIdeal.Read.val_main_v0, Cert.UpdateCRefIdeal.Read.val_main_cst, Cert.UpdateCRefIdeal.Read.val_main_v1, Cert.UpdateCRefIdeal.Read.val_main_v2, Cert.UpdateCRefIdeal.Read.val_main_cst_0, Cert.UpdateCRefIdeal.Read.val_main_v3, Cert.UpdateCRefIdeal.Read.val_main_v4, Cert.UpdateCRefIdeal.Read.val_main_cst_1, Cert.UpdateCRefIdeal.Read.val_main_v5, Cert.UpdateCRefIdeal.Read.val_main_v6, Cert.UpdateCRefIdeal.Read.val_main_cst_2, Cert.UpdateCRefIdeal.Read.val_main_v7, Cert.UpdateCRefIdeal.Read.val_main_v8, Cert.UpdateCRefIdeal.Read.val_main_v9, Cert.UpdateCRefIdeal.Read.val_main_cst_3, Cert.UpdateCRefIdeal.Read.val_main_v10, Cert.UpdateCRefIdeal.Read.val_main_v11, Cert.UpdateCRefIdeal.Read.val_main_v12, Cert.UpdateCRefIdeal.Read.val_main_cst_4, Cert.UpdateCRefIdeal.Read.val_main_v13, Cert.UpdateCRefIdeal.Read.val_main_v14, Cert.UpdateCRefIdeal.Read.val_main_v15, Cert.UpdateCRefIdeal.Read.val_main_cst_5, Cert.UpdateCRefIdeal.Read.val_main_v16, Cert.UpdateCRefIdeal.Read.val_main_v17, Cert.UpdateCRefIdeal.Read.val_main_cst_6, Cert.UpdateCRefIdeal.Read.val_main_v18, Cert.UpdateCRefIdeal.Read.val_main_v19, Cert.UpdateCRefIdeal.Read.val_main_v20, Cert.UpdateCRefIdeal.Read.val_main_cst_7, Cert.UpdateCRefIdeal.Read.val_main_v21, Cert.UpdateCRefIdeal.Read.val_main_v22, Cert.UpdateCRefIdeal.Read.val_main_v23, Cert.UpdateCRefIdeal.Read.val_main_cst_8, Cert.UpdateCRefIdeal.Read.val_main_v24, Cert.UpdateCRefIdeal.Read.val_main_v25, Cert.UpdateCRefIdeal.Read.val_main_v26, Cert.UpdateCRefIdeal.Read.val_main_cst_9, Cert.UpdateCRefIdeal.Read.val_main_v27, Cert.UpdateCRefIdeal.Read.val_main_v28]

/-- The reference's new second moment. -/
theorem ref_square : Cert.UpdateCRefIdeal.Read.val_main_v15 (F := Ideal) P0 P1 V (ix2 r d) = square (grad P0 P1 r d) (V (ix2 r d)) := by
  pointwise [square, grad, total, Cert.UpdateCRefIdeal.Read.val_main_v0, Cert.UpdateCRefIdeal.Read.val_main_cst, Cert.UpdateCRefIdeal.Read.val_main_v1, Cert.UpdateCRefIdeal.Read.val_main_v2, Cert.UpdateCRefIdeal.Read.val_main_cst_0, Cert.UpdateCRefIdeal.Read.val_main_v3, Cert.UpdateCRefIdeal.Read.val_main_v4, Cert.UpdateCRefIdeal.Read.val_main_cst_1, Cert.UpdateCRefIdeal.Read.val_main_v5, Cert.UpdateCRefIdeal.Read.val_main_v6, Cert.UpdateCRefIdeal.Read.val_main_cst_2, Cert.UpdateCRefIdeal.Read.val_main_v7, Cert.UpdateCRefIdeal.Read.val_main_v8, Cert.UpdateCRefIdeal.Read.val_main_v9, Cert.UpdateCRefIdeal.Read.val_main_cst_3, Cert.UpdateCRefIdeal.Read.val_main_v10, Cert.UpdateCRefIdeal.Read.val_main_v11, Cert.UpdateCRefIdeal.Read.val_main_v12, Cert.UpdateCRefIdeal.Read.val_main_cst_4, Cert.UpdateCRefIdeal.Read.val_main_v13, Cert.UpdateCRefIdeal.Read.val_main_v14, Cert.UpdateCRefIdeal.Read.val_main_v15, Cert.UpdateCRefIdeal.Read.val_main_cst_5, Cert.UpdateCRefIdeal.Read.val_main_v16, Cert.UpdateCRefIdeal.Read.val_main_v17, Cert.UpdateCRefIdeal.Read.val_main_cst_6, Cert.UpdateCRefIdeal.Read.val_main_v18, Cert.UpdateCRefIdeal.Read.val_main_v19, Cert.UpdateCRefIdeal.Read.val_main_v20, Cert.UpdateCRefIdeal.Read.val_main_cst_7, Cert.UpdateCRefIdeal.Read.val_main_v21, Cert.UpdateCRefIdeal.Read.val_main_v22, Cert.UpdateCRefIdeal.Read.val_main_v23, Cert.UpdateCRefIdeal.Read.val_main_cst_8, Cert.UpdateCRefIdeal.Read.val_main_v24, Cert.UpdateCRefIdeal.Read.val_main_v25, Cert.UpdateCRefIdeal.Read.val_main_v26, Cert.UpdateCRefIdeal.Read.val_main_cst_9, Cert.UpdateCRefIdeal.Read.val_main_v27, Cert.UpdateCRefIdeal.Read.val_main_v28]

/-- The reference's step. -/
theorem ref_step : Cert.UpdateCRefIdeal.Read.val_main_v28 (F := Ideal) P0 P1 W M V (ix2 r d) = step (W (ix2 r d)) (grad P0 P1 r d) (M (ix2 r d)) (V (ix2 r d)) := by
  pointwise [step, moment, square, grad, total, Cert.UpdateCRefIdeal.Read.val_main_v0, Cert.UpdateCRefIdeal.Read.val_main_cst, Cert.UpdateCRefIdeal.Read.val_main_v1, Cert.UpdateCRefIdeal.Read.val_main_v2, Cert.UpdateCRefIdeal.Read.val_main_cst_0, Cert.UpdateCRefIdeal.Read.val_main_v3, Cert.UpdateCRefIdeal.Read.val_main_v4, Cert.UpdateCRefIdeal.Read.val_main_cst_1, Cert.UpdateCRefIdeal.Read.val_main_v5, Cert.UpdateCRefIdeal.Read.val_main_v6, Cert.UpdateCRefIdeal.Read.val_main_cst_2, Cert.UpdateCRefIdeal.Read.val_main_v7, Cert.UpdateCRefIdeal.Read.val_main_v8, Cert.UpdateCRefIdeal.Read.val_main_v9, Cert.UpdateCRefIdeal.Read.val_main_cst_3, Cert.UpdateCRefIdeal.Read.val_main_v10, Cert.UpdateCRefIdeal.Read.val_main_v11, Cert.UpdateCRefIdeal.Read.val_main_v12, Cert.UpdateCRefIdeal.Read.val_main_cst_4, Cert.UpdateCRefIdeal.Read.val_main_v13, Cert.UpdateCRefIdeal.Read.val_main_v14, Cert.UpdateCRefIdeal.Read.val_main_v15, Cert.UpdateCRefIdeal.Read.val_main_cst_5, Cert.UpdateCRefIdeal.Read.val_main_v16, Cert.UpdateCRefIdeal.Read.val_main_v17, Cert.UpdateCRefIdeal.Read.val_main_cst_6, Cert.UpdateCRefIdeal.Read.val_main_v18, Cert.UpdateCRefIdeal.Read.val_main_v19, Cert.UpdateCRefIdeal.Read.val_main_v20, Cert.UpdateCRefIdeal.Read.val_main_cst_7, Cert.UpdateCRefIdeal.Read.val_main_v21, Cert.UpdateCRefIdeal.Read.val_main_v22, Cert.UpdateCRefIdeal.Read.val_main_v23, Cert.UpdateCRefIdeal.Read.val_main_cst_8, Cert.UpdateCRefIdeal.Read.val_main_v24, Cert.UpdateCRefIdeal.Read.val_main_v25, Cert.UpdateCRefIdeal.Read.val_main_v26, Cert.UpdateCRefIdeal.Read.val_main_cst_9, Cert.UpdateCRefIdeal.Read.val_main_v27, Cert.UpdateCRefIdeal.Read.val_main_v28]

end

/-- The windows' block indices: the parts' row block while their array's rows are worked on, and row block `t` of the weight and its moments. -/
theorem index_maps : ∀ t : Fin cfg0.N, win0_0.index t = ![0, 0, 0] ∧ win0_1.index t = ![0, 0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- Step `t`'s three updated blocks, from the gradient that the same step stores. -/
theorem updated (t : Fin cfg0.N) (r : Fin 128) (d : Fin 1024) :
    ((outsAt0 m c t.val t.isLt).2.1 (ix2 r d) : EReal) = step (iblk m c 2 t (ix2 r d)) ((outsAt0 m c t.val t.isLt).1 (ix2 r d)) (iblk m c 3 t (ix2 r d)) (iblk m c 4 t (ix2 r d))
    ∧ ((outsAt0 m c t.val t.isLt).2.2.1 (ix2 r d) : EReal) = moment ((outsAt0 m c t.val t.isLt).1 (ix2 r d)) (iblk m c 3 t (ix2 r d))
    ∧ ((outsAt0 m c t.val t.isLt).2.2.2 (ix2 r d) : EReal) = square ((outsAt0 m c t.val t.isLt).1 (ix2 r d)) (iblk m c 4 t (ix2 r d)) := by
  by_cases h0 : t.val % 2 = 0
  · rw [outsAt0_A m c t h0 (by omega)]
    dsimp only
    refine ⟨?_, ?_, ?_⟩
    · unfold out0_A_5 out0_A_6; frame_out; pointwise [k0_pay1, k0_pay2, k0_pay3, step, moment, square]
    · unfold out0_A_5 out0_A_7; frame_out; pointwise [k0_pay1, moment]
    · unfold out0_A_5 out0_A_8; frame_out; pointwise [k0_pay2, square]
  · rw [outsAt0_B m c t h0 (by omega)]
    dsimp only
    refine ⟨?_, ?_, ?_⟩
    · unfold out0_B_5 out0_B_6; frame_out; pointwise [k0_pay4, k0_pay5, k0_pay6, step, moment, square]
    · unfold out0_B_5 out0_B_7; frame_out; pointwise [k0_pay4, moment]
    · unfold out0_B_5 out0_B_8; frame_out; pointwise [k0_pay5, square]

/-- The gradient that step `t` stores. -/
theorem summed (t : Fin cfg0.N) (r : Fin 128) (d : Fin 1024) (h : t.val * 128 + r.val < 256) :
    ((outsAt0 m c t.val t.isLt).1 (ix2 r d) : EReal) = grad (m ((c : Thread nD τ).loc main_arg0)) (m ((c : Thread nD τ).loc main_arg1)) ⟨t.val * 128 + r.val, h⟩ d := by
  have ht : t.val < 2 := lt_of_lt_of_eq t.isLt (show cfg0.N = 2 from N_0)
  by_cases h0 : t.val % 2 = 0
  · have hp : ∀ k : Fin 8, (iblk m c 0 t : FVec Ideal S8x128x1024 .bf16) (ix3 k r d) = m ((c : Thread nD τ).loc main_arg0) (ix3 k ⟨t.val * 128 + r.val, by omega⟩ d) := by
      intro k
      blk_point [iblk, V, index_maps t]
    rw [outsAt0_A m c t h0 (by omega)]
    dsimp only
    unfold out0_A_5; frame_out
    rw [grad, total, dif_pos (by dsimp only; omega), Fin.sum_univ_eight]
    pointwise [k0_pay7, hp]
  · have hp : ∀ k : Fin 8, (iblk m c 1 t : FVec Ideal S8x128x1024 .bf16) (ix3 k r d) = m ((c : Thread nD τ).loc main_arg1) (ix3 k ⟨t.val * 128 + r.val - 128, by omega⟩ d) := by
      intro k
      blk_point [iblk, V, index_maps t]
    rw [outsAt0_B m c t h0 (by omega)]
    dsimp only
    unfold out0_B_5; frame_out
    rw [grad, total, dif_neg (by dsimp only; omega), Fin.sum_univ_eight]
    pointwise [k0_pay8, hp]

/-- A block of the weight, or of one of its moments, holds that array's rows from `128 t` on. -/
theorem rows (t : Fin cfg0.N) (r : Fin 128) (d : Fin 1024) (h : t.val * 128 + r.val < 256) :
    (iblk m c 2 t : FVec Ideal S128x1024 .f32) (ix2 r d) = m ((c : Thread nD τ).loc main_arg2) (ix2 ⟨t.val * 128 + r.val, h⟩ d)
    ∧ (iblk m c 3 t : FVec Ideal S128x1024 .f32) (ix2 r d) = m ((c : Thread nD τ).loc main_arg3) (ix2 ⟨t.val * 128 + r.val, h⟩ d)
    ∧ (iblk m c 4 t : FVec Ideal S128x1024 .f32) (ix2 r d) = m ((c : Thread nD τ).loc main_arg4) (ix2 ⟨t.val * 128 + r.val, h⟩ d) := by
  refine ⟨?_, ?_, ?_⟩ <;> blk_point [iblk, V, index_maps t]

/-- Step `t`'s row stays inside the weight. -/
theorem inside (t : Fin cfg0.N) (r : Fin 128) : t.val * 128 + r.val < 256 := by
  have ht : t.val < 2 := lt_of_lt_of_eq t.isLt (show cfg0.N = 2 from N_0)
  omega

/-- The gradient at one entry of the weight. -/
def out_grad (r : Fin 256) (d : Fin 1024) : EReal := grad (m ((c : Thread nD τ).loc main_arg0)) (m ((c : Thread nD τ).loc main_arg1)) r d

/-- The gradient after the run. -/
theorem final_grad : (dats m 0 c).arrAt 5 (cfgs 0).N = fun i => out_grad m c (i 0) (i 1) := by
  refine (dats m 0 c).arrAt_eq_of_covers 5 _ (by decide +kernel) fun t hf y => ?_
  blk_simp
  obtain ⟨r, d, rfl⟩ : ∃ (r : Fin 128) (d : Fin 1024), y = ix2 r d := ⟨y 0, y 1, eq_ix2 y⟩
  rw [after0_5, summed m c t r d (inside t r)]
  exact congrArg₂ (out_grad m c) (Fin.ext (by blk_point [index_maps t])) (Fin.ext (by blk_point [index_maps t]))

/-- The step at one entry of the weight. -/
def out_step (r : Fin 256) (d : Fin 1024) : EReal := step (show EReal from m ((c : Thread nD τ).loc main_arg2) (ix2 r d)) (grad (m ((c : Thread nD τ).loc main_arg0)) (m ((c : Thread nD τ).loc main_arg1)) r d) (show EReal from m ((c : Thread nD τ).loc main_arg3) (ix2 r d)) (show EReal from m ((c : Thread nD τ).loc main_arg4) (ix2 r d))

/-- The step after the run. -/
theorem final_step : (dats m 0 c).arrAt 6 (cfgs 0).N = fun i => out_step m c (i 0) (i 1) := by
  refine (dats m 0 c).arrAt_eq_of_covers 6 _ (by decide +kernel) fun t hf y => ?_
  blk_simp
  obtain ⟨r, d, rfl⟩ : ∃ (r : Fin 128) (d : Fin 1024), y = ix2 r d := ⟨y 0, y 1, eq_ix2 y⟩
  rw [after0_6, (updated m c t r d).1, summed m c t r d (inside t r), (rows m c t r d (inside t r)).1, (rows m c t r d (inside t r)).2.1, (rows m c t r d (inside t r)).2.2]
  exact congrArg₂ (out_step m c) (Fin.ext (by blk_point [index_maps t])) (Fin.ext (by blk_point [index_maps t]))

/-- The new first moment at one entry of the weight. -/
def out_moment (r : Fin 256) (d : Fin 1024) : EReal := moment (grad (m ((c : Thread nD τ).loc main_arg0)) (m ((c : Thread nD τ).loc main_arg1)) r d) (show EReal from m ((c : Thread nD τ).loc main_arg3) (ix2 r d))

/-- The new first moment after the run. -/
theorem final_moment : (dats m 0 c).arrAt 7 (cfgs 0).N = fun i => out_moment m c (i 0) (i 1) := by
  refine (dats m 0 c).arrAt_eq_of_covers 7 _ (by decide +kernel) fun t hf y => ?_
  blk_simp
  obtain ⟨r, d, rfl⟩ : ∃ (r : Fin 128) (d : Fin 1024), y = ix2 r d := ⟨y 0, y 1, eq_ix2 y⟩
  rw [after0_7, (updated m c t r d).2.1, summed m c t r d (inside t r), (rows m c t r d (inside t r)).2.1]
  exact congrArg₂ (out_moment m c) (Fin.ext (by blk_point [index_maps t])) (Fin.ext (by blk_point [index_maps t]))

/-- The new second moment at one entry of the weight. -/
def out_square (r : Fin 256) (d : Fin 1024) : EReal := square (grad (m ((c : Thread nD τ).loc main_arg0)) (m ((c : Thread nD τ).loc main_arg1)) r d) (show EReal from m ((c : Thread nD τ).loc main_arg4) (ix2 r d))

/-- The new second moment after the run. -/
theorem final_square : (dats m 0 c).arrAt 8 (cfgs 0).N = fun i => out_square m c (i 0) (i 1) := by
  refine (dats m 0 c).arrAt_eq_of_covers 8 _ (by decide +kernel) fun t hf y => ?_
  blk_simp
  obtain ⟨r, d, rfl⟩ : ∃ (r : Fin 128) (d : Fin 1024), y = ix2 r d := ⟨y 0, y 1, eq_ix2 y⟩
  rw [after0_8, (updated m c t r d).2.2, summed m c t r d (inside t r), (rows m c t r d (inside t r)).2.2]
  exact congrArg₂ (out_square m c) (Fin.ext (by blk_point [index_maps t])) (Fin.ext (by blk_point [index_maps t]))

end Cert.UpdateC.Proof
-- ==== Proof.UpdateSmall.lean ====
/- AdamW on the ten small weights, packed into one array: the kernel's three arrays are the reference's. -/
module

public import proofs.«01_k».proof.Proof.Gen.UpdateSmallIdeal.Value
public import proofs.«01_k».proof.Proof.Gen.UpdateSmallRefIdeal.Read
public import proofs.«01_k».proof.Proof.AdamW
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpdateSmall.Proof

open Cert.UpdateSmallIdeal Cert.UpdateSmallIdeal.Gen Cert.AdamW

section
variable (G W M V : FVec Ideal Cert.UpdateSmallRefIdeal.S104x128 .f32) (r : Fin 104) (d : Fin 128)

/-- The reference's step. -/
theorem ref_step : Cert.UpdateSmallRefIdeal.Read.val_main_v23 (F := Ideal) G W M V (ix2 r d) = step (W (ix2 r d)) (G (ix2 r d)) (M (ix2 r d)) (V (ix2 r d)) := by
  pointwise [step, moment, square, Cert.UpdateSmallRefIdeal.Read.val_main_cst, Cert.UpdateSmallRefIdeal.Read.val_main_v0, Cert.UpdateSmallRefIdeal.Read.val_main_v1, Cert.UpdateSmallRefIdeal.Read.val_main_cst_0, Cert.UpdateSmallRefIdeal.Read.val_main_v2, Cert.UpdateSmallRefIdeal.Read.val_main_v3, Cert.UpdateSmallRefIdeal.Read.val_main_v4, Cert.UpdateSmallRefIdeal.Read.val_main_cst_1, Cert.UpdateSmallRefIdeal.Read.val_main_v5, Cert.UpdateSmallRefIdeal.Read.val_main_v6, Cert.UpdateSmallRefIdeal.Read.val_main_v7, Cert.UpdateSmallRefIdeal.Read.val_main_cst_2, Cert.UpdateSmallRefIdeal.Read.val_main_v8, Cert.UpdateSmallRefIdeal.Read.val_main_v9, Cert.UpdateSmallRefIdeal.Read.val_main_v10, Cert.UpdateSmallRefIdeal.Read.val_main_cst_3, Cert.UpdateSmallRefIdeal.Read.val_main_v11, Cert.UpdateSmallRefIdeal.Read.val_main_v12, Cert.UpdateSmallRefIdeal.Read.val_main_cst_4, Cert.UpdateSmallRefIdeal.Read.val_main_v13, Cert.UpdateSmallRefIdeal.Read.val_main_v14, Cert.UpdateSmallRefIdeal.Read.val_main_v15, Cert.UpdateSmallRefIdeal.Read.val_main_cst_5, Cert.UpdateSmallRefIdeal.Read.val_main_v16, Cert.UpdateSmallRefIdeal.Read.val_main_v17, Cert.UpdateSmallRefIdeal.Read.val_main_v18, Cert.UpdateSmallRefIdeal.Read.val_main_cst_6, Cert.UpdateSmallRefIdeal.Read.val_main_v19, Cert.UpdateSmallRefIdeal.Read.val_main_v20, Cert.UpdateSmallRefIdeal.Read.val_main_v21, Cert.UpdateSmallRefIdeal.Read.val_main_cst_7, Cert.UpdateSmallRefIdeal.Read.val_main_v22, Cert.UpdateSmallRefIdeal.Read.val_main_v23]

/-- The reference's new first moment. -/
theorem ref_moment : Cert.UpdateSmallRefIdeal.Read.val_main_v4 (F := Ideal) G M (ix2 r d) = moment (G (ix2 r d)) (M (ix2 r d)) := by
  pointwise [moment, Cert.UpdateSmallRefIdeal.Read.val_main_cst, Cert.UpdateSmallRefIdeal.Read.val_main_v0, Cert.UpdateSmallRefIdeal.Read.val_main_v1, Cert.UpdateSmallRefIdeal.Read.val_main_cst_0, Cert.UpdateSmallRefIdeal.Read.val_main_v2, Cert.UpdateSmallRefIdeal.Read.val_main_v3, Cert.UpdateSmallRefIdeal.Read.val_main_v4, Cert.UpdateSmallRefIdeal.Read.val_main_cst_1, Cert.UpdateSmallRefIdeal.Read.val_main_v5, Cert.UpdateSmallRefIdeal.Read.val_main_v6, Cert.UpdateSmallRefIdeal.Read.val_main_v7, Cert.UpdateSmallRefIdeal.Read.val_main_cst_2, Cert.UpdateSmallRefIdeal.Read.val_main_v8, Cert.UpdateSmallRefIdeal.Read.val_main_v9, Cert.UpdateSmallRefIdeal.Read.val_main_v10, Cert.UpdateSmallRefIdeal.Read.val_main_cst_3, Cert.UpdateSmallRefIdeal.Read.val_main_v11, Cert.UpdateSmallRefIdeal.Read.val_main_v12, Cert.UpdateSmallRefIdeal.Read.val_main_cst_4, Cert.UpdateSmallRefIdeal.Read.val_main_v13, Cert.UpdateSmallRefIdeal.Read.val_main_v14, Cert.UpdateSmallRefIdeal.Read.val_main_v15, Cert.UpdateSmallRefIdeal.Read.val_main_cst_5, Cert.UpdateSmallRefIdeal.Read.val_main_v16, Cert.UpdateSmallRefIdeal.Read.val_main_v17, Cert.UpdateSmallRefIdeal.Read.val_main_v18, Cert.UpdateSmallRefIdeal.Read.val_main_cst_6, Cert.UpdateSmallRefIdeal.Read.val_main_v19, Cert.UpdateSmallRefIdeal.Read.val_main_v20, Cert.UpdateSmallRefIdeal.Read.val_main_v21, Cert.UpdateSmallRefIdeal.Read.val_main_cst_7, Cert.UpdateSmallRefIdeal.Read.val_main_v22, Cert.UpdateSmallRefIdeal.Read.val_main_v23]

/-- The reference's new second moment. -/
theorem ref_square : Cert.UpdateSmallRefIdeal.Read.val_main_v10 (F := Ideal) G V (ix2 r d) = square (G (ix2 r d)) (V (ix2 r d)) := by
  pointwise [square, Cert.UpdateSmallRefIdeal.Read.val_main_cst, Cert.UpdateSmallRefIdeal.Read.val_main_v0, Cert.UpdateSmallRefIdeal.Read.val_main_v1, Cert.UpdateSmallRefIdeal.Read.val_main_cst_0, Cert.UpdateSmallRefIdeal.Read.val_main_v2, Cert.UpdateSmallRefIdeal.Read.val_main_v3, Cert.UpdateSmallRefIdeal.Read.val_main_v4, Cert.UpdateSmallRefIdeal.Read.val_main_cst_1, Cert.UpdateSmallRefIdeal.Read.val_main_v5, Cert.UpdateSmallRefIdeal.Read.val_main_v6, Cert.UpdateSmallRefIdeal.Read.val_main_v7, Cert.UpdateSmallRefIdeal.Read.val_main_cst_2, Cert.UpdateSmallRefIdeal.Read.val_main_v8, Cert.UpdateSmallRefIdeal.Read.val_main_v9, Cert.UpdateSmallRefIdeal.Read.val_main_v10, Cert.UpdateSmallRefIdeal.Read.val_main_cst_3, Cert.UpdateSmallRefIdeal.Read.val_main_v11, Cert.UpdateSmallRefIdeal.Read.val_main_v12, Cert.UpdateSmallRefIdeal.Read.val_main_cst_4, Cert.UpdateSmallRefIdeal.Read.val_main_v13, Cert.UpdateSmallRefIdeal.Read.val_main_v14, Cert.UpdateSmallRefIdeal.Read.val_main_v15, Cert.UpdateSmallRefIdeal.Read.val_main_cst_5, Cert.UpdateSmallRefIdeal.Read.val_main_v16, Cert.UpdateSmallRefIdeal.Read.val_main_v17, Cert.UpdateSmallRefIdeal.Read.val_main_v18, Cert.UpdateSmallRefIdeal.Read.val_main_cst_6, Cert.UpdateSmallRefIdeal.Read.val_main_v19, Cert.UpdateSmallRefIdeal.Read.val_main_v20, Cert.UpdateSmallRefIdeal.Read.val_main_v21, Cert.UpdateSmallRefIdeal.Read.val_main_cst_7, Cert.UpdateSmallRefIdeal.Read.val_main_v22, Cert.UpdateSmallRefIdeal.Read.val_main_v23]

end

/-- The windows' block indices: the whole array. -/
theorem index_maps : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ) (c : Dev nD)

/-- The step at one entry of the packed weights. -/
def out_step (r : Fin 104) (d : Fin 128) : EReal := step (show EReal from m ((c : Thread nD τ).loc main_arg1) (ix2 r d)) (show EReal from m ((c : Thread nD τ).loc main_arg0) (ix2 r d)) (show EReal from m ((c : Thread nD τ).loc main_arg2) (ix2 r d)) (show EReal from m ((c : Thread nD τ).loc main_arg3) (ix2 r d))

/-- The step after the run. -/
theorem final_step : (dats m 0 c).arrAt 4 (cfgs 0).N = fun i => out_step m c (i 0) (i 1) := by
  refine (dats m 0 c).arrAt_eq_of_covers 4 _ (by decide +kernel) fun t hf y => ?_
  blk_simp
  rw [after0_4]; unfold out0_4; frame_out
  pointwise [out_step, k0_pay1, k0_pay2, k0_pay3, step, moment, square]
  blk_point [iblk, V, index_maps t]

/-- The new first moment at one entry of the packed weights. -/
def out_moment (r : Fin 104) (d : Fin 128) : EReal := moment (show EReal from m ((c : Thread nD τ).loc main_arg0) (ix2 r d)) (show EReal from m ((c : Thread nD τ).loc main_arg2) (ix2 r d))

/-- The new first moment after the run. -/
theorem final_moment : (dats m 0 c).arrAt 5 (cfgs 0).N = fun i => out_moment m c (i 0) (i 1) := by
  refine (dats m 0 c).arrAt_eq_of_covers 5 _ (by decide +kernel) fun t hf y => ?_
  blk_simp
  rw [after0_5]; unfold out0_5; frame_out
  pointwise [out_moment, k0_pay1, moment]
  blk_point [iblk, V, index_maps t]

/-- The new second moment at one entry of the packed weights. -/
def out_square (r : Fin 104) (d : Fin 128) : EReal := square (show EReal from m ((c : Thread nD τ).loc main_arg0) (ix2 r d)) (show EReal from m ((c : Thread nD τ).loc main_arg3) (ix2 r d))

/-- The new second moment after the run. -/
theorem final_square : (dats m 0 c).arrAt 6 (cfgs 0).N = fun i => out_square m c (i 0) (i 1) := by
  refine (dats m 0 c).arrAt_eq_of_covers 6 _ (by decide +kernel) fun t hf y => ?_
  blk_simp
  rw [after0_6]; unfold out0_6; frame_out
  pointwise [out_square, k0_pay2, square]
  blk_point [iblk, V, index_maps t]

end Cert.UpdateSmall.Proof
-- ==== Proof.SumSmall.lean ====
/- The sum over the devices of the packed loss and small gradients: the kernel's array is the reference's. -/
module

public import proofs.«01_k».proof.Proof.Gen.SumSmallIdeal.Value
public import proofs.«01_k».proof.Proof.Gen.SumSmallRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SumSmall.Proof

open Cert.SumSmallIdeal Cert.SumSmallIdeal.Gen

/-- The reference's sum. -/
theorem ref (P : FVec Ideal Cert.SumSmallRefIdeal.S8x240x128 .f32) (r : Fin 240) (d : Fin 128) :
    Cert.SumSmallRefIdeal.Read.val_main_v0 (F := Ideal) P (ix2 r d) = ∑ k : Fin 8, P (ix3 k r d) := by
  pointwise [Cert.SumSmallRefIdeal.Read.val_main_cst, Cert.SumSmallRefIdeal.Read.val_main_v0]

/-- The windows' block indices: the whole array. -/
theorem index_maps : ∀ t : Fin cfg0.N, win0_0.index t = ![0, 0, 0] ∧ win0_1.index t = ![0, 0] :=
  (by decide +kernel : ∀ t : Fin grid0.N, _)

variable (m : (ℓ : Loc nD τ sig) → Buf (Elt Ideal) ℓ) (c : Dev nD)

/-- The sum after the run. -/
theorem final : (dats m 0 c).arrAt 1 (cfgs 0).N = fun i => ∑ k : Fin 8, (show EReal from m ((c : Thread nD τ).loc main_arg0) (ix3 k (i 0) (i 1))) := by
  refine (dats m 0 c).arrAt_eq_of_covers 1 _ (by decide +kernel) fun t hf y => ?_
  blk_simp
  rw [after0_1]; unfold out0_1; frame_out
  rw [Fin.sum_univ_eight]
  pointwise [k0_pay1]
  blk_point [iblk, V, index_maps t]

end Cert.SumSmall.Proof
-- ==== Proof.RestClaims.lean ====
/- The norm, the convolution branch, the sums over the devices and the optimiser: each kernel's arrays are its reference's, and each reference's run ends quiet. -/
module

public import proofs.«01_k».proof.Defs
public import proofs.«01_k».proof.Proof.ConvFwd
public import proofs.«01_k».proof.Proof.NormFwd
public import proofs.«01_k».proof.Proof.UpdateIn
public import proofs.«01_k».proof.Proof.UpdateA
public import proofs.«01_k».proof.Proof.UpdateC
public import proofs.«01_k».proof.Proof.UpdateSmall
public import proofs.«01_k».proof.Proof.SumSmall
public import Idealize.ShloMosaic.Lib.Quiescent
public import proofs.«01_k».proof.Proof.Gen.ConvFwdRefIdeal
public import proofs.«01_k».proof.Proof.Gen.ConvFwdRefIdeal.Run
public import proofs.«01_k».proof.Proof.Gen.ConvFwdIdeal
public import proofs.«01_k».proof.Proof.Gen.NormFwdRefIdeal
public import proofs.«01_k».proof.Proof.Gen.NormFwdRefIdeal.Run
public import proofs.«01_k».proof.Proof.Gen.NormFwdIdeal
public import proofs.«01_k».proof.Proof.Gen.UpdateInRefIdeal
public import proofs.«01_k».proof.Proof.Gen.UpdateInRefIdeal.Run
public import proofs.«01_k».proof.Proof.Gen.UpdateInIdeal
public import proofs.«01_k».proof.Proof.Gen.UpdateARefIdeal
public import proofs.«01_k».proof.Proof.Gen.UpdateARefIdeal.Run
public import proofs.«01_k».proof.Proof.Gen.UpdateAIdeal
public import proofs.«01_k».proof.Proof.Gen.UpdateCRefIdeal
public import proofs.«01_k».proof.Proof.Gen.UpdateCRefIdeal.Run
public import proofs.«01_k».proof.Proof.Gen.UpdateCIdeal
public import proofs.«01_k».proof.Proof.Gen.UpdateSmallRefIdeal
public import proofs.«01_k».proof.Proof.Gen.UpdateSmallRefIdeal.Run
public import proofs.«01_k».proof.Proof.Gen.UpdateSmallIdeal
public import proofs.«01_k».proof.Proof.Gen.SumSmallRefIdeal
public import proofs.«01_k».proof.Proof.Gen.SumSmallRefIdeal.Run
public import proofs.«01_k».proof.Proof.Gen.SumSmallIdeal

@[expose] public section

set_option maxRecDepth 16384

noncomputable section

open Idealize.ShloMosaic Idealize.ShloMosaic.TcCoe Idealize.SL.Sem

namespace Cert.ConvFwd.Proof

/-- Kernel and reference of the convolution branch end with the same array. -/
theorem algebraic : @Cert.algebraic_ConvFwdIdeal_ConvFwdRefIdeal Cert.ConvFwdIdeal.Gen.facts Cert.ConvFwdRefIdeal.Gen.facts := by
  intro m g m' g' _ hag
  refine ⟨fun c => (Cert.ConvFwdIdeal.Gen.dats m 0 c).arrAt 2 Cert.ConvFwdIdeal.cfg0.N, Cert.ConvFwdIdeal.Value.run_blocks m g, (θ_run _ _ _).mono (fun r h c => ?_) (Cert.ConvFwdRefIdeal.Value.run m' g')⟩
  obtain ⟨h0, hk⟩ := h c
  obtain ⟨a0, a1⟩ := hag c
  refine ⟨h0.trans ((Cert.ConvFwdRefIdeal.Read.val_main_v31_eq _ _).trans ?_), hk⟩
  rw [a0, a1]
  exact ((final m c).trans (funext fun i => ((congrArg _ (eq_ix2 i)).trans (ref_at _ _ _ _)).symm)).symm

/-- The reference of the convolution branch ends with its arguments kept and no signal pending. -/
theorem ref_frame : @Cert.quiescent_ConvFwdRefIdeal Cert.ConvFwdRefIdeal.Gen.facts := by
  intro m g _
  refine (θ_run _ _ _).mono (fun r h => ⟨fun c => ?_, sem_eq_zero_of_no_sems (by decide) _⟩) (Cert.ConvFwdRefIdeal.Value.run m g)
  exact (h c).2

end Cert.ConvFwd.Proof

namespace Cert.NormFwd.Proof

/-- Kernel and reference of the norm end with the same array. -/
theorem algebraic : @Cert.algebraic_NormFwdIdeal_NormFwdRefIdeal Cert.NormFwdIdeal.Gen.facts Cert.NormFwdRefIdeal.Gen.facts := by
  intro m g m' g' _ hag
  refine ⟨fun c => (Cert.NormFwdIdeal.Gen.dats m 0 c).arrAt 2 Cert.NormFwdIdeal.cfg0.N, Cert.NormFwdIdeal.Value.run_blocks m g, (θ_run _ _ _).mono (fun r h c => ?_) (Cert.NormFwdRefIdeal.Value.run m' g')⟩
  obtain ⟨h0, hk⟩ := h c
  obtain ⟨a0, a1⟩ := hag c
  refine ⟨h0.trans ((Cert.NormFwdRefIdeal.Read.val_main_v12_eq _ _).trans ?_), hk⟩
  rw [a0, a1]
  exact ((final m c).trans (funext fun i => ((congrArg _ (eq_ix2 i)).trans (ref _ _ _ _)).symm)).symm

/-- The reference of the norm ends with its arguments kept and no signal pending. -/
theorem ref_frame : @Cert.quiescent_NormFwdRefIdeal Cert.NormFwdRefIdeal.Gen.facts := by
  intro m g _
  refine (θ_run _ _ _).mono (fun r h => ⟨fun c => ?_, sem_eq_zero_of_no_sems (by decide) _⟩) (Cert.NormFwdRefIdeal.Value.run m g)
  exact (h c).2

end Cert.NormFwd.Proof

namespace Cert.UpdateIn.Proof

/-- Kernel and reference of the input projection's update end with the same arrays. -/
theorem algebraic : @Cert.algebraic_UpdateInIdeal_UpdateInRefIdeal Cert.UpdateInIdeal.Gen.facts Cert.UpdateInRefIdeal.Gen.facts := by
  intro m g m' g' _ hag
  refine ⟨fun c => (Cert.UpdateInIdeal.Gen.dats m 0 c).arrAt 5 Cert.UpdateInIdeal.cfg0.N, fun c => (Cert.UpdateInIdeal.Gen.dats m 0 c).arrAt 6 Cert.UpdateInIdeal.cfg0.N, fun c => (Cert.UpdateInIdeal.Gen.dats m 0 c).arrAt 7 Cert.UpdateInIdeal.cfg0.N, fun c => (Cert.UpdateInIdeal.Gen.dats m 0 c).arrAt 8 Cert.UpdateInIdeal.cfg0.N, Cert.UpdateInIdeal.Value.run_blocks m g, (θ_run _ _ _).mono (fun r h c => ?_) (Cert.UpdateInRefIdeal.Value.run m' g')⟩
  obtain ⟨h0, h1, h2, h3, hk⟩ := h c
  obtain ⟨a0, a1, a2, a3, a4⟩ := hag c
  refine ⟨h0.trans ((Cert.UpdateInRefIdeal.Read.val_main_v4_eq _ _).trans ?_), h1.trans ((Cert.UpdateInRefIdeal.Read.val_main_v28_eq _ _ _ _ _).trans ?_), h2.trans ((Cert.UpdateInRefIdeal.Read.val_main_v9_eq _ _ _).trans ?_), h3.trans ((Cert.UpdateInRefIdeal.Read.val_main_v15_eq _ _ _).trans ?_), hk⟩
  · rw [a0, a1]
    exact ((final_grad m c).trans (funext fun i => ((congrArg _ (eq_ix2 i)).trans (ref_grad _ _ _ _)).symm)).symm
  · rw [a0, a1, a2, a3, a4]
    exact ((final_step m c).trans (funext fun i => ((congrArg _ (eq_ix2 i)).trans (ref_step _ _ _ _ _ _ _)).symm)).symm
  · rw [a0, a1, a3]
    exact ((final_moment m c).trans (funext fun i => ((congrArg _ (eq_ix2 i)).trans (ref_moment _ _ _ _ _)).symm)).symm
  · rw [a0, a1, a4]
    exact ((final_square m c).trans (funext fun i => ((congrArg _ (eq_ix2 i)).trans (ref_square _ _ _ _ _)).symm)).symm

/-- The reference of the input projection's update ends with its arguments kept and no signal pending. -/
theorem ref_frame : @Cert.quiescent_UpdateInRefIdeal Cert.UpdateInRefIdeal.Gen.facts := by
  intro m g _
  refine (θ_run _ _ _).mono (fun r h => ⟨fun c => ?_, sem_eq_zero_of_no_sems (by decide) _⟩) (Cert.UpdateInRefIdeal.Value.run m g)
  exact (h c).2.2.2.2

end Cert.UpdateIn.Proof

namespace Cert.UpdateA.Proof

/-- Kernel and reference of the update of the first two branches' output projections end with the same arrays. -/
theorem algebraic : @Cert.algebraic_UpdateAIdeal_UpdateARefIdeal Cert.UpdateAIdeal.Gen.facts Cert.UpdateARefIdeal.Gen.facts := by
  intro m g m' g' _ hag
  refine ⟨fun c => (Cert.UpdateAIdeal.Gen.dats m 0 c).arrAt 5 Cert.UpdateAIdeal.cfg0.N, fun c => (Cert.UpdateAIdeal.Gen.dats m 0 c).arrAt 6 Cert.UpdateAIdeal.cfg0.N, fun c => (Cert.UpdateAIdeal.Gen.dats m 0 c).arrAt 7 Cert.UpdateAIdeal.cfg0.N, fun c => (Cert.UpdateAIdeal.Gen.dats m 0 c).arrAt 8 Cert.UpdateAIdeal.cfg0.N, Cert.UpdateAIdeal.Value.run_blocks m g, (θ_run _ _ _).mono (fun r h c => ?_) (Cert.UpdateARefIdeal.Value.run m' g')⟩
  obtain ⟨h0, h1, h2, h3, hk⟩ := h c
  obtain ⟨a0, a1, a2, a3, a4⟩ := hag c
  refine ⟨h0.trans ((Cert.UpdateARefIdeal.Read.val_main_v4_eq _ _).trans ?_), h1.trans ((Cert.UpdateARefIdeal.Read.val_main_v28_eq _ _ _ _ _).trans ?_), h2.trans ((Cert.UpdateARefIdeal.Read.val_main_v9_eq _ _ _).trans ?_), h3.trans ((Cert.UpdateARefIdeal.Read.val_main_v15_eq _ _ _).trans ?_), hk⟩
  · rw [a0, a1]
    exact ((final_grad m c).trans (funext fun i => ((congrArg _ (eq_ix2 i)).trans (ref_grad _ _ _ _)).symm)).symm
  · rw [a0, a1, a2, a3, a4]
    exact ((final_step m c).trans (funext fun i => ((congrArg _ (eq_ix2 i)).trans (ref_step _ _ _ _ _ _ _)).symm)).symm
  · rw [a0, a1, a3]
    exact ((final_moment m c).trans (funext fun i => ((congrArg _ (eq_ix2 i)).trans (ref_moment _ _ _ _ _)).symm)).symm
  · rw [a0, a1, a4]
    exact ((final_square m c).trans (funext fun i => ((congrArg _ (eq_ix2 i)).trans (ref_square _ _ _ _ _)).symm)).symm

/-- The reference of the update of the first two branches' output projections ends with its arguments kept and no signal pending. -/
theorem ref_frame : @Cert.quiescent_UpdateARefIdeal Cert.UpdateARefIdeal.Gen.facts := by
  intro m g _
  refine (θ_run _ _ _).mono (fun r h => ⟨fun c => ?_, sem_eq_zero_of_no_sems (by decide) _⟩) (Cert.UpdateARefIdeal.Value.run m g)
  exact (h c).2.2.2.2

end Cert.UpdateA.Proof

namespace Cert.UpdateC.Proof

/-- Kernel and reference of the update of the third branch's output projection and of the last projection end with the same arrays. -/
theorem algebraic : @Cert.algebraic_UpdateCIdeal_UpdateCRefIdeal Cert.UpdateCIdeal.Gen.facts Cert.UpdateCRefIdeal.Gen.facts := by
  intro m g m' g' _ hag
  refine ⟨fun c => (Cert.UpdateCIdeal.Gen.dats m 0 c).arrAt 5 Cert.UpdateCIdeal.cfg0.N, fun c => (Cert.UpdateCIdeal.Gen.dats m 0 c).arrAt 6 Cert.UpdateCIdeal.cfg0.N, fun c => (Cert.UpdateCIdeal.Gen.dats m 0 c).arrAt 7 Cert.UpdateCIdeal.cfg0.N, fun c => (Cert.UpdateCIdeal.Gen.dats m 0 c).arrAt 8 Cert.UpdateCIdeal.cfg0.N, Cert.UpdateCIdeal.Value.run_blocks m g, (θ_run _ _ _).mono (fun r h c => ?_) (Cert.UpdateCRefIdeal.Value.run m' g')⟩
  obtain ⟨h0, h1, h2, h3, hk⟩ := h c
  obtain ⟨a0, a1, a2, a3, a4⟩ := hag c
  refine ⟨h0.trans ((Cert.UpdateCRefIdeal.Read.val_main_v4_eq _ _).trans ?_), h1.trans ((Cert.UpdateCRefIdeal.Read.val_main_v28_eq _ _ _ _ _).trans ?_), h2.trans ((Cert.UpdateCRefIdeal.Read.val_main_v9_eq _ _ _).trans ?_), h3.trans ((Cert.UpdateCRefIdeal.Read.val_main_v15_eq _ _ _).trans ?_), hk⟩
  · rw [a0, a1]
    exact ((final_grad m c).trans (funext fun i => ((congrArg _ (eq_ix2 i)).trans (ref_grad _ _ _ _)).symm)).symm
  · rw [a0, a1, a2, a3, a4]
    exact ((final_step m c).trans (funext fun i => ((congrArg _ (eq_ix2 i)).trans (ref_step _ _ _ _ _ _ _)).symm)).symm
  · rw [a0, a1, a3]
    exact ((final_moment m c).trans (funext fun i => ((congrArg _ (eq_ix2 i)).trans (ref_moment _ _ _ _ _)).symm)).symm
  · rw [a0, a1, a4]
    exact ((final_square m c).trans (funext fun i => ((congrArg _ (eq_ix2 i)).trans (ref_square _ _ _ _ _)).symm)).symm

/-- The reference of the update of the third branch's output projection and of the last projection ends with its arguments kept and no signal pending. -/
theorem ref_frame : @Cert.quiescent_UpdateCRefIdeal Cert.UpdateCRefIdeal.Gen.facts := by
  intro m g _
  refine (θ_run _ _ _).mono (fun r h => ⟨fun c => ?_, sem_eq_zero_of_no_sems (by decide) _⟩) (Cert.UpdateCRefIdeal.Value.run m g)
  exact (h c).2.2.2.2

end Cert.UpdateC.Proof

namespace Cert.UpdateSmall.Proof

/-- Kernel and reference of the small weights' update end with the same arrays. -/
theorem algebraic : @Cert.algebraic_UpdateSmallIdeal_UpdateSmallRefIdeal Cert.UpdateSmallIdeal.Gen.facts Cert.UpdateSmallRefIdeal.Gen.facts := by
  intro m g m' g' _ hag
  refine ⟨fun c => (Cert.UpdateSmallIdeal.Gen.dats m 0 c).arrAt 4 Cert.UpdateSmallIdeal.cfg0.N, fun c => (Cert.UpdateSmallIdeal.Gen.dats m 0 c).arrAt 5 Cert.UpdateSmallIdeal.cfg0.N, fun c => (Cert.UpdateSmallIdeal.Gen.dats m 0 c).arrAt 6 Cert.UpdateSmallIdeal.cfg0.N, Cert.UpdateSmallIdeal.Value.run_blocks m g, (θ_run _ _ _).mono (fun r h c => ?_) (Cert.UpdateSmallRefIdeal.Value.run m' g')⟩
  obtain ⟨h0, h1, h2, hk⟩ := h c
  obtain ⟨a0, a1, a2, a3⟩ := hag c
  refine ⟨h0.trans ((Cert.UpdateSmallRefIdeal.Read.val_main_v23_eq _ _ _ _).trans ?_), h1.trans ((Cert.UpdateSmallRefIdeal.Read.val_main_v4_eq _ _).trans ?_), h2.trans ((Cert.UpdateSmallRefIdeal.Read.val_main_v10_eq _ _).trans ?_), hk⟩
  · rw [a0, a1, a2, a3]
    exact ((final_step m c).trans (funext fun i => ((congrArg _ (eq_ix2 i)).trans (ref_step _ _ _ _ _ _)).symm)).symm
  · rw [a0, a2]
    exact ((final_moment m c).trans (funext fun i => ((congrArg _ (eq_ix2 i)).trans (ref_moment _ _ _ _)).symm)).symm
  · rw [a0, a3]
    exact ((final_square m c).trans (funext fun i => ((congrArg _ (eq_ix2 i)).trans (ref_square _ _ _ _)).symm)).symm

/-- The reference of the small weights' update ends with its arguments kept and no signal pending. -/
theorem ref_frame : @Cert.quiescent_UpdateSmallRefIdeal Cert.UpdateSmallRefIdeal.Gen.facts := by
  intro m g _
  refine (θ_run _ _ _).mono (fun r h => ⟨fun c => ?_, sem_eq_zero_of_no_sems (by decide) _⟩) (Cert.UpdateSmallRefIdeal.Value.run m g)
  exact (h c).2.2.2

end Cert.UpdateSmall.Proof

namespace Cert.SumSmall.Proof

/-- Kernel and reference of the sum over the devices end with the same array. -/
theorem algebraic : @Cert.algebraic_SumSmallIdeal_SumSmallRefIdeal Cert.SumSmallIdeal.Gen.facts Cert.SumSmallRefIdeal.Gen.facts := by
  intro m g m' g' _ hag
  refine ⟨fun c => (Cert.SumSmallIdeal.Gen.dats m 0 c).arrAt 1 Cert.SumSmallIdeal.cfg0.N, Cert.SumSmallIdeal.Value.run_blocks m g, (θ_run _ _ _).mono (fun r h c => ?_) (Cert.SumSmallRefIdeal.Value.run m' g')⟩
  obtain ⟨h0, hk⟩ := h c
  obtain a0 := hag c
  refine ⟨h0.trans ((Cert.SumSmallRefIdeal.Read.val_main_v0_eq _).trans ?_), hk⟩
  rw [a0]
  exact ((final m c).trans (funext fun i => ((congrArg _ (eq_ix2 i)).trans (ref _ _ _)).symm)).symm

/-- The reference of the sum over the devices ends with its arguments kept and no signal pending. -/
theorem ref_frame : @Cert.quiescent_SumSmallRefIdeal Cert.SumSmallRefIdeal.Gen.facts := by
  intro m g _
  refine (θ_run _ _ _).mono (fun r h => ⟨fun c => ?_, sem_eq_zero_of_no_sems (by decide) _⟩) (Cert.SumSmallRefIdeal.Value.run m g)
  exact (h c).2

end Cert.SumSmall.Proof
-- ==== Proof.NormScale.lean ====
/- The inverse root mean square of a row of extended reals, and the row's cotangent in two forms: factored by the scale, and as the sum of the derivative's three terms. -/
module

public import Idealize.ShloMosaic.Lib.Pointwise
public import Idealize.ShloMosaic.Lib.IdealHost
public import Idealize.ShloMosaic.PureOps.Ideal

@[expose] public section

noncomputable section

open Idealize.ShloMosaic

namespace Cert.NormScale

/-- The mean square of a row, plus the norm's small constant. -/
def meanSquare (x : Fin 1024 → EReal) : EReal := Ideal.div (∑ e : Fin 1024, x e * x e) (Ideal.ofBits FTy.f32 0x44800000#32) + Ideal.ofBits FTy.f32 0x358637BD#32

/-- The word of 1024. -/
theorem word_1024 : Ideal.ofBits FTy.f32 0x44800000#32 = ((1024 : ℝ) : EReal) := by
  simp [Ideal.ofBits, Ideal.ieee, -EReal.coe_mul]; norm_num

/-- The word of minus one half. -/
theorem word_neg_half : Ideal.ofBits FTy.f32 0xBF000000#32 = ((-(1 / 2) : ℝ) : EReal) := by
  simp [Ideal.ofBits, Ideal.ieee, -EReal.coe_mul, -EReal.coe_neg]; norm_num

/-- The norm's small constant is a positive real. -/
theorem word_eps : ∃ r : ℝ, 0 < r ∧ Ideal.ofBits FTy.f32 0x358637BD#32 = (r : EReal) := by
  refine ⟨8796093 * (2 : ℝ) ^ (-43 : ℤ), by positivity, ?_⟩
  simp [Ideal.ofBits, Ideal.ieee, -EReal.coe_mul]

/-- Squares are not negative. -/
theorem sq_nonneg' (a : EReal) : 0 ≤ a * a := by
  induction a using EReal.rec with
  | bot => simp
  | top => simp
  | coe r => rw [← EReal.coe_mul]; exact_mod_cast mul_self_nonneg r

/-- The inverse root of a row's mean square is a real `s ≥ 0`, and divided by the mean square it is `s³`. -/
theorem scale (x : Fin 1024 → EReal) : ∃ s : ℝ, 0 ≤ s ∧ Ideal.rsqrt (meanSquare x) = (s : EReal) ∧ Ideal.div (Ideal.rsqrt (meanSquare x)) (meanSquare x) = ((s * s * s : ℝ) : EReal) := by
  obtain ⟨r, hr, he⟩ := word_eps
  have hS : 0 ≤ ∑ e : Fin 1024, x e * x e := Finset.sum_nonneg fun e _ => sq_nonneg' _
  unfold meanSquare
  rw [he, word_1024, Ideal.div_coe (by norm_num)]
  generalize (∑ e : Fin 1024, x e * x e) = S at hS
  induction S using EReal.rec with
  | bot => simp at hS
  | top =>
    have h1 : ((⊤ : EReal) * ((1 / 1024 : ℝ) : EReal) + (r : EReal)) = ⊤ := by
      rw [EReal.top_mul_coe_of_pos (by norm_num), EReal.top_add_coe]
    rw [h1]
    have h2 : Ideal.rsqrt (⊤ : EReal) = 0 := rfl
    refine ⟨0, le_refl _, ?_, ?_⟩ <;> rw [h2]
    · simp
    · simp [Ideal.div]
  | coe a =>
    have ha : 0 ≤ a := by exact_mod_cast hS
    rw [← EReal.coe_mul, ← EReal.coe_add]
    have hp : 0 < a * (1 / 1024) + r := by positivity
    generalize a * (1 / 1024) + r = q at hp
    have hq : Real.sqrt q * Real.sqrt q = q := Real.mul_self_sqrt hp.le
    have hn : Real.sqrt q ≠ 0 := (Real.sqrt_pos.mpr hp).ne'
    refine ⟨(Real.sqrt q)⁻¹, by positivity, ?_, ?_⟩
    · rw [Ideal.rsqrt_coe, if_neg (not_lt.mpr hp.le), if_neg hp.ne']
    · rw [Ideal.rsqrt_coe, if_neg (not_lt.mpr hp.le), if_neg hp.ne', Ideal.div_coe hp.ne', ← EReal.coe_mul]
      congr 1
      rw [show (1 : ℝ) / q = (Real.sqrt q)⁻¹ * (Real.sqrt q)⁻¹ by rw [one_div, ← mul_inv, hq]]
      ring

/-- A real factor `s ≥ 0` moves out of a sum of extended reals. -/
theorem sum_mul_coe {ι : Type} (u : Finset ι) (f : ι → EReal) (s : ℝ) (hs : 0 ≤ s) : ∑ e ∈ u, f e * (s : EReal) = (∑ e ∈ u, f e) * (s : EReal) := by
  classical
  induction u using Finset.induction_on with
  | empty => simp
  | insert a t h ih => rw [Finset.sum_insert h, Finset.sum_insert h, ih, EReal.right_distrib_of_nonneg_of_ne_top (by exact_mod_cast hs) (EReal.coe_ne_top _)]

/-- Twice an extended real. -/
theorem add_self (a : EReal) : a + a = a * ((2 : ℝ) : EReal) := by
  have h := EReal.right_distrib_of_nonneg (a := 1) (b := 1) (c := a) zero_le_one zero_le_one
  rw [one_mul] at h
  rw [← h, mul_comm]
  congr 1
  show ((1 : ℝ) : EReal) + ((1 : ℝ) : EReal) = _
  rw [← EReal.coe_add]; norm_num

/-- The cotangent of entry `d` of a row `x` from the cotangent `t` of the normalised row: the form that takes the scale out is the sum of the derivative's terms. -/
theorem cotangent (x t : Fin 1024 → EReal) (d : Fin 1024) (z : EReal) :
    Ideal.rsqrt (meanSquare x) * (t d - x d * Ideal.rsqrt (meanSquare x) * Ideal.div (∑ e : Fin 1024, t e * (x e * Ideal.rsqrt (meanSquare x))) (Ideal.ofBits FTy.f32 0x44800000#32)) + z
      = z + t d * Ideal.rsqrt (meanSquare x)
        + x d * Ideal.div ((∑ e : Fin 1024, x e * t e) * (Ideal.ofBits FTy.f32 0xBF000000#32 * Ideal.div (Ideal.rsqrt (meanSquare x)) (meanSquare x))) (Ideal.ofBits FTy.f32 0x44800000#32)
        + Ideal.div ((∑ e : Fin 1024, x e * t e) * (Ideal.ofBits FTy.f32 0xBF000000#32 * Ideal.div (Ideal.rsqrt (meanSquare x)) (meanSquare x))) (Ideal.ofBits FTy.f32 0x44800000#32) * x d := by
  obtain ⟨s, hs, h1, h2⟩ := scale x
  rw [h2, h1, word_1024, word_neg_half, Ideal.div_coe (by norm_num), Ideal.div_coe (by norm_num)]
  have hS : ∑ e : Fin 1024, t e * (x e * (s : EReal)) = (∑ e : Fin 1024, x e * t e) * (s : EReal) := by
    rw [← sum_mul_coe _ _ _ hs]
    exact Finset.sum_congr rfl fun e _ => by rw [mul_left_comm, mul_assoc]
  rw [hS]
  generalize (∑ e : Fin 1024, x e * t e) = S
  generalize x d = X
  generalize t d = T
  have hA : (s : EReal) * -(X * (s : EReal) * (S * (s : EReal) * ((1 / 1024 : ℝ) : EReal))) = X * S * ((-(s * s * s / 1024) : ℝ) : EReal) := by
    rw [mul_neg, EReal.coe_neg, mul_neg, show s * s * s / 1024 = s * s * s * (1 / 1024 : ℝ) by ring, EReal.coe_mul, EReal.coe_mul, EReal.coe_mul]
    congr 1
    ac_rfl
  have hB : X * (S * (((-(1 / 2) : ℝ) : EReal) * ((s * s * s : ℝ) : EReal)) * ((1 / 1024 : ℝ) : EReal)) = X * S * ((-(1 / 2) * (s * s * s) * (1 / 1024) : ℝ) : EReal) := by
    rw [EReal.coe_mul, EReal.coe_mul]
    ac_rfl
  rw [sub_eq_add_neg, EReal.left_distrib_of_nonneg_of_ne_top (by exact_mod_cast hs) (EReal.coe_ne_top _), hA, mul_comm _ X, hB, add_assoc (z + _), add_self, mul_assoc (X * S), ← EReal.coe_mul,
    show -(1 / 2) * (s * s * s) * (1 / 1024) * 2 = -(s * s * s / 1024) by ring, mul_comm (s : EReal) T, add_comm z, add_right_comm]

end Cert.NormScale
-- ==== Proof.NormBwd.lean ====
/- The norm, backward: the kernel's arrays are the reference's. -/
module

public import proofs.«01_k».proof.Proof.Gen.NormBwdIdeal.Value
public import proofs.«01_k».proof.Proof.Gen.NormBwdRefIdeal.Read
public import proofs.«01_k».proof.Proof.Gen.NormBwdRefIdeal.Run
public import proofs.«01_k».proof.Proof.NormScale
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormBwd.Proof

open Cert.NormBwdIdeal Cert.NormBwdIdeal.Gen Cert.NormScale

section
variable {R : ℕ} (H X Z : (⟨2, ![R, 1024]⟩ : Shape).Idx → EReal) (W : (⟨2, ![1, 1024]⟩ : Shape).Idx → EReal)

/-- The inverse root mean square of row `r`. -/
def scaleOf (r : Fin R) : EReal := Ideal.rsqrt (meanSquare fun e => X (ix2 r e))

/-- The cotangent of the rows, with the scale taken out, plus the cotangent that passes by the norm. -/
def rowCt (r : Fin R) (d : Fin 1024) : EReal :=
  scaleOf X r * (H (ix2 r d) * W (ix2 0 d) - X (ix2 r d) * scaleOf X r * Ideal.div (∑ e : Fin 1024, H (ix2 r e) * W (ix2 0 e) * (X (ix2 r e) * scaleOf X r)) (Ideal.ofBits FTy.f32 0x44800000#32)) + Z (ix2 r d)

/-- Row `r`'s term of the weight's cotangent. -/
def weightTerm (r : Fin R) (d : Fin 1024) : EReal := H (ix2 r d) * (X (ix2 r d) * scaleOf X r)

end

/-- The reference's cotangent of the rows. -/
theorem ref_rows (H X Z : FVec Ideal Cert.NormBwdRefIdeal.S8192x1024 .f32) (W : FVec Ideal Cert.NormBwdRefIdeal.S1x1024 .f32) (r : Fin 8192) (d : Fin 1024) :
    Cert.NormBwdRefIdeal.Read.val_main_v34 (F := Ideal) H X W Z (ix2 r d) = rowCt H X Z W r d := by
  refine Eq.trans ?_ (cotangent (fun e => X (ix2 r e)) (fun e => H (ix2 r e) * W (ix2 0 e)) d (Z (ix2 r d))).symm
  pointwise [meanSquare, Cert.NormBwdRefIdeal.Read.val_main_v0, Cert.NormBwdRefIdeal.Read.val_main_cst, Cert.NormBwdRefIdeal.Read.val_main_v1, Cert.NormBwdRefIdeal.Read.val_main_v2, Cert.NormBwdRefIdeal.Read.val_main_cst_0, Cert.NormBwdRefIdeal.Read.val_main_v3, Cert.NormBwdRefIdeal.Read.val_main_v4, Cert.NormBwdRefIdeal.Read.val_main_cst_1, Cert.NormBwdRefIdeal.Read.val_main_v5, Cert.NormBwdRefIdeal.Read.val_main_v6, Cert.NormBwdRefIdeal.Read.val_main_v7, Cert.NormBwdRefIdeal.Read.val_main_v8, Cert.NormBwdRefIdeal.Read.val_main_cst_2, Cert.NormBwdRefIdeal.Read.val_main_v9, Cert.NormBwdRefIdeal.Read.val_main_v10, Cert.NormBwdRefIdeal.Read.val_main_v11, Cert.NormBwdRefIdeal.Read.val_main_v12, Cert.NormBwdRefIdeal.Read.val_main_v18, Cert.NormBwdRefIdeal.Read.val_main_v19, Cert.NormBwdRefIdeal.Read.val_main_v20, Cert.NormBwdRefIdeal.Read.val_main_cst_4, Cert.NormBwdRefIdeal.Read.val_main_v21, Cert.NormBwdRefIdeal.Read.val_main_v22, Cert.NormBwdRefIdeal.Read.val_main_v23, Cert.NormBwdRefIdeal.Read.val_main_v24, Cert.NormBwdRefIdeal.Read.val_main_v25, Cert.NormBwdRefIdeal.Read.val_main_v26, Cert.NormBwdRefIdeal.Read.val_main_cst_5, Cert.NormBwdRefIdeal.Read.val_main_v27, Cert.NormBwdRefIdeal.Read.val_main_v28, Cert.NormBwdRefIdeal.Read.val_main_cst_6, Cert.NormBwdRefIdeal.Read.val_main_v29, Cert.NormBwdRefIdeal.Read.val_main_v30, Cert.NormBwdRefIdeal.Read.val_main_v31, Cert.NormBwdRefIdeal.Read.val_main_v32, Cert.NormBwdRefIdeal.Read.val_main_v33, Cert.NormBwdRefIdeal.Read.val_main_v34]
  simp only [Finset.univ_unique, Finset.sum_singleton]

/-- The reference's cotangent of the weight. -/
theorem ref_weight (H X : FVec Ideal Cert.NormBwdRefIdeal.S8192x1024 .f32) (o : Fin 1) (d : Fin 1024) :
    Cert.NormBwdRefIdeal.Read.val_main_v17 (F := Ideal) H X (ix2 o d) = ∑ r : Fin 8192, weightTerm H X r d := by
  pointwise [Cert.NormBwdRefIdeal.Read.val_main_v0, Cert.NormBwdRefIdeal.Read.val_main_cst, Cert.NormBwdRefIdeal.Read.val_main_v1, Cert.NormBwdRefIdeal.Read.val_main_v2, Cert.NormBwdRefIdeal.Read.val_main_cst_0, Cert.NormBwdRefIdeal.Read.val_main_v3, Cert.NormBwdRefIdeal.Read.val_main_v4, Cert.NormBwdRefIdeal.Read.val_main_cst_1, Cert.NormBwdRefIdeal.Read.val_main_v5, Cert.NormBwdRefIdeal.Read.val_main_v6, Cert.NormBwdRefIdeal.Read.val_main_v7, Cert.NormBwdRefIdeal.Read.val_main_v11, Cert.NormBwdRefIdeal.Read.val_main_v12, Cert.NormBwdRefIdeal.Read.val_main_v15, Cert.NormBwdRefIdeal.Read.val_main_cst_3, Cert.NormBwdRefIdeal.Read.val_main_v16, Cert.NormBwdRefIdeal.Read.val_main_v17]
  refine Finset.sum_congr rfl fun r _ => ?_
  rw [mul_comm]
  rfl

/-- The block's rows' cotangent. -/
theorem rows_pay (X H : FVec Ideal S512x1024 .f32) (W : FVec Ideal S1x1024 .f32) (Z : FVec Ideal S512x1024 .f32) (r : Fin 512) (d : Fin 1024) :
    k0_pay5 (F := Ideal) X H W Z (ix2 r d) = rowCt H X Z W r d := by
  pointwise [k0_pay5, k0_pay3, k0_pay2, rowCt, scaleOf, meanSquare]

/-- The weight's cotangent grows by the block's terms. -/
theorem weight_pay (X H : FVec Ideal S512x1024 .f32) (A : FVec Ideal S1x1024 .f32) (y : S1x1024.Idx) :
    k0_pay4 (F := Ideal) X H A y = A y + ∑ r : Fin 512, weightTerm H X r (y 1) := by
  pointwise [k0_pay4, k0_pay3, k0_pay2, weightTerm, scaleOf, meanSquare]

/-- The weight's cotangent starts from zero. -/
theorem zero_pay (y : S1x1024.Idx) : k0_pay1 (F := Ideal) y = 0 := by pointwise [k0_pay1]

/-- The windows' block indices: row block `t`, or the whole of one row. -/
theorem index_maps : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] :=
  (by decide +kernel : ∀ t : Fin grid0.N, _)

variable (m : (ℓ : Loc nD τ sig) → Buf (Elt Ideal) ℓ) (c : Dev nD)

/-- The rows' cotangent after the run. -/
theorem final_rows : (dats m 0 c).arrAt 4 (cfgs 0).N = fun i => rowCt (m ((c : Thread nD τ).loc main_arg0)) (m ((c : Thread nD τ).loc main_arg1)) (m ((c : Thread nD τ).loc main_arg3)) (m ((c : Thread nD τ).loc main_arg2)) (i 0) (i 1) := by
  refine (dats m 0 c).arrAt_eq_of_covers 4 _ (by decide +kernel) fun t hf y => ?_
  blk_simp
  obtain ⟨r, d, rfl⟩ : ∃ (r : Fin 512) (d : Fin 1024), y = ix2 r d := ⟨y 0, y 1, eq_ix2 y⟩
  rw [after0_4]
  by_cases h0 : t.val % 16 = 0
  · rw [outsAt0_A m c t h0]; dsimp only; unfold out0_A_4; frame_out
    rw [rows_pay]
    simp only [rowCt, scaleOf, meanSquare]
    blk_point [iblk, V, index_maps t]
  · rw [outsAt0_B m c t h0]; dsimp only; unfold out0_B_4; frame_out
    rw [rows_pay]
    simp only [rowCt, scaleOf, meanSquare]
    blk_point [iblk, V, index_maps t]

/-- The weight's cotangent after the run. -/
theorem final_weight : (dats m 0 c).arrAt 5 (cfgs 0).N = fun i => ∑ r : Fin 8192, weightTerm (m ((c : Thread nD τ).loc main_arg0)) (m ((c : Thread nD τ).loc main_arg1)) r (i 1) := by
  refine (dats m 0 c).arrAt_eq_of_covers 5 _ (by decide +kernel) fun t hf y => ?_
  blk_simp
  rw [after0_5, Pipeline.eq_sum_fin_of_reset_step_apply_of_flush (fun n h => (outsAt0 m c n h).2) 16 (fun _ => 0) _
    (fun t h j => by rw [outsAt0_A m c t h]; frame_out; rw [weight_pay, zero_pay])
    (fun t h j => by rw [outsAt0_B m c t h]; frame_out; rw [weight_pay])
    t ((flush0_5 t).mp hf) _, zero_add]
  refine Fin.sum_mul_add_congr fun s k hl => ?_
  simp only [weightTerm, scaleOf, meanSquare]
  blk_point [iblk, V, index_maps t, index_maps ⟨_, Pipeline.run_point_lt_of_flush t ((flush0_5 t).mp hf) s⟩]

end Cert.NormBwd.Proof
-- ==== Proof.Loss.lean ====
/- The loss and its gradients: the kernel's arrays are the reference's. -/
module

public import proofs.«01_k».proof.Proof.Gen.LossIdeal.Value
public import proofs.«01_k».proof.Proof.Gen.LossRefIdeal.Read
public import proofs.«01_k».proof.Proof.Gen.LossRefIdeal.Run
public import proofs.«01_k».proof.Proof.NormScale
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Loss.Proof

open Cert.LossIdeal Cert.LossIdeal.Gen Cert.NormScale

section
variable {R : ℕ} (X T : (⟨2, ![R, 1024]⟩ : Shape).Idx → EReal) (W : (⟨2, ![1, 1024]⟩ : Shape).Idx → EReal)

/-- The inverse root mean square of row `r`. -/
def scaleOf (r : Fin R) : EReal := Ideal.rsqrt (meanSquare fun e => X (ix2 r e))

/-- The error of row `r` in column `d`. -/
def err (r : Fin R) (d : Fin 1024) : EReal := X (ix2 r d) * scaleOf X r * W (ix2 0 d) - T (ix2 r d)

/-- Row `r`'s mean of the squared errors. -/
def rowLoss (r : Fin R) : EReal := Ideal.div (∑ d : Fin 1024, err X T W r d * err X T W r d) (Ideal.ofBits FTy.f32 0x44800000#32)

/-- The cotangent of the output: the error over 1024. -/
def outCt (r : Fin R) (d : Fin 1024) : EReal := err X T W r d * Ideal.ofBits FTy.f32 0x3A800000#32

/-- The rows' gradient, with the scale taken out. -/
def rowCt (r : Fin R) (d : Fin 1024) : EReal :=
  scaleOf X r * (outCt X T W r d * W (ix2 0 d) - X (ix2 r d) * scaleOf X r * Ideal.div (∑ e : Fin 1024, outCt X T W r e * W (ix2 0 e) * (X (ix2 r e) * scaleOf X r)) (Ideal.ofBits FTy.f32 0x44800000#32))

/-- Row `r`'s term of the weight's gradient. -/
def weightTerm (r : Fin R) (d : Fin 1024) : EReal := outCt X T W r d * (X (ix2 r d) * scaleOf X r)

end

/-- The word of one half. -/
theorem word_half : Ideal.ofBits FTy.f32 0x3F000000#32 = ((1 / 2 : ℝ) : EReal) := by
  simp [Ideal.ofBits, Ideal.ieee, -EReal.coe_mul]; norm_num

/-- The word of two. -/
theorem word_two : Ideal.ofBits FTy.f32 0x40000000#32 = ((2 : ℝ) : EReal) := by
  simp [Ideal.ofBits, Ideal.ieee, -EReal.coe_mul]; norm_num

/-- The word of 1/1024. -/
theorem word_1024th : Ideal.ofBits FTy.f32 0x3A800000#32 = ((1 / 1024 : ℝ) : EReal) := by
  simp [Ideal.ofBits, Ideal.ieee, -EReal.coe_mul]; norm_num

/-- The derivative of half the mean square: half over 1024, times twice the error, is the error over 1024. -/
theorem half_twice (e : EReal) : Ideal.div (Ideal.ofBits FTy.f32 0x3F000000#32) (Ideal.ofBits FTy.f32 0x44800000#32) * (Ideal.ofBits FTy.f32 0x40000000#32 * e) = e * Ideal.ofBits FTy.f32 0x3A800000#32 := by
  rw [word_half, word_1024, word_two, word_1024th, Ideal.div_coe (by norm_num), ← mul_assoc, ← EReal.coe_mul, ← EReal.coe_mul, mul_comm e]
  congr 2
  norm_num

/-- Half of a sum of row losses, term by term. -/
theorem half_sum {R : ℕ} (f : Fin R → EReal) : Ideal.ofBits FTy.f32 0x3F000000#32 * ∑ r : Fin R, f r = ∑ r : Fin R, f r * Ideal.ofBits FTy.f32 0x3F000000#32 := by
  rw [word_half, sum_mul_coe _ _ _ (by norm_num), mul_comm]

/-- The reference's loss. -/
theorem ref_loss (X T : FVec Ideal Cert.LossRefIdeal.S8192x1024 .f32) (W : FVec Ideal Cert.LossRefIdeal.S1x1024 .f32) (i : Cert.LossRefIdeal.S1x1.Idx) :
    Cert.LossRefIdeal.Read.val_main_v49 (F := Ideal) X W T i = ∑ r : Fin 8192, rowLoss X T W r * Ideal.ofBits FTy.f32 0x3F000000#32 := by
  rw [← half_sum]
  pointwise [rowLoss, err, scaleOf, meanSquare, Cert.LossRefIdeal.Read.val_main_v0, Cert.LossRefIdeal.Read.val_main_cst, Cert.LossRefIdeal.Read.val_main_v1, Cert.LossRefIdeal.Read.val_main_v2, Cert.LossRefIdeal.Read.val_main_cst_0, Cert.LossRefIdeal.Read.val_main_v3, Cert.LossRefIdeal.Read.val_main_v4, Cert.LossRefIdeal.Read.val_main_cst_1, Cert.LossRefIdeal.Read.val_main_v5, Cert.LossRefIdeal.Read.val_main_v6, Cert.LossRefIdeal.Read.val_main_v7, Cert.LossRefIdeal.Read.val_main_v11, Cert.LossRefIdeal.Read.val_main_v12, Cert.LossRefIdeal.Read.val_main_v13, Cert.LossRefIdeal.Read.val_main_v14, Cert.LossRefIdeal.Read.val_main_v15, Cert.LossRefIdeal.Read.val_main_v16, Cert.LossRefIdeal.Read.val_main_cst_4, Cert.LossRefIdeal.Read.val_main_v19, Cert.LossRefIdeal.Read.val_main_cst_5, Cert.LossRefIdeal.Read.val_main_v20, Cert.LossRefIdeal.Read.val_main_v21, Cert.LossRefIdeal.Read.val_main_cst_6, Cert.LossRefIdeal.Read.val_main_v22, Cert.LossRefIdeal.Read.val_main_cst_7, Cert.LossRefIdeal.Read.val_main_v23, Cert.LossRefIdeal.Read.val_main_v49]

/-- The reference's gradient of the rows. -/
theorem ref_rows (X T : FVec Ideal Cert.LossRefIdeal.S8192x1024 .f32) (W : FVec Ideal Cert.LossRefIdeal.S1x1024 .f32) (r : Fin 8192) (d : Fin 1024) :
    Cert.LossRefIdeal.Read.val_main_v48 (F := Ideal) X W T (ix2 r d) = rowCt X T W r d := by
  have h := (cotangent (fun e => X (ix2 r e)) (fun e => outCt X T W r e * W (ix2 0 e)) d 0).symm
  rw [add_zero, zero_add] at h
  refine Eq.trans ?_ h
  have hc : ∀ e, outCt X T W r e = Ideal.div (Ideal.ofBits FTy.f32 0x3F000000#32) (Ideal.ofBits FTy.f32 0x44800000#32) * (Ideal.ofBits FTy.f32 0x40000000#32 * err X T W r e) := fun e => (half_twice _).symm
  simp only [hc]
  pointwise [err, scaleOf, meanSquare, Cert.LossRefIdeal.Read.val_main_v0, Cert.LossRefIdeal.Read.val_main_cst, Cert.LossRefIdeal.Read.val_main_v1, Cert.LossRefIdeal.Read.val_main_v2, Cert.LossRefIdeal.Read.val_main_cst_0, Cert.LossRefIdeal.Read.val_main_v3, Cert.LossRefIdeal.Read.val_main_v4, Cert.LossRefIdeal.Read.val_main_cst_1, Cert.LossRefIdeal.Read.val_main_v5, Cert.LossRefIdeal.Read.val_main_v6, Cert.LossRefIdeal.Read.val_main_v7, Cert.LossRefIdeal.Read.val_main_v8, Cert.LossRefIdeal.Read.val_main_cst_2, Cert.LossRefIdeal.Read.val_main_v9, Cert.LossRefIdeal.Read.val_main_v10, Cert.LossRefIdeal.Read.val_main_v11, Cert.LossRefIdeal.Read.val_main_v12, Cert.LossRefIdeal.Read.val_main_v13, Cert.LossRefIdeal.Read.val_main_v14, Cert.LossRefIdeal.Read.val_main_v15, Cert.LossRefIdeal.Read.val_main_cst_3, Cert.LossRefIdeal.Read.val_main_v17, Cert.LossRefIdeal.Read.val_main_v18, Cert.LossRefIdeal.Read.val_main_cst_8, Cert.LossRefIdeal.Read.val_main_cst_9, Cert.LossRefIdeal.Read.val_main_v24, Cert.LossRefIdeal.Read.val_main_v25, Cert.LossRefIdeal.Read.val_main_cst_10, Cert.LossRefIdeal.Read.val_main_v26, Cert.LossRefIdeal.Read.val_main_v27, Cert.LossRefIdeal.Read.val_main_v28, Cert.LossRefIdeal.Read.val_main_v29, Cert.LossRefIdeal.Read.val_main_v33, Cert.LossRefIdeal.Read.val_main_v34, Cert.LossRefIdeal.Read.val_main_v35, Cert.LossRefIdeal.Read.val_main_cst_12, Cert.LossRefIdeal.Read.val_main_v36, Cert.LossRefIdeal.Read.val_main_v37, Cert.LossRefIdeal.Read.val_main_v38, Cert.LossRefIdeal.Read.val_main_v39, Cert.LossRefIdeal.Read.val_main_v40, Cert.LossRefIdeal.Read.val_main_cst_13, Cert.LossRefIdeal.Read.val_main_v41, Cert.LossRefIdeal.Read.val_main_v42, Cert.LossRefIdeal.Read.val_main_cst_14, Cert.LossRefIdeal.Read.val_main_v43, Cert.LossRefIdeal.Read.val_main_v44, Cert.LossRefIdeal.Read.val_main_v45, Cert.LossRefIdeal.Read.val_main_v46, Cert.LossRefIdeal.Read.val_main_v47, Cert.LossRefIdeal.Read.val_main_v48]
  simp only [Finset.univ_unique, Finset.sum_singleton]

/-- The reference's gradient of the weight. -/
theorem ref_weight (X T : FVec Ideal Cert.LossRefIdeal.S8192x1024 .f32) (W : FVec Ideal Cert.LossRefIdeal.S1x1024 .f32) (o : Fin 1) (d : Fin 1024) :
    Cert.LossRefIdeal.Read.val_main_v32 (F := Ideal) X W T (ix2 o d) = ∑ r : Fin 8192, weightTerm X T W r d := by
  have hc : ∀ r : Fin 8192, weightTerm X T W r d = X (ix2 r d) * scaleOf X r * (Ideal.div (Ideal.ofBits FTy.f32 0x3F000000#32) (Ideal.ofBits FTy.f32 0x44800000#32) * (Ideal.ofBits FTy.f32 0x40000000#32 * err X T W r d)) := fun r => by
    rw [half_twice, mul_comm]; rfl
  simp only [hc]
  pointwise [err, scaleOf, meanSquare, Cert.LossRefIdeal.Read.val_main_v0, Cert.LossRefIdeal.Read.val_main_cst, Cert.LossRefIdeal.Read.val_main_v1, Cert.LossRefIdeal.Read.val_main_v2, Cert.LossRefIdeal.Read.val_main_cst_0, Cert.LossRefIdeal.Read.val_main_v3, Cert.LossRefIdeal.Read.val_main_v4, Cert.LossRefIdeal.Read.val_main_cst_1, Cert.LossRefIdeal.Read.val_main_v5, Cert.LossRefIdeal.Read.val_main_v6, Cert.LossRefIdeal.Read.val_main_v7, Cert.LossRefIdeal.Read.val_main_v11, Cert.LossRefIdeal.Read.val_main_v12, Cert.LossRefIdeal.Read.val_main_v13, Cert.LossRefIdeal.Read.val_main_v14, Cert.LossRefIdeal.Read.val_main_v15, Cert.LossRefIdeal.Read.val_main_cst_3, Cert.LossRefIdeal.Read.val_main_v17, Cert.LossRefIdeal.Read.val_main_v18, Cert.LossRefIdeal.Read.val_main_cst_8, Cert.LossRefIdeal.Read.val_main_cst_9, Cert.LossRefIdeal.Read.val_main_v24, Cert.LossRefIdeal.Read.val_main_v25, Cert.LossRefIdeal.Read.val_main_cst_10, Cert.LossRefIdeal.Read.val_main_v26, Cert.LossRefIdeal.Read.val_main_v27, Cert.LossRefIdeal.Read.val_main_v28, Cert.LossRefIdeal.Read.val_main_v29, Cert.LossRefIdeal.Read.val_main_v30, Cert.LossRefIdeal.Read.val_main_cst_11, Cert.LossRefIdeal.Read.val_main_v31, Cert.LossRefIdeal.Read.val_main_v32]

/-- The block's rows' gradient. -/
theorem rows_pay (X T : FVec Ideal S512x1024 .f32) (W W' : FVec Ideal S1x1024 .f32) (h : W' = W) (r : Fin 512) (d : Fin 1024) :
    k0_pay2 (F := Ideal) (k0_pay5 X) (k0_pay6 X) (k0_pay9 X W T) W' (ix2 r d) = rowCt X T W r d := by
  subst h
  pointwise [k0_pay2, k0_pay9, k0_pay7, k0_pay6, k0_pay5, rowCt, outCt, err, scaleOf, meanSquare]

/-- The weight's gradient grows by the block's terms. -/
theorem weight_pay (X T : FVec Ideal S512x1024 .f32) (W A : FVec Ideal S1x1024 .f32) (y : S1x1024.Idx) :
    k0_pay1 (F := Ideal) (k0_pay6 X) (k0_pay9 X W T) A y = A y + ∑ r : Fin 512, weightTerm X T W r (y 1) := by
  pointwise [k0_pay1, k0_pay9, k0_pay7, k0_pay6, k0_pay5, weightTerm, outCt, err, scaleOf, meanSquare]

/-- The loss grows by half the block's row losses. -/
theorem loss_pay (X T : FVec Ideal S512x1024 .f32) (W : FVec Ideal S1x1024 .f32) (A : FVec Ideal S1x1 .f32) (y : S1x1.Idx) :
    k0_pay8 (F := Ideal) X W T A y = A y + ∑ r : Fin 512, rowLoss X T W r * Ideal.ofBits FTy.f32 0x3F000000#32 := by
  rw [← half_sum]
  pointwise [k0_pay8, k0_pay7, k0_pay6, k0_pay5, rowLoss, err, scaleOf, meanSquare]

/-- The weight's gradient starts from zero. -/
theorem zero_weight (y : S1x1024.Idx) : k0_pay3 (F := Ideal) y = 0 := by pointwise [k0_pay3]

/-- The loss starts from zero. -/
theorem zero_loss (y : S1x1.Idx) : k0_pay4 (F := Ideal) y = 0 := by pointwise [k0_pay4]

/-- The windows' block indices: row block `t`, or the whole of one row, or the one entry of the loss. -/
theorem index_maps : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![0, 0] :=
  (by decide +kernel : ∀ t : Fin grid0.N, _)

variable (m : (ℓ : Loc nD τ sig) → Buf (Elt Ideal) ℓ) (c : Dev nD)

/-- The rows' gradient after the run. -/
theorem final_rows : (dats m 0 c).arrAt 4 (cfgs 0).N = fun i => rowCt (m ((c : Thread nD τ).loc main_arg0)) (m ((c : Thread nD τ).loc main_arg2)) (m ((c : Thread nD τ).loc main_arg1)) (i 0) (i 1) := by
  refine (dats m 0 c).arrAt_eq_of_covers 4 _ (by decide +kernel) fun t hf y => ?_
  blk_simp
  obtain ⟨r, d, rfl⟩ : ∃ (r : Fin 512) (d : Fin 1024), y = ix2 r d := ⟨y 0, y 1, eq_ix2 y⟩
  rw [after0_4]
  by_cases h0 : t.val % 16 = 0
  · rw [outsAt0_A m c t h0]; dsimp only; unfold out0_A_4; frame_out
    rw [rows_pay _ _ _ _ rfl]
    simp only [rowCt, outCt, err, scaleOf, meanSquare]
    blk_point [iblk, V, index_maps t]
  · rw [outsAt0_B m c t h0]; dsimp only; unfold out0_B_4; frame_out
    rw [rows_pay _ _ _ _ rfl]
    simp only [rowCt, outCt, err, scaleOf, meanSquare]
    blk_point [iblk, V, index_maps t]

/-- The weight's gradient after the run. -/
theorem final_weight : (dats m 0 c).arrAt 5 (cfgs 0).N = fun i => ∑ r : Fin 8192, weightTerm (m ((c : Thread nD τ).loc main_arg0)) (m ((c : Thread nD τ).loc main_arg2)) (m ((c : Thread nD τ).loc main_arg1)) r (i 1) := by
  refine (dats m 0 c).arrAt_eq_of_covers 5 _ (by decide +kernel) fun t hf y => ?_
  blk_simp
  rw [after0_5, Pipeline.eq_sum_fin_of_reset_step_apply_of_flush (fun n h => (outsAt0 m c n h).2.2) 16 (fun _ => 0) _
    (fun t h j => by rw [outsAt0_A m c t h]; frame_out; rw [weight_pay, zero_weight])
    (fun t h j => by rw [outsAt0_B m c t h]; frame_out; rw [weight_pay])
    t ((flush0_5 t).mp hf) _, zero_add]
  refine Fin.sum_mul_add_congr fun s k hl => ?_
  simp only [weightTerm, outCt, err, scaleOf, meanSquare]
  blk_point [iblk, V, index_maps t, index_maps ⟨_, Pipeline.run_point_lt_of_flush t ((flush0_5 t).mp hf) s⟩]

/-- The loss after the run. -/
theorem final_loss : (dats m 0 c).arrAt 3 (cfgs 0).N = fun _ => ∑ r : Fin 8192, rowLoss (m ((c : Thread nD τ).loc main_arg0)) (m ((c : Thread nD τ).loc main_arg2)) (m ((c : Thread nD τ).loc main_arg1)) r * Ideal.ofBits FTy.f32 0x3F000000#32 := by
  refine (dats m 0 c).arrAt_eq_of_covers 3 _ (by decide +kernel) fun t hf y => ?_
  blk_simp
  rw [after0_3, Pipeline.eq_sum_fin_of_reset_step_apply_of_flush (fun n h => (outsAt0 m c n h).1) 16 (fun _ => 0) _
    (fun t h j => by rw [outsAt0_A m c t h]; frame_out; rw [loss_pay, zero_loss])
    (fun t h j => by rw [outsAt0_B m c t h]; frame_out; rw [loss_pay])
    t ((flush0_3 t).mp hf) _, zero_add]
  refine Fin.sum_mul_add_congr fun s k hl => ?_
  simp only [rowLoss, err, scaleOf, meanSquare]
  blk_point [iblk, V, index_maps t, index_maps ⟨_, Pipeline.run_point_lt_of_flush t ((flush0_3 t).mp hf) s⟩]

end Cert.Loss.Proof
-- ==== Proof.LossClaims.lean ====
/- The loss and the norm's backward pass: each kernel's arrays are its reference's, and each reference's run ends quiet. -/
module

public import proofs.«01_k».proof.Defs
public import proofs.«01_k».proof.Proof.NormBwd
public import proofs.«01_k».proof.Proof.Loss
public import Idealize.ShloMosaic.Lib.Quiescent
public import proofs.«01_k».proof.Proof.Gen.NormBwdRefIdeal
public import proofs.«01_k».proof.Proof.Gen.NormBwdRefIdeal.Run
public import proofs.«01_k».proof.Proof.Gen.NormBwdIdeal
public import proofs.«01_k».proof.Proof.Gen.LossRefIdeal
public import proofs.«01_k».proof.Proof.Gen.LossRefIdeal.Run
public import proofs.«01_k».proof.Proof.Gen.LossIdeal

@[expose] public section

set_option maxRecDepth 16384

noncomputable section

open Idealize.ShloMosaic Idealize.ShloMosaic.TcCoe Idealize.SL.Sem

namespace Cert.NormBwd.Proof

/-- Kernel and reference of the norm's backward pass end with the same arrays. -/
theorem algebraic : @Cert.algebraic_NormBwdIdeal_NormBwdRefIdeal Cert.NormBwdIdeal.Gen.facts Cert.NormBwdRefIdeal.Gen.facts := by
  intro m g m' g' _ hag
  refine ⟨fun c => (Cert.NormBwdIdeal.Gen.dats m 0 c).arrAt 4 Cert.NormBwdIdeal.cfg0.N, fun c => (Cert.NormBwdIdeal.Gen.dats m 0 c).arrAt 5 Cert.NormBwdIdeal.cfg0.N, Cert.NormBwdIdeal.Value.run_blocks m g, (θ_run _ _ _).mono (fun r h c => ?_) (Cert.NormBwdRefIdeal.Value.run m' g')⟩
  obtain ⟨h0, h1, hk⟩ := h c
  obtain ⟨a0, a1, a2, a3⟩ := hag c
  refine ⟨h0.trans ((Cert.NormBwdRefIdeal.Read.val_main_v34_eq _ _ _ _).trans ?_), h1.trans ((Cert.NormBwdRefIdeal.Read.val_main_v17_eq _ _).trans ?_), hk⟩
  · rw [a0, a1, a2, a3]
    exact ((final_rows m c).trans (funext fun i => ((congrArg _ (eq_ix2 i)).trans (ref_rows _ _ _ _ _ _)).symm)).symm
  · rw [a0, a1]
    exact ((final_weight m c).trans (funext fun i => ((congrArg _ (eq_ix2 i)).trans (ref_weight _ _ _ _)).symm)).symm

/-- The reference of the norm's backward pass ends with its arguments kept and no signal pending. -/
theorem ref_frame : @Cert.quiescent_NormBwdRefIdeal Cert.NormBwdRefIdeal.Gen.facts := by
  intro m g _
  refine (θ_run _ _ _).mono (fun r h => ⟨fun c => ?_, sem_eq_zero_of_no_sems (by decide) _⟩) (Cert.NormBwdRefIdeal.Value.run m g)
  exact (h c).2.2

end Cert.NormBwd.Proof

namespace Cert.Loss.Proof

/-- Kernel and reference of the loss and its gradients end with the same arrays. -/
theorem algebraic : @Cert.algebraic_LossIdeal_LossRefIdeal Cert.LossIdeal.Gen.facts Cert.LossRefIdeal.Gen.facts := by
  intro m g m' g' _ hag
  refine ⟨fun c => (Cert.LossIdeal.Gen.dats m 0 c).arrAt 3 Cert.LossIdeal.cfg0.N, fun c => (Cert.LossIdeal.Gen.dats m 0 c).arrAt 4 Cert.LossIdeal.cfg0.N, fun c => (Cert.LossIdeal.Gen.dats m 0 c).arrAt 5 Cert.LossIdeal.cfg0.N, Cert.LossIdeal.Value.run_blocks m g, (θ_run _ _ _).mono (fun r h c => ?_) (Cert.LossRefIdeal.Value.run m' g')⟩
  obtain ⟨h0, h1, h2, hk⟩ := h c
  obtain ⟨a0, a1, a2⟩ := hag c
  refine ⟨h0.trans ((Cert.LossRefIdeal.Read.val_main_v49_eq _ _ _).trans ?_), h1.trans ((Cert.LossRefIdeal.Read.val_main_v48_eq _ _).trans ?_), h2.trans ((Cert.LossRefIdeal.Read.val_main_v32_eq _ _ _).trans ?_), hk⟩
  · rw [a0, a1, a2]
    exact ((final_loss m c).trans (funext fun i => (ref_loss _ _ _ _).symm)).symm
  · rw [a0, a1, a2]
    exact ((final_rows m c).trans (funext fun i => ((congrArg _ (eq_ix2 i)).trans (ref_rows _ _ _ _ _)).symm)).symm
  · rw [a0, a1, a2]
    exact ((final_weight m c).trans (funext fun i => ((congrArg _ (eq_ix2 i)).trans (ref_weight _ _ _ _ _)).symm)).symm

/-- The reference of the loss and its gradients ends with its arguments kept and no signal pending. -/
theorem ref_frame : @Cert.quiescent_LossRefIdeal Cert.LossRefIdeal.Gen.facts := by
  intro m g _
  refine (θ_run _ _ _).mono (fun r h => ⟨fun c => ?_, sem_eq_zero_of_no_sems (by decide) _⟩) (Cert.LossRefIdeal.Value.run m g)
  exact (h c).2.2.2

end Cert.Loss.Proof
-- ==== Proof.ConvReal.lean ====
/- The gated short convolution's gradients, as real functions of a row and a column; the reference's arrays are these. -/
module

public import proofs.«01_k».proof.Proof.Gen.ConvBwdRefIdeal.Read
public import Idealize.ShloMosaic.Lib.Pointwise

@[expose] public section

set_option maxRecDepth 16384

noncomputable section

open Idealize.ShloMosaic Idealize.ShloMosaic.TcCoe Idealize.SL.Sem

namespace Cert.ConvBwd.Proof

/-- A sum of reals, as an extended real. -/
theorem coe_sum {ι : Type} [Fintype ι] (f : ι → ℝ) : ((∑ i, f i : ℝ) : EReal) = ∑ i, (f i : EReal) := by
  classical
  refine Finset.induction_on (Finset.univ : Finset ι) (by simp) fun a s ha h => ?_
  rw [Finset.sum_insert ha, Finset.sum_insert ha, EReal.coe_add, h]

/-- The logistic function of a real. -/
def sg (z : ℝ) : ℝ := 1 / (1 + Real.exp (-z))

/-- Its denominator. -/
theorem den_coe (z : ℝ) : (1 : EReal) + Ideal.exp (-(z : EReal)) = ((1 + Real.exp (-z) : ℝ) : EReal) := by
  rw [← EReal.coe_neg, Ideal.exp_coe, ← EReal.coe_one, ← EReal.coe_add]

/-- The logistic function as the programs write it. -/
theorem sg_coe (z : ℝ) : Ideal.div 1 (1 + Ideal.exp (-(z : EReal))) = ((sg z : ℝ) : EReal) := by
  have h : (1 + Real.exp (-z)) ≠ 0 := by positivity
  rw [den_coe, ← EReal.coe_one, Ideal.div_coe h, ← EReal.coe_mul]
  congr 1
  rw [sg, one_div, one_mul]

/-- One over the squared denominator. -/
theorem sq_coe (z : ℝ) : Ideal.div 1 ((1 + Ideal.exp (-(z : EReal))) * (1 + Ideal.exp (-(z : EReal)))) = ((sg z * sg z : ℝ) : EReal) := by
  have h : (1 + Real.exp (-z)) * (1 + Real.exp (-z)) ≠ 0 := by positivity
  rw [den_coe, ← EReal.coe_mul, ← EReal.coe_one, Ideal.div_coe h, ← EReal.coe_mul]
  congr 1
  simp only [sg, one_div, one_mul, mul_inv]

/-- The derivative of the logistic function, in the kernel's form and in the reference's. -/
theorem sg_sq (z : ℝ) : sg z * sg z * Real.exp (-z) = sg z * (1 - sg z) := by
  have h : (1 + Real.exp (-z)) ≠ 0 := by positivity
  unfold sg
  field_simp
  ring

section
variable (p w g : ℕ → ℕ → ℝ)

/-- The product of the two streams `C` and `x_in`. -/
def stream (n d : ℕ) : ℝ := p n (512 + d) * p n (1024 + d)

/-- That product `k` rows earlier, zero before the first row. -/
def late (k n d : ℕ) : ℝ := if n < k then 0 else stream p (n - k) d

/-- The convolution. -/
def conv (n d : ℕ) : ℝ := w 0 d * late p 2 n d + w 1 d * late p 1 n d + w 2 d * stream p n d

/-- The cotangent of `B` times the convolution: the output's times the gate. -/
def gateCt (n d : ℕ) : ℝ := g n d * (p n (1536 + d) * sg (p n (1536 + d)))

/-- The convolution's cotangent. -/
def convCt (n d : ℕ) : ℝ := p n d * gateCt p g n d

/-- The cotangent of the product of the two streams. -/
def streamCt (n d : ℕ) : ℝ := w 2 d * convCt p g n d + w 1 d * convCt p g (n + 1) d + w 0 d * convCt p g (n + 2) d

/-- The cotangent of the gate. -/
def siluCt (n d : ℕ) : ℝ := p n d * conv p w n d * g n d

/-- The gradient of the gate's argument. -/
def gradZ (n d : ℕ) : ℝ := siluCt p w g n d * sg (p n (1536 + d)) + p n (1536 + d) * siluCt p w g n d * (sg (p n (1536 + d)) * (1 - sg (p n (1536 + d))))

/-- The gradient of the four streams, side by side. -/
def grad (n e : ℕ) : ℝ :=
  if e < 512 then gateCt p g n e * conv p w n e
  else if e < 1024 then streamCt p w g n (e - 512) * p n (e + 512)
  else if e < 1536 then p n (e - 512) * streamCt p w g n (e - 1024)
  else gradZ p w g n (e - 1536)

/-- The gradient of the convolution's weights. -/
def gradW (k d : ℕ) : ℝ := ∑ n : Fin 8192, convCt p g n.val d * late p (2 - k) n.val d

end

section
open Cert.ConvBwdRefIdeal
variable (P : FVec Ideal S8192x2048 .f32) (W : FVec Ideal S3x512 .f32) (G : FVec Ideal S8192x512 .bf16) (p w g : ℕ → ℕ → ℝ)

/-- The product of the two streams in the reference. -/
theorem ref_stream (hP : ∀ (r : Fin 8192) (e : Fin 2048), P (ix2 r e) = (p r.val e.val : EReal)) (r : Fin 8192) (d : Fin 512) :
    Read.val_main_v4 (F := Ideal) P (ix2 r d) = ((stream p r.val d.val : ℝ) : EReal) := by
  pointwise [Read.val_main_v1, Read.val_main_v2, Read.val_main_v4]
  simp only [hP, stream, EReal.coe_mul]

/-- The same two rows earlier. -/
theorem ref_late2 (hP : ∀ (r : Fin 8192) (e : Fin 2048), P (ix2 r e) = (p r.val e.val : EReal)) (r : Fin 8192) (d : Fin 512) :
    Read.val_main_v9 (F := Ideal) P (ix2 r d) = ((late p 2 r.val d.val : ℝ) : EReal) := by
  pointwise [Read.val_main_cst, Read.val_main_v7, Read.val_main_v8, Read.val_main_v9]
  unfold late
  by_cases h : r.val < 2
  · simp only [h, dite_true, if_true, EReal.coe_zero]
  · simp only [h, dite_false, if_false, ref_stream P p hP]

/-- The same one row earlier. -/
theorem ref_late1 (hP : ∀ (r : Fin 8192) (e : Fin 2048), P (ix2 r e) = (p r.val e.val : EReal)) (r : Fin 8192) (d : Fin 512) :
    Read.val_main_v18 (F := Ideal) P (ix2 r d) = ((late p 1 r.val d.val : ℝ) : EReal) := by
  pointwise [Read.val_main_cst_1, Read.val_main_v16, Read.val_main_v17, Read.val_main_v18]
  unfold late
  by_cases h : r.val < 1
  · simp only [h, dite_true, if_true, EReal.coe_zero]
  · simp only [h, dite_false, if_false, ref_stream P p hP]

/-- The convolution in the reference. -/
theorem ref_conv (hP : ∀ (r : Fin 8192) (e : Fin 2048), P (ix2 r e) = (p r.val e.val : EReal)) (hW : ∀ (k : Fin 3) (d : Fin 512), W (ix2 k d) = (w k.val d.val : EReal)) (r : Fin 8192) (d : Fin 512) :
    Read.val_main_v29 (F := Ideal) P W (ix2 r d) = ((conv p w r.val d.val : ℝ) : EReal) := by
  pointwise [Read.val_main_v5, Read.val_main_v6, Read.val_main_v11, Read.val_main_v12, Read.val_main_v13, Read.val_main_v14, Read.val_main_v15, Read.val_main_v20, Read.val_main_v21, Read.val_main_v22, Read.val_main_v23, Read.val_main_v24, Read.val_main_v25, Read.val_main_v26, Read.val_main_v27, Read.val_main_v28, Read.val_main_v29]
  simp only [ref_stream P p hP, ref_late1 P p hP, ref_late2 P p hP, hW, conv, EReal.coe_add, EReal.coe_mul]
  rfl

/-- The output's cotangent times the gate in the reference. -/
theorem ref_gate (hP : ∀ (r : Fin 8192) (e : Fin 2048), P (ix2 r e) = (p r.val e.val : EReal)) (hG : ∀ (r : Fin 8192) (d : Fin 512), G (ix2 r d) = (g r.val d.val : EReal)) (r : Fin 8192) (d : Fin 512) :
    Read.val_main_v35 (F := Ideal) P G (ix2 r d) = ((gateCt p g r.val d.val : ℝ) : EReal) := by
  pointwise [Read.val_main_v3, Read.val_main_call0_v0, Read.val_main_call0_v1, Read.val_main_call0_cst, Read.val_main_call0_v2, Read.val_main_call0_v3, Read.val_main_call0_cst_0, Read.val_main_call0_v4, Read.val_main_v31_2, Read.val_main_v31_0, Read.val_main_v33, Read.val_main_v35]
  simp only [hP, hG, sg_coe, gateCt, EReal.coe_mul]

/-- The gradient of the gate's argument in the reference. -/
theorem ref_z (hP : ∀ (r : Fin 8192) (e : Fin 2048), P (ix2 r e) = (p r.val e.val : EReal)) (hW : ∀ (k : Fin 3) (d : Fin 512), W (ix2 k d) = (w k.val d.val : EReal)) (hG : ∀ (r : Fin 8192) (d : Fin 512), G (ix2 r d) = (g r.val d.val : EReal)) (r : Fin 8192) (d : Fin 512) :
    Read.val_main_v36 (F := Ideal) P W G (ix2 r d) = ((gradZ p w g r.val d.val : ℝ) : EReal) := by
  pointwise [Read.val_main_v0, Read.val_main_v3, Read.val_main_v30, Read.val_main_call0_v0, Read.val_main_call0_v1, Read.val_main_call0_cst, Read.val_main_call0_v2, Read.val_main_call0_v3, Read.val_main_call0_cst_0, Read.val_main_call0_v4, Read.val_main_v31_2, Read.val_main_call0_cst_1, Read.val_main_call0_v6, Read.val_main_call0_v7, Read.val_main_v31_1, Read.val_main_v33, Read.val_main_v34, Read.val_main_call1_v0, Read.val_main_call1_v1, Read.val_main_call1_v2, Read.val_main_v36]
  rw [ref_conv P W p w hP hW]
  simp only [hP, hG, sg_coe, gradZ, siluCt, EReal.coe_mul, EReal.coe_add, EReal.coe_sub, EReal.coe_one]

/-- The convolution's cotangent in the reference. -/
theorem ref_convCt (hP : ∀ (r : Fin 8192) (e : Fin 2048), P (ix2 r e) = (p r.val e.val : EReal)) (hG : ∀ (r : Fin 8192) (d : Fin 512), G (ix2 r d) = (g r.val d.val : EReal)) (r : Fin 8192) (d : Fin 512) :
    Read.val_main_v37 (F := Ideal) P G (ix2 r d) = ((convCt p g r.val d.val : ℝ) : EReal) := by
  pointwise [Read.val_main_v37, Read.val_main_v0]
  rw [ref_gate P G p g hP hG]
  simp only [hP, convCt, EReal.coe_mul]

/-- The two streams' product's cotangent in the reference. -/
theorem ref_streamCt (hP : ∀ (r : Fin 8192) (e : Fin 2048), P (ix2 r e) = (p r.val e.val : EReal)) (hW : ∀ (k : Fin 3) (d : Fin 512), W (ix2 k d) = (w k.val d.val : EReal)) (hG : ∀ (r : Fin 8192) (d : Fin 512), G (ix2 r d) = (g r.val d.val : EReal))
    (h0 : ∀ n d, 8192 ≤ n → g n d = 0) (r : Fin 8192) (d : Fin 512) :
    Read.val_main_v69 (F := Ideal) P W G (ix2 r d) = ((streamCt p w g r.val d.val : ℝ) : EReal) := by
  have hz : ∀ n d, 8192 ≤ n → convCt p g n d = 0 := fun n d h => by rw [convCt, gateCt, h0 n d h, zero_mul, mul_zero]
  pointwise [Read.val_main_v5, Read.val_main_v6, Read.val_main_v11, Read.val_main_v14, Read.val_main_v15, Read.val_main_v20, Read.val_main_v24, Read.val_main_v25, Read.val_main_v26, Read.val_main_v39, Read.val_main_v40, Read.val_main_v47, Read.val_main_v48, Read.val_main_v54, Read.val_main_cst_8, Read.val_main_v55, Read.val_main_v56, Read.val_main_v60, Read.val_main_v61, Read.val_main_v67, Read.val_main_cst_12, Read.val_main_v68, Read.val_main_v69]
  simp only [ref_convCt P G p g hP hG, hW, streamCt, EReal.coe_add, EReal.coe_mul, add_comm 1 r.val, add_comm 2 r.val]
  congr 1
  · congr 1
    by_cases h : r.val < 8191
    · rw [dif_pos h]; rfl
    · rw [dif_neg h, hz _ _ (by omega), EReal.coe_zero, mul_zero]
  · by_cases h : r.val < 8190
    · rw [dif_pos h]; rfl
    · rw [dif_neg h, hz _ _ (by omega), EReal.coe_zero, mul_zero]

/-- The weights' gradient in the reference. -/
theorem ref_weight (hP : ∀ (r : Fin 8192) (e : Fin 2048), P (ix2 r e) = (p r.val e.val : EReal)) (hG : ∀ (r : Fin 8192) (d : Fin 512), G (ix2 r d) = (g r.val d.val : EReal)) (k : Fin 3) (d : Fin 512) :
    Read.val_main_v72 (F := Ideal) P G (ix2 k d) = ((gradW p g k.val d.val : ℝ) : EReal) := by
  pointwise [Read.val_main_v41, Read.val_main_cst_3, Read.val_main_v42, Read.val_main_v43, Read.val_main_cst_4, Read.val_main_v44, Read.val_main_v45, Read.val_main_cst_5, Read.val_main_v46, Read.val_main_v49, Read.val_main_cst_6, Read.val_main_v50, Read.val_main_v51, Read.val_main_cst_7, Read.val_main_v52, Read.val_main_v57, Read.val_main_cst_9, Read.val_main_v58, Read.val_main_v59, Read.val_main_v62, Read.val_main_cst_10, Read.val_main_v63, Read.val_main_v64, Read.val_main_cst_11, Read.val_main_v65, Read.val_main_v70, Read.val_main_cst_13, Read.val_main_v71, Read.val_main_v72]
  simp only [ref_convCt P G p g hP hG, ref_stream P p hP, ref_late1 P p hP, ref_late2 P p hP, ← EReal.coe_mul, ← coe_sum, Finset.univ_unique, Finset.sum_singleton]
  obtain rfl | rfl | rfl : k = 0 ∨ k = 1 ∨ k = 2 := by omega
  all_goals simp [gradW, late]

/-- The gradient of the four streams in the reference. -/
theorem ref_grad (hP : ∀ (r : Fin 8192) (e : Fin 2048), P (ix2 r e) = (p r.val e.val : EReal)) (hW : ∀ (k : Fin 3) (d : Fin 512), W (ix2 k d) = (w k.val d.val : EReal)) (hG : ∀ (r : Fin 8192) (d : Fin 512), G (ix2 r d) = (g r.val d.val : EReal))
    (h0 : ∀ n d, 8192 ≤ n → g n d = 0) (r : Fin 8192) (e : Fin 2048) :
    Read.val_main_v76 (F := Ideal) P W G (ix2 r e) = ((grad p w g r.val e.val : ℝ) : EReal) := by
  pointwise [Read.val_main_v75, Read.val_main_v76]
  unfold grad
  by_cases h1 : e.val < 512
  · rw [dif_pos h1, if_pos h1]
    pointwise [Read.val_main_v38]
    rw [ref_gate P G p g hP hG, ref_conv P W p w hP hW, ← EReal.coe_mul]
  rw [dif_neg h1, if_neg h1]
  by_cases h2 : e.val < 1024
  · rw [dif_pos (by omega), if_pos h2]
    pointwise [Read.val_main_v74, Read.val_main_v2]
    rw [ref_streamCt P W G p w g hP hW hG h0, hP, ← EReal.coe_mul]
    have e3 : 1024 + (e.val - 512) = e.val + 512 := by omega
    simp only [e3]
  rw [dif_neg (by omega), if_neg h2]
  by_cases h3 : e.val < 1536
  · rw [dif_pos (by omega), if_pos h3]
    pointwise [Read.val_main_v73, Read.val_main_v1]
    rw [ref_streamCt P W G p w g hP hW hG h0, hP, ← EReal.coe_mul]
    have e3 : e.val - 512 - 512 = e.val - 1024 := by omega
    have e4 : 512 + (e.val - 1024) = e.val - 512 := by omega
    simp only [e3, e4]
  rw [dif_neg (by omega), if_neg h3, ref_z P W G p w g hP hW hG]
  have e3 : e.val - 512 - 512 - 512 = e.val - 1536 := by omega
  simp only [e3]

end

end Cert.ConvBwd.Proof
-- ==== Proof.ConvBlock.lean ====
/- What the kernel of the gated short convolution's backward pass computes in one block of 512 rows. -/
module

public import proofs.«01_k».proof.Proof.Gen.ConvBwdIdeal.Value
public import proofs.«01_k».proof.Proof.ConvReal
public import Idealize.ShloMosaic.Lib.Pointwise

@[expose] public section

set_option maxRecDepth 16384

noncomputable section

open Idealize.ShloMosaic Idealize.ShloMosaic.TcCoe Idealize.SL.Sem

namespace Cert.ConvBwd.Proof

open Cert.ConvBwdIdeal Cert.ConvBwdIdeal.Gen

section
variable (q : ℕ) (p w g : ℕ → ℕ → ℝ)

/-- A column of the block with the eight rows before it: zero before the first row of all. -/
def ext (f : ℕ → ℝ) (s : ℕ) : ℝ := if 512 * q + s < 8 then 0 else f (512 * q + s - 8)

/-- The convolution's cotangent in the block, zero in the eight rows before it. -/
def convExt (s d : ℕ) : ℝ := if s < 8 then 0 else convCt p g (512 * q + s - 8) d

/-- What the block's rows add to the cotangent of the two streams' product, the rows before the block included. -/
def streamExt (s d : ℕ) : ℝ := w 2 d * convExt q p g s d + w 1 d * convExt q p g ((s + 1) % 520) d + w 0 d * convExt q p g ((s + 2) % 520) d

/-- The block's part of the weights' gradient. -/
def blockW (k d : ℕ) : ℝ := ∑ r : Fin 512, convCt p g (512 * q + r.val) d * late p (2 - k) (512 * q + r.val) d

/-- A row's cotangent is what its own block adds, and in the last eight rows also what the next block adds. -/
theorem streamExt_add (r d : ℕ) (hr : r < 512) :
    streamExt q p w g (8 + r) d + (if r < 504 then 0 else streamExt (q + 1) p w g (r - 504) d) = streamCt p w g (512 * q + r) d := by
  have a0 : 512 * q + (8 + r) - 8 = 512 * q + r := by omega
  unfold streamExt streamCt convExt
  rw [if_neg (by omega : ¬ 8 + r < 8), a0]
  by_cases h1 : r < 510
  · have e1 : (8 + r + 1) % 520 = 8 + (r + 1) := by omega
    have e2 : (8 + r + 2) % 520 = 8 + (r + 2) := by omega
    have a1 : 512 * q + (8 + (r + 1)) - 8 = 512 * q + r + 1 := by omega
    have a2 : 512 * q + (8 + (r + 2)) - 8 = 512 * q + r + 2 := by omega
    rw [e1, e2, if_neg (by omega), if_neg (by omega), a1, a2]
    by_cases h2 : r < 504
    · rw [if_pos h2, add_zero]
    · have e3 : (r - 504 + 1) % 520 = r - 504 + 1 := by omega
      have e4 : (r - 504 + 2) % 520 = r - 504 + 2 := by omega
      rw [if_neg h2, e3, e4, if_pos (by omega), if_pos (by omega), if_pos (by omega)]
      ring
  · by_cases h2 : r = 510
    · subst h2
      have a1 : 512 * q + (8 + 510 + 1) - 8 = 512 * q + 510 + 1 := by omega
      have a2 : 512 * (q + 1) = 512 * q + 510 + 2 := by omega
      norm_num
      rw [a1, a2]
    · have h3 : r = 511 := by omega
      subst h3
      have a1 : 512 * (q + 1) = 512 * q + 511 + 1 := by omega
      have a2 : 512 * (q + 1) + 9 - 8 = 512 * q + 511 + 2 := by omega
      norm_num
      rw [a2, a1]
      ring

/-- A sum over the block and the eight rows before it, where the cotangent is zero. -/
theorem sum_convExt (F : ℕ → ℝ) (d : ℕ) : ∑ s : Fin 520, convExt q p g s.val d * F s.val = ∑ r : Fin 512, convCt p g (512 * q + r.val) d * F (8 + r.val) := by
  have h := Fin.sum_univ_add (a := 8) (b := 512) (fun s : Fin (8 + 512) => convExt q p g s.val d * F s.val)
  refine h.trans ?_
  rw [Finset.sum_eq_zero (fun k _ => ?_), zero_add]
  · refine Finset.sum_congr rfl fun r _ => ?_
    have e : 512 * q + (8 + r.val) - 8 = 512 * q + r.val := by omega
    simp only [Fin.val_natAdd, convExt]
    rw [if_neg (by omega), e]
  · simp only [Fin.val_castAdd, convExt]
    rw [if_pos k.isLt, zero_mul]

/-- The product of the two streams, taken `k` rows earlier from the block with the rows before it. -/
theorem ext_late (k : ℕ) (hk : k ≤ 8) (r d : ℕ) (hr : r < 512) : ext q (fun n => stream p n d) ((8 + r + 520 - k) % 520) = late p k (512 * q + r) d := by
  have e : (8 + r + 520 - k) % 520 = 8 + r - k := by omega
  unfold ext late
  rw [e]
  by_cases h : 512 * q + r < k
  · rw [if_pos (by omega), if_pos h]
  · have e3 : 512 * q + (8 + r - k) - 8 = 512 * q + r - k := by omega
    rw [if_neg (by omega), if_neg h, e3]

end

/-- What a step loads: the four streams of block `q`, the eight rows before it times the flag of there being such rows, the weights, the output's cotangent. -/
structure Loads (i : grid0.Coords) (q : ℕ) (p w g : ℕ → ℕ → ℝ) (HC HX : FVec Ideal S8x512 .f32) (AB AC AX AZ : FVec Ideal S512x512 .f32) (W0 W1 W2 : FVec Ideal S1x512 .f32) (GB : FVec Ideal S512x512 .bf16) : Prop where
  keep : k0_pay7 (F := Ideal) i = ((if q = 0 then 0 else 1 : ℝ) : EReal)
  hc : ∀ (k : Fin 8) (d : Fin 512), HC (ix2 k d) * k0_pay7 (F := Ideal) i = ((ext q (fun n => p n (512 + d.val)) k.val : ℝ) : EReal)
  hx : ∀ (k : Fin 8) (d : Fin 512), HX (ix2 k d) * k0_pay7 (F := Ideal) i = ((ext q (fun n => p n (1024 + d.val)) k.val : ℝ) : EReal)
  b : ∀ r d : Fin 512, AB (ix2 r d) = (p (512 * q + r.val) d.val : EReal)
  c : ∀ r d : Fin 512, AC (ix2 r d) = (p (512 * q + r.val) (512 + d.val) : EReal)
  x : ∀ r d : Fin 512, AX (ix2 r d) = (p (512 * q + r.val) (1024 + d.val) : EReal)
  z : ∀ r d : Fin 512, AZ (ix2 r d) = (p (512 * q + r.val) (1536 + d.val) : EReal)
  w0 : ∀ d : Fin 512, W0 (ix2 0 d) = (w 0 d.val : EReal)
  w1 : ∀ d : Fin 512, W1 (ix2 0 d) = (w 1 d.val : EReal)
  w2 : ∀ d : Fin 512, W2 (ix2 0 d) = (w 2 d.val : EReal)
  g : ∀ r d : Fin 512, GB (ix2 r d) = (g (512 * q + r.val) d.val : EReal)

namespace Loads
variable {i : grid0.Coords} {q : ℕ} {p w g : ℕ → ℕ → ℝ} {HC HX : FVec Ideal S8x512 .f32} {AB AC AX AZ : FVec Ideal S512x512 .f32} {W0 W1 W2 : FVec Ideal S1x512 .f32} {GB : FVec Ideal S512x512 .bf16}
variable (L : Loads i q p w g HC HX AB AC AX AZ W0 W1 W2 GB)
include L

/-- Stream `C` with the rows before the block. -/
theorem pay8_at (s : Fin 520) (d : Fin 512) : k0_pay8 (F := Ideal) i HC AC (ix2 s d) = ((ext q (fun n => p n (512 + d.val)) s.val : ℝ) : EReal) := by
  pointwise [k0_pay8]
  by_cases h : s.val < 8
  · simp only [h, dite_true, L.hc]
  · have e : 512 * q + (s.val - 8) = 512 * q + s.val - 8 := by omega
    simp only [h, dite_false, L.c, e, ext]
    rw [if_neg (by omega)]

/-- Stream `x_in` with the rows before the block. -/
theorem pay9_at (s : Fin 520) (d : Fin 512) : k0_pay9 (F := Ideal) i HX AX (ix2 s d) = ((ext q (fun n => p n (1024 + d.val)) s.val : ℝ) : EReal) := by
  pointwise [k0_pay9]
  by_cases h : s.val < 8
  · simp only [h, dite_true, L.hx]
  · have e : 512 * q + (s.val - 8) = 512 * q + s.val - 8 := by omega
    simp only [h, dite_false, L.x, e, ext]
    rw [if_neg (by omega)]

/-- Their product. -/
theorem pay10_at (s : Fin 520) (d : Fin 512) : k0_pay10 (F := Ideal) i HC HX AC AX (ix2 s d) = ((ext q (fun n => stream p n d.val) s.val : ℝ) : EReal) := by
  pointwise [k0_pay10]
  rw [L.pay8_at, L.pay9_at, ← EReal.coe_mul]
  unfold ext stream
  by_cases h : 512 * q + s.val < 8
  · simp only [h, if_true, mul_zero]
  · simp only [h, if_false]

/-- The convolution of the block's rows. -/
theorem conv_at (r d : Fin 512) : k0_pay13 (F := Ideal) i HC HX AC AX W0 W1 W2 (ix2 r d) = ((conv p w (512 * q + r.val) d.val : ℝ) : EReal) := by
  pointwise [k0_pay13, k0_pay12, k0_pay11]
  simp only [L.pay10_at, L.w0, L.w1, L.w2, ext_late q p _ (by omega : 2 ≤ 8) r.val d.val r.isLt, ext_late q p _ (by omega : 1 ≤ 8) r.val d.val r.isLt]
  have e := ext_late q p 0 (by omega) r.val d.val r.isLt
  have e0 : (8 + r.val + 520 - 0) % 520 = 8 + r.val := by omega
  rw [e0] at e
  simp only [e, conv, EReal.coe_add, EReal.coe_mul]
  simp only [late, Nat.not_lt_zero, if_false, Nat.sub_zero]

/-- The output's cotangent times the gate. -/
theorem gate_at (r d : Fin 512) : k0_pay18 (F := Ideal) AZ GB (ix2 r d) = ((gateCt p g (512 * q + r.val) d.val : ℝ) : EReal) := by
  pointwise [k0_pay18, k0_pay17, k0_pay16, k0_pay15, k0_pay14]
  simp only [L.z, L.g, zero_sub, sg_coe, gateCt, EReal.coe_mul]

/-- The gradient of the gate's argument. -/
theorem z_at (V : FVec Ideal S512x512 .f32) (hV : ∀ r d : Fin 512, V (ix2 r d) = ((conv p w (512 * q + r.val) d.val : ℝ) : EReal)) (r d : Fin 512) :
    k0_pay34 (F := Ideal) (k0_pay19 (F := Ideal) AB AZ V GB) (ix2 r d) = ((gradZ p w g (512 * q + r.val) d.val : ℝ) : EReal) := by
  pointwise [k0_pay34, k0_pay19, k0_pay17, k0_pay16, k0_pay15, k0_pay14]
  simp only [L.b, L.z, L.g, hV, zero_sub, sg_coe, sq_coe, mul_one]
  simp only [← EReal.coe_neg, Ideal.exp_coe, ← EReal.coe_mul, ← EReal.coe_add]
  congr 1
  unfold gradZ siluCt
  linear_combination (p (512 * q + r.val) (1536 + d.val) * (p (512 * q + r.val) d.val * conv p w (512 * q + r.val) d.val * g (512 * q + r.val) d.val)) * sg_sq (p (512 * q + r.val) (1536 + d.val))

/-- The gradient of branch `B`. -/
theorem b_at (V : FVec Ideal S512x512 .f32) (hV : ∀ r d : Fin 512, V (ix2 r d) = ((conv p w (512 * q + r.val) d.val : ℝ) : EReal)) (r d : Fin 512) :
    k0_pay31 (F := Ideal) (k0_pay20 (F := Ideal) AZ V GB) (ix2 r d) = ((gateCt p g (512 * q + r.val) d.val * conv p w (512 * q + r.val) d.val : ℝ) : EReal) := by
  pointwise [k0_pay31, k0_pay20]
  rw [L.gate_at, hV, EReal.coe_mul]

/-- The convolution's cotangent in the block. -/
theorem convExt_at (s : Fin 520) (d : Fin 512) : k0_pay21 (F := Ideal) AB AZ GB (ix2 s d) = ((convExt q p g s.val d.val : ℝ) : EReal) := by
  pointwise [k0_pay21]
  unfold convExt
  by_cases h : s.val < 8
  · simp only [h, dite_true, if_true, EReal.coe_zero]
  · have e : 512 * q + (s.val - 8) = 512 * q + s.val - 8 := by omega
    simp only [h, dite_false, if_false, L.b, L.gate_at, e, convCt, EReal.coe_mul]

/-- The cotangent of the two streams' product, as far as this block adds to it. -/
theorem streamExt_at (s : Fin 520) (d : Fin 512) : k0_pay28 (F := Ideal) (k0_pay24 (F := Ideal) AB AZ W1 W2 GB) (k0_pay25 (F := Ideal) AB AZ W0 GB) (ix2 s d) = ((streamExt q p w g s.val d.val : ℝ) : EReal) := by
  pointwise [k0_pay28, k0_pay24, k0_pay25]
  have e1 : (s.val + 520 - 519) % 520 = (s.val + 1) % 520 := by omega
  have e2 : (s.val + 520 - 518) % 520 = (s.val + 2) % 520 := by omega
  simp only [L.convExt_at, L.w0, L.w1, L.w2, e1, e2, streamExt, EReal.coe_add, EReal.coe_mul]

/-- The gradient of stream `C`, when the carried rows hold what the next block adds to it. -/
theorem c_at (XE : FVec Ideal S520x512 .f32) (A B : FVec Ideal S520x512 .f32) (hXE : XE = k0_pay9 (F := Ideal) i HX AX) (hA : A = k0_pay24 (F := Ideal) AB AZ W1 W2 GB) (hB : B = k0_pay25 (F := Ideal) AB AZ W0 GB)
    (CC : FVec Ideal S8x512 .f32) (hCC : ∀ (k : Fin 8) (d : Fin 512), CC (ix2 k d) = ((streamExt (q + 1) p w g k.val d.val * p (512 * q + 504 + k.val) (1024 + d.val) : ℝ) : EReal)) (r d : Fin 512) :
    k0_pay32 (F := Ideal) XE A B CC (ix2 r d) = ((streamCt p w g (512 * q + r.val) d.val * p (512 * q + r.val) (1024 + d.val) : ℝ) : EReal) := by
  subst hXE hA hB
  pointwise [k0_pay32, k0_pay30]
  simp only [L.streamExt_at, L.pay9_at, hCC]
  have e : ext q (fun n => p n (1024 + d.val)) (8 + r.val) = p (512 * q + r.val) (1024 + d.val) := by
    have e3 : 512 * q + (8 + r.val) - 8 = 512 * q + r.val := by omega
    rw [ext, if_neg (by omega), e3]
  rw [e, ← streamExt_add q p w g r.val d.val r.isLt, add_mul, EReal.coe_add, EReal.coe_mul]
  congr 1
  by_cases h : r.val < 504
  · rw [dif_pos h, if_pos h, zero_mul, EReal.coe_zero]
  · have e3 : 512 * q + 504 + (r.val - 504) = 512 * q + r.val := by omega
    rw [dif_neg h, if_neg h]
    simp only [e3, EReal.coe_mul]

/-- The gradient of stream `x_in`, likewise. -/
theorem x_at (CE : FVec Ideal S520x512 .f32) (A B : FVec Ideal S520x512 .f32) (hCE : CE = k0_pay8 (F := Ideal) i HC AC) (hA : A = k0_pay24 (F := Ideal) AB AZ W1 W2 GB) (hB : B = k0_pay25 (F := Ideal) AB AZ W0 GB)
    (CC : FVec Ideal S8x512 .f32) (hCC : ∀ (k : Fin 8) (d : Fin 512), CC (ix2 k d) = ((p (512 * q + 504 + k.val) (512 + d.val) * streamExt (q + 1) p w g k.val d.val : ℝ) : EReal)) (r d : Fin 512) :
    k0_pay33 (F := Ideal) CE A B CC (ix2 r d) = ((p (512 * q + r.val) (512 + d.val) * streamCt p w g (512 * q + r.val) d.val : ℝ) : EReal) := by
  subst hCE hA hB
  pointwise [k0_pay33, k0_pay29]
  simp only [L.streamExt_at, L.pay8_at, hCC]
  have e : ext q (fun n => p n (512 + d.val)) (8 + r.val) = p (512 * q + r.val) (512 + d.val) := by
    have e3 : 512 * q + (8 + r.val) - 8 = 512 * q + r.val := by omega
    rw [ext, if_neg (by omega), e3]
  rw [e, ← streamExt_add q p w g r.val d.val r.isLt, mul_add, EReal.coe_add, EReal.coe_mul]
  congr 1
  by_cases h : r.val < 504
  · rw [dif_pos h, if_pos h, mul_zero, EReal.coe_zero]
  · have e3 : 512 * q + 504 + (r.val - 504) = 512 * q + r.val := by omega
    rw [dif_neg h, if_neg h]
    simp only [e3, EReal.coe_mul]

/-- What the block leaves for the gradient of stream `C` of the block before it. -/
theorem carryC_at (hq : 0 < q) (XE : FVec Ideal S520x512 .f32) (A B : FVec Ideal S520x512 .f32) (hXE : XE = k0_pay9 (F := Ideal) i HX AX) (hA : A = k0_pay24 (F := Ideal) AB AZ W1 W2 GB) (hB : B = k0_pay25 (F := Ideal) AB AZ W0 GB) (k : Fin 8) (d : Fin 512) :
    k0_pay35 (F := Ideal) (k0_pay7 (F := Ideal) i) XE A B (ix2 k d) = ((streamExt q p w g k.val d.val * p (512 * q + k.val - 8) (1024 + d.val) : ℝ) : EReal) := by
  subst hXE hA hB
  pointwise [k0_pay35, k0_pay30]
  simp only [L.streamExt_at, L.pay9_at]
  rw [L.keep, if_neg (by omega), EReal.coe_one, mul_one, ext, if_neg (by omega), EReal.coe_mul]

/-- What the block leaves for the gradient of stream `x_in` of the block before it. -/
theorem carryX_at (hq : 0 < q) (CE : FVec Ideal S520x512 .f32) (A B : FVec Ideal S520x512 .f32) (hCE : CE = k0_pay8 (F := Ideal) i HC AC) (hA : A = k0_pay24 (F := Ideal) AB AZ W1 W2 GB) (hB : B = k0_pay25 (F := Ideal) AB AZ W0 GB) (k : Fin 8) (d : Fin 512) :
    k0_pay36 (F := Ideal) (k0_pay7 (F := Ideal) i) CE A B (ix2 k d) = ((p (512 * q + k.val - 8) (512 + d.val) * streamExt q p w g k.val d.val : ℝ) : EReal) := by
  subst hCE hA hB
  pointwise [k0_pay36, k0_pay29]
  simp only [L.streamExt_at, L.pay8_at]
  rw [L.keep, if_neg (by omega), EReal.coe_one, mul_one, ext, if_neg (by omega), EReal.coe_mul]

/-- The block's part of the gradient of the weight of the undelayed product. -/
theorem w2_at (A : FVec Ideal S1x512 .f32) (d : Fin 512) : k0_pay3 (F := Ideal) (k0_pay22 (F := Ideal) AB AZ (k0_pay10 (F := Ideal) i HC HX AC AX) GB) A (ix2 0 d) = A (ix2 0 d) + ((blockW q p g 2 d.val : ℝ) : EReal) := by
  pointwise [k0_pay3, k0_pay22]
  simp only [L.convExt_at, L.pay10_at, ← EReal.coe_mul, ← coe_sum]
  rw [sum_convExt]
  refine congrArg (fun t : ℝ => A (ix2 0 d) + (t : EReal)) (Finset.sum_congr rfl fun r _ => ?_)
  have e := ext_late q p 0 (by omega) r.val d.val r.isLt
  have e0 : (8 + r.val + 520 - 0) % 520 = 8 + r.val := by omega
  rw [e0] at e
  rw [e]

/-- The block's part of the gradient of the weight of the product one row earlier. -/
theorem w1_at (A : FVec Ideal S1x512 .f32) (d : Fin 512) : k0_pay2 (F := Ideal) (k0_pay23 (F := Ideal) AB AZ (k0_pay12 (F := Ideal) i HC HX AC AX) GB) A (ix2 0 d) = A (ix2 0 d) + ((blockW q p g 1 d.val : ℝ) : EReal) := by
  pointwise [k0_pay2, k0_pay23, k0_pay12]
  simp only [L.convExt_at, L.pay10_at, ← EReal.coe_mul, ← coe_sum]
  rw [sum_convExt q p g (fun s => ext q (fun n => stream p n d.val) ((s + 520 - 1) % 520))]
  exact congrArg (fun t : ℝ => A (ix2 0 d) + (t : EReal)) (Finset.sum_congr rfl fun r _ => by rw [ext_late q p 1 (by omega) r.val d.val r.isLt])

/-- The block's part of the gradient of the weight of the product two rows earlier. -/
theorem w0_at (A : FVec Ideal S1x512 .f32) (d : Fin 512) : k0_pay1 (F := Ideal) (k0_pay27 (F := Ideal) (k0_pay26 (F := Ideal) AB AZ (k0_pay11 (F := Ideal) i HC HX AC AX) GB)) A (ix2 0 d) = A (ix2 0 d) + ((blockW q p g 0 d.val : ℝ) : EReal) := by
  pointwise [k0_pay1, k0_pay27, k0_pay26, k0_pay11]
  simp only [L.convExt_at, L.pay10_at, ← EReal.coe_mul, ← coe_sum]
  rw [sum_convExt q p g (fun s => ext q (fun n => stream p n d.val) ((s + 520 - 2) % 520))]
  exact congrArg (fun t : ℝ => A (ix2 0 d) + (t : EReal)) (Finset.sum_congr rfl fun r _ => by rw [ext_late q p 2 (by omega) r.val d.val r.isLt])

end Loads

end Cert.ConvBwd.Proof
-- ==== Proof.ConvBwd.lean ====
/- The gated short convolution's backward pass: what the kernel's arrays hold after the run. -/
module

public import proofs.«01_k».proof.Proof.Canon
public import proofs.«01_k».proof.Proof.ConvBlock
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.ConvBwd.Proof

open Cert.ConvBwdIdeal Cert.ConvBwdIdeal.Gen

/-- The windows' block indices: the row blocks from the last to the first, and the whole weights. -/
theorem index_maps : ∀ t : Fin cfg0.N, win0_0.index t = ![15 - t.val, 0] ∧ win0_1.index t = ![(15 - t.val) * 64 - 1, 0] ∧ win0_2.index t = ![0, 0] ∧ win0_3.index t = ![15 - t.val, 0] ∧ win0_4.index t = ![15 - t.val, 0] ∧ win0_5.index t = ![0, 0] :=
  (by decide +kernel : ∀ t : Fin grid0.N, _)

/-- The bit of the last grid point, as an integer. -/
theorem last_bit : ∀ t : Fin cfg0.N, (Scalar.extui (Scalar.cmpi CmpIPredicate.eq (BitVec.ofNat 32 (grid0.coords t 0).val) 15#32) : BitVec 32).toInt = if 15 - t.val = 0 then 1 else 0 :=
  (by decide +kernel : ∀ t : Fin grid0.N, _)

/-- The flag of there being rows before the block. -/
theorem keep_at (t : Fin cfg0.N) : k0_pay7 (F := Ideal) (grid0.coords t) = ((if 15 - t.val = 0 then 0 else 1 : ℝ) : EReal) := by
  pointwise [k0_pay7]
  rw [last_bit]
  by_cases h : 15 - t.val = 0
  · rw [if_pos h, if_pos h, ← EReal.coe_one, ← EReal.coe_sub]; norm_num
  · rw [if_neg h, if_neg h, ← EReal.coe_one, ← EReal.coe_sub]; norm_num

variable (m : (ℓ : Loc nD τ sig) → Buf (Elt Ideal) ℓ) (c : Dev nD) (p w g : ℕ → ℕ → ℝ)

/-- What grid point `t` loads: block `15 - t` of the arrays. -/
theorem loads (hP : ∀ r e, m ((c : Thread nD τ).loc main_arg0) (ix2 r e) = (p r.val e.val : EReal)) (hW : ∀ k d, m ((c : Thread nD τ).loc main_arg1) (ix2 k d) = (w k.val d.val : EReal)) (hG : ∀ r d, m ((c : Thread nD τ).loc main_arg2) (ix2 r d) = (g r.val d.val : EReal))
    (t : Fin cfg0.N) (HC HX : FVec Ideal S8x512 .f32) (AB AC AX AZ : FVec Ideal S512x512 .f32) (W0 W1 W2 : FVec Ideal S1x512 .f32) (GB : FVec Ideal S512x512 .bf16)
    (hHC : HC = View.ld (Val := Elt Ideal) (e' := .f32) (iblk m c 1 t) (Rect.unit (s := S8x2048) ![0, 512] S8x512.size inb_S8x2048_S8x512_0_512))
    (hHX : HX = View.ld (Val := Elt Ideal) (e' := .f32) (iblk m c 1 t) (Rect.unit (s := S8x2048) ![0, 1024] S8x512.size inb_S8x2048_S8x512_0_1024))
    (hB : AB = View.ld (Val := Elt Ideal) (e' := .f32) (iblk m c 0 t) (Rect.unit (s := S512x2048) ![0, 0] S512x512.size inb_S512x2048_S512x512_0_0))
    (hC : AC = View.ld (Val := Elt Ideal) (e' := .f32) (iblk m c 0 t) (Rect.unit (s := S512x2048) ![0, 512] S512x512.size inb_S512x2048_S512x512_0_512))
    (hX : AX = View.ld (Val := Elt Ideal) (e' := .f32) (iblk m c 0 t) (Rect.unit (s := S512x2048) ![0, 1024] S512x512.size inb_S512x2048_S512x512_0_1024))
    (hZ : AZ = View.ld (Val := Elt Ideal) (e' := .f32) (iblk m c 0 t) (Rect.unit (s := S512x2048) ![0, 1536] S512x512.size inb_S512x2048_S512x512_0_1536))
    (h0 : W0 = View.ld (Val := Elt Ideal) (e' := .f32) (iblk m c 2 t) (Rect.unit (s := S3x512) ![0, 0] S1x512.size inb_S3x512_S1x512_0_0))
    (h1 : W1 = View.ld (Val := Elt Ideal) (e' := .f32) (iblk m c 2 t) (Rect.unit (s := S3x512) ![1, 0] S1x512.size inb_S3x512_S1x512_1_0))
    (h2 : W2 = View.ld (Val := Elt Ideal) (e' := .f32) (iblk m c 2 t) (Rect.unit (s := S3x512) ![2, 0] S1x512.size inb_S3x512_S1x512_2_0))
    (hGB : GB = iblk m c 3 t) :
    Loads (grid0.coords t) (15 - t.val) p w g HC HX AB AC AX AZ W0 W1 W2 GB := by
  have ht : t.val < 16 := lt_of_lt_of_eq t.isLt (show cfg0.N = 16 from N_0)
  have hp : ∀ (r : Fin 512) (e : Fin 2048), (iblk m c 0 t : FVec Ideal S512x2048 .f32) (ix2 r e) = (p (512 * (15 - t.val) + r.val) e.val : EReal) := by
    intro r e
    have e1 : (iblk m c 0 t : FVec Ideal S512x2048 .f32) (ix2 r e) = m ((c : Thread nD τ).loc main_arg0) (ix2 ⟨512 * (15 - t.val) + r.val, by omega⟩ e) := by
      blk_point [iblk, V, index_maps t]
    rw [e1, hP]
  have hh : ∀ (k : Fin 8) (e : Fin 2048), 15 - t.val ≠ 0 → (iblk m c 1 t : FVec Ideal S8x2048 .f32) (ix2 k e) = (p (512 * (15 - t.val) + k.val - 8) e.val : EReal) := by
    intro k e hn
    have e1 : (iblk m c 1 t : FVec Ideal S8x2048 .f32) (ix2 k e) = m ((c : Thread nD τ).loc main_arg0) (ix2 ⟨512 * (15 - t.val) + k.val - 8, by omega⟩ e) := by
      blk_point [iblk, V, index_maps t]
    rw [e1, hP]
  have hk : ∀ (k : Fin 8) (e : Fin 2048), ∀ v : EReal, v = (iblk m c 1 t : FVec Ideal S8x2048 .f32) (ix2 k e) → v * k0_pay7 (F := Ideal) (grid0.coords t) = ((ext (15 - t.val) (fun n => p n e.val) k.val : ℝ) : EReal) := by
    intro k e v hv
    rw [keep_at, ext]
    by_cases hn : 15 - t.val = 0
    · rw [if_pos hn, if_pos (by omega), EReal.coe_zero, mul_zero]
    · rw [if_neg hn, if_neg (by omega), hv, hh k e hn, EReal.coe_one, mul_one]
  have hw : ∀ (k : Fin 3) (d : Fin 512), (iblk m c 2 t : FVec Ideal S3x512 .f32) (ix2 k d) = (w k.val d.val : EReal) := by
    intro k d
    have e1 : (iblk m c 2 t : FVec Ideal S3x512 .f32) (ix2 k d) = m ((c : Thread nD τ).loc main_arg1) (ix2 k d) := by
      blk_point [iblk, V, index_maps t]
    rw [e1, hW]
  have hg : ∀ (r d : Fin 512), (iblk m c 3 t : FVec Ideal S512x512 .bf16) (ix2 r d) = (g (512 * (15 - t.val) + r.val) d.val : EReal) := by
    intro r d
    have e1 : (iblk m c 3 t : FVec Ideal S512x512 .bf16) (ix2 r d) = m ((c : Thread nD τ).loc main_arg2) (ix2 ⟨512 * (15 - t.val) + r.val, by omega⟩ d) := by
      blk_point [iblk, V, index_maps t]
    rw [e1, hG]
  subst hHC hHX hB hC hX hZ h0 h1 h2 hGB
  exact
    { keep := keep_at t
      hc := fun k d => hk k ⟨512 + d.val, by omega⟩ _ (by pointwise)
      hx := fun k d => hk k ⟨1024 + d.val, by omega⟩ _ (by pointwise)
      b := fun r d => by pointwise [hp]
      c := fun r d => by pointwise [hp]
      x := fun r d => by pointwise [hp]
      z := fun r d => by pointwise [hp]
      w0 := fun d => by pointwise [hw]
      w1 := fun d => by pointwise [hw]
      w2 := fun d => by pointwise [hw]
      g := hg }

/-- Beyond the last row there is nothing to add. -/
theorem streamExt_end (hz : ∀ n d, 8192 ≤ n → g n d = 0) (s d : ℕ) : streamExt 16 p w g s d = 0 := by
  have h : ∀ s, convExt 16 p g s d = 0 := by
    intro s
    unfold convExt
    by_cases h : s < 8
    · rw [if_pos h]
    · rw [if_neg h, convCt, gateCt, hz _ _ (by omega), zero_mul, mul_zero]
  rw [streamExt, h, h, h]
  ring

/-- What grid point `t` leaves for the point after it. -/
theorem carried (hP : ∀ r e, m ((c : Thread nD τ).loc main_arg0) (ix2 r e) = (p r.val e.val : EReal)) (hW : ∀ k d, m ((c : Thread nD τ).loc main_arg1) (ix2 k d) = (w k.val d.val : EReal)) (hG : ∀ r d, m ((c : Thread nD τ).loc main_arg2) (ix2 r d) = (g r.val d.val : EReal))
    (t : Fin cfg0.N) (hq : 0 < 15 - t.val) (k : Fin 8) (d : Fin 512) :
    (outsAt0 m c t.val t.isLt).2.2.1 (ix2 k d) = ((streamExt (15 - t.val) p w g k.val d.val * p (512 * (15 - t.val) + k.val - 8) (1024 + d.val) : ℝ) : EReal)
    ∧ (outsAt0 m c t.val t.isLt).2.2.2 (ix2 k d) = ((p (512 * (15 - t.val) + k.val - 8) (512 + d.val) * streamExt (15 - t.val) p w g k.val d.val : ℝ) : EReal) := by
  by_cases h0 : t.val % 16 = 0
  · rw [outsAt0_A m c t h0]
    dsimp only
    constructor
    · unfold sout0_A_0; frame_out
      exact (loads m c p w g hP hW hG t _ _ _ _ _ _ _ _ _ _ rfl rfl rfl rfl rfl rfl rfl rfl rfl rfl : Loads _ _ _ _ _ _ _ _ _ _ _ _ _ _ _).carryC_at hq _ _ _ rfl rfl rfl k d
    · unfold sout0_A_1; frame_out
      exact (loads m c p w g hP hW hG t _ _ _ _ _ _ _ _ _ _ rfl rfl rfl rfl rfl rfl rfl rfl rfl rfl : Loads _ _ _ _ _ _ _ _ _ _ _ _ _ _ _).carryX_at hq _ _ _ rfl rfl rfl k d
  · rw [outsAt0_B m c t h0]
    dsimp only
    constructor
    · unfold sout0_B_0; frame_out
      exact (loads m c p w g hP hW hG t _ _ _ _ _ _ _ _ _ _ rfl rfl rfl rfl rfl rfl rfl rfl rfl rfl : Loads _ _ _ _ _ _ _ _ _ _ _ _ _ _ _).carryC_at hq _ _ _ rfl rfl rfl k d
    · unfold sout0_B_1; frame_out
      exact (loads m c p w g hP hW hG t _ _ _ _ _ _ _ _ _ _ rfl rfl rfl rfl rfl rfl rfl rfl rfl rfl : Loads _ _ _ _ _ _ _ _ _ _ _ _ _ _ _).carryX_at hq _ _ _ rfl rfl rfl k d

/-- What the grid point before `t` left for it: what block `16 - t` adds to the last eight rows of block `15 - t`. -/
theorem from_next (hP : ∀ r e, m ((c : Thread nD τ).loc main_arg0) (ix2 r e) = (p r.val e.val : EReal)) (hW : ∀ k d, m ((c : Thread nD τ).loc main_arg1) (ix2 k d) = (w k.val d.val : EReal)) (hG : ∀ r d, m ((c : Thread nD τ).loc main_arg2) (ix2 r d) = (g r.val d.val : EReal))
    (t : Fin cfg0.N) (hA : ¬ t.val % 16 = 0) (k : Fin 8) (d : Fin 512) :
    (outsAt0 m c (t.val - 1) (Nat.lt_of_le_of_lt (Nat.sub_le _ _) t.isLt)).2.2.1 (ix2 k d) = ((streamExt (15 - t.val + 1) p w g k.val d.val * p (512 * (15 - t.val) + 504 + k.val) (1024 + d.val) : ℝ) : EReal)
    ∧ (outsAt0 m c (t.val - 1) (Nat.lt_of_le_of_lt (Nat.sub_le _ _) t.isLt)).2.2.2 (ix2 k d) = ((p (512 * (15 - t.val) + 504 + k.val) (512 + d.val) * streamExt (15 - t.val + 1) p w g k.val d.val : ℝ) : EReal) := by
  have ht : t.val < 16 := lt_of_lt_of_eq t.isLt (show cfg0.N = 16 from N_0)
  have e1 : 15 - (t.val - 1) = 15 - t.val + 1 := by omega
  have e2 : 512 * (15 - t.val + 1) + k.val - 8 = 512 * (15 - t.val) + 504 + k.val := by omega
  have h := carried m c p w g hP hW hG ⟨t.val - 1, Nat.lt_of_le_of_lt (Nat.sub_le _ _) t.isLt⟩ (by dsimp only; omega) k d
  simp only [e1, e2] at h
  exact h

/-- The first grid point starts from zeros, and nothing comes after the last block. -/
theorem from_end (hz : ∀ n d, 8192 ≤ n → g n d = 0) (t : Fin cfg0.N) (hA : t.val % 16 = 0) (k : Fin 8) (d : Fin 512) :
    k0_pay4 (F := Ideal) (ix2 k d) = ((streamExt (15 - t.val + 1) p w g k.val d.val * p (512 * (15 - t.val) + 504 + k.val) (1024 + d.val) : ℝ) : EReal)
    ∧ k0_pay5 (F := Ideal) (ix2 k d) = ((p (512 * (15 - t.val) + 504 + k.val) (512 + d.val) * streamExt (15 - t.val + 1) p w g k.val d.val : ℝ) : EReal) := by
  have ht : t.val < 16 := lt_of_lt_of_eq t.isLt (show cfg0.N = 16 from N_0)
  have e1 : 15 - t.val + 1 = 16 := by omega
  rw [e1, streamExt_end p w g hz, zero_mul, mul_zero, EReal.coe_zero]
  constructor
  · pointwise [k0_pay4]
  · pointwise [k0_pay5]

/-- The columns of stream `B` in the gradient of the four. -/
theorem grad_b (n d : ℕ) (hd : d < 512) : grad p w g n d = gateCt p g n d * conv p w n d := by
  rw [grad, if_pos hd]

/-- The columns of stream `C`. -/
theorem grad_c (n d : ℕ) (hd : d < 512) : grad p w g n (512 + d) = streamCt p w g n d * p n (1024 + d) := by
  have e1 : 512 + d - 512 = d := by omega
  have e2 : 512 + d + 512 = 1024 + d := by omega
  rw [grad, if_neg (by omega), if_pos (by omega), e1, e2]

/-- The columns of stream `x_in`. -/
theorem grad_x (n d : ℕ) (hd : d < 512) : grad p w g n (1024 + d) = p n (512 + d) * streamCt p w g n d := by
  have e1 : 1024 + d - 1024 = d := by omega
  have e2 : 1024 + d - 512 = 512 + d := by omega
  rw [grad, if_neg (by omega), if_neg (by omega), if_pos (by omega), e1, e2]

/-- The columns of the gate's argument. -/
theorem grad_z (n d : ℕ) : grad p w g n (1536 + d) = gradZ p w g n d := by
  have e1 : 1536 + d - 1536 = d := by omega
  rw [grad, if_neg (by omega), if_neg (by omega), if_neg (by omega), e1]

/-- What grid point `t` stores of the streams' gradient: the rows of block `15 - t`. -/
theorem stored (hP : ∀ r e, m ((c : Thread nD τ).loc main_arg0) (ix2 r e) = (p r.val e.val : EReal)) (hW : ∀ k d, m ((c : Thread nD τ).loc main_arg1) (ix2 k d) = (w k.val d.val : EReal)) (hG : ∀ r d, m ((c : Thread nD τ).loc main_arg2) (ix2 r d) = (g r.val d.val : EReal))
    (hz : ∀ n d, 8192 ≤ n → g n d = 0) (t : Fin cfg0.N) (y : S512x2048.Idx) :
    (outsAt0 m c t.val t.isLt).1 y = ((grad p w g (512 * (15 - t.val) + (y 0).val) (y 1).val : ℝ) : EReal) := by
  by_cases hA : t.val % 16 = 0
  on_goal 1 => rw [outsAt0_A m c t hA]
  on_goal 2 => rw [outsAt0_B m c t hA]
  all_goals
    frame_out
    canon_tiles x h
  · rw [h0, h1, grad_z]
    exact (congrArg _ (eq_ix2 x)).trans ((loads m c p w g hP hW hG t _ _ _ _ _ _ _ _ _ _ rfl rfl rfl rfl rfl rfl rfl rfl rfl rfl : Loads _ _ _ _ _ _ _ _ _ _ _ _ _ _ _).z_at _ (fun r d => (loads m c p w g hP hW hG t _ _ _ _ _ _ _ _ _ _ rfl rfl rfl rfl rfl rfl rfl rfl rfl rfl : Loads _ _ _ _ _ _ _ _ _ _ _ _ _ _ _).conv_at r d) (x 0) (x 1))
  · rw [h0, h1, grad_x _ _ _ _ _ x1_lt]
    exact (congrArg _ (eq_ix2 x)).trans ((loads m c p w g hP hW hG t _ _ _ _ _ _ _ _ _ _ rfl rfl rfl rfl rfl rfl rfl rfl rfl rfl : Loads _ _ _ _ _ _ _ _ _ _ _ _ _ _ _).x_at _ _ _ rfl rfl rfl _ (fun k d => (from_end p w g hz t hA k d).2) (x 0) (x 1))
  · rw [h0, h1, grad_c _ _ _ _ _ x1_lt]
    exact (congrArg _ (eq_ix2 x)).trans ((loads m c p w g hP hW hG t _ _ _ _ _ _ _ _ _ _ rfl rfl rfl rfl rfl rfl rfl rfl rfl rfl : Loads _ _ _ _ _ _ _ _ _ _ _ _ _ _ _).c_at _ _ _ rfl rfl rfl _ (fun k d => (from_end p w g hz t hA k d).1) (x 0) (x 1))
  · rw [h0, h1, grad_b _ _ _ _ _ x1_lt]
    exact (congrArg _ (eq_ix2 x)).trans ((loads m c p w g hP hW hG t _ _ _ _ _ _ _ _ _ _ rfl rfl rfl rfl rfl rfl rfl rfl rfl rfl : Loads _ _ _ _ _ _ _ _ _ _ _ _ _ _ _).b_at _ (fun r d => (loads m c p w g hP hW hG t _ _ _ _ _ _ _ _ _ _ rfl rfl rfl rfl rfl rfl rfl rfl rfl rfl : Loads _ _ _ _ _ _ _ _ _ _ _ _ _ _ _).conv_at r d) (x 0) (x 1))
  · rw [h0, h1, grad_z]
    exact (congrArg _ (eq_ix2 x)).trans ((loads m c p w g hP hW hG t _ _ _ _ _ _ _ _ _ _ rfl rfl rfl rfl rfl rfl rfl rfl rfl rfl : Loads _ _ _ _ _ _ _ _ _ _ _ _ _ _ _).z_at _ (fun r d => (loads m c p w g hP hW hG t _ _ _ _ _ _ _ _ _ _ rfl rfl rfl rfl rfl rfl rfl rfl rfl rfl : Loads _ _ _ _ _ _ _ _ _ _ _ _ _ _ _).conv_at r d) (x 0) (x 1))
  · rw [h0, h1, grad_x _ _ _ _ _ x1_lt]
    exact (congrArg _ (eq_ix2 x)).trans ((loads m c p w g hP hW hG t _ _ _ _ _ _ _ _ _ _ rfl rfl rfl rfl rfl rfl rfl rfl rfl rfl : Loads _ _ _ _ _ _ _ _ _ _ _ _ _ _ _).x_at _ _ _ rfl rfl rfl _ (fun k d => by rw [read_unread_whole]; exact (from_next m c p w g hP hW hG t hA k d).2) (x 0) (x 1))
  · rw [h0, h1, grad_c _ _ _ _ _ x1_lt]
    exact (congrArg _ (eq_ix2 x)).trans ((loads m c p w g hP hW hG t _ _ _ _ _ _ _ _ _ _ rfl rfl rfl rfl rfl rfl rfl rfl rfl rfl : Loads _ _ _ _ _ _ _ _ _ _ _ _ _ _ _).c_at _ _ _ rfl rfl rfl _ (fun k d => by rw [read_unread_whole]; exact (from_next m c p w g hP hW hG t hA k d).1) (x 0) (x 1))
  · rw [h0, h1, grad_b _ _ _ _ _ x1_lt]
    exact (congrArg _ (eq_ix2 x)).trans ((loads m c p w g hP hW hG t _ _ _ _ _ _ _ _ _ _ rfl rfl rfl rfl rfl rfl rfl rfl rfl rfl : Loads _ _ _ _ _ _ _ _ _ _ _ _ _ _ _).b_at _ (fun r d => (loads m c p w g hP hW hG t _ _ _ _ _ _ _ _ _ _ rfl rfl rfl rfl rfl rfl rfl rfl rfl rfl : Loads _ _ _ _ _ _ _ _ _ _ _ _ _ _ _).conv_at r d) (x 0) (x 1))

/-- The streams' gradient after the run. -/
theorem final (hP : ∀ r e, m ((c : Thread nD τ).loc main_arg0) (ix2 r e) = (p r.val e.val : EReal)) (hW : ∀ k d, m ((c : Thread nD τ).loc main_arg1) (ix2 k d) = (w k.val d.val : EReal)) (hG : ∀ r d, m ((c : Thread nD τ).loc main_arg2) (ix2 r d) = (g r.val d.val : EReal))
    (hz : ∀ n d, 8192 ≤ n → g n d = 0) : (dats m 0 c).arrAt 4 (cfgs 0).N = fun i => ((grad p w g (i 0).val (i 1).val : ℝ) : EReal) := by
  refine (dats m 0 c).arrAt_eq_of_covers 4 _ (by decide +kernel) fun t hf y => ?_
  blk_simp
  rw [after0_4, stored m c p w g hP hW hG hz t y]
  exact congrArg₂ (fun a b => ((grad p w g a b : ℝ) : EReal)) (by blk_simp [index_maps t]; omega) (by blk_simp [index_maps t])

/-- At the first grid point the weights' gradient is the last block's part. -/
theorem stored_w_A (hP : ∀ r e, m ((c : Thread nD τ).loc main_arg0) (ix2 r e) = (p r.val e.val : EReal)) (hW : ∀ k d, m ((c : Thread nD τ).loc main_arg1) (ix2 k d) = (w k.val d.val : EReal)) (hG : ∀ r d, m ((c : Thread nD τ).loc main_arg2) (ix2 r d) = (g r.val d.val : EReal))
    (t : Fin cfg0.N) (hA : t.val % 16 = 0) (y : S3x512.Idx) :
    (outsAt0 m c t.val t.isLt).2.1 y = (0 : EReal) + ((blockW (15 - t.val) p g (y 0).val (y 1).val : ℝ) : EReal) := by
  rw [outsAt0_A m c t hA]
  frame_out
  rw [View.readCov_skip _ _ _ _ _ (by decide), View.readCov_skip _ _ _ _ _ (by decide)]
  repeat rw [View.readCov_fill _ _ _ _ _ (by decide)]
  rw [View.readCov_skip _ _ _ _ _ (by decide)]
  repeat rw [View.readCov_fill _ _ _ _ _ (by decide)]
  refine (canon_append_left [_, _, _] [_] y (View.cover_of_tiled_head _ _ _ (by rfl) _)).trans ?_
  canon_tiles x h
  · obtain ⟨d, rfl⟩ : ∃ d : Fin 512, x = ix2 0 d := ⟨x 1, by rw [eq_ix2 x]; congr 1; exact Fin.ext (Nat.lt_one_iff.mp x0_lt)⟩
    obtain rfl : y = ix2 2 d := (eq_ix2 y).trans (congrArg₂ ix2 (Fin.ext h0) (Fin.ext h1))
    refine ((loads m c p w g hP hW hG t _ _ _ _ _ _ _ _ _ _ rfl rfl rfl rfl rfl rfl rfl rfl rfl rfl : Loads _ _ _ _ _ _ _ _ _ _ _ _ _ _ _).w2_at _ d).trans ?_
    pointwise [k0_pay6]
  · obtain ⟨d, rfl⟩ : ∃ d : Fin 512, x = ix2 0 d := ⟨x 1, by rw [eq_ix2 x]; congr 1; exact Fin.ext (Nat.lt_one_iff.mp x0_lt)⟩
    obtain rfl : y = ix2 1 d := (eq_ix2 y).trans (congrArg₂ ix2 (Fin.ext h0) (Fin.ext h1))
    refine ((loads m c p w g hP hW hG t _ _ _ _ _ _ _ _ _ _ rfl rfl rfl rfl rfl rfl rfl rfl rfl rfl : Loads _ _ _ _ _ _ _ _ _ _ _ _ _ _ _).w1_at _ d).trans ?_
    pointwise [k0_pay6]
  · obtain ⟨d, rfl⟩ : ∃ d : Fin 512, x = ix2 0 d := ⟨x 1, by rw [eq_ix2 x]; congr 1; exact Fin.ext (Nat.lt_one_iff.mp x0_lt)⟩
    obtain rfl : y = ix2 0 d := (eq_ix2 y).trans (congrArg₂ ix2 (Fin.ext h0) (Fin.ext h1))
    refine ((loads m c p w g hP hW hG t _ _ _ _ _ _ _ _ _ _ rfl rfl rfl rfl rfl rfl rfl rfl rfl rfl : Loads _ _ _ _ _ _ _ _ _ _ _ _ _ _ _).w0_at _ d).trans ?_
    pointwise [k0_pay6]

/-- At each later grid point the block's part is added. -/
theorem stored_w_B (hP : ∀ r e, m ((c : Thread nD τ).loc main_arg0) (ix2 r e) = (p r.val e.val : EReal)) (hW : ∀ k d, m ((c : Thread nD τ).loc main_arg1) (ix2 k d) = (w k.val d.val : EReal)) (hG : ∀ r d, m ((c : Thread nD τ).loc main_arg2) (ix2 r d) = (g r.val d.val : EReal))
    (t : Fin cfg0.N) (hA : ¬ t.val % 16 = 0) (y : S3x512.Idx) :
    (outsAt0 m c t.val t.isLt).2.1 y = (show EReal from (outsAt0 m c (t.val - 1) (Nat.lt_of_le_of_lt (Nat.sub_le _ _) t.isLt)).2.1 y) + ((blockW (15 - t.val) p g (y 0).val (y 1).val : ℝ) : EReal) := by
  rw [outsAt0_B m c t hA]
  frame_out
  canon_tiles x h
  · obtain ⟨d, rfl⟩ : ∃ d : Fin 512, x = ix2 0 d := ⟨x 1, by rw [eq_ix2 x]; congr 1; exact Fin.ext (Nat.lt_one_iff.mp x0_lt)⟩
    obtain rfl : y = ix2 2 d := (eq_ix2 y).trans (congrArg₂ ix2 (Fin.ext h0) (Fin.ext h1))
    refine ((loads m c p w g hP hW hG t _ _ _ _ _ _ _ _ _ _ rfl rfl rfl rfl rfl rfl rfl rfl rfl rfl : Loads _ _ _ _ _ _ _ _ _ _ _ _ _ _ _).w2_at _ d).trans ?_
    pointwise
  · obtain ⟨d, rfl⟩ : ∃ d : Fin 512, x = ix2 0 d := ⟨x 1, by rw [eq_ix2 x]; congr 1; exact Fin.ext (Nat.lt_one_iff.mp x0_lt)⟩
    obtain rfl : y = ix2 1 d := (eq_ix2 y).trans (congrArg₂ ix2 (Fin.ext h0) (Fin.ext h1))
    refine ((loads m c p w g hP hW hG t _ _ _ _ _ _ _ _ _ _ rfl rfl rfl rfl rfl rfl rfl rfl rfl rfl : Loads _ _ _ _ _ _ _ _ _ _ _ _ _ _ _).w1_at _ d).trans ?_
    pointwise
  · obtain ⟨d, rfl⟩ : ∃ d : Fin 512, x = ix2 0 d := ⟨x 1, by rw [eq_ix2 x]; congr 1; exact Fin.ext (Nat.lt_one_iff.mp x0_lt)⟩
    obtain rfl : y = ix2 0 d := (eq_ix2 y).trans (congrArg₂ ix2 (Fin.ext h0) (Fin.ext h1))
    refine ((loads m c p w g hP hW hG t _ _ _ _ _ _ _ _ _ _ rfl rfl rfl rfl rfl rfl rfl rfl rfl rfl : Loads _ _ _ _ _ _ _ _ _ _ _ _ _ _ _).w0_at _ d).trans ?_
    pointwise

/-- The blocks' parts, last block first, add up to the whole. -/
theorem sum_blockW (k d : ℕ) : ∑ t : Fin 16, blockW (15 - t.val) p g k d = gradW p g k d := by
  have e : ∑ t : Fin 16, blockW (15 - t.val) p g k d = ∑ q : Fin 16, blockW q.val p g k d :=
    Fintype.sum_equiv Fin.revPerm _ _ fun t => by
      have h : 15 - t.val = (Fin.revPerm t).val := by rw [Fin.revPerm_apply, Fin.val_rev]; omega
      rw [h]
  rw [e]
  unfold blockW gradW
  refine Fin.sum_mul_add_congr fun q r hl => ?_
  have e1 : 512 * q.val + r.val = q.val * 512 + r.val := by omega
  rw [e1]

/-- The weights' gradient after the run. -/
theorem final_w (hP : ∀ r e, m ((c : Thread nD τ).loc main_arg0) (ix2 r e) = (p r.val e.val : EReal)) (hW : ∀ k d, m ((c : Thread nD τ).loc main_arg1) (ix2 k d) = (w k.val d.val : EReal)) (hG : ∀ r d, m ((c : Thread nD τ).loc main_arg2) (ix2 r d) = (g r.val d.val : EReal)) :
    (dats m 0 c).arrAt 5 (cfgs 0).N = fun i => ((gradW p g (i 0).val (i 1).val : ℝ) : EReal) := by
  refine (dats m 0 c).arrAt_eq_of_after_last 5 t0_15 (by decide +kernel) _ fun j => ?_
  blk_simp
  rw [after0_5]
  have h := Pipeline.eq_sum_fin_of_reset_step_apply_last (fun n h (y : S3x512.Idx) => (show EReal from (outsAt0 m c n h).2.1 y)) 16 (fun _ => 0) (fun t y => ((blockW (15 - t.val) p g (y 0).val (y 1).val : ℝ) : EReal))
    (fun t h k => stored_w_A m c p w g hP hW hG t h k) (fun t h k => stored_w_B m c p w g hP hW hG t h k) (le_of_eq N_0) t0_15 rfl j
  refine h.trans ?_
  rw [zero_add, ← sum_blockW, coe_sum]
  rfl

end Cert.ConvBwd.Proof
-- ==== Proof.Finite.lean ====
/- What a precondition that asks for finite numbers says of an entry. -/
module

public import Idealize.ShloMosaic.Lib.ReduceAll
public import Idealize.ShloMosaic.Lib.KernelVsHost

@[expose] public section

noncomputable section

open Idealize.ShloMosaic

namespace Cert.Finite

/-- An extended real whose absolute value is less than infinity is a real. -/
theorem real_of_lt (x : Ideal .f32) (h : FloatOps.cmpf .olt (FloatOps.hostAbsf x) (FloatOps.ofBits (F := Ideal) .f32 0x7F800000#32) = 1#1) : (x : EReal) = ((EReal.toReal x : ℝ) : EReal) := by
  rw [← Ideal.xori_weird_eq_hostAbsf_olt_inf] at h
  change IntOp.xori (BitVec.ofBool (decide ((x : EReal) = ⊤ ∨ (x : EReal) = ⊥))) 1#1 = 1#1 at h
  by_cases hx : (x : EReal) = ⊤ ∨ (x : EReal) = ⊥
  · simp [hx, IntOp.xori] at h
  · exact (EReal.coe_toReal (fun e => hx (Or.inl e)) (fun e => hx (Or.inr e))).symm

end Cert.Finite
-- ==== Proof.ConvClaims.lean ====
/- The gated short convolution's backward pass: kernel and reference end with the same arrays for finite arguments. -/
module

public import proofs.«01_k».proof.Defs
public import proofs.«01_k».proof.Proof.ConvBwd
public import proofs.«01_k».proof.Proof.Finite
public import Idealize.ShloMosaic.Lib.Quiescent
public import proofs.«01_k».proof.Proof.Gen.Pre_finite_conv
public import proofs.«01_k».proof.Proof.Gen.ConvBwdRefIdeal
public import proofs.«01_k».proof.Proof.Gen.ConvBwdRefIdeal.Run
public import proofs.«01_k».proof.Proof.Gen.ConvBwdIdeal

@[expose] public section

set_option maxRecDepth 16384

noncomputable section

open Idealize.ShloMosaic Idealize.ShloMosaic.TcCoe Idealize.SL.Sem

namespace Cert.ConvBwd.Proof

/-- What the precondition says: every entry of the three arguments is a real. -/
theorem finite_args (P : FVec Ideal Cert.Pre_finite_conv.S8192x2048 .f32) (W : FVec Ideal Cert.Pre_finite_conv.S3x512 .f32) (G : FVec Ideal Cert.Pre_finite_conv.S8192x512 .bf16)
    (h : Cert.Pre_finite_conv.fn (F := Ideal) P W G = fun _ => 1#1) :
    (∀ i, (P i : EReal) = ((EReal.toReal (P i) : ℝ) : EReal)) ∧ (∀ i, (W i : EReal) = ((EReal.toReal (W i) : ℝ) : EReal)) ∧ ∀ i, (G i : EReal) = ((EReal.toReal (G i) : ℝ) : EReal) := by
  have h := congrFun h (fun a => a.elim0)
  dsimp only [Cert.Pre_finite_conv.fn] at h
  obtain ⟨h12, h3⟩ := IntOp.andi_eq_one.1 h
  obtain ⟨h1, h2⟩ := IntOp.andi_eq_one.1 h12
  haveI : Subsingleton Cert.Pre_finite_conv.S_.Idx := ⟨fun a b => funext fun k => k.elim0⟩
  exact ⟨fun i => Cert.Finite.real_of_lt _ (Host.reduce_andi_all _ _ _ _ _ h1 i), fun i => Cert.Finite.real_of_lt _ (Host.reduce_andi_all _ _ _ _ _ h2 i), fun i => Cert.Finite.real_of_lt _ (Host.reduce_andi_all _ _ _ _ _ h3 i)⟩

/-- An array's entries as reals, zero outside it. -/
def entry {a b : ℕ} (A : Shape.Idx ⟨2, ![a, b]⟩ → EReal) (n d : ℕ) : ℝ := if h : n < a ∧ d < b then (A (ix2 ⟨n, h.1⟩ ⟨d, h.2⟩)).toReal else 0

/-- Inside the array. -/
theorem entry_at {a b : ℕ} (A : Shape.Idx ⟨2, ![a, b]⟩ → EReal) (hA : ∀ i, A i = ((A i).toReal : EReal)) (r : Fin a) (d : Fin b) : A (ix2 r d) = (entry A r.val d.val : EReal) := by
  rw [entry, dif_pos ⟨r.isLt, d.isLt⟩]
  exact hA _

/-- Below the array. -/
theorem entry_end {a b : ℕ} (A : Shape.Idx ⟨2, ![a, b]⟩ → EReal) (n d : ℕ) (h : a ≤ n) : entry A n d = 0 := by
  rw [entry, dif_neg (by omega)]

/-- Kernel and reference of the convolution's backward pass end with the same arrays when the arguments are finite. -/
theorem algebraic : @Cert.algebraic_ConvBwdIdeal_ConvBwdRefIdeal_pre_finite_conv Cert.ConvBwdIdeal.Gen.facts Cert.ConvBwdRefIdeal.Gen.facts Cert.Pre_finite_conv.Gen.facts := by
  intro m g m' g' hpre hag
  refine ⟨fun c => (Cert.ConvBwdIdeal.Gen.dats m 0 c).arrAt 4 Cert.ConvBwdIdeal.cfg0.N, fun c => (Cert.ConvBwdIdeal.Gen.dats m 0 c).arrAt 5 Cert.ConvBwdIdeal.cfg0.N, Cert.ConvBwdIdeal.Value.run_blocks m g, (θ_run _ _ _).mono (fun r h c => ?_) (Cert.ConvBwdRefIdeal.Value.run m' g')⟩
  obtain ⟨h0, h1, hk⟩ := h c
  obtain ⟨a0, a1, a2⟩ := hag c
  obtain ⟨f0, f1, f2⟩ := finite_args _ _ _ (hpre c)
  have e0 := fun r d => entry_at _ f0 r d
  have e1 := fun r d => entry_at _ f1 r d
  have e2 := fun r d => entry_at _ f2 r d
  refine ⟨h0.trans ((Cert.ConvBwdRefIdeal.Read.val_main_v76_eq _ _).trans ?_), h1.trans ((Cert.ConvBwdRefIdeal.Read.val_main_v72_eq _ _).trans ?_), hk⟩
  · rw [a0, a1, a2]
    exact ((final m c _ _ _ e0 e1 e2 fun n d h => entry_end _ n d h).trans (funext fun i => ((congrArg _ (eq_ix2 i)).trans (ref_grad _ _ _ _ _ _ e0 e1 e2 (fun n d h => entry_end _ n d h) _ _)).symm)).symm
  · rw [a0, a2]
    exact ((final_w m c _ _ _ e0 e1 e2).trans (funext fun i => ((congrArg _ (eq_ix2 i)).trans (ref_weight _ _ _ _ e0 e2 _ _)).symm)).symm

/-- The reference of the convolution's backward pass ends with its arguments kept and no signal pending. -/
theorem ref_frame : @Cert.quiescent_ConvBwdRefIdeal Cert.ConvBwdRefIdeal.Gen.facts := by
  intro m g _
  refine (θ_run _ _ _).mono (fun r h => ⟨fun c => ?_, sem_eq_zero_of_no_sems (by decide) _⟩) (Cert.ConvBwdRefIdeal.Value.run m g)
  exact (h c).2.2

end Cert.ConvBwd.Proof
-- ==== Proof.Lower.lean ====
/- The lower bounds of the forget gates: sums and maxima over the rows that are layers, and their softmax. -/
module

public import Idealize.ShloMosaic.Lib.Routing.OpsOne
public import Idealize.ShloMosaic.Lib.IdealHost
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Lower

open Idealize.ShloMosaic.Routing (shape2 symm_col)

/-- Row `n` of two rows, zero outside. -/
def row {C : Nat} (x : (shape2 2 C).Idx → EReal) (l n : Nat) (c : Fin C) : EReal := if h : l ≤ n ∧ n - l < 2 then x (ix2 ⟨n - l, h.2⟩ c) else 0

/-- A running sum over windows of two rows. -/
theorem window_two (l u : Nat) {C : Nat} (x : (shape2 2 C).Idx → EReal) (h : (shape2 2 C).ReduceWindows (![2, 1] : Fin 2 → Nat) ![1, 1] ![l, 0] ![u, 0] (shape2 2 C)) (r : Fin 2) (c : Fin C) :
    Ideal.hostReduceWindowAdd (s := shape2 2 C) (t := shape2 2 C) ![2, 1] ![1, 1] ![l, 0] ![u, 0] h x 0 (ix2 r c) = row x l r.val c + row x l (r.val + 1) c := by
  have hc := c.isLt
  unfold Ideal.hostReduceWindowAdd Host.reduceWindow
  refine (congrArg (List.foldl _ _) (show List.finRange (shape2 2 1).numel = [⟨0, by decide⟩, ⟨1, by decide⟩] by decide)).trans ?_
  rw [List.foldl_cons, List.foldl_cons, List.foldl_nil]
  dsimp only
  rw [zero_add]
  have term : ∀ n : Fin (shape2 2 1).numel, ∀ q, q = r.val + n.val → ∀ y : EReal, (∀ h : l ≤ q ∧ q - l < 2, y = x (ix2 ⟨q - l, h.2⟩ c)) → (¬ (l ≤ q ∧ q - l < 2) → y = 0) → y = row x l q c := fun n q hq y h1 h2 => by
    unfold row
    split
    · next h => exact h1 h
    · next h => exact h2 h
  have w0 : ∀ n : Fin (shape2 2 1).numel, ((shape2 2 1).rowMajor.symm n 0).val = n.val := fun n => by rw [symm_col]; rfl
  have w1 : ∀ n : Fin (shape2 2 1).numel, ((shape2 2 1).rowMajor.symm n 1).val = 0 := fun n => by rw [symm_col]; rfl
  have inside : ∀ n : Fin (shape2 2 1).numel, (l ≤ r.val + n.val ∧ r.val + n.val - l < 2) → ∀ a : Fin 2, (![l, 0] : Fin 2 → Nat) a ≤ (ix2 r c a).val * (![1, 1] : Fin 2 → Nat) a + ((shape2 2 1).rowMajor.symm n a).val ∧ (ix2 r c a).val * (![1, 1] : Fin 2 → Nat) a + ((shape2 2 1).rowMajor.symm n a).val - (![l, 0] : Fin 2 → Nat) a < (shape2 2 C).size a := fun n hn a => by
    match a with
    | ⟨0, _⟩ =>
      show l ≤ r.val * 1 + ((shape2 2 1).rowMajor.symm n 0).val ∧ r.val * 1 + ((shape2 2 1).rowMajor.symm n 0).val - l < 2
      rw [w0]; omega
    | ⟨1, _⟩ =>
      show 0 ≤ c.val * 1 + ((shape2 2 1).rowMajor.symm n 1).val ∧ c.val * 1 + ((shape2 2 1).rowMajor.symm n 1).val - 0 < C
      rw [w1]; omega
  have outside : ∀ n : Fin (shape2 2 1).numel, ¬ (l ≤ r.val + n.val ∧ r.val + n.val - l < 2) → ¬ ∀ a : Fin 2, (![l, 0] : Fin 2 → Nat) a ≤ (ix2 r c a).val * (![1, 1] : Fin 2 → Nat) a + ((shape2 2 1).rowMajor.symm n a).val ∧ (ix2 r c a).val * (![1, 1] : Fin 2 → Nat) a + ((shape2 2 1).rowMajor.symm n a).val - (![l, 0] : Fin 2 → Nat) a < (shape2 2 C).size a := fun n hn ha => hn (by
    have h0 := ha 0
    change l ≤ r.val * 1 + ((shape2 2 1).rowMajor.symm n 0).val ∧ r.val * 1 + ((shape2 2 1).rowMajor.symm n 0).val - l < 2 at h0
    rw [w0] at h0; omega)
  have at_ : ∀ n : Fin (shape2 2 1).numel, ∀ h : l ≤ r.val + n.val ∧ r.val + n.val - l < 2, ∀ k : ∀ a : Fin 2, (ix2 r c a).val * (![1, 1] : Fin 2 → Nat) a + ((shape2 2 1).rowMajor.symm n a).val - (![l, 0] : Fin 2 → Nat) a < (shape2 2 C).size a, (fun a : Fin 2 => (⟨(ix2 r c a).val * (![1, 1] : Fin 2 → Nat) a + ((shape2 2 1).rowMajor.symm n a).val - (![l, 0] : Fin 2 → Nat) a, k a⟩ : Fin ((shape2 2 C).size a))) = ix2 ⟨r.val + n.val - l, h.2⟩ c := fun n h k => funext fun a => Fin.ext (by
    match a with
    | ⟨0, _⟩ =>
      show r.val * 1 + ((shape2 2 1).rowMajor.symm n 0).val - l = r.val + n.val - l
      rw [w0, Nat.mul_one]
    | ⟨1, _⟩ =>
      show c.val * 1 + ((shape2 2 1).rowMajor.symm n 1).val - 0 = c.val
      rw [w1]; omega)
  refine congrArg₂ (· + ·) (term ⟨0, by decide⟩ _ rfl _ (fun hn => ?_) fun hn => ?_) (term ⟨1, by decide⟩ _ rfl _ (fun hn => ?_) fun hn => ?_)
  · exact (dif_pos (inside ⟨0, by decide⟩ hn)).trans (congrArg x (at_ ⟨0, by decide⟩ hn _))
  · exact dif_neg (outside ⟨0, by decide⟩ hn)
  · exact (dif_pos (inside ⟨1, by decide⟩ hn)).trans (congrArg x (at_ ⟨1, by decide⟩ hn _))
  · exact dif_neg (outside ⟨1, by decide⟩ hn)

/-- The sum of the rows up to row `r`. -/
theorem running (x : (shape2 2 512).Idx → EReal) (h : (shape2 2 512).ReduceWindows (![2, 1] : Fin 2 → Nat) ![1, 1] ![1, 0] ![0, 0] (shape2 2 512)) (d : Fin 512) :
    Ideal.hostReduceWindowAdd (s := shape2 2 512) (t := shape2 2 512) ![2, 1] ![1, 1] ![1, 0] ![0, 0] h x 0 (ix2 0 d) = x (ix2 0 d)
      ∧ Ideal.hostReduceWindowAdd (s := shape2 2 512) (t := shape2 2 512) ![2, 1] ![1, 1] ![1, 0] ![0, 0] h x 0 (ix2 1 d) = x (ix2 0 d) + x (ix2 1 d) := by
  constructor
  · rw [window_two, row, row, dif_neg (by decide), dif_pos (by decide), zero_add]
    rfl
  · rw [window_two, row, row, dif_pos (by decide), dif_pos (by decide)]
    rfl

/-- The sum of the rows from row `r` on. -/
theorem remaining (x : (shape2 2 512).Idx → EReal) (h : (shape2 2 512).ReduceWindows (![2, 1] : Fin 2 → Nat) ![1, 1] ![0, 0] ![1, 0] (shape2 2 512)) (d : Fin 512) :
    Ideal.hostReduceWindowAdd (s := shape2 2 512) (t := shape2 2 512) ![2, 1] ![1, 1] ![0, 0] ![1, 0] h x 0 (ix2 0 d) = x (ix2 0 d) + x (ix2 1 d)
      ∧ Ideal.hostReduceWindowAdd (s := shape2 2 512) (t := shape2 2 512) ![2, 1] ![1, 1] ![0, 0] ![1, 0] h x 0 (ix2 1 d) = x (ix2 1 d) := by
  constructor
  · rw [window_two, row, row, dif_pos (by decide), dif_pos (by decide)]
    rfl
  · rw [window_two, row, row, dif_pos (by decide), dif_neg (by decide), add_zero]
    rfl

/-- The constant minus infinity. -/
theorem neg_inf : Ideal.ofBits .f32 4286578688#32 = (⊥ : EReal) := by simp [Ideal.ofBits, Ideal.ieee]

/-- The test that a row is a layer. -/
theorem layer : ∀ r : Fin 8, IntOp.cmpi CmpIPredicate.slt (BitVec.ofNat 32 r.val) 2#32 = if r.val < 2 then 1#1 else 0#1 := by decide

/-- The test that a row is the second layer. -/
theorem second : ∀ r : Fin 8, IntOp.cmpi CmpIPredicate.eq (BitVec.ofNat 32 r.val) 1#32 = if r.val = 1 then 1#1 else 0#1 := by decide

/-- A choice by a decided test. -/
theorem choose {α : Type} (p : Prop) [Decidable p] (a b : α) : Scalar.select (if p then 1#1 else 0#1) a b = if p then a else b := by
  by_cases h : p <;> simp [h, Scalar.select]

/-- A maximum over two rows. -/
theorem max_two (f : Fin 2 → EReal) : Finset.fold max ⊥ f Finset.univ = max (f 0) (f 1) := by
  change Finset.univ.sup f = _
  refine le_antisymm (Finset.sup_le fun k _ => ?_) (max_le (Finset.le_sup (Finset.mem_univ 0)) (Finset.le_sup (Finset.mem_univ 1)))
  match k with
  | ⟨0, _⟩ => exact le_max_left _ _
  | ⟨1, _⟩ => exact le_max_right _ _

/-- A maximum over the rows that are layers. -/
theorem max_layers (f : Fin 8 → EReal) : Finset.fold max ⊥ (fun r : Fin 8 => if r.val < 2 then f r else ⊥) Finset.univ = max (f 0) (f 1) := by
  change Finset.univ.sup (fun r : Fin 8 => if r.val < 2 then f r else ⊥) = _
  refine le_antisymm (Finset.sup_le fun k _ => ?_) (max_le (Finset.le_sup (f := fun r : Fin 8 => if r.val < 2 then f r else ⊥) (Finset.mem_univ 0)) (Finset.le_sup (f := fun r : Fin 8 => if r.val < 2 then f r else ⊥) (Finset.mem_univ 1)))
  match k with
  | ⟨0, _⟩ => exact le_max_left _ _
  | ⟨1, _⟩ => exact le_max_right _ _
  | ⟨n + 2, _⟩ => exact (if_neg (by show ¬ n + 2 < 2; omega)).trans_le bot_le

/-- A sum over the rows that are layers. -/
theorem sum_layers (f : Fin 8 → EReal) : (∑ r : Fin 8, if r.val < 2 then f r else 0) = f 0 + f 1 := by
  rw [Fin.sum_univ_eight]
  simp

/-- A sum over the second layer alone. -/
theorem sum_second (f : Fin 8 → EReal) : (∑ r : Fin 8, if r.val = 1 then f r else 0) = f 1 := by
  rw [Fin.sum_univ_eight]
  simp

/-- The exponential of a layer's parameter less the larger one, the layers' sum of these. -/
def ex (a b c : ℝ) : ℝ := Real.exp (c - max a b)

/-- The sum of the two exponentials. -/
def tot (a b : ℝ) : ℝ := ex a b a + ex a b b

/-- The sum is positive. -/
theorem tot_ne (a b : ℝ) : tot a b ≠ 0 := (add_pos (Real.exp_pos _) (Real.exp_pos _)).ne'

/-- The larger of two reals, as extended reals. -/
theorem max_coe (a b : ℝ) : max (a : EReal) (b : EReal) = ((max a b : ℝ) : EReal) := (EReal.coe_strictMono.monotone.map_max).symm

/-- The exponential, as extended reals. -/
theorem ex_coe (a b c : ℝ) : Ideal.exp ((c : EReal) - max (a : EReal) (b : EReal)) = (ex a b c : EReal) := by
  rw [max_coe, ← EReal.coe_sub, Ideal.exp_coe]
  rfl

/-- A quotient by the sum. -/
theorem div_tot (a b c : ℝ) : Ideal.div (c : EReal) (tot a b : EReal) = ((c / tot a b : ℝ) : EReal) := by
  rw [Ideal.div_coe (tot_ne a b), ← EReal.coe_mul, mul_one_div]

end Cert.Lower
-- ==== Proof.LowerFwd.lean ====
/- The lower bounds of the forget gates from their parameter: the kernel's array and the reference's, for finite layers. -/
module

public import proofs.«01_k».proof.Proof.Gen.LowerFwdIdeal.Value
public import proofs.«01_k».proof.Proof.Gen.LowerFwdRefIdeal.Read
public import proofs.«01_k».proof.Proof.Lower
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LowerFwd.Proof

open Cert.Lower

section
open Cert.LowerFwdRefIdeal

variable (A : FVec Ideal S8x512 .f32) (a b : ℝ) (d : Fin 512)
variable (h0 : A (ix2 0 d) = (a : EReal)) (h1 : A (ix2 1 d) = (b : EReal))
include h0 h1

/-- The layers' exponentials. -/
theorem ref_ex (r : Fin 2) : Read.val_main_v7 (F := Ideal) A (ix2 r d) = (ex a b (if r.val = 0 then a else b) : EReal) := by
  pointwise [Read.val_main_v7, Read.val_main_v6, Read.val_main_v5, Read.val_main_v4, Read.val_main_v3, Read.val_main_v2, Read.val_main_cst_0, Read.val_main_v1, Read.val_main_v0, Read.val_main_cst]
  rw [neg_inf, max_two, max_eq_right bot_le]
  match r with
  | ⟨0, _⟩ =>
    change Ideal.exp (A (ix2 0 d) - max (A (ix2 0 d)) (A (ix2 1 d))) = _
    rw [h0, h1, ex_coe]; rfl
  | ⟨1, _⟩ =>
    change Ideal.exp (A (ix2 1 d) - max (A (ix2 0 d)) (A (ix2 1 d))) = _
    rw [h0, h1, ex_coe]; rfl

/-- The layers' softmax. -/
theorem ref_soft (r : Fin 2) : Read.val_main_v11 (F := Ideal) A (ix2 r d) = ((ex a b (if r.val = 0 then a else b) / tot a b : ℝ) : EReal) := by
  pointwise [Read.val_main_v11, Read.val_main_v10, Read.val_main_v9, Read.val_main_v8, Read.val_main_cst_1]
  rw [Fin.sum_univ_two, ref_ex A a b d h0 h1, ref_ex A a b d h0 h1, ref_ex A a b d h0 h1, ← EReal.coe_add]
  exact div_tot a b _

/-- The reference's lower bounds. -/
theorem ref (r : Fin 8) : Read.val_main_v19 (F := Ideal) A (ix2 r d) = if r.val = 1 then ((ex a b b / tot a b : ℝ) : EReal) else 0 := by
  pointwise [Read.val_main_v19, Read.val_main_v18, Read.val_main_v17, Read.val_main_v16, Read.val_main_v15, Read.val_main_v14, Read.val_main_v13]
  have z : Read.val_main_call0_call0_v0 (F := Ideal) (Shape.Idx.first Gen.h_S_) = (0 : EReal) := by
    rw [Read.val_main_call0_call0_v0_apply]; exact Ideal.ofBits_zero_f32
  obtain ⟨s0, s1⟩ := running (Read.val_main_v11 (F := Ideal) A) Gen.reduceWindows_S2x512_S2x512_w2s1p1_0_w1s1p0_0 d
  have e : Read.val_main_v12 (F := Ideal) A = Ideal.hostReduceWindowAdd ![2, 1] ![1, 1] ![1, 0] ![0, 0] Gen.reduceWindows_S2x512_S2x512_w2s1p1_0_w1s1p0_0 (Read.val_main_v11 (F := Ideal) A) 0 := by
    rw [← z]; rfl
  match r with
  | ⟨0, _⟩ =>
    change Read.val_main_v12 (F := Ideal) A (ix2 0 d) - Read.val_main_v11 (F := Ideal) A (ix2 0 d) = 0
    rw [e]
    refine (congrArg (· - _) s0).trans ?_
    rw [ref_soft A a b d h0 h1, ← EReal.coe_sub, sub_self]; rfl
  | ⟨1, _⟩ =>
    change Read.val_main_v12 (F := Ideal) A (ix2 1 d) - Read.val_main_v11 (F := Ideal) A (ix2 0 d) = ((ex a b b / tot a b : ℝ) : EReal)
    rw [e]
    refine (congrArg (· - _) s1).trans ?_
    rw [ref_soft A a b d h0 h1, ref_soft A a b d h0 h1, ← EReal.coe_add, ← EReal.coe_sub, add_sub_cancel_left]; rfl
  | ⟨n + 2, hn⟩ =>
    rw [dif_neg (by show ¬ n + 2 < 2; omega), if_neg (by show ¬ n + 2 = 1; omega)]
    exact Ideal.ofBits_zero_f32

end

section
open Cert.LowerFwdIdeal Cert.LowerFwdIdeal.Gen

/-- The kernel's lower bounds. -/
theorem kernel (A : FVec Ideal S8x512 .f32) (a b : ℝ) (d : Fin 512) (h0 : A (ix2 0 d) = (a : EReal)) (h1 : A (ix2 1 d) = (b : EReal)) (r : Fin 8) :
    k0_pay1 (F := Ideal) A (ix2 r d) = if r.val = 1 then ((ex a b b / tot a b : ℝ) : EReal) else 0 := by
  pointwise [k0_pay1]
  simp only [neg_inf, layer, second, choose, max_layers, sum_layers, sum_second]
  change (if r.val = 1 then Ideal.div (Ideal.exp (A (ix2 1 d) - max (A (ix2 0 d)) (A (ix2 1 d)))) (Ideal.exp (A (ix2 0 d) - max (A (ix2 0 d)) (A (ix2 1 d))) + Ideal.exp (A (ix2 1 d) - max (A (ix2 0 d)) (A (ix2 1 d)))) else 0) = _
  rw [h0, h1, ex_coe, ex_coe, ← EReal.coe_add]
  exact if_congr Iff.rfl (div_tot a b _) rfl

end

end Cert.LowerFwd.Proof
-- ==== Proof.LowerBwd.lean ====
/- The gradient of the forget gates' lower bounds: the kernel's array and the reference's, for a finite gradient. -/
module

public import proofs.«01_k».proof.Proof.Gen.LowerBwdIdeal.Value
public import proofs.«01_k».proof.Proof.Gen.LowerBwdRefIdeal.Read
public import proofs.«01_k».proof.Proof.Lower
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LowerBwd.Proof

open Cert.Lower

/-- The gradient of a layer's parameter, where the layers' exponentials are `p` and `q`, this layer's is `c`, `t` reaches its softmax and `y` the second layer's. -/
def slope (p q y c t : ℝ) : ℝ := (t / (p + q) + -(y * (1 / ((p + q) * (p + q))) * q)) * c

/-- One over the sum's square. -/
theorem inv_sq (p q : ℝ) (hs : p + q ≠ 0) : Ideal.div 1 (((p + q : ℝ) : EReal) * ((p + q : ℝ) : EReal)) = ((1 / ((p + q) * (p + q)) : ℝ) : EReal) := by
  rw [← EReal.coe_mul, Ideal.div_coe (mul_ne_zero hs hs), one_mul]

/-- A quotient by the sum. -/
theorem div_sum (p q c : ℝ) (hs : p + q ≠ 0) : Ideal.div (c : EReal) ((p + q : ℝ) : EReal) = ((c / (p + q) : ℝ) : EReal) := by
  rw [Ideal.div_coe hs, ← EReal.coe_mul, mul_one_div]

/-- The exponential of what is not plus infinity is a real, not negative. -/
theorem exp_real (x : EReal) (h : x ≠ ⊤) : ∃ p : ℝ, 0 ≤ p ∧ Ideal.exp x = (p : EReal) := by
  induction x with
  | bot => exact ⟨0, le_rfl, rfl⟩
  | coe r => exact ⟨Real.exp r, (Real.exp_pos r).le, Ideal.exp_coe r⟩
  | top => exact absurd rfl h

/-- A number less one that is not less is not plus infinity. -/
theorem sub_ne_top (x y : EReal) (h : x ≤ y) : x - y ≠ ⊤ := by
  induction y with
  | bot => rw [le_bot_iff.1 h]; exact bot_ne_top (α := EReal)
  | coe r =>
    induction x with
    | bot => exact bot_ne_top (α := EReal)
    | coe s => rw [← EReal.coe_sub]; exact EReal.coe_ne_top _
    | top => exact absurd (top_le_iff.1 h) (EReal.coe_ne_top r)
  | top =>
    induction x with
    | bot => exact bot_ne_top (α := EReal)
    | coe s => exact bot_ne_top (α := EReal)
    | top => exact bot_ne_top (α := EReal)

/-- The last product of both programs. It is zero if both exponentials are, so what the sum of the quotients is matters only if they are not. -/
theorem slope_coe (p q y c t : ℝ) (hp : 0 ≤ p) (hq : 0 ≤ q) (hc : c = p ∨ c = q) (S : EReal) (hS : p + q ≠ 0 → S = ((-(y * (1 / ((p + q) * (p + q))) * q) : ℝ) : EReal)) :
    (Ideal.div (t : EReal) ((p + q : ℝ) : EReal) + S) * (c : EReal) = (slope p q y c t : EReal) := by
  by_cases hs : p + q = 0
  · have : c = 0 := by rcases hc with h | h <;> rw [h] <;> linarith
    rw [this, slope, mul_zero, EReal.coe_zero, mul_zero]
  · rw [hS hs, div_sum p q t hs, ← EReal.coe_add, ← EReal.coe_mul]
    rfl

section
open Cert.LowerBwdRefIdeal

variable (A D : FVec Ideal S8x512 .f32) (p q x y : ℝ) (d : Fin 512)

/-- The layers' exponentials. -/
theorem ref_ex (h0 : Ideal.exp (A (ix2 0 d) - max (A (ix2 0 d)) (A (ix2 1 d))) = (p : EReal)) (h1 : Ideal.exp (A (ix2 1 d) - max (A (ix2 0 d)) (A (ix2 1 d))) = (q : EReal)) (r : Fin 2) : Read.val_main_v21 (F := Ideal) A (ix2 r d) = ((if r.val = 0 then p else q : ℝ) : EReal) := by
  pointwise [Read.val_main_v21, Read.val_main_v20, Read.val_main_v19, Read.val_main_v18, Read.val_main_v8, Read.val_main_v7, Read.val_main_v1, Read.val_main_v0, Read.val_main_cst, Read.val_main_cst_0, Read.val_main_cst_1, Read.val_main_cst_2]
  rw [neg_inf, max_two, max_eq_right bot_le]
  match r with
  | ⟨0, _⟩ =>
    exact h0
  | ⟨1, _⟩ =>
    exact h1

/-- Their sum. -/
theorem ref_tot (h0 : Ideal.exp (A (ix2 0 d) - max (A (ix2 0 d)) (A (ix2 1 d))) = (p : EReal)) (h1 : Ideal.exp (A (ix2 1 d) - max (A (ix2 0 d)) (A (ix2 1 d))) = (q : EReal)) (r : Fin 1) : Read.val_main_v23 (F := Ideal) A (ix2 r d) = ((p + q : ℝ) : EReal) := by
  pointwise [Read.val_main_v23, Read.val_main_v22, Read.val_main_cst_7]
  rw [Fin.sum_univ_two, ref_ex A p q d h0 h1, ref_ex A p q d h0 h1, ← EReal.coe_add]
  rfl

/-- What reaches the layers' softmax. -/
theorem ref_ct (h0 : D (ix2 0 d) = (x : EReal)) (h1 : D (ix2 1 d) = (y : EReal)) (r : Fin 2) : Read.val_main_v47 (F := Ideal) D (ix2 r d) = ((if r.val = 0 then 0 else y : ℝ) : EReal) := by
  have z : Read.val_main_call1_call0_v0 (F := Ideal) (Shape.Idx.first Gen.h_S_) = (0 : EReal) := by
    rw [Read.val_main_call1_call0_v0_apply]; exact Ideal.ofBits_zero_f32
  obtain ⟨s0, s1⟩ := remaining (Read.val_main_v38 (F := Ideal) D) Gen.reduceWindows_S2x512_S2x512_w2s1p0_1_w1s1p0_0 d
  have e : Read.val_main_v46 (F := Ideal) D = Ideal.hostReduceWindowAdd ![2, 1] ![1, 1] ![0, 0] ![1, 0] Gen.reduceWindows_S2x512_S2x512_w2s1p0_1_w1s1p0_0 (Read.val_main_v38 (F := Ideal) D) 0 := by
    rw [← z]; rfl
  have k : ∀ r : Fin 2, Read.val_main_v45 (F := Ideal) D (ix2 r d) = if r.val = 0 then -(D (ix2 0 d)) + -(D (ix2 1 d)) else 0 := fun r => by
    pointwise [Read.val_main_v45, Read.val_main_v44, Read.val_main_v43, Read.val_main_v42, Read.val_main_v41, Read.val_main_v40, Read.val_main_v38, Read.val_main_cst_11, Read.val_main_cst_12, Read.val_main_cst_13]
    match r with
    | ⟨0, _⟩ =>
      change (∑ _k : Fin 1, ∑ k : Fin 2, -D (ix2 ⟨k.val, _⟩ d)) = _
      rw [Fin.sum_univ_one, Fin.sum_univ_two]; rfl
    | ⟨1, _⟩ => rfl
  have l : ∀ r : Fin 2, Read.val_main_v38 (F := Ideal) D (ix2 r d) = ((if r.val = 0 then x else y : ℝ) : EReal) := fun r => by
    pointwise [Read.val_main_v38]
    match r with
    | ⟨0, _⟩ => exact h0
    | ⟨1, _⟩ => exact h1
  pointwise [Read.val_main_v47]
  rw [k, e]
  match r with
  | ⟨0, _⟩ =>
    refine (congrArg (_ + ·) s0).trans ?_
    rw [l, l, if_pos rfl, h0, h1]
    simp only [← EReal.coe_neg, ← EReal.coe_add]
    refine congrArg _ ?_
    show -x + -y + (x + y) = 0
    ring
  | ⟨1, _⟩ =>
    refine (congrArg (_ + ·) s1).trans ?_
    rw [l, if_neg Nat.one_ne_zero, zero_add]
    rfl

/-- The reference's gradient. -/
theorem ref (h0 : Ideal.exp (A (ix2 0 d) - max (A (ix2 0 d)) (A (ix2 1 d))) = (p : EReal)) (h1 : Ideal.exp (A (ix2 1 d) - max (A (ix2 0 d)) (A (ix2 1 d))) = (q : EReal)) (hp : 0 ≤ p) (hq : 0 ≤ q) (g0 : D (ix2 0 d) = (x : EReal)) (g1 : D (ix2 1 d) = (y : EReal)) (r : Fin 8) :
    Read.val_main_v60 (F := Ideal) A D (ix2 r d) = if r.val = 0 then (slope p q y p 0 : EReal) else if r.val = 1 then (slope p q y q y : EReal) else 0 := by
  pointwise [Read.val_main_v60, Read.val_main_v59, Read.val_main_v58, Read.val_main_v57, Read.val_main_v56, Read.val_main_v55, Read.val_main_v54, Read.val_main_v53, Read.val_main_v52, Read.val_main_v51, Read.val_main_v50, Read.val_main_v49, Read.val_main_v48, Read.val_main_v28, Read.val_main_v27, Read.val_main_v26, Read.val_main_cst_8, Read.val_main_cst_14, Read.val_main_cst_15, Read.val_main_cst_16]
  have S : p + q ≠ 0 → (∑ _k : Fin 1, -∑ k : Fin 2, Read.val_main_v47 (F := Ideal) D (ix2 k d) * Ideal.div 1 (Read.val_main_v23 (F := Ideal) A (ix2 0 d) * Read.val_main_v23 (F := Ideal) A (ix2 0 d)) * Read.val_main_v21 (F := Ideal) A (ix2 k d)) = ((-(y * (1 / ((p + q) * (p + q))) * q) : ℝ) : EReal) := fun hs => by
    rw [Fin.sum_univ_one, Fin.sum_univ_two, ref_ct D x y d g0 g1, ref_ct D x y d g0 g1, ref_tot A p q d h0 h1, inv_sq p q hs, ref_ex A p q d h0 h1, ref_ex A p q d h0 h1]
    simp only [← EReal.coe_neg, ← EReal.coe_add, ← EReal.coe_mul]
    refine congrArg _ ?_
    simp
  match r with
  | ⟨0, _⟩ =>
    refine Eq.trans ?_ (slope_coe p q y p 0 hp hq (Or.inl rfl) _ S)
    refine congrArg₂ (· * ·) (congrArg (· + _) (congrArg₂ Ideal.div (ref_ct D x y d g0 g1 0) (ref_tot A p q d h0 h1 0))) (ref_ex A p q d h0 h1 0)
  | ⟨1, _⟩ =>
    refine Eq.trans ?_ (slope_coe p q y q y hp hq (Or.inr rfl) _ S)
    refine congrArg₂ (· * ·) (congrArg (· + _) (congrArg₂ Ideal.div (ref_ct D x y d g0 g1 1) (ref_tot A p q d h0 h1 0))) (ref_ex A p q d h0 h1 1)
  | ⟨n + 2, hn⟩ => rw [dif_neg (by show ¬ n + 2 < 2; omega), if_neg (by show ¬ n + 2 = 0; omega), if_neg (by show ¬ n + 2 = 1; omega)]

end

section
open Cert.LowerBwdIdeal Cert.LowerBwdIdeal.Gen

/-- The kernel's gradient. -/
theorem kernel (A D : FVec Ideal S8x512 .f32) (p q y : ℝ) (d : Fin 512) (h0 : Ideal.exp (A (ix2 0 d) - max (A (ix2 0 d)) (A (ix2 1 d))) = (p : EReal)) (h1 : Ideal.exp (A (ix2 1 d) - max (A (ix2 0 d)) (A (ix2 1 d))) = (q : EReal)) (hp : 0 ≤ p) (hq : 0 ≤ q) (g1 : D (ix2 1 d) = (y : EReal)) (r : Fin 8) :
    k0_pay1 (F := Ideal) k0_pay2 (k0_pay3 A) (k0_pay5 A) (k0_pay6 D) (k0_pay7 A D) (ix2 r d) = if r.val = 0 then (slope p q y p 0 : EReal) else if r.val = 1 then (slope p q y q y : EReal) else 0 := by
  have e2 : ∀ r : Fin 8, k0_pay2 (ix2 r d) = if r.val < 2 then 1#1 else 0#1 := fun r => by
    pointwise [k0_pay2]
    exact layer r
  have e3 : ∀ r : Fin 8, k0_pay3 (F := Ideal) A (ix2 r d) = if r.val = 0 then (p : EReal) else if r.val = 1 then (q : EReal) else 1 := fun r => by
    pointwise [k0_pay3]
    simp only [e2, neg_inf, choose, max_layers]
    match r with
    | ⟨0, _⟩ => exact h0
    | ⟨1, _⟩ => exact h1
    | ⟨n + 2, hn⟩ =>
      rw [if_neg (by show ¬ n + 2 < 2; omega), if_neg (by show ¬ n + 2 = 0; omega), if_neg (by show ¬ n + 2 = 1; omega)]
      exact (Ideal.exp_coe 0).trans (congrArg _ Real.exp_zero)
  have e4 : ∀ r : Fin 8, k0_pay4 (F := Ideal) A (ix2 r d) = if r.val = 0 then (p : EReal) else if r.val = 1 then (q : EReal) else 0 := fun r => by
    pointwise [k0_pay4]
    simp only [e2, e3, choose]
    match r with
    | ⟨0, _⟩ => rfl
    | ⟨1, _⟩ => rfl
    | ⟨n + 2, hn⟩ => rw [if_neg (by show ¬ n + 2 < 2; omega), if_neg (by show ¬ n + 2 = 0; omega), if_neg (by show ¬ n + 2 = 1; omega)]
  have e5 : ∀ r : Fin 1, k0_pay5 (F := Ideal) A (ix2 r d) = ((p + q : ℝ) : EReal) := fun r => by
    pointwise [k0_pay5]
    simp only [e4]
    rw [Fin.sum_univ_eight]
    simp
  have e6 : ∀ r : Fin 8, k0_pay6 (F := Ideal) D (ix2 r d) = if r.val = 1 then (y : EReal) else 0 := fun r => by
    pointwise [k0_pay6]
    simp only [second, choose, sum_second, g1]
    rw [Fin.sum_univ_one]
  have e7 : p + q ≠ 0 → ∀ r : Fin 1, k0_pay7 (F := Ideal) A D (ix2 r d) = ((-(y * (1 / ((p + q) * (p + q))) * q) : ℝ) : EReal) := fun hs r => by
    pointwise [k0_pay7]
    simp only [e4, e5, e6]
    rw [Fin.sum_univ_eight, inv_sq p q hs]
    simp
  pointwise [k0_pay1]
  simp only [e2, e3, e5, e6, choose]
  rw [Fin.sum_univ_one]
  match r with
  | ⟨0, _⟩ =>
    exact slope_coe p q y p 0 hp hq (Or.inl rfl) _ fun hs => e7 hs 0
  | ⟨1, _⟩ =>
    exact slope_coe p q y q y hp hq (Or.inr rfl) _ fun hs => e7 hs 0
  | ⟨n + 2, hn⟩ => rw [if_neg (by show ¬ n + 2 < 2; omega), if_neg (by show ¬ n + 2 = 0; omega), if_neg (by show ¬ n + 2 = 1; omega)]

end

end Cert.LowerBwd.Proof
-- ==== Proof.SumConv.lean ====
/- The sum over the devices of their packed pieces of the convolutions' weights: the kernel's array is the reference's. -/
module

public import proofs.«01_k».proof.Proof.Gen.SumConvIdeal.Value
public import proofs.«01_k».proof.Proof.Gen.SumConvRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SumConv.Proof

open Cert.SumConvIdeal Cert.SumConvIdeal.Gen

/-- The reference's sum. -/
theorem ref (P : FVec Ideal Cert.SumConvRefIdeal.S8x152x128 .f32) (r : Fin 152) (d : Fin 128) :
    Cert.SumConvRefIdeal.Read.val_main_v0 (F := Ideal) P (ix2 r d) = ∑ k : Fin 8, P (ix3 k r d) := by
  pointwise [Cert.SumConvRefIdeal.Read.val_main_cst, Cert.SumConvRefIdeal.Read.val_main_v0]

/-- The windows' block indices: the whole array. -/
theorem index_maps : ∀ t : Fin cfg0.N, win0_0.index t = ![0, 0, 0] ∧ win0_1.index t = ![0, 0] :=
  (by decide +kernel : ∀ t : Fin grid0.N, _)

variable (m : (ℓ : Loc nD τ sig) → Buf (Elt Ideal) ℓ) (c : Dev nD)

/-- The sum after the run. -/
theorem final : (dats m 0 c).arrAt 1 (cfgs 0).N = fun i => ∑ k : Fin 8, (show EReal from m ((c : Thread nD τ).loc main_arg0) (ix3 k (i 0) (i 1))) := by
  refine (dats m 0 c).arrAt_eq_of_covers 1 _ (by decide +kernel) fun t hf y => ?_
  blk_simp
  rw [after0_1]; unfold out0_1; frame_out
  rw [Fin.sum_univ_eight]
  pointwise [k0_pay1]
  blk_point [iblk, V, index_maps t]

end Cert.SumConv.Proof
-- ==== Proof.LowerClaims.lean ====
/- The forget gates' lower bounds and the sum of the convolutions' weights: each kernel's array is its reference's, and each reference's run ends quiet. -/
module

public import proofs.«01_k».proof.Defs
public import proofs.«01_k».proof.Proof.Finite
public import proofs.«01_k».proof.Proof.LowerFwd
public import proofs.«01_k».proof.Proof.LowerBwd
public import proofs.«01_k».proof.Proof.SumConv
public import Idealize.ShloMosaic.Lib.Quiescent
public import Idealize.ShloMosaic.Lib.Pointwise
public import proofs.«01_k».proof.Proof.Gen.Pre_finite_lower
public import proofs.«01_k».proof.Proof.Gen.Pre_finite_lower_d
public import proofs.«01_k».proof.Proof.Gen.LowerFwdRefIdeal
public import proofs.«01_k».proof.Proof.Gen.LowerFwdRefIdeal.Run
public import proofs.«01_k».proof.Proof.Gen.LowerFwdIdeal
public import proofs.«01_k».proof.Proof.Gen.LowerBwdRefIdeal
public import proofs.«01_k».proof.Proof.Gen.LowerBwdRefIdeal.Run
public import proofs.«01_k».proof.Proof.Gen.LowerBwdIdeal
public import proofs.«01_k».proof.Proof.Gen.SumConvRefIdeal
public import proofs.«01_k».proof.Proof.Gen.SumConvRefIdeal.Run
public import proofs.«01_k».proof.Proof.Gen.SumConvIdeal

@[expose] public section

set_option maxRecDepth 16384

noncomputable section

open Idealize.ShloMosaic Idealize.ShloMosaic.TcCoe Idealize.SL.Sem

namespace Cert.LowerFwd.Proof

/-- What the precondition says: the layers' rows of the parameter are reals. -/
theorem finite_args (A : FVec Ideal Cert.Pre_finite_lower.S8x512 .f32) (h : Cert.Pre_finite_lower.fn (F := Ideal) A = fun _ => 1#1) (d : Fin 512) :
    A (ix2 0 d) = ((EReal.toReal (A (ix2 0 d)) : ℝ) : EReal) ∧ A (ix2 1 d) = ((EReal.toReal (A (ix2 1 d)) : ℝ) : EReal) := by
  have h := congrFun h (fun a => a.elim0)
  dsimp only [Cert.Pre_finite_lower.fn] at h
  haveI : Subsingleton Cert.Pre_finite_lower.S_.Idx := ⟨fun a b => funext fun k => k.elim0⟩
  have r : ∀ k : Fin 2, extractStridedSlice Cert.Pre_finite_lower.S2x512 ![0, 0] A Cert.Pre_finite_lower.Gen.slices_S8x512_S2x512_0_0 (ix2 k d) = A (ix2 ⟨k.val, by omega⟩ d) := fun k => by pointwise []
  exact ⟨Cert.Finite.real_of_lt _ (by rw [show A (ix2 0 d) = _ from (r 0).symm]; exact Host.reduce_andi_all _ _ _ _ _ h (ix2 0 d)), Cert.Finite.real_of_lt _ (by rw [show A (ix2 1 d) = _ from (r 1).symm]; exact Host.reduce_andi_all _ _ _ _ _ h (ix2 1 d))⟩

/-- Kernel and reference of the lower bounds end with the same array when the layers' rows are finite. -/
theorem algebraic : @Cert.algebraic_LowerFwdIdeal_LowerFwdRefIdeal_pre_finite_lower Cert.LowerFwdIdeal.Gen.facts Cert.LowerFwdRefIdeal.Gen.facts Cert.Pre_finite_lower.Gen.facts := by
  intro m g m' g' hpre hag
  refine ⟨_, Cert.LowerFwdIdeal.Value.run m g, (θ_run _ _ _).mono (fun r h c => ?_) (Cert.LowerFwdRefIdeal.Value.run m' g')⟩
  obtain ⟨h0, hk⟩ := h c
  obtain a0 := hag c
  refine ⟨h0.trans ((Cert.LowerFwdRefIdeal.Read.val_main_v19_eq _).trans ?_), hk⟩
  rw [a0]
  funext i
  obtain ⟨f0, f1⟩ := finite_args _ (hpre c) (i 1)
  rw [eq_ix2 i]
  exact (ref _ _ _ _ f0 f1 _).trans (kernel _ _ _ _ f0 f1 _).symm

/-- The reference of the lower bounds ends with its argument kept and no signal pending. -/
theorem ref_frame : @Cert.quiescent_LowerFwdRefIdeal Cert.LowerFwdRefIdeal.Gen.facts := by
  intro m g _
  refine (θ_run _ _ _).mono (fun r h => ⟨fun c => ?_, sem_eq_zero_of_no_sems (by decide) _⟩) (Cert.LowerFwdRefIdeal.Value.run m g)
  exact (h c).2

end Cert.LowerFwd.Proof

namespace Cert.LowerBwd.Proof

/-- What the precondition says: the layers' rows of the gradient are reals. -/
theorem finite_args (A D : FVec Ideal Cert.Pre_finite_lower_d.S8x512 .f32) (h : Cert.Pre_finite_lower_d.fn (F := Ideal) A D = fun _ => 1#1) (d : Fin 512) :
    D (ix2 0 d) = ((EReal.toReal (D (ix2 0 d)) : ℝ) : EReal) ∧ D (ix2 1 d) = ((EReal.toReal (D (ix2 1 d)) : ℝ) : EReal) := by
  have h := congrFun h (fun a => a.elim0)
  dsimp only [Cert.Pre_finite_lower_d.fn] at h
  haveI : Subsingleton Cert.Pre_finite_lower_d.S_.Idx := ⟨fun a b => funext fun k => k.elim0⟩
  have r : ∀ k : Fin 2, extractStridedSlice Cert.Pre_finite_lower_d.S2x512 ![0, 0] D Cert.Pre_finite_lower_d.Gen.slices_S8x512_S2x512_0_0 (ix2 k d) = D (ix2 ⟨k.val, by omega⟩ d) := fun k => by pointwise []
  exact ⟨Cert.Finite.real_of_lt _ (by rw [show D (ix2 0 d) = _ from (r 0).symm]; exact Host.reduce_andi_all _ _ _ _ _ h (ix2 0 d)), Cert.Finite.real_of_lt _ (by rw [show D (ix2 1 d) = _ from (r 1).symm]; exact Host.reduce_andi_all _ _ _ _ _ h (ix2 1 d))⟩

/-- The layers' exponentials are reals, not negative, for every parameter. -/
theorem exps_real (A : FVec Ideal Cert.Pre_finite_lower_d.S8x512 .f32) (d : Fin 512) : ∃ p q : ℝ, 0 ≤ p ∧ 0 ≤ q ∧
    Ideal.exp (A (ix2 0 d) - max (A (ix2 0 d)) (A (ix2 1 d))) = (p : EReal) ∧ Ideal.exp (A (ix2 1 d) - max (A (ix2 0 d)) (A (ix2 1 d))) = (q : EReal) := by
  obtain ⟨p, hp, f0⟩ := exp_real _ (sub_ne_top _ _ (le_max_left (A (ix2 0 d)) (A (ix2 1 d))))
  obtain ⟨q, hq, f1⟩ := exp_real _ (sub_ne_top _ _ (le_max_right (A (ix2 0 d)) (A (ix2 1 d))))
  exact ⟨p, q, hp, hq, f0, f1⟩

/-- Kernel and reference of the lower bounds' gradient end with the same array when the layers' rows of the incoming gradient are finite. -/
theorem algebraic : @Cert.algebraic_LowerBwdIdeal_LowerBwdRefIdeal_pre_finite_lower_d Cert.LowerBwdIdeal.Gen.facts Cert.LowerBwdRefIdeal.Gen.facts Cert.Pre_finite_lower_d.Gen.facts := by
  intro m g m' g' hpre hag
  refine ⟨_, Cert.LowerBwdIdeal.Value.run m g, (θ_run _ _ _).mono (fun r h c => ?_) (Cert.LowerBwdRefIdeal.Value.run m' g')⟩
  obtain ⟨h0, hk⟩ := h c
  obtain ⟨a0, a1⟩ := hag c
  refine ⟨h0.trans ((Cert.LowerBwdRefIdeal.Read.val_main_v60_eq _ _).trans ?_), hk⟩
  rw [a0, a1]
  funext i
  obtain ⟨g0, g1⟩ := finite_args _ _ (hpre c) (i 1)
  obtain ⟨p, q, hp, hq, f0, f1⟩ := exps_real (m ((c.tc : Thread Cert.LowerBwdIdeal.nD Cert.LowerBwdIdeal.τ).loc Cert.LowerBwdIdeal.main_arg0)) (i 1)
  rw [eq_ix2 i]
  exact (ref _ _ _ _ _ _ _ f0 f1 hp hq g0 g1 _).trans (kernel _ _ _ _ _ _ f0 f1 hp hq g1 _).symm

/-- The reference of the lower bounds' gradient ends with its arguments kept and no signal pending. -/
theorem ref_frame : @Cert.quiescent_LowerBwdRefIdeal Cert.LowerBwdRefIdeal.Gen.facts := by
  intro m g _
  refine (θ_run _ _ _).mono (fun r h => ⟨fun c => ?_, sem_eq_zero_of_no_sems (by decide) _⟩) (Cert.LowerBwdRefIdeal.Value.run m g)
  exact (h c).2

end Cert.LowerBwd.Proof

namespace Cert.SumConv.Proof

/-- Kernel and reference of the sum of the convolutions' weights end with the same array. -/
theorem algebraic : @Cert.algebraic_SumConvIdeal_SumConvRefIdeal Cert.SumConvIdeal.Gen.facts Cert.SumConvRefIdeal.Gen.facts := by
  intro m g m' g' _ hag
  refine ⟨fun c => (Cert.SumConvIdeal.Gen.dats m 0 c).arrAt 1 Cert.SumConvIdeal.cfg0.N, Cert.SumConvIdeal.Value.run_blocks m g, (θ_run _ _ _).mono (fun r h c => ?_) (Cert.SumConvRefIdeal.Value.run m' g')⟩
  obtain ⟨h0, hk⟩ := h c
  obtain a0 := hag c
  refine ⟨h0.trans ((Cert.SumConvRefIdeal.Read.val_main_v0_eq _).trans ?_), hk⟩
  rw [a0]
  exact ((final m c).trans (funext fun i => ((congrArg _ (eq_ix2 i)).trans (ref _ _ _)).symm)).symm

/-- The reference of the sum of the convolutions' weights ends with its arguments kept and no signal pending. -/
theorem ref_frame : @Cert.quiescent_SumConvRefIdeal Cert.SumConvRefIdeal.Gen.facts := by
  intro m g _
  refine (θ_run _ _ _).mono (fun r h => ⟨fun c => ?_, sem_eq_zero_of_no_sems (by decide) _⟩) (Cert.SumConvRefIdeal.Value.run m g)
  exact (h c).2

end Cert.SumConv.Proof
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.MergeRefIdeal
public import proofs.«01_k».proof.Proof.MergeClaim
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhIdeal.Value
public import proofs.«01_k».proof.Proof.Gen.DhRefIdeal.Run
public import proofs.«01_k».proof.Proof.Gen.DhRefIdeal.Read
public import proofs.«01_k».proof.Proof.Gen.DhRefIdeal
public import proofs.«01_k».proof.Proof.Gen.DwC
public import proofs.«01_k».proof.Proof.Gen.DwC.Skeleton
public import proofs.«01_k».proof.Proof.Gen.DwC.Launch
public import proofs.«01_k».proof.Proof.Gen.DwC.Points
public import proofs.«01_k».proof.Proof.Gen.DwC.Frame
public import proofs.«01_k».proof.Proof.Gen.DwCIdeal
public import proofs.«01_k».proof.Proof.Gen.DwCIdeal.Skeleton
public import proofs.«01_k».proof.Proof.Gen.DwCIdeal.Launch
public import proofs.«01_k».proof.Proof.Gen.DwCIdeal.Points
public import proofs.«01_k».proof.Proof.Gen.DwCIdeal.Frame
public import proofs.«01_k».proof.Proof.Gen.DwCIdeal.Value
public import proofs.«01_k».proof.Proof.Gen.DwCRefIdeal.Run
public import proofs.«01_k».proof.Proof.Gen.DwCRefIdeal.Read
public import proofs.«01_k».proof.Proof.Gen.DwCRefIdeal
public import proofs.«01_k».proof.Proof.Gen.ProjC
public import proofs.«01_k».proof.Proof.Gen.ProjC.Skeleton
public import proofs.«01_k».proof.Proof.Gen.ProjC.Launch
public import proofs.«01_k».proof.Proof.Gen.ProjC.Points
public import proofs.«01_k».proof.Proof.Gen.ProjC.Frame
public import proofs.«01_k».proof.Proof.Gen.ProjCIdeal
public import proofs.«01_k».proof.Proof.Gen.ProjCIdeal.Skeleton
public import proofs.«01_k».proof.Proof.Gen.ProjCIdeal.Launch
public import proofs.«01_k».proof.Proof.Gen.ProjCIdeal.Points
public import proofs.«01_k».proof.Proof.Gen.ProjCIdeal.Frame
public import proofs.«01_k».proof.Proof.Gen.ProjCIdeal.Value
public import proofs.«01_k».proof.Proof.Gen.ProjCRefIdeal.Run
public import proofs.«01_k».proof.Proof.Gen.ProjCRefIdeal.Read
public import proofs.«01_k».proof.Proof.Gen.ProjCRefIdeal
public import proofs.«01_k».proof.Proof.Gen.DwA
public import proofs.«01_k».proof.Proof.Gen.DwA.Skeleton
public import proofs.«01_k».proof.Proof.Gen.DwA.Launch
public import proofs.«01_k».proof.Proof.Gen.DwA.Points
public import proofs.«01_k».proof.Proof.Gen.DwA.Frame
public import proofs.«01_k».proof.Proof.Gen.DwAIdeal
public import proofs.«01_k».proof.Proof.Gen.DwAIdeal.Skeleton
public import proofs.«01_k».proof.Proof.Gen.DwAIdeal.Launch
public import proofs.«01_k».proof.Proof.Gen.DwAIdeal.Points
public import proofs.«01_k».proof.Proof.Gen.DwAIdeal.Frame
public import proofs.«01_k».proof.Proof.Gen.DwAIdeal.Value
public import proofs.«01_k».proof.Proof.Gen.DwARefIdeal.Run
public import proofs.«01_k».proof.Proof.Gen.DwARefIdeal.Read
public import proofs.«01_k».proof.Proof.Gen.DwARefIdeal
public import proofs.«01_k».proof.Proof.Gen.DwG
public import proofs.«01_k».proof.Proof.Gen.DwG.Skeleton
public import proofs.«01_k».proof.Proof.Gen.DwG.Launch
public import proofs.«01_k».proof.Proof.Gen.DwG.Points
public import proofs.«01_k».proof.Proof.Gen.DwG.Frame
public import proofs.«01_k».proof.Proof.Gen.DwGIdeal
public import proofs.«01_k».proof.Proof.Gen.DwGIdeal.Skeleton
public import proofs.«01_k».proof.Proof.Gen.DwGIdeal.Launch
public import proofs.«01_k».proof.Proof.Gen.DwGIdeal.Points
public import proofs.«01_k».proof.Proof.Gen.DwGIdeal.Frame
public import proofs.«01_k».proof.Proof.Gen.DwGIdeal.Value
public import proofs.«01_k».proof.Proof.Gen.DwGRefIdeal.Run
public import proofs.«01_k».proof.Proof.Gen.DwGRefIdeal.Read
public import proofs.«01_k».proof.Proof.Gen.DwGRefIdeal
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjAIdeal.Value
public import proofs.«01_k».proof.Proof.Gen.ProjARefIdeal.Run
public import proofs.«01_k».proof.Proof.Gen.ProjARefIdeal.Read
public import proofs.«01_k».proof.Proof.Gen.ProjARefIdeal
public import proofs.«01_k».proof.Proof.Gen.ProjG
public import proofs.«01_k».proof.Proof.Gen.ProjG.Skeleton
public import proofs.«01_k».proof.Proof.Gen.ProjG.Launch
public import proofs.«01_k».proof.Proof.Gen.ProjG.Points
public import proofs.«01_k».proof.Proof.Gen.ProjG.Frame
public import proofs.«01_k».proof.Proof.Gen.ProjGIdeal
public import proofs.«01_k».proof.Proof.Gen.ProjGIdeal.Skeleton
public import proofs.«01_k».proof.Proof.Gen.ProjGIdeal.Launch
public import proofs.«01_k».proof.Proof.Gen.ProjGIdeal.Points
public import proofs.«01_k».proof.Proof.Gen.ProjGIdeal.Frame
public import proofs.«01_k».proof.Proof.Gen.ProjGIdeal.Value
public import proofs.«01_k».proof.Proof.Gen.ProjGRefIdeal.Run
public import proofs.«01_k».proof.Proof.Gen.ProjGRefIdeal.Read
public import proofs.«01_k».proof.Proof.Gen.ProjGRefIdeal
public import proofs.«01_k».proof.Proof.Gen.DwO
public import proofs.«01_k».proof.Proof.Gen.DwO.Skeleton
public import proofs.«01_k».proof.Proof.Gen.DwO.Launch
public import proofs.«01_k».proof.Proof.Gen.DwO.Points
public import proofs.«01_k».proof.Proof.Gen.DwO.Frame
public import proofs.«01_k».proof.Proof.Gen.DwOIdeal
public import proofs.«01_k».proof.Proof.Gen.DwOIdeal.Skeleton
public import proofs.«01_k».proof.Proof.Gen.DwOIdeal.Launch
public import proofs.«01_k».proof.Proof.Gen.DwOIdeal.Points
public import proofs.«01_k».proof.Proof.Gen.DwOIdeal.Frame
public import proofs.«01_k».proof.Proof.Gen.DwOIdeal.Value
public import proofs.«01_k».proof.Proof.Gen.DwORefIdeal.Run
public import proofs.«01_k».proof.Proof.Gen.DwORefIdeal.Read
public import proofs.«01_k».proof.Proof.Gen.DwORefIdeal
public import proofs.«01_k».proof.Proof.Gen.DwOutA
public import proofs.«01_k».proof.Proof.Gen.DwOutA.Skeleton
public import proofs.«01_k».proof.Proof.Gen.DwOutA.Launch
public import proofs.«01_k».proof.Proof.Gen.DwOutA.Points
public import proofs.«01_k».proof.Proof.Gen.DwOutA.Frame
public import proofs.«01_k».proof.Proof.Gen.DwOutAIdeal
public import proofs.«01_k».proof.Proof.Gen.DwOutAIdeal.Skeleton
public import proofs.«01_k».proof.Proof.Gen.DwOutAIdeal.Launch
public import proofs.«01_k».proof.Proof.Gen.DwOutAIdeal.Points
public import proofs.«01_k».proof.Proof.Gen.DwOutAIdeal.Frame
public import proofs.«01_k».proof.Proof.Gen.DwOutAIdeal.Value
public import proofs.«01_k».proof.Proof.Gen.DwOutARefIdeal.Run
public import proofs.«01_k».proof.Proof.Gen.DwOutARefIdeal.Read
public import proofs.«01_k».proof.Proof.Gen.DwOutARefIdeal
public import proofs.«01_k».proof.Proof.Gen.DwOutC
public import proofs.«01_k».proof.Proof.Gen.DwOutC.Skeleton
public import proofs.«01_k».proof.Proof.Gen.DwOutC.Launch
public import proofs.«01_k».proof.Proof.Gen.DwOutC.Points
public import proofs.«01_k».proof.Proof.Gen.DwOutC.Frame
public import proofs.«01_k».proof.Proof.Gen.DwOutCIdeal
public import proofs.«01_k».proof.Proof.Gen.DwOutCIdeal.Skeleton
public import proofs.«01_k».proof.Proof.Gen.DwOutCIdeal.Launch
public import proofs.«01_k».proof.Proof.Gen.DwOutCIdeal.Points
public import proofs.«01_k».proof.Proof.Gen.DwOutCIdeal.Frame
public import proofs.«01_k».proof.Proof.Gen.DwOutCIdeal.Value
public import proofs.«01_k».proof.Proof.Gen.DwOutCRefIdeal.Run
public import proofs.«01_k».proof.Proof.Gen.DwOutCRefIdeal.Read
public import proofs.«01_k».proof.Proof.Gen.DwOutCRefIdeal
public import proofs.«01_k».proof.Proof.Gen.DuA
public import proofs.«01_k».proof.Proof.Gen.DuA.Skeleton
public import proofs.«01_k».proof.Proof.Gen.DuA.Launch
public import proofs.«01_k».proof.Proof.Gen.DuA.Points
public import proofs.«01_k».proof.Proof.Gen.DuA.Frame
public import proofs.«01_k».proof.Proof.Gen.DuAIdeal
public import proofs.«01_k».proof.Proof.Gen.DuAIdeal.Skeleton
public import proofs.«01_k».proof.Proof.Gen.DuAIdeal.Launch
public import proofs.«01_k».proof.Proof.Gen.DuAIdeal.Points
public import proofs.«01_k».proof.Proof.Gen.DuAIdeal.Frame
public import proofs.«01_k».proof.Proof.Gen.DuAIdeal.Value
public import proofs.«01_k».proof.Proof.Gen.DuARefIdeal.Run
public import proofs.«01_k».proof.Proof.Gen.DuARefIdeal.Read
public import proofs.«01_k».proof.Proof.Gen.DuARefIdeal
public import proofs.«01_k».proof.Proof.Gen.DuC
public import proofs.«01_k».proof.Proof.Gen.DuC.Skeleton
public import proofs.«01_k».proof.Proof.Gen.DuC.Launch
public import proofs.«01_k».proof.Proof.Gen.DuC.Points
public import proofs.«01_k».proof.Proof.Gen.DuC.Frame
public import proofs.«01_k».proof.Proof.Gen.DuCIdeal
public import proofs.«01_k».proof.Proof.Gen.DuCIdeal.Skeleton
public import proofs.«01_k».proof.Proof.Gen.DuCIdeal.Launch
public import proofs.«01_k».proof.Proof.Gen.DuCIdeal.Points
public import proofs.«01_k».proof.Proof.Gen.DuCIdeal.Frame
public import proofs.«01_k».proof.Proof.Gen.DuCIdeal.Value
public import proofs.«01_k».proof.Proof.Gen.DuCRefIdeal.Run
public import proofs.«01_k».proof.Proof.Gen.DuCRefIdeal.Read
public import proofs.«01_k».proof.Proof.Gen.DuCRefIdeal
public import proofs.«01_k».proof.Proof.Gen.OutA
public import proofs.«01_k».proof.Proof.Gen.OutA.Skeleton
public import proofs.«01_k».proof.Proof.Gen.OutA.Launch
public import proofs.«01_k».proof.Proof.Gen.OutA.Points
public import proofs.«01_k».proof.Proof.Gen.OutA.Frame
public import proofs.«01_k».proof.Proof.Gen.OutAIdeal
public import proofs.«01_k».proof.Proof.Gen.OutAIdeal.Skeleton
public import proofs.«01_k».proof.Proof.Gen.OutAIdeal.Launch
public import proofs.«01_k».proof.Proof.Gen.OutAIdeal.Points
public import proofs.«01_k».proof.Proof.Gen.OutAIdeal.Frame
public import proofs.«01_k».proof.Proof.Gen.OutAIdeal.Value
public import proofs.«01_k».proof.Proof.Gen.OutARefIdeal.Run
public import proofs.«01_k».proof.Proof.Gen.OutARefIdeal.Read
public import proofs.«01_k».proof.Proof.Gen.OutARefIdeal
public import proofs.«01_k».proof.Proof.Gen.OutC
public import proofs.«01_k».proof.Proof.Gen.OutC.Skeleton
public import proofs.«01_k».proof.Proof.Gen.OutC.Launch
public import proofs.«01_k».proof.Proof.Gen.OutC.Points
public import proofs.«01_k».proof.Proof.Gen.OutC.Frame
public import proofs.«01_k».proof.Proof.Gen.OutCIdeal
public import proofs.«01_k».proof.Proof.Gen.OutCIdeal.Skeleton
public import proofs.«01_k».proof.Proof.Gen.OutCIdeal.Launch
public import proofs.«01_k».proof.Proof.Gen.OutCIdeal.Points
public import proofs.«01_k».proof.Proof.Gen.OutCIdeal.Frame
public import proofs.«01_k».proof.Proof.Gen.OutCIdeal.Value
public import proofs.«01_k».proof.Proof.Gen.OutCRefIdeal.Run
public import proofs.«01_k».proof.Proof.Gen.OutCRefIdeal.Read
public import proofs.«01_k».proof.Proof.Gen.OutCRefIdeal
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.MergeFwdRefIdeal
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Gen.ConvFwdRefIdeal
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.NormFwdRefIdeal
public import proofs.«01_k».proof.Proof.Gen.UpdateIn
public import proofs.«01_k».proof.Proof.Gen.UpdateIn.Skeleton
public import proofs.«01_k».proof.Proof.Gen.UpdateIn.Launch
public import proofs.«01_k».proof.Proof.Gen.UpdateIn.Points
public import proofs.«01_k».proof.Proof.Gen.UpdateIn.Frame
public import proofs.«01_k».proof.Proof.Gen.UpdateInIdeal
public import proofs.«01_k».proof.Proof.Gen.UpdateInIdeal.Skeleton
public import proofs.«01_k».proof.Proof.Gen.UpdateInIdeal.Launch
public import proofs.«01_k».proof.Proof.Gen.UpdateInIdeal.Points
public import proofs.«01_k».proof.Proof.Gen.UpdateInIdeal.Frame
public import proofs.«01_k».proof.Proof.Gen.UpdateInIdeal.Value
public import proofs.«01_k».proof.Proof.Gen.UpdateInRefIdeal.Run
public import proofs.«01_k».proof.Proof.Gen.UpdateInRefIdeal.Read
public import proofs.«01_k».proof.Proof.Gen.UpdateInRefIdeal
public import proofs.«01_k».proof.Proof.Gen.UpdateA
public import proofs.«01_k».proof.Proof.Gen.UpdateA.Skeleton
public import proofs.«01_k».proof.Proof.Gen.UpdateA.Launch
public import proofs.«01_k».proof.Proof.Gen.UpdateA.Points
public import proofs.«01_k».proof.Proof.Gen.UpdateA.Frame
public import proofs.«01_k».proof.Proof.Gen.UpdateAIdeal
public import proofs.«01_k».proof.Proof.Gen.UpdateAIdeal.Skeleton
public import proofs.«01_k».proof.Proof.Gen.UpdateAIdeal.Launch
public import proofs.«01_k».proof.Proof.Gen.UpdateAIdeal.Points
public import proofs.«01_k».proof.Proof.Gen.UpdateAIdeal.Frame
public import proofs.«01_k».proof.Proof.Gen.UpdateAIdeal.Value
public import proofs.«01_k».proof.Proof.Gen.UpdateARefIdeal.Run
public import proofs.«01_k».proof.Proof.Gen.UpdateARefIdeal.Read
public import proofs.«01_k».proof.Proof.Gen.UpdateARefIdeal
public import proofs.«01_k».proof.Proof.Gen.UpdateC
public import proofs.«01_k».proof.Proof.Gen.UpdateC.Skeleton
public import proofs.«01_k».proof.Proof.Gen.UpdateC.Launch
public import proofs.«01_k».proof.Proof.Gen.UpdateC.Points
public import proofs.«01_k».proof.Proof.Gen.UpdateC.Frame
public import proofs.«01_k».proof.Proof.Gen.UpdateCIdeal
public import proofs.«01_k».proof.Proof.Gen.UpdateCIdeal.Skeleton
public import proofs.«01_k».proof.Proof.Gen.UpdateCIdeal.Launch
public import proofs.«01_k».proof.Proof.Gen.UpdateCIdeal.Points
public import proofs.«01_k».proof.Proof.Gen.UpdateCIdeal.Frame
public import proofs.«01_k».proof.Proof.Gen.UpdateCIdeal.Value
public import proofs.«01_k».proof.Proof.Gen.UpdateCRefIdeal.Run
public import proofs.«01_k».proof.Proof.Gen.UpdateCRefIdeal.Read
public import proofs.«01_k».proof.Proof.Gen.UpdateCRefIdeal
public import proofs.«01_k».proof.Proof.Gen.UpdateSmall
public import proofs.«01_k».proof.Proof.Gen.UpdateSmall.Skeleton
public import proofs.«01_k».proof.Proof.Gen.UpdateSmall.Launch
public import proofs.«01_k».proof.Proof.Gen.UpdateSmall.Points
public import proofs.«01_k».proof.Proof.Gen.UpdateSmall.Frame
public import proofs.«01_k».proof.Proof.Gen.UpdateSmallIdeal
public import proofs.«01_k».proof.Proof.Gen.UpdateSmallIdeal.Skeleton
public import proofs.«01_k».proof.Proof.Gen.UpdateSmallIdeal.Launch
public import proofs.«01_k».proof.Proof.Gen.UpdateSmallIdeal.Points
public import proofs.«01_k».proof.Proof.Gen.UpdateSmallIdeal.Frame
public import proofs.«01_k».proof.Proof.Gen.UpdateSmallIdeal.Value
public import proofs.«01_k».proof.Proof.Gen.UpdateSmallRefIdeal.Run
public import proofs.«01_k».proof.Proof.Gen.UpdateSmallRefIdeal.Read
public import proofs.«01_k».proof.Proof.Gen.UpdateSmallRefIdeal
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.SumSmallRefIdeal
public import proofs.«01_k».proof.Proof.Products
public import proofs.«01_k».proof.Proof.RestClaims
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.NormBwdRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.LossRefIdeal
public import proofs.«01_k».proof.Proof.LossClaims
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Gen.ConvBwdRefIdeal
public import proofs.«01_k».proof.Proof.Gen.Pre_finite_conv
public import proofs.«01_k».proof.Proof.ConvClaims
public import proofs.«01_k».proof.Proof.Gen.LowerFwd
public import proofs.«01_k».proof.Proof.Gen.LowerFwd.Skeleton
public import proofs.«01_k».proof.Proof.Gen.LowerFwd.Launch
public import proofs.«01_k».proof.Proof.Gen.LowerFwd.Points
public import proofs.«01_k».proof.Proof.Gen.LowerFwd.Frame
public import proofs.«01_k».proof.Proof.Gen.LowerFwdIdeal
public import proofs.«01_k».proof.Proof.Gen.LowerFwdIdeal.Skeleton
public import proofs.«01_k».proof.Proof.Gen.LowerFwdIdeal.Launch
public import proofs.«01_k».proof.Proof.Gen.LowerFwdIdeal.Points
public import proofs.«01_k».proof.Proof.Gen.LowerFwdIdeal.Frame
public import proofs.«01_k».proof.Proof.Gen.LowerFwdIdeal.Value
public import proofs.«01_k».proof.Proof.Gen.LowerFwdRefIdeal.Run
public import proofs.«01_k».proof.Proof.Gen.LowerFwdRefIdeal.Read
public import proofs.«01_k».proof.Proof.Gen.LowerFwdRefIdeal
public import proofs.«01_k».proof.Proof.Gen.LowerBwd
public import proofs.«01_k».proof.Proof.Gen.LowerBwd.Skeleton
public import proofs.«01_k».proof.Proof.Gen.LowerBwd.Launch
public import proofs.«01_k».proof.Proof.Gen.LowerBwd.Points
public import proofs.«01_k».proof.Proof.Gen.LowerBwd.Frame
public import proofs.«01_k».proof.Proof.Gen.LowerBwdIdeal
public import proofs.«01_k».proof.Proof.Gen.LowerBwdIdeal.Skeleton
public import proofs.«01_k».proof.Proof.Gen.LowerBwdIdeal.Launch
public import proofs.«01_k».proof.Proof.Gen.LowerBwdIdeal.Points
public import proofs.«01_k».proof.Proof.Gen.LowerBwdIdeal.Frame
public import proofs.«01_k».proof.Proof.Gen.LowerBwdIdeal.Value
public import proofs.«01_k».proof.Proof.Gen.LowerBwdRefIdeal.Run
public import proofs.«01_k».proof.Proof.Gen.LowerBwdRefIdeal.Read
public import proofs.«01_k».proof.Proof.Gen.LowerBwdRefIdeal
public import proofs.«01_k».proof.Proof.Gen.SumConv
public import proofs.«01_k».proof.Proof.Gen.SumConv.Skeleton
public import proofs.«01_k».proof.Proof.Gen.SumConv.Launch
public import proofs.«01_k».proof.Proof.Gen.SumConv.Points
public import proofs.«01_k».proof.Proof.Gen.SumConv.Frame
public import proofs.«01_k».proof.Proof.Gen.SumConvIdeal
public import proofs.«01_k».proof.Proof.Gen.SumConvIdeal.Skeleton
public import proofs.«01_k».proof.Proof.Gen.SumConvIdeal.Launch
public import proofs.«01_k».proof.Proof.Gen.SumConvIdeal.Points
public import proofs.«01_k».proof.Proof.Gen.SumConvIdeal.Frame
public import proofs.«01_k».proof.Proof.Gen.SumConvIdeal.Value
public import proofs.«01_k».proof.Proof.Gen.SumConvRefIdeal.Run
public import proofs.«01_k».proof.Proof.Gen.SumConvRefIdeal.Read
public import proofs.«01_k».proof.Proof.Gen.SumConvRefIdeal
public import proofs.«01_k».proof.Proof.Gen.Pre_finite_lower
public import proofs.«01_k».proof.Proof.Gen.Pre_finite_lower_d
public import proofs.«01_k».proof.Proof.LowerClaims
public import Idealize.ShloMosaic.Adequacy
public import Idealize.ShloMosaic.Init

@[expose] public section

noncomputable section

namespace Cert.Proof

open Idealize.ShloMosaic Idealize.SL.Sem Cert.Merge

theorem claim : Cert.Claim := ⟨Cert.Merge.Gen.facts, Cert.MergeIdeal.Gen.facts, Cert.MergeRefIdeal.Gen.facts, Cert.Dh.Gen.facts, Cert.DhIdeal.Gen.facts, Cert.DhRefIdeal.Gen.facts, Cert.DwA.Gen.facts, Cert.DwAIdeal.Gen.facts, Cert.DwARefIdeal.Gen.facts, Cert.DwC.Gen.facts, Cert.DwCIdeal.Gen.facts, Cert.DwCRefIdeal.Gen.facts, Cert.DwG.Gen.facts, Cert.DwGIdeal.Gen.facts, Cert.DwGRefIdeal.Gen.facts, Cert.ProjA.Gen.facts, Cert.ProjAIdeal.Gen.facts, Cert.ProjARefIdeal.Gen.facts, Cert.ProjC.Gen.facts, Cert.ProjCIdeal.Gen.facts, Cert.ProjCRefIdeal.Gen.facts, Cert.ProjG.Gen.facts, Cert.ProjGIdeal.Gen.facts, Cert.ProjGRefIdeal.Gen.facts, Cert.DwO.Gen.facts, Cert.DwOIdeal.Gen.facts, Cert.DwORefIdeal.Gen.facts, Cert.DwOutA.Gen.facts, Cert.DwOutAIdeal.Gen.facts, Cert.DwOutARefIdeal.Gen.facts, Cert.DwOutC.Gen.facts, Cert.DwOutCIdeal.Gen.facts, Cert.DwOutCRefIdeal.Gen.facts, Cert.DuA.Gen.facts, Cert.DuAIdeal.Gen.facts, Cert.DuARefIdeal.Gen.facts, Cert.DuC.Gen.facts, Cert.DuCIdeal.Gen.facts, Cert.DuCRefIdeal.Gen.facts, Cert.OutA.Gen.facts, Cert.OutAIdeal.Gen.facts, Cert.OutARefIdeal.Gen.facts, Cert.OutC.Gen.facts, Cert.OutCIdeal.Gen.facts, Cert.OutCRefIdeal.Gen.facts, Cert.MergeFwd.Gen.facts, Cert.MergeFwdIdeal.Gen.facts, Cert.MergeFwdRefIdeal.Gen.facts, Cert.ConvFwd.Gen.facts, Cert.ConvFwdIdeal.Gen.facts, Cert.ConvFwdRefIdeal.Gen.facts, Cert.NormFwd.Gen.facts, Cert.NormFwdIdeal.Gen.facts, Cert.NormFwdRefIdeal.Gen.facts, Cert.UpdateIn.Gen.facts, Cert.UpdateInIdeal.Gen.facts, Cert.UpdateInRefIdeal.Gen.facts, Cert.UpdateA.Gen.facts, Cert.UpdateAIdeal.Gen.facts, Cert.UpdateARefIdeal.Gen.facts, Cert.UpdateC.Gen.facts, Cert.UpdateCIdeal.Gen.facts, Cert.UpdateCRefIdeal.Gen.facts, Cert.UpdateSmall.Gen.facts, Cert.UpdateSmallIdeal.Gen.facts, Cert.UpdateSmallRefIdeal.Gen.facts, Cert.SumSmall.Gen.facts, Cert.SumSmallIdeal.Gen.facts, Cert.SumSmallRefIdeal.Gen.facts, Cert.NormBwd.Gen.facts, Cert.NormBwdIdeal.Gen.facts, Cert.NormBwdRefIdeal.Gen.facts, Cert.Loss.Gen.facts, Cert.LossIdeal.Gen.facts, Cert.LossRefIdeal.Gen.facts, Cert.ConvBwd.Gen.facts, Cert.ConvBwdIdeal.Gen.facts, Cert.ConvBwdRefIdeal.Gen.facts, Cert.LowerFwd.Gen.facts, Cert.LowerFwdIdeal.Gen.facts, Cert.LowerFwdRefIdeal.Gen.facts, Cert.LowerBwd.Gen.facts, Cert.LowerBwdIdeal.Gen.facts, Cert.LowerBwdRefIdeal.Gen.facts, Cert.SumConv.Gen.facts, Cert.SumConvIdeal.Gen.facts, Cert.SumConvRefIdeal.Gen.facts, Cert.Pre_finite_conv.Gen.facts, Cert.Pre_finite_lower.Gen.facts, Cert.Pre_finite_lower_d.Gen.facts,
  fun m ρ _ => Cert.Merge.Gen.frame m ρ, fun m ρ _ => Cert.MergeIdeal.Gen.frame m ρ, Cert.Merge.ref_frame,
  fun m ρ _ => Cert.Dh.Gen.frame m ρ, fun m ρ _ => Cert.DhIdeal.Gen.frame m ρ, Cert.Dh.Proof.ref_frame,
  fun m ρ _ => Cert.DwA.Gen.frame m ρ, fun m ρ _ => Cert.DwAIdeal.Gen.frame m ρ, Cert.DwA.Proof.ref_frame,
  fun m ρ _ => Cert.DwC.Gen.frame m ρ, fun m ρ _ => Cert.DwCIdeal.Gen.frame m ρ, Cert.DwC.Proof.ref_frame,
  fun m ρ _ => Cert.DwG.Gen.frame m ρ, fun m ρ _ => Cert.DwGIdeal.Gen.frame m ρ, Cert.DwG.Proof.ref_frame,
  fun m ρ _ => Cert.ProjA.Gen.frame m ρ, fun m ρ _ => Cert.ProjAIdeal.Gen.frame m ρ, Cert.ProjA.Proof.ref_frame,
  fun m ρ _ => Cert.ProjC.Gen.frame m ρ, fun m ρ _ => Cert.ProjCIdeal.Gen.frame m ρ, Cert.ProjC.Proof.ref_frame,
  fun m ρ _ => Cert.ProjG.Gen.frame m ρ, fun m ρ _ => Cert.ProjGIdeal.Gen.frame m ρ, Cert.ProjG.Proof.ref_frame,
  fun m ρ _ => Cert.DwO.Gen.frame m ρ, fun m ρ _ => Cert.DwOIdeal.Gen.frame m ρ, Cert.DwO.Proof.ref_frame,
  fun m ρ _ => Cert.DwOutA.Gen.frame m ρ, fun m ρ _ => Cert.DwOutAIdeal.Gen.frame m ρ, Cert.DwOutA.Proof.ref_frame,
  fun m ρ _ => Cert.DwOutC.Gen.frame m ρ, fun m ρ _ => Cert.DwOutCIdeal.Gen.frame m ρ, Cert.DwOutC.Proof.ref_frame,
  fun m ρ _ => Cert.DuA.Gen.frame m ρ, fun m ρ _ => Cert.DuAIdeal.Gen.frame m ρ, Cert.DuA.Proof.ref_frame,
  fun m ρ _ => Cert.DuC.Gen.frame m ρ, fun m ρ _ => Cert.DuCIdeal.Gen.frame m ρ, Cert.DuC.Proof.ref_frame,
  fun m ρ _ => Cert.OutA.Gen.frame m ρ, fun m ρ _ => Cert.OutAIdeal.Gen.frame m ρ, Cert.OutA.Proof.ref_frame,
  fun m ρ _ => Cert.OutC.Gen.frame m ρ, fun m ρ _ => Cert.OutCIdeal.Gen.frame m ρ, Cert.OutC.Proof.ref_frame,
  fun m ρ _ => Cert.MergeFwd.Gen.frame m ρ, fun m ρ _ => Cert.MergeFwdIdeal.Gen.frame m ρ, Cert.MergeFwd.Proof.ref_frame,
  fun m ρ _ => Cert.ConvFwd.Gen.frame m ρ, fun m ρ _ => Cert.ConvFwdIdeal.Gen.frame m ρ, Cert.ConvFwd.Proof.ref_frame,
  fun m ρ _ => Cert.NormFwd.Gen.frame m ρ, fun m ρ _ => Cert.NormFwdIdeal.Gen.frame m ρ, Cert.NormFwd.Proof.ref_frame,
  fun m ρ _ => Cert.UpdateIn.Gen.frame m ρ, fun m ρ _ => Cert.UpdateInIdeal.Gen.frame m ρ, Cert.UpdateIn.Proof.ref_frame,
  fun m ρ _ => Cert.UpdateA.Gen.frame m ρ, fun m ρ _ => Cert.UpdateAIdeal.Gen.frame m ρ, Cert.UpdateA.Proof.ref_frame,
  fun m ρ _ => Cert.UpdateC.Gen.frame m ρ, fun m ρ _ => Cert.UpdateCIdeal.Gen.frame m ρ, Cert.UpdateC.Proof.ref_frame,
  fun m ρ _ => Cert.UpdateSmall.Gen.frame m ρ, fun m ρ _ => Cert.UpdateSmallIdeal.Gen.frame m ρ, Cert.UpdateSmall.Proof.ref_frame,
  fun m ρ _ => Cert.SumSmall.Gen.frame m ρ, fun m ρ _ => Cert.SumSmallIdeal.Gen.frame m ρ, Cert.SumSmall.Proof.ref_frame,
  fun m ρ _ => Cert.NormBwd.Gen.frame m ρ, fun m ρ _ => Cert.NormBwdIdeal.Gen.frame m ρ, Cert.NormBwd.Proof.ref_frame,
  fun m ρ _ => Cert.Loss.Gen.frame m ρ, fun m ρ _ => Cert.LossIdeal.Gen.frame m ρ, Cert.Loss.Proof.ref_frame,
  fun m ρ _ => Cert.ConvBwd.Gen.frame m ρ, fun m ρ _ => Cert.ConvBwdIdeal.Gen.frame m ρ, fun m ρ _ => Cert.ConvBwdIdeal.Gen.frame m ρ, Cert.ConvBwd.Proof.ref_frame, fun m g _ => Cert.ConvBwd.Proof.ref_frame m g trivial,
  fun m ρ _ => Cert.LowerFwd.Gen.frame m ρ, fun m ρ _ => Cert.LowerFwdIdeal.Gen.frame m ρ, fun m ρ _ => Cert.LowerFwdIdeal.Gen.frame m ρ, Cert.LowerFwd.Proof.ref_frame, fun m g _ => Cert.LowerFwd.Proof.ref_frame m g trivial,
  fun m ρ _ => Cert.LowerBwd.Gen.frame m ρ, fun m ρ _ => Cert.LowerBwdIdeal.Gen.frame m ρ, fun m ρ _ => Cert.LowerBwdIdeal.Gen.frame m ρ, Cert.LowerBwd.Proof.ref_frame, fun m g _ => Cert.LowerBwd.Proof.ref_frame m g trivial,
  fun m ρ _ => Cert.SumConv.Gen.frame m ρ, fun m ρ _ => Cert.SumConvIdeal.Gen.frame m ρ, Cert.SumConv.Proof.ref_frame,
  trivial, Cert.Merge.algebraic,
  trivial, Cert.Dh.Proof.algebraic,
  trivial, Cert.DwA.Proof.algebraic,
  trivial, Cert.DwC.Proof.algebraic,
  trivial, Cert.DwG.Proof.algebraic,
  trivial, Cert.ProjA.Proof.algebraic,
  trivial, Cert.ProjC.Proof.algebraic,
  trivial, Cert.ProjG.Proof.algebraic,
  trivial, Cert.DwO.Proof.algebraic,
  trivial, Cert.DwOutA.Proof.algebraic,
  trivial, Cert.DwOutC.Proof.algebraic,
  trivial, Cert.DuA.Proof.algebraic,
  trivial, Cert.DuC.Proof.algebraic,
  trivial, Cert.OutA.Proof.algebraic,
  trivial, Cert.OutC.Proof.algebraic,
  trivial, Cert.MergeFwd.Proof.algebraic,
  trivial, Cert.ConvFwd.Proof.algebraic,
  trivial, Cert.NormFwd.Proof.algebraic,
  trivial, Cert.UpdateIn.Proof.algebraic,
  trivial, Cert.UpdateA.Proof.algebraic,
  trivial, Cert.UpdateC.Proof.algebraic,
  trivial, Cert.UpdateSmall.Proof.algebraic,
  trivial, Cert.SumSmall.Proof.algebraic,
  trivial, Cert.NormBwd.Proof.algebraic,
  trivial, Cert.Loss.Proof.algebraic,
  trivial, Cert.ConvBwd.Proof.algebraic,
  trivial, Cert.LowerFwd.Proof.algebraic,
  trivial, Cert.LowerBwd.Proof.algebraic,
  trivial, Cert.SumConv.Proof.algebraic⟩

end Cert.Proof

end
